-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "inv_n" .f32 0x3BAAAAAB#32 ((1 / 192 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v133) = v0 c
          ∧ r.2.mem ((c.tc : Thread Cert.Reference8Ideal.nD Cert.Reference8Ideal.τ).loc Cert.Reference8Ideal.main_v136) = v1 c
          ∧ r.2.mem ((c.tc : Thread Cert.Reference8Ideal.nD Cert.Reference8Ideal.τ).loc Cert.Reference8Ideal.main_v138) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v254) = v0 c
          ∧ r.2.mem ((c.tc : Thread Cert.Reference9Ideal.nD Cert.Reference9Ideal.τ).loc Cert.Reference9Ideal.main_v256) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v245) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S4x2048x16x192 : Shape := ⟨4, ![4, 2048, 16, 192]⟩
abbrev S4x2048x16x128 : Shape := ⟨4, ![4, 2048, 16, 128]⟩
abbrev S16x128 : Shape := ⟨2, ![16, 128]⟩
abbrev S_ : Shape := ⟨0, ![]⟩
abbrev S4x2048x16x256 : Shape := ⟨4, ![4, 2048, 16, 256]⟩
abbrev S8192x4096 : Shape := ⟨2, ![8192, 4096]⟩
abbrev S8192x2048 : Shape := ⟨2, ![8192, 2048]⟩
abbrev S16x1x128 : Shape := ⟨3, ![16, 1, 128]⟩
abbrev S2048x256 : Shape := ⟨2, ![2048, 256]⟩
abbrev S2048x128 : Shape := ⟨2, ![2048, 128]⟩
abbrev S1x1x128 : Shape := ⟨3, ![1, 1, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S1x128 : Shape := ⟨2, ![1, 128]⟩

abbrev nBuf : Space → Nat
  | .hbm => 25
  | .vmem => 11
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x192, .f32⟩
  | .hbm, ⟨2, _⟩ => ⟨S4x2048x16x128, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x2048x16x192, .f32⟩
  | .hbm, ⟨10, _⟩ => ⟨S4x2048x16x192, .f32⟩
  | .hbm, ⟨11, _⟩ => ⟨S_, .i32⟩
  | .hbm, ⟨12, _⟩ => ⟨S_, .f32⟩
  | .hbm, ⟨13, _⟩ => ⟨S4x2048x16x256, .f32⟩
  | .hbm, ⟨14, _⟩ => ⟨S8192x4096, .f32⟩
  | .hbm, ⟨15, _⟩ => ⟨S8192x4096, .bf16⟩
  | .hbm, ⟨16, _⟩ => ⟨S_, .i32⟩
  | .hbm, ⟨17, _⟩ => ⟨S_, .f32⟩
  | .hbm, ⟨18, _⟩ => ⟨S4x2048x16x256, .f32⟩
  | .hbm, ⟨19, _⟩ => ⟨S8192x4096, .f32⟩
  | .hbm, ⟨20, _⟩ => ⟨S8192x4096, .bf16⟩
  | .hbm, ⟨21, _⟩ => ⟨S8192x2048, .f32⟩
  | .hbm, ⟨22, _⟩ => ⟨S8192x2048, .bf16⟩
  | .hbm, ⟨23, _⟩ => ⟨S16x1x128, .f32⟩
  | .hbm, ⟨24, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x1x128, .f32⟩
  | .local _ .vmem, ⟨7, _⟩ => ⟨S1x1x128, .f32⟩
  | .local _ .vmem, ⟨8, _⟩ => ⟨S2048x128, .bf16⟩
  | .local _ .vmem, ⟨9, _⟩ => ⟨S2048x128, .bf16⟩
  | .local _ .vmem, ⟨10, _⟩ => ⟨S2048x256, .bf16⟩
  | _, _ => ⟨S4x2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x16x192 : Shape := ⟨4, ![4, 2048, 16, 192]⟩
abbrev S4x2048x16x128 : Shape := ⟨4, ![4, 2048, 16, 128]⟩
abbrev S16x128 : Shape := ⟨2, ![16, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S4x2048x16 : Shape := ⟨3, ![4, 2048, 16]⟩
abbrev S4x2048x16x1 : Shape := ⟨4, ![4, 2048, 16, 1]⟩
abbrev S1x1x16x128 : Shape := ⟨4, ![1, 1, 16, 128]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x192, .f32⟩
  | .hbm, ⟨2, _⟩ => ⟨S4x2048x16x128, .f32⟩
  | .hbm, ⟨3, _⟩ => ⟨S16x128, .f32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x16x2048, .f32⟩
  | .hbm, ⟨11, _⟩ => ⟨S_, .f32⟩
  | .hbm, ⟨12, _⟩ => ⟨S4x16x2048, .f32⟩
  | .hbm, ⟨13, _⟩ => ⟨S4x16x2048, .f32⟩
  | .hbm, ⟨14, _⟩ => ⟨S4x16x2048x1, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x128x2048, .f32⟩
  | .hbm, ⟨24, _⟩ => ⟨S4x2048x16x128, .f32⟩
  | .hbm, ⟨25, _⟩ => ⟨S4x2048x16x128, .f32⟩
  | .hbm, ⟨26, _⟩ => ⟨S_, .f32⟩
  | .hbm, ⟨27, _⟩ => ⟨S4x2048x16, .f32⟩
  | .hbm, ⟨28, _⟩ => ⟨S4x2048x16x1, .f32⟩
  | .hbm, ⟨29, _⟩ => ⟨S_, .f32⟩
  | .hbm, ⟨30, _⟩ => ⟨S4x2048x16x1, .f32⟩
  | .hbm, ⟨31, _⟩ => ⟨S4x2048x16x1, .f32⟩
  | .hbm, ⟨32, _⟩ => ⟨S_, .f32⟩
  | .hbm, ⟨33, _⟩ => ⟨S4x2048x16x1, .f32⟩
  | .hbm, ⟨34, _⟩ => ⟨S4x2048x16x1, .f32⟩
  | .hbm, ⟨35, _⟩ => ⟨S4x2048x16x1, .f32⟩
  | .hbm, ⟨36, _⟩ => ⟨S4x2048x16x128, .f32⟩
  | .hbm, ⟨37, _⟩ => ⟨S4x2048x16x128, .f32⟩
  | .hbm, ⟨38, _⟩ => ⟨S1x1x16x128, .f32⟩
  | .hbm, ⟨39, _⟩ => ⟨S4x2048x16x128, .f32⟩
  | .hbm, ⟨40, _⟩ => ⟨S4x2048x16x128, .f32⟩
  | .hbm, ⟨41, _⟩ => ⟨S8192x2048, .f32⟩
  | .hbm, ⟨42, _⟩ => ⟨S8192x2048, .bf16⟩
  | _, _ => ⟨S4x2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096x7808 : Shape := ⟨2, ![4096, 7808]⟩
abbrev S4096x1024 : Shape := ⟨2, ![4096, 1024]⟩
abbrev S4096x512 : Shape := ⟨2, ![4096, 512]⟩
abbrev S4096x64 : Shape := ⟨2, ![4096, 64]⟩
abbrev S4096x2048 : Shape := ⟨2, ![4096, 2048]⟩
abbrev S4096x4096 : Shape := ⟨2, ![4096, 4096]⟩
abbrev S4096x32 : Shape := ⟨2, ![4096, 32]⟩
abbrev S4096x7680 : Shape := ⟨2, ![4096, 7680]⟩
abbrev S8192x4096 : Shape := ⟨2, ![8192, 4096]⟩
abbrev S8192x7680 : Shape := ⟨2, ![8192, 7680]⟩
abbrev S1024x4096 : Shape := ⟨2, ![1024, 4096]⟩
abbrev S4096x1536 : Shape := ⟨2, ![4096, 1536]⟩
abbrev S1024x1536 : Shape := ⟨2, ![1024, 1536]⟩

abbrev nBuf : Space → Nat
  | .hbm => 14
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x7808, .f32⟩
  | .hbm, ⟨2, _⟩ => ⟨S4096x1024, .f32⟩
  | .hbm, ⟨3, _⟩ => ⟨S4096x512, .f32⟩
  | .hbm, ⟨4, _⟩ => ⟨S4096x64, .f32⟩
  | .hbm, ⟨5, _⟩ => ⟨S4096x2048, .f32⟩
  | .hbm, ⟨6, _⟩ => ⟨S4096x4096, .f32⟩
  | .hbm, ⟨7, _⟩ => ⟨S4096x32, .f32⟩
  | .hbm, ⟨8, _⟩ => ⟨S4096x32, .f32⟩
  | .hbm, ⟨9, _⟩ => ⟨S4096x7680, .f32⟩
  | .hbm, ⟨10, _⟩ => ⟨S4096x7680, .bf16⟩
  | .hbm, ⟨11, _⟩ => ⟨S8192x4096, .f32⟩
  | .hbm, ⟨12, _⟩ => ⟨S8192x4096, .bf16⟩
  | .hbm, ⟨13, _⟩ => ⟨S8192x7680, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1536, .bf16⟩
  | .local _ .vmem, ⟨3, _⟩ => ⟨S4096x1536, .bf16⟩
  | .local _ .vmem, ⟨4, _⟩ => ⟨S1024x1536, .bf16⟩
  | .local _ .vmem, ⟨5, _⟩ => ⟨S1024x1536, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x4096 : Shape := ⟨3, ![4, 2048, 4096]⟩
abbrev S4096x7808 : Shape := ⟨2, ![4096, 7808]⟩
abbrev S4x2048x7808 : Shape := ⟨3, ![4, 2048, 7808]⟩
abbrev S4x2048x1024 : Shape := ⟨3, ![4, 2048, 1024]⟩
abbrev S4x2048x512 : Shape := ⟨3, ![4, 2048, 512]⟩
abbrev S4x2048x64 : Shape := ⟨3, ![4, 2048, 64]⟩
abbrev S4x2048x2048 : Shape := ⟨3, ![4, 2048, 2048]⟩
abbrev S4x2048x32 : Shape := ⟨3, ![4, 2048, 32]⟩
abbrev S4x2048x7680 : Shape := ⟨3, ![4, 2048, 7680]⟩
abbrev S8192x7680 : Shape := ⟨2, ![8192, 7680]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x7808, .f32⟩
  | .hbm, ⟨2, _⟩ => ⟨S4x2048x7808, .f32⟩
  | .hbm, ⟨3, _⟩ => ⟨S4x2048x1024, .f32⟩
  | .hbm, ⟨4, _⟩ => ⟨S4x2048x512, .f32⟩
  | .hbm, ⟨5, _⟩ => ⟨S4x2048x64, .f32⟩
  | .hbm, ⟨6, _⟩ => ⟨S4x2048x2048, .f32⟩
  | .hbm, ⟨7, _⟩ => ⟨S4x2048x4096, .f32⟩
  | .hbm, ⟨8, _⟩ => ⟨S4x2048x32, .f32⟩
  | .hbm, ⟨9, _⟩ => ⟨S4x2048x32, .f32⟩
  | .hbm, ⟨10, _⟩ => ⟨S4x2048x7680, .f32⟩
  | .hbm, ⟨11, _⟩ => ⟨S8192x7680, .f32⟩
  | .hbm, ⟨12, _⟩ => ⟨S8192x7680, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel3.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S8192x2048 : Shape := ⟨2, ![8192, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x2048, .f32⟩
  | .hbm, ⟨3, _⟩ => ⟨S4096x4096, .f32⟩
  | .hbm, ⟨4, _⟩ => ⟨S4096x4096, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x4096, .f32⟩
  | .hbm, ⟨10, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x2048, .f32⟩
  | .hbm, ⟨3, _⟩ => ⟨S4096x4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096x2048 : Shape := ⟨2, ![4096, 2048]⟩
abbrev S8192x4096 : Shape := ⟨2, ![8192, 4096]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S8192x4096, .f32⟩
  | .hbm, ⟨3, _⟩ => ⟨S8192x4096, .bf16⟩
  | .hbm, ⟨4, _⟩ => ⟨S4096x2048, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x2048x4096 : Shape := ⟨3, ![4, 2048, 4096]⟩
abbrev S4096x2048 : Shape := ⟨2, ![4096, 2048]⟩
abbrev S4x2048x2048 : Shape := ⟨3, ![4, 2048, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S4x2048x2048, .f32⟩
  | .hbm, ⟨3, _⟩ => ⟨S8192x2048, .f32⟩
  | .hbm, ⟨4, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4x2048x4096 : Shape := ⟨3, ![4, 2048, 4096]⟩
abbrev S4096x7808 : Shape := ⟨2, ![4096, 7808]⟩
abbrev S4096x1024 : Shape := ⟨2, ![4096, 1024]⟩
abbrev S4096x512 : Shape := ⟨2, ![4096, 512]⟩
abbrev S4096x64 : Shape := ⟨2, ![4096, 64]⟩
abbrev S4096x2048 : Shape := ⟨2, ![4096, 2048]⟩
abbrev S4096x4096 : Shape := ⟨2, ![4096, 4096]⟩
abbrev S4096x32 : Shape := ⟨2, ![4096, 32]⟩
abbrev S4096x128 : Shape := ⟨2, ![4096, 128]⟩
abbrev S8192x4096 : Shape := ⟨2, ![8192, 4096]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 14
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096x7808, .f32⟩
  | .hbm, ⟨2, _⟩ => ⟨S4096x1024, .f32⟩
  | .hbm, ⟨3, _⟩ => ⟨S4096x512, .f32⟩
  | .hbm, ⟨4, _⟩ => ⟨S4096x64, .f32⟩
  | .hbm, ⟨5, _⟩ => ⟨S4096x2048, .f32⟩
  | .hbm, ⟨6, _⟩ => ⟨S4096x4096, .f32⟩
  | .hbm, ⟨7, _⟩ => ⟨S4096x32, .f32⟩
  | .hbm, ⟨8, _⟩ => ⟨S4096x32, .f32⟩
  | .hbm, ⟨9, _⟩ => ⟨S4096x128, .f32⟩
  | .hbm, ⟨10, _⟩ => ⟨S4096x128, .bf16⟩
  | .hbm, ⟨11, _⟩ => ⟨S8192x4096, .f32⟩
  | .hbm, ⟨12, _⟩ => ⟨S8192x4096, .bf16⟩
  | .hbm, ⟨13, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x4096 : Shape := ⟨3, ![4, 2048, 4096]⟩
abbrev S4096x7808 : Shape := ⟨2, ![4096, 7808]⟩
abbrev S4x2048x7808 : Shape := ⟨3, ![4, 2048, 7808]⟩
abbrev S4x2048x1024 : Shape := ⟨3, ![4, 2048, 1024]⟩
abbrev S4x2048x512 : Shape := ⟨3, ![4, 2048, 512]⟩
abbrev S4x2048x64 : Shape := ⟨3, ![4, 2048, 64]⟩
abbrev S4x2048x2048 : Shape := ⟨3, ![4, 2048, 2048]⟩
abbrev S4x2048x32 : Shape := ⟨3, ![4, 2048, 32]⟩
abbrev S4x2048x128 : Shape := ⟨3, ![4, 2048, 128]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x7808, .f32⟩
  | .hbm, ⟨2, _⟩ => ⟨S4x2048x7808, .f32⟩
  | .hbm, ⟨3, _⟩ => ⟨S4x2048x1024, .f32⟩
  | .hbm, ⟨4, _⟩ => ⟨S4x2048x512, .f32⟩
  | .hbm, ⟨5, _⟩ => ⟨S4x2048x64, .f32⟩
  | .hbm, ⟨6, _⟩ => ⟨S4x2048x2048, .f32⟩
  | .hbm, ⟨7, _⟩ => ⟨S4x2048x4096, .f32⟩
  | .hbm, ⟨8, _⟩ => ⟨S4x2048x32, .f32⟩
  | .hbm, ⟨9, _⟩ => ⟨S4x2048x32, .f32⟩
  | .hbm, ⟨10, _⟩ => ⟨S4x2048x128, .f32⟩
  | .hbm, ⟨11, _⟩ => ⟨S8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S4096x7808 : Shape := ⟨2, ![4096, 7808]⟩
abbrev S4096x7680 : Shape := ⟨2, ![4096, 7680]⟩
abbrev S4096x128 : Shape := ⟨2, ![4096, 128]⟩
abbrev S256x7808 : Shape := ⟨2, ![256, 7808]⟩
abbrev S256x7680 : Shape := ⟨2, ![256, 7680]⟩
abbrev S256x128 : Shape := ⟨2, ![256, 128]⟩
abbrev S256x4096 : Shape := ⟨2, ![256, 4096]⟩
abbrev S256x2048 : Shape := ⟨2, ![256, 2048]⟩
abbrev S256x1024 : Shape := ⟨2, ![256, 1024]⟩
abbrev S256x512 : Shape := ⟨2, ![256, 512]⟩
abbrev S256x64 : Shape := ⟨2, ![256, 64]⟩
abbrev S256x32 : Shape := ⟨2, ![256, 32]⟩

abbrev nBuf : Space → Nat
  | .hbm => 3
  | .vmem => 6
  | .smem => 0
  | _ => 0

abbrev bufTy : (tb : Table) → Fin (tcTables nBuf tb) → BufTy
  | .hbm, ⟨0, _⟩ => ⟨S4096x7808, .f32⟩
  | .hbm, ⟨1, _⟩ => ⟨S4096x7680, .bf16⟩
  | .hbm, ⟨2, _⟩ => ⟨S4096x128, .bf16⟩
  | .local _ .vmem, ⟨0, _⟩ => ⟨S256x7808, .f32⟩
  | .local _ .vmem, ⟨1, _⟩ => ⟨S256x7808, .f32⟩
  | .local _ .vmem, ⟨2, _⟩ => ⟨S256x7680, .bf16⟩
  | .local _ .vmem, ⟨3, _⟩ => ⟨S256x7680, .bf16⟩
  | .local _ .vmem, ⟨4, _⟩ => ⟨S256x128, .bf16⟩
  | .local _ .vmem, ⟨5, _⟩ => ⟨S256x128, .bf16⟩
  | _, _ => ⟨S4096x7808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7808 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7680 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x7808 : Shape := ⟨2, ![4096, 7808]⟩
abbrev S4096x1024 : Shape := ⟨2, ![4096, 1024]⟩
abbrev S4096x512 : Shape := ⟨2, ![4096, 512]⟩
abbrev S4096x64 : Shape := ⟨2, ![4096, 64]⟩
abbrev S4096x2048 : Shape := ⟨2, ![4096, 2048]⟩
abbrev S4096x4096 : Shape := ⟨2, ![4096, 4096]⟩
abbrev S4096x32 : Shape := ⟨2, ![4096, 32]⟩
abbrev S4096x7680 : Shape := ⟨2, ![4096, 7680]⟩
abbrev S4096x128 : Shape := ⟨2, ![4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x7808, .f32⟩
  | .hbm, ⟨1, _⟩ => ⟨S4096x1024, .f32⟩
  | .hbm, ⟨2, _⟩ => ⟨S4096x512, .f32⟩
  | .hbm, ⟨3, _⟩ => ⟨S4096x64, .f32⟩
  | .hbm, ⟨4, _⟩ => ⟨S4096x2048, .f32⟩
  | .hbm, ⟨5, _⟩ => ⟨S4096x4096, .f32⟩
  | .hbm, ⟨6, _⟩ => ⟨S4096x32, .f32⟩
  | .hbm, ⟨7, _⟩ => ⟨S4096x32, .f32⟩
  | .hbm, ⟨8, _⟩ => ⟨S4096x7680, .f32⟩
  | .hbm, ⟨9, _⟩ => ⟨S4096x7680, .bf16⟩
  | .hbm, ⟨10, _⟩ => ⟨S4096x128, .f32⟩
  | .hbm, ⟨11, _⟩ => ⟨S4096x128, .bf16⟩
  | _, _ => ⟨S4096x7808, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩

abbrev nD : Nat := 1
abbrev τ : Topo := Topo.v7x

variable {F : FTy → Type} [FloatOps F]
-- ==== Kernel7.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | .hbm, ⟨19, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S8192x7680 : Shape := ⟨2, ![8192, 7680]⟩
abbrev S8192x128 : Shape := ⟨2, ![8192, 128]⟩
abbrev S4x2048 : Shape := ⟨2, ![4, 2048]⟩
abbrev S1024 : Shape := ⟨1, ![1024]⟩
abbrev S1024x3072 : Shape := ⟨2, ![1024, 3072]⟩
abbrev S512 : Shape := ⟨1, ![512]⟩
abbrev S512x4096 : Shape := ⟨2, ![512, 4096]⟩
abbrev S192 : Shape := ⟨1, ![192]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S512x16x2x128 : Shape := ⟨4, ![512, 16, 2, 128]⟩
abbrev S512x2x16x128 : Shape := ⟨4, ![512, 2, 16, 128]⟩
abbrev S32 : Shape := ⟨1, ![32]⟩
abbrev S64 : Shape := ⟨1, ![64]⟩
abbrev S128 : Shape := ⟨1, ![128]⟩
abbrev S1x128 : Shape := ⟨2, ![1, 128]⟩
abbrev S8192x1 : Shape := ⟨2, ![8192, 1]⟩
abbrev S1x1024 : Shape := ⟨2, ![1, 1024]⟩
abbrev S1x512 : Shape := ⟨2, ![1, 512]⟩
abbrev S256 : Shape := ⟨1, ![256]⟩
abbrev S1x256 : Shape := ⟨2, ![1, 256]⟩
abbrev S8192x4096 : Shape := ⟨2, ![8192, 4096]⟩
abbrev S8192x2048 : Shape := ⟨2, ![8192, 2048]⟩
abbrev S256x1024 : Shape := ⟨2, ![256, 1024]⟩
abbrev S256x512 : Shape := ⟨2, ![256, 512]⟩
abbrev S256x128 : Shape := ⟨2, ![256, 128]⟩
abbrev S256x1 : Shape := ⟨2, ![256, 1]⟩
abbrev S256x4096 : Shape := ⟨2, ![256, 4096]⟩
abbrev S256x2048 : Shape := ⟨2, ![256, 2048]⟩

abbrev nBuf : Space → Nat
  | .hbm => 47
  | .vmem => 21
  | .smem => 0
  | _ => 0

abbrev bufTy : (tb : Table) → Fin (tcTables nBuf tb) → BufTy
  | .hbm, ⟨0, _⟩ => ⟨S8192x7680, .f32⟩
  | .hbm, ⟨1, _⟩ => ⟨S8192x128, .f32⟩
  | .hbm, ⟨2, _⟩ => ⟨S4x2048, .i32⟩
  | .hbm, ⟨3, _⟩ => ⟨S1024, .f32⟩
  | .hbm, ⟨4, _⟩ => ⟨S1024x3072, .f32⟩
  | .hbm, ⟨5, _⟩ => ⟨S512, .f32⟩
  | .hbm, ⟨6, _⟩ => ⟨S512x4096, .f32⟩
  | .hbm, ⟨7, _⟩ => ⟨S192, .f32⟩
  | .hbm, ⟨8, _⟩ => ⟨S192, .f32⟩
  | .hbm, ⟨9, _⟩ => ⟨S1024x16x192, .f32⟩
  | .hbm, ⟨10, _⟩ => ⟨S_, .i32⟩
  | .hbm, ⟨11, _⟩ => ⟨S_, .f32⟩
  | .hbm, ⟨12, _⟩ => ⟨S1024x16x256, .f32⟩
  | .hbm, ⟨13, _⟩ => ⟨S1024x4096, .f32⟩
  | .hbm, ⟨14, _⟩ => ⟨S1024x4096, .bf16⟩
  | .hbm, ⟨15, _⟩ => ⟨S512x16x2x128, .f32⟩
  | .hbm, ⟨16, _⟩ => ⟨S512x2x16x128, .f32⟩
  | .hbm, ⟨17, _⟩ => ⟨S512x4096, .f32⟩
  | .hbm, ⟨18, _⟩ => ⟨S512x4096, .bf16⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S64, .f32⟩
  | .hbm, ⟨29, _⟩ => ⟨S128, .f32⟩
  | .hbm, ⟨30, _⟩ => ⟨S1x128, .f32⟩
  | .hbm, ⟨31, _⟩ => ⟨S8192x1, .i32⟩
  | .hbm, ⟨32, _⟩ => ⟨S8192x1, .f32⟩
  | .hbm, ⟨33, _⟩ => ⟨S8192x7680, .bf16⟩
  | .hbm, ⟨34, _⟩ => ⟨S1x1024, .f32⟩
  | .hbm, ⟨35, _⟩ => ⟨S1x512, .f32⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S_, .i32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S8192x4096, .bf16⟩
  | .hbm, ⟨45, _⟩ => ⟨S8192x4096, .bf16⟩
  | .hbm, ⟨46, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S256x1, .f32⟩
  | .local _ .vmem, ⟨7, _⟩ => ⟨S256x1, .f32⟩
  | .local _ .vmem, ⟨8, _⟩ => ⟨S1x128, .f32⟩
  | .local _ .vmem, ⟨9, _⟩ => ⟨S1x1024, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S1024x4096, .bf16⟩
  | .local _ .vmem, ⟨14, _⟩ => ⟨S512x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x2048, .bf16⟩
  | .local _ .vmem, ⟨20, _⟩ => ⟨S256x2048, .bf16⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel8Ideal.lean ====
variable {F : FTy → Type} [FloatOps F] [Named F]
def κ : String → Option EReal := fun
  | "inv_n" => some ((1 / 192 : ℝ) : EReal)
  | _ => none
-- ==== Reference8Ideal.lean ====
abbrev S8192x7680 : Shape := ⟨2, ![8192, 7680]⟩
abbrev S8192x128 : Shape := ⟨2, ![8192, 128]⟩
abbrev S4x2048 : Shape := ⟨2, ![4, 2048]⟩
abbrev S1024 : Shape := ⟨1, ![1024]⟩
abbrev S1024x3072 : Shape := ⟨2, ![1024, 3072]⟩
abbrev S512 : Shape := ⟨1, ![512]⟩
abbrev S512x4096 : Shape := ⟨2, ![512, 4096]⟩
abbrev S192 : Shape := ⟨1, ![192]⟩
abbrev S8192x1024 : Shape := ⟨2, ![8192, 1024]⟩
abbrev S8192x512 : Shape := ⟨2, ![8192, 512]⟩
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S1x1024 : Shape := ⟨2, ![1, 1024]⟩
abbrev S8192x3072 : Shape := ⟨2, ![8192, 3072]⟩
abbrev S8192x16x192 : Shape := ⟨3, ![8192, 16, 192]⟩
abbrev S1x512 : Shape := ⟨2, ![1, 512]⟩
abbrev S8192x4096 : Shape := ⟨2, ![8192, 4096]⟩
abbrev S8192x16x256 : Shape := ⟨3, ![8192, 16, 256]⟩
abbrev S8192x16x128 : Shape := ⟨3, ![8192, 16, 128]⟩
abbrev S8192x1x64 : Shape := ⟨3, ![8192, 1, 64]⟩
abbrev S8192x16x64 : Shape := ⟨3, ![8192, 16, 64]⟩
abbrev S8192x16 : Shape := ⟨2, ![8192, 16]⟩
abbrev S8192x16x1 : Shape := ⟨3, ![8192, 16, 1]⟩
abbrev S1x1x192 : Shape := ⟨3, ![1, 1, 192]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S8192x2048 : Shape := ⟨2, ![8192, 2048]⟩

abbrev nBuf : Space → Nat
  | .hbm => 169
  | .vmem => 0
  | .smem => 0
  | _ => 0

abbrev hbmTy0_0 (i : Nat) : BufTy := match i % 128 with
  | 0 => ⟨S8192x7680, .f32⟩
  | 1 => ⟨S8192x128, .f32⟩
  | 2 => ⟨S4x2048, .i32⟩
  | 3 => ⟨S1024, .f32⟩
  | 4 => ⟨S1024x3072, .f32⟩
  | 5 => ⟨S512, .f32⟩
  | 6 => ⟨S512x4096, .f32⟩
  | 7 => ⟨S192, .f32⟩
  | 8 => ⟨S192, .f32⟩
  | 9 => ⟨S8192x1024, .f32⟩
  | 10 => ⟨S8192x512, .f32⟩
  | 11 => ⟨S8192x64, .f32⟩
  | 12 => ⟨S8192, .i32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x3072, .f32⟩
  | 30 => ⟨S8192x16x192, .f32⟩
  | 31 => ⟨S8192x512, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S8192x4096, .f32⟩
  | 48 => ⟨S8192x16x256, .f32⟩
  | 49 => ⟨S8192x16x128, .f32⟩
  | 50 => ⟨S8192x16x128, .f32⟩
  | 51 => ⟨S8192x1x64, .f32⟩
  | 52 => ⟨S8192x16x64, .f32⟩
  | 53 => ⟨S8192x16x192, .f32⟩
  | 54 => ⟨S8192x16x192, .f32⟩
  | 55 => ⟨S_, .f32⟩
  | 56 => ⟨S8192x16, .f32⟩
  | 57 => ⟨S8192x16x1, .f32⟩
  | 58 => ⟨S_, .f32⟩
  | 59 => ⟨S8192x16x1, .f32⟩
  | 60 => ⟨S8192x16x1, .f32⟩
  | 61 => ⟨S_, .f32⟩
  | 62 => ⟨S8192x16x1, .f32⟩
  | 63 => ⟨S8192x16x1, .f32⟩
  | 64 => ⟨S8192x16x1, .f32⟩
  | 65 => ⟨S8192x16x192, .f32⟩
  | 66 => ⟨S8192x16x192, .f32⟩
  | 67 => ⟨S1x1x192, .f32⟩
  | 68 => ⟨S8192x16x192, .f32⟩
  | 69 => ⟨S8192x16x192, .f32⟩
  | 70 => ⟨S8192x16x192, .f32⟩
  | 71 => ⟨S_, .f32⟩
  | 72 => ⟨S8192x16, .f32⟩
  | 73 => ⟨S8192x16x1, .f32⟩
  | 74 => ⟨S_, .f32⟩
  | 75 => ⟨S8192x16x1, .f32⟩
  | 76 => ⟨S8192x16x1, .f32⟩
  | 77 => ⟨S_, .f32⟩
  | 78 => ⟨S8192x16x1, .f32⟩
  | 79 => ⟨S8192x16x1, .f32⟩
  | 80 => ⟨S8192x16x1, .f32⟩
  | 81 => ⟨S8192x16x192, .f32⟩
  | 82 => ⟨S8192x16x192, .f32⟩
  | 83 => ⟨S1x1x192, .f32⟩
  | 84 => ⟨S8192x16x192, .f32⟩
  | 85 => ⟨S8192x16x192, .f32⟩
  | 86 => ⟨S8192x16x128, .f32⟩
  | 87 => ⟨S8192x16x64, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S8192, .f32⟩
  | 97 => ⟨S8192x1, .f32⟩
  | 98 => ⟨S1x32, .f32⟩
  | 99 => ⟨S8192x32, .f32⟩
  | 100 => ⟨S8192x32, .f32⟩
  | 101 => ⟨S8192x32, .f32⟩
  | 102 => ⟨S8192x32, .f32⟩
  | 103 => ⟨S8192x1x32, .f32⟩
  | 104 => ⟨S8192x32, .f32⟩
  | 105 => ⟨S8192x1x32, .f32⟩
  | 106 => ⟨S8192x16x32, .f32⟩
  | 107 => ⟨S8192x16x32, .f32⟩
  | 108 => ⟨S8192x16x32, .f32⟩
  | 109 => ⟨S8192x16x32, .f32⟩
  | 110 => ⟨S8192x16x32, .f32⟩
  | 111 => ⟨S8192x16x32, .f32⟩
  | 112 => ⟨S8192x16x32, .f32⟩
  | 113 => ⟨S8192x16x32, .f32⟩
  | 114 => ⟨S8192x16x32, .f32⟩
  | 115 => ⟨S8192x16x32, .f32⟩
  | 116 => ⟨S8192x16x32, .f32⟩
  | 117 => ⟨S8192x16x32, .f32⟩
  | 118 => ⟨S8192x16x64, .f32⟩
  | 119 => ⟨S8192x16x192, .f32⟩
  | 120 => ⟨S8192x16x128, .f32⟩
  | 121 => ⟨S8192x16x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S8192x7680, .f32⟩

abbrev hbmTy0_1 (i : Nat) : BufTy := match i % 128 with
  | 0 => ⟨S32, .f32⟩
  | 1 => ⟨S32, .f32⟩
  | 2 => ⟨S8192, .f32⟩
  | 3 => ⟨S8192x1, .f32⟩
  | 4 => ⟨S1x32, .f32⟩
  | 5 => ⟨S8192x32, .f32⟩
  | 6 => ⟨S8192x32, .f32⟩
  | 7 => ⟨S8192x32, .f32⟩
  | 8 => ⟨S8192x32, .f32⟩
  | 9 => ⟨S8192x1x32, .f32⟩
  | 10 => ⟨S8192x32, .f32⟩
  | 11 => ⟨S8192x1x32, .f32⟩
  | 12 => ⟨S8192x16x32, .f32⟩
  | 13 => ⟨S8192x16x32, .f32⟩
  | 14 => ⟨S8192x16x32, .f32⟩
  | 15 => ⟨S8192x16x32, .f32⟩
  | 16 => ⟨S8192x16x32, .f32⟩
  | 17 => ⟨S8192x16x32, .f32⟩
  | 18 => ⟨S8192x16x32, .f32⟩
  | 19 => ⟨S8192x16x32, .f32⟩
  | 20 => ⟨S8192x16x32, .f32⟩
  | 21 => ⟨S8192x16x32, .f32⟩
  | 22 => ⟨S8192x16x32, .f32⟩
  | 23 => ⟨S8192x16x32, .f32⟩
  | 24 => ⟨S8192x16x64, .f32⟩
  | 25 => ⟨S8192x16x192, .f32⟩
  | 26 => ⟨S_, .f32⟩
  | 27 => ⟨S8192x16x192, .f32⟩
  | 28 => ⟨S8192x16x192, .f32⟩
  | 29 => ⟨S_, .i32⟩
  | 30 => ⟨S_, .f32⟩
  | 31 => ⟨S8192x16x256, .f32⟩
  | 32 => ⟨S8192x4096, .f32⟩
  | 33 => ⟨S8192x4096, .bf16⟩
  | 34 => ⟨S_, .i32⟩
  | 35 => ⟨S_, .f32⟩
  | 36 => ⟨S8192x16x256, .f32⟩
  | 37 => ⟨S8192x4096, .f32⟩
  | 38 => ⟨S8192x4096, .bf16⟩
  | 39 => ⟨S8192x2048, .f32⟩
  | 40 => ⟨S8192x2048, .bf16⟩
  | _ => ⟨S8192x7680, .f32⟩

abbrev hbmTy (i : Nat) : BufTy := match i / 128 with
  | 0 => hbmTy0_0 i
  | 1 => hbmTy0_1 i
  | _ => ⟨S8192x7680, .f32⟩

abbrev bufTy : (tb : Table) → Fin (tcTables nBuf tb) → BufTy
  | .hbm, ⟨i, _⟩ => hbmTy i
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_v102 : Ref sig .tc := ⟨.hbm, 126, rfl⟩
abbrev main_cst_14 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_15 : Ref sig .tc := ⟨.hbm, 154, rfl⟩
abbrev main_v129 : Ref sig .tc := ⟨.hbm, 155, rfl⟩
abbrev main_v130 : Ref sig .tc := ⟨.hbm, 156, rfl⟩
abbrev main_c : Ref sig .tc := ⟨.hbm, 157, rfl⟩
abbrev main_call0_v0 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_c_16 : Ref sig .tc := ⟨.hbm, 162, rfl⟩
abbrev main_call1_v0 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩

abbrev nD : Nat := 1
abbrev τ : Topo := Topo.v7x

variable {F : FTy → Type} [FloatOps F]
-- ==== Kernel9.lean ====
abbrev S8192x7680 : Shape := ⟨2, ![8192, 7680]⟩
abbrev S8192x128 : Shape := ⟨2, ![8192, 128]⟩
abbrev S5x1x4096 : Shape := ⟨3, ![5, 1, 4096]⟩
abbrev S4096 : Shape := ⟨1, ![4096]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S128x1 : Shape := ⟨2, ![128, 1]⟩
abbrev S128x8192 : Shape := ⟨2, ![128, 8192]⟩
abbrev S5x4096 : Shape := ⟨2, ![5, 4096]⟩
abbrev S1x4096 : Shape := ⟨2, ![1, 4096]⟩
abbrev S8192x2048 : Shape := ⟨2, ![8192, 2048]⟩
abbrev S8192x4096 : Shape := ⟨2, ![8192, 4096]⟩
abbrev S128x4096 : Shape := ⟨2, ![128, 4096]⟩
abbrev S16x4096 : Shape := ⟨2, ![16, 4096]⟩
abbrev S128x128 : Shape := ⟨2, ![128, 128]⟩
abbrev S128x2048 : Shape := ⟨2, ![128, 2048]⟩
abbrev S144x4096 : Shape := ⟨2, ![144, 4096]⟩
abbrev S16x128x128 : Shape := ⟨3, ![16, 128, 128]⟩
abbrev S8x4096 : Shape := ⟨2, ![8, 4096]⟩
abbrev S1x512 : Shape := ⟨2, ![1, 512]⟩
abbrev S128x512 : Shape := ⟨2, ![128, 512]⟩
abbrev S128x256 : Shape := ⟨2, ![128, 256]⟩
abbrev S256x128 : Shape := ⟨2, ![256, 128]⟩
abbrev S1x128x128 : Shape := ⟨3, ![1, 128, 128]⟩
abbrev S1x1 : Shape := ⟨2, ![1, 1]⟩

abbrev nBuf : Space → Nat
  | .hbm => 24
  | .vmem => 23
  | .smem => 0
  | _ => 0

abbrev bufTy : (tb : Table) → Fin (tcTables nBuf tb) → BufTy
  | .hbm, ⟨0, _⟩ => ⟨S8192x7680, .f32⟩
  | .hbm, ⟨1, _⟩ => ⟨S8192x128, .f32⟩
  | .hbm, ⟨2, _⟩ => ⟨S5x1x4096, .f32⟩
  | .hbm, ⟨3, _⟩ => ⟨S4096, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S64, .f32⟩
  | .hbm, ⟨10, _⟩ => ⟨S128, .f32⟩
  | .hbm, ⟨11, _⟩ => ⟨S1x128, .f32⟩
  | .hbm, ⟨12, _⟩ => ⟨S128x1, .f32⟩
  | .hbm, ⟨13, _⟩ => ⟨S_, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S128x1, .f32⟩
  | .hbm, ⟨18, _⟩ => ⟨S8192x7680, .bf16⟩
  | .hbm, ⟨19, _⟩ => ⟨S128x8192, .f32⟩
  | .hbm, ⟨20, _⟩ => ⟨S5x4096, .f32⟩
  | .hbm, ⟨21, _⟩ => ⟨S1x4096, .f32⟩
  | .hbm, ⟨22, _⟩ => ⟨S8192x2048, .f32⟩
  | .hbm, ⟨23, _⟩ => ⟨S8192x4096, .bf16⟩
  | .local _ .vmem, ⟨0, _⟩ => ⟨S128x4096, .bf16⟩
  | .local _ .vmem, ⟨1, _⟩ => ⟨S128x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S16x4096, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S5x4096, .f32⟩
  | .local _ .vmem, ⟨11, _⟩ => ⟨S1x4096, .f32⟩
  | .local _ .vmem, ⟨12, _⟩ => ⟨S1x128, .f32⟩
  | .local _ .vmem, ⟨13, _⟩ => ⟨S1x128, .f32⟩
  | .local _ .vmem, ⟨14, _⟩ => ⟨S128x1, .f32⟩
  | .local _ .vmem, ⟨15, _⟩ => ⟨S128x1, .f32⟩
  | .local _ .vmem, ⟨16, _⟩ => ⟨S128x2048, .f32⟩
  | .local _ .vmem, ⟨17, _⟩ => ⟨S128x2048, .f32⟩
  | .local _ .vmem, ⟨18, _⟩ => ⟨S128x4096, .bf16⟩
  | .local _ .vmem, ⟨19, _⟩ => ⟨S128x4096, .bf16⟩
  | .local _ .vmem, ⟨20, _⟩ => ⟨S144x4096, .f32⟩
  | .local _ .vmem, ⟨21, _⟩ => ⟨S128x2048, .f32⟩
  | .local _ .vmem, ⟨22, _⟩ => ⟨S16x128x128, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c8_i32 : BitVec 32 := 8#32
  let v3 : BitVec 32 := Scalar.muli v2 c8_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference9Ideal.lean ====
abbrev S8192x7680 : Shape := ⟨2, ![8192, 7680]⟩
abbrev S8192x128 : Shape := ⟨2, ![8192, 128]⟩
abbrev S5x1x4096 : Shape := ⟨3, ![5, 1, 4096]⟩
abbrev S4096 : Shape := ⟨1, ![4096]⟩
abbrev S32 : Shape := ⟨1, ![32]⟩
abbrev S8192x4096 : Shape := ⟨2, ![8192, 4096]⟩
abbrev S4x2048x4096 : Shape := ⟨3, ![4, 2048, 4096]⟩
abbrev S8192x32 : Shape := ⟨2, ![8192, 32]⟩
abbrev S4x2048x32 : Shape := ⟨3, ![4, 2048, 32]⟩
abbrev S_ : Shape := ⟨0, ![]⟩
abbrev S4x2052x4096 : Shape := ⟨3, ![4, 2052, 4096]⟩
abbrev S1x1x4096 : Shape := ⟨3, ![1, 1, 4096]⟩
abbrev S4x2048x2048 : Shape := ⟨3, ![4, 2048, 2048]⟩
abbrev S4x2048x32x64 : Shape := ⟨4, ![4, 2048, 32, 64]⟩
abbrev S4x2048x1024 : Shape := ⟨3, ![4, 2048, 1024]⟩
abbrev S4x2048x8x128 : Shape := ⟨4, ![4, 2048, 8, 128]⟩
abbrev S1x1x32 : Shape := ⟨3, ![1, 1, 32]⟩
abbrev S4x16x128x32x1 : Shape := ⟨5, ![4, 16, 128, 32, 1]⟩
abbrev S4x16x32x128x1 : Shape := ⟨5, ![4, 16, 32, 128, 1]⟩
abbrev S4x16x32x128 : Shape := ⟨4, ![4, 16, 32, 128]⟩
abbrev S4x2048x32x1 : Shape := ⟨4, ![4, 2048, 32, 1]⟩
abbrev S4x16x128x32x64 : Shape := ⟨5, ![4, 16, 128, 32, 64]⟩
abbrev S4x16x32x128x64 : Shape := ⟨5, ![4, 16, 32, 128, 64]⟩
abbrev S4x2048x8x4x128 : Shape := ⟨5, ![4, 2048, 8, 4, 128]⟩
abbrev S4x2048x32x128 : Shape := ⟨4, ![4, 2048, 32, 128]⟩
abbrev S4x16x128x32x128 : Shape := ⟨5, ![4, 16, 128, 32, 128]⟩
abbrev S4x16x32x128x128 : Shape := ⟨5, ![4, 16, 32, 128, 128]⟩
abbrev S4x16x32x1x128 : Shape := ⟨5, ![4, 16, 32, 1, 128]⟩
abbrev S128x128 : Shape := ⟨2, ![128, 128]⟩
abbrev S4x16x32x1 : Shape := ⟨4, ![4, 16, 32, 1]⟩
abbrev S4x16x32 : Shape := ⟨3, ![4, 16, 32]⟩
abbrev S4x32x128x64 : Shape := ⟨4, ![4, 32, 128, 64]⟩
abbrev S4x1x32 : Shape := ⟨3, ![4, 1, 32]⟩
abbrev S4x32 : Shape := ⟨2, ![4, 32]⟩
abbrev S4x32x1x1 : Shape := ⟨4, ![4, 32, 1, 1]⟩
abbrev S4x1x32x128x64 : Shape := ⟨5, ![4, 1, 32, 128, 64]⟩
abbrev S8192x2048 : Shape := ⟨2, ![8192, 2048]⟩

abbrev nBuf : Space → Nat
  | .hbm => 305
  | .vmem => 0
  | .smem => 0
  | _ => 0

abbrev hbmTy0_0 (i : Nat) : BufTy := match i % 128 with
  | 0 => ⟨S8192x7680, .f32⟩
  | 1 => ⟨S8192x128, .f32⟩
  | 2 => ⟨S5x1x4096, .f32⟩
  | 3 => ⟨S4096, .f32⟩
  | 4 => ⟨S32, .f32⟩
  | 5 => ⟨S32, .f32⟩
  | 6 => ⟨S32, .f32⟩
  | 7 => ⟨S32, .f32⟩
  | 8 => ⟨S8192x4096, .f32⟩
  | 9 => ⟨S4x2048x4096, .f32⟩
  | 10 => ⟨S8192x32, .f32⟩
  | 11 => ⟨S4x2048x32, .f32⟩
  | 12 => ⟨S_, .i32⟩
  | 13 => ⟨S_, .f32⟩
  | 14 => ⟨S4x2052x4096, .f32⟩
  | 15 => ⟨S4x2048x4096, .f32⟩
  | 16 => ⟨S1x1x4096, .f32⟩
  | 17 => ⟨S4096, .f32⟩
  | 18 => ⟨S1x1x4096, .f32⟩
  | 19 => ⟨S4x2048x4096, .f32⟩
  | 20 => ⟨S4x2048x4096, .f32⟩
  | 21 => ⟨S_, .f32⟩
  | 22 => ⟨S4x2048x4096, .f32⟩
  | 23 => ⟨S4x2048x4096, .f32⟩
  | 24 => ⟨S4x2048x4096, .f32⟩
  | 25 => ⟨S1x1x4096, .f32⟩
  | 26 => ⟨S4096, .f32⟩
  | 27 => ⟨S1x1x4096, .f32⟩
  | 28 => ⟨S4x2048x4096, .f32⟩
  | 29 => ⟨S4x2048x4096, .f32⟩
  | 30 => ⟨S4x2048x4096, .f32⟩
  | 31 => ⟨S4x2048x4096, .f32⟩
  | 32 => ⟨S1x1x4096, .f32⟩
  | 33 => ⟨S4096, .f32⟩
  | 34 => ⟨S1x1x4096, .f32⟩
  | 35 => ⟨S4x2048x4096, .f32⟩
  | 36 => ⟨S4x2048x4096, .f32⟩
  | 37 => ⟨S4x2048x4096, .f32⟩
  | 38 => ⟨S4x2048x4096, .f32⟩
  | 39 => ⟨S1x1x4096, .f32⟩
  | 40 => ⟨S4096, .f32⟩
  | 41 => ⟨S1x1x4096, .f32⟩
  | 42 => ⟨S4x2048x4096, .f32⟩
  | 43 => ⟨S4x2048x4096, .f32⟩
  | 44 => ⟨S4x2048x4096, .f32⟩
  | 45 => ⟨S4x2048x4096, .f32⟩
  | 46 => ⟨S1x1x4096, .f32⟩
  | 47 => ⟨S4096, .f32⟩
  | 48 => ⟨S1x1x4096, .f32⟩
  | 49 => ⟨S4x2048x4096, .f32⟩
  | 50 => ⟨S4x2048x4096, .f32⟩
  | 51 => ⟨S4x2048x4096, .f32⟩
  | 52 => ⟨S1x1x4096, .f32⟩
  | 53 => ⟨S4x2048x4096, .f32⟩
  | 54 => ⟨S4x2048x4096, .f32⟩
  | 55 => ⟨S4x2048x4096, .f32⟩
  | 56 => ⟨S4x2048x4096, .f32⟩
  | 57 => ⟨S_, .f32⟩
  | 58 => ⟨S4x2048x4096, .f32⟩
  | 59 => ⟨S4x2048x4096, .f32⟩
  | 60 => ⟨S_, .f32⟩
  | 61 => ⟨S4x2048x4096, .f32⟩
  | 62 => ⟨S4x2048x4096, .f32⟩
  | 63 => ⟨S4x2048x4096, .f32⟩
  | 64 => ⟨S4x2048x2048, .f32⟩
  | 65 => ⟨S4x2048x32x64, .f32⟩
  | 66 => ⟨S4x2048x1024, .f32⟩
  | 67 => ⟨S4x2048x8x128, .f32⟩
  | 68 => ⟨S4x2048x1024, .f32⟩
  | 69 => ⟨S4x2048x8x128, .f32⟩
  | 70 => ⟨S1x1x32, .f32⟩
  | 71 => ⟨S4x2048x32, .f32⟩
  | 72 => ⟨S4x2048x32, .f32⟩
  | 73 => ⟨S_, .f32⟩
  | 74 => ⟨S4x2048x32, .f32⟩
  | 75 => ⟨S4x2048x32, .f32⟩
  | 76 => ⟨S4x2048x32, .f32⟩
  | 77 => ⟨S4x2048x32, .f32⟩
  | 78 => ⟨S4x2048x32, .i1⟩
  | 79 => ⟨S4x2048x32, .f32⟩
  | 80 => ⟨S4x2048x32, .f32⟩
  | 81 => ⟨S4x2048x32, .f32⟩
  | 82 => ⟨S4x2048x32, .f32⟩
  | 83 => ⟨S4x2048x32, .f32⟩
  | 84 => ⟨S4x2048x32, .f32⟩
  | 85 => ⟨S4x2048x32, .f32⟩
  | 86 => ⟨S4x2048x32, .f32⟩
  | 87 => ⟨S32, .f32⟩
  | 88 => ⟨S32, .f32⟩
  | 89 => ⟨S1x1x32, .f32⟩
  | 90 => ⟨S4x2048x32, .f32⟩
  | 91 => ⟨S4x2048x32, .f32⟩
  | 92 => ⟨S4x16x128x32x1, .f32⟩
  | 93 => ⟨S4x16x32x128x1, .f32⟩
  | 94 => ⟨S4x16x32x128, .f32⟩
  | 95 => ⟨S_, .f32⟩
  | 96 => ⟨S_, .f32⟩
  | 97 => ⟨S4x16x32x128, .f32⟩
  | 98 => ⟨S4x2048x32x1, .f32⟩
  | 99 => ⟨S4x2048x32x64, .f32⟩
  | 100 => ⟨S4x2048x32x64, .f32⟩
  | 101 => ⟨S4x16x128x32x64, .f32⟩
  | 102 => ⟨S4x16x32x128x64, .f32⟩
  | 103 => ⟨S4x2048x8x4x128, .f32⟩
  | 104 => ⟨S4x2048x32x128, .f32⟩
  | 105 => ⟨S4x16x128x32x128, .f32⟩
  | 106 => ⟨S4x16x32x128x128, .f32⟩
  | 107 => ⟨S4x2048x8x4x128, .f32⟩
  | 108 => ⟨S4x2048x32x128, .f32⟩
  | 109 => ⟨S4x16x128x32x128, .f32⟩
  | 110 => ⟨S4x16x32x128x128, .f32⟩
  | 111 => ⟨S4x16x32x128x1, .f32⟩
  | 112 => ⟨S4x16x32x1x128, .f32⟩
  | 113 => ⟨S4x16x32x128x128, .f32⟩
  | 114 => ⟨S4x16x32x128x128, .f32⟩
  | 115 => ⟨S4x16x32x128x128, .f32⟩
  | 116 => ⟨S_, .i1⟩
  | 117 => ⟨S128x128, .i1⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .i1⟩
  | 125 => ⟨S128x128, .i1⟩
  | 126 => ⟨S128x128, .i1⟩
  | 127 => ⟨S_, .f32⟩
  | _ => ⟨S8192x7680, .f32⟩

abbrev hbmTy0_1 (i : Nat) : BufTy := match i % 128 with
  | 0 => ⟨S_, .f32⟩
  | 1 => ⟨S4x16x32x128x128, .i1⟩
  | 2 => ⟨S4x16x32x128x128, .f32⟩
  | 3 => ⟨S4x16x32x128x128, .f32⟩
  | 4 => ⟨S4x16x32x128x128, .f32⟩
  | 5 => ⟨S4x16x32x128x128, .f32⟩
  | 6 => ⟨S4x16x32x128x128, .f32⟩
  | 7 => ⟨S4x16x32x128x64, .f32⟩
  | 8 => ⟨S4x16x32x1, .f32⟩
  | 9 => ⟨S4x16x32x128, .f32⟩
  | 10 => ⟨S4x16x32x128, .f32⟩
  | 11 => ⟨S4x16x32x128, .f32⟩
  | 12 => ⟨S4x16x32x128x1, .f32⟩
  | 13 => ⟨S4x16x32x128x64, .f32⟩
  | 14 => ⟨S4x16x32x128x64, .f32⟩
  | 15 => ⟨S4x16x32x128x64, .f32⟩
  | 16 => ⟨S4x16x32x1, .f32⟩
  | 17 => ⟨S4x16x32, .f32⟩
  | 18 => ⟨S4x16x32, .f32⟩
  | 19 => ⟨S_, .f32⟩
  | 20 => ⟨S4x32x128x64, .f32⟩
  | 21 => ⟨S4x1x32, .f32⟩
  | 22 => ⟨S4x32, .f32⟩
  | 23 => ⟨S4x32x1x1, .f32⟩
  | 24 => ⟨S4x32x128x64, .f32⟩
  | 25 => ⟨S4x32x128x64, .f32⟩
  | 26 => ⟨S4x1x32x128x64, .f32⟩
  | 27 => ⟨S4x32x128x64, .f32⟩
  | 28 => ⟨S4x32x128x64, .f32⟩
  | 29 => ⟨S4x1x32, .f32⟩
  | 30 => ⟨S4x32, .f32⟩
  | 31 => ⟨S4x32x1x1, .f32⟩
  | 32 => ⟨S4x32x128x64, .f32⟩
  | 33 => ⟨S4x32x128x64, .f32⟩
  | 34 => ⟨S4x1x32x128x64, .f32⟩
  | 35 => ⟨S4x32x128x64, .f32⟩
  | 36 => ⟨S4x32x128x64, .f32⟩
  | 37 => ⟨S4x1x32, .f32⟩
  | 38 => ⟨S4x32, .f32⟩
  | 39 => ⟨S4x32x1x1, .f32⟩
  | 40 => ⟨S4x32x128x64, .f32⟩
  | 41 => ⟨S4x32x128x64, .f32⟩
  | 42 => ⟨S4x1x32x128x64, .f32⟩
  | 43 => ⟨S4x32x128x64, .f32⟩
  | 44 => ⟨S4x32x128x64, .f32⟩
  | 45 => ⟨S4x1x32, .f32⟩
  | 46 => ⟨S4x32, .f32⟩
  | 47 => ⟨S4x32x1x1, .f32⟩
  | 48 => ⟨S4x32x128x64, .f32⟩
  | 49 => ⟨S4x32x128x64, .f32⟩
  | 50 => ⟨S4x1x32x128x64, .f32⟩
  | 51 => ⟨S4x32x128x64, .f32⟩
  | 52 => ⟨S4x32x128x64, .f32⟩
  | 53 => ⟨S4x1x32, .f32⟩
  | 54 => ⟨S4x32, .f32⟩
  | 55 => ⟨S4x32x1x1, .f32⟩
  | 56 => ⟨S4x32x128x64, .f32⟩
  | 57 => ⟨S4x32x128x64, .f32⟩
  | 58 => ⟨S4x1x32x128x64, .f32⟩
  | 59 => ⟨S4x32x128x64, .f32⟩
  | 60 => ⟨S4x32x128x64, .f32⟩
  | 61 => ⟨S4x1x32, .f32⟩
  | 62 => ⟨S4x32, .f32⟩
  | 63 => ⟨S4x32x1x1, .f32⟩
  | 64 => ⟨S4x32x128x64, .f32⟩
  | 65 => ⟨S4x32x128x64, .f32⟩
  | 66 => ⟨S4x1x32x128x64, .f32⟩
  | 67 => ⟨S4x32x128x64, .f32⟩
  | 68 => ⟨S4x32x128x64, .f32⟩
  | 69 => ⟨S4x1x32, .f32⟩
  | 70 => ⟨S4x32, .f32⟩
  | 71 => ⟨S4x32x1x1, .f32⟩
  | 72 => ⟨S4x32x128x64, .f32⟩
  | 73 => ⟨S4x32x128x64, .f32⟩
  | 74 => ⟨S4x1x32x128x64, .f32⟩
  | 75 => ⟨S4x32x128x64, .f32⟩
  | 76 => ⟨S4x32x128x64, .f32⟩
  | 77 => ⟨S4x1x32, .f32⟩
  | 78 => ⟨S4x32, .f32⟩
  | 79 => ⟨S4x32x1x1, .f32⟩
  | 80 => ⟨S4x32x128x64, .f32⟩
  | 81 => ⟨S4x32x128x64, .f32⟩
  | 82 => ⟨S4x1x32x128x64, .f32⟩
  | 83 => ⟨S4x32x128x64, .f32⟩
  | 84 => ⟨S4x32x128x64, .f32⟩
  | 85 => ⟨S4x1x32, .f32⟩
  | 86 => ⟨S4x32, .f32⟩
  | 87 => ⟨S4x32x1x1, .f32⟩
  | 88 => ⟨S4x32x128x64, .f32⟩
  | 89 => ⟨S4x32x128x64, .f32⟩
  | 90 => ⟨S4x1x32x128x64, .f32⟩
  | 91 => ⟨S4x32x128x64, .f32⟩
  | 92 => ⟨S4x32x128x64, .f32⟩
  | 93 => ⟨S4x1x32, .f32⟩
  | 94 => ⟨S4x32, .f32⟩
  | 95 => ⟨S4x32x1x1, .f32⟩
  | 96 => ⟨S4x32x128x64, .f32⟩
  | 97 => ⟨S4x32x128x64, .f32⟩
  | 98 => ⟨S4x1x32x128x64, .f32⟩
  | 99 => ⟨S4x32x128x64, .f32⟩
  | 100 => ⟨S4x32x128x64, .f32⟩
  | 101 => ⟨S4x1x32, .f32⟩
  | 102 => ⟨S4x32, .f32⟩
  | 103 => ⟨S4x32x1x1, .f32⟩
  | 104 => ⟨S4x32x128x64, .f32⟩
  | 105 => ⟨S4x32x128x64, .f32⟩
  | 106 => ⟨S4x1x32x128x64, .f32⟩
  | 107 => ⟨S4x32x128x64, .f32⟩
  | 108 => ⟨S4x32x128x64, .f32⟩
  | 109 => ⟨S4x1x32, .f32⟩
  | 110 => ⟨S4x32, .f32⟩
  | 111 => ⟨S4x32x1x1, .f32⟩
  | 112 => ⟨S4x32x128x64, .f32⟩
  | 113 => ⟨S4x32x128x64, .f32⟩
  | 114 => ⟨S4x1x32x128x64, .f32⟩
  | 115 => ⟨S4x32x128x64, .f32⟩
  | 116 => ⟨S4x32x128x64, .f32⟩
  | 117 => ⟨S4x1x32, .f32⟩
  | 118 => ⟨S4x32, .f32⟩
  | 119 => ⟨S4x32x1x1, .f32⟩
  | 120 => ⟨S4x32x128x64, .f32⟩
  | 121 => ⟨S4x32x128x64, .f32⟩
  | 122 => ⟨S4x1x32x128x64, .f32⟩
  | 123 => ⟨S4x32x128x64, .f32⟩
  | 124 => ⟨S4x32x128x64, .f32⟩
  | 125 => ⟨S4x1x32, .f32⟩
  | 126 => ⟨S4x32, .f32⟩
  | 127 => ⟨S4x32x1x1, .f32⟩
  | _ => ⟨S8192x7680, .f32⟩

abbrev hbmTy0_2 (i : Nat) : BufTy := match i % 128 with
  | 0 => ⟨S4x32x128x64, .f32⟩
  | 1 => ⟨S4x32x128x64, .f32⟩
  | 2 => ⟨S4x1x32x128x64, .f32⟩
  | 3 => ⟨S4x32x128x64, .f32⟩
  | 4 => ⟨S4x32x128x64, .f32⟩
  | 5 => ⟨S4x1x32, .f32⟩
  | 6 => ⟨S4x32, .f32⟩
  | 7 => ⟨S4x32x1x1, .f32⟩
  | 8 => ⟨S4x32x128x64, .f32⟩
  | 9 => ⟨S4x32x128x64, .f32⟩
  | 10 => ⟨S4x1x32x128x64, .f32⟩
  | 11 => ⟨S4x32x128x64, .f32⟩
  | 12 => ⟨S4x32x128x64, .f32⟩
  | 13 => ⟨S4x1x32, .f32⟩
  | 14 => ⟨S4x32, .f32⟩
  | 15 => ⟨S4x32x1x1, .f32⟩
  | 16 => ⟨S4x32x128x64, .f32⟩
  | 17 => ⟨S4x32x128x64, .f32⟩
  | 18 => ⟨S4x1x32x128x64, .f32⟩
  | 19 => ⟨S4x32x128x64, .f32⟩
  | 20 => ⟨S4x32x128x64, .f32⟩
  | 21 => ⟨S4x1x32x128x64, .f32⟩
  | 22 => ⟨S4x1x32x128x64, .f32⟩
  | 23 => ⟨S4x1x32x128x64, .f32⟩
  | 24 => ⟨S4x1x32x128x64, .f32⟩
  | 25 => ⟨S4x1x32x128x64, .f32⟩
  | 26 => ⟨S4x1x32x128x64, .f32⟩
  | 27 => ⟨S4x1x32x128x64, .f32⟩
  | 28 => ⟨S4x1x32x128x64, .f32⟩
  | 29 => ⟨S4x1x32x128x64, .f32⟩
  | 30 => ⟨S4x1x32x128x64, .f32⟩
  | 31 => ⟨S4x1x32x128x64, .f32⟩
  | 32 => ⟨S4x1x32x128x64, .f32⟩
  | 33 => ⟨S4x1x32x128x64, .f32⟩
  | 34 => ⟨S4x1x32x128x64, .f32⟩
  | 35 => ⟨S4x1x32x128x64, .f32⟩
  | 36 => ⟨S4x1x32x128x64, .f32⟩
  | 37 => ⟨S4x16x32x128x64, .f32⟩
  | 38 => ⟨S4x16x32x128x64, .f32⟩
  | 39 => ⟨S4x16x32x128, .f32⟩
  | 40 => ⟨S4x16x32x128x1, .f32⟩
  | 41 => ⟨S4x16x32x128x64, .f32⟩
  | 42 => ⟨S4x16x32x128x64, .f32⟩
  | 43 => ⟨S4x16x32x128x64, .f32⟩
  | 44 => ⟨S4x16x128x32x64, .f32⟩
  | 45 => ⟨S4x2048x32x64, .f32⟩
  | 46 => ⟨S8192x2048, .f32⟩
  | 47 => ⟨S8192x4096, .f32⟩
  | 48 => ⟨S8192x4096, .bf16⟩
  | _ => ⟨S8192x7680, .f32⟩

abbrev hbmTy (i : Nat) : BufTy := match i / 128 with
  | 0 => hbmTy0_0 i
  | 1 => hbmTy0_1 i
  | 2 => hbmTy0_2 i
  | _ => ⟨S8192x7680, .f32⟩

abbrev bufTy : (tb : Table) → Fin (tcTables nBuf tb) → BufTy
  | .hbm, ⟨i, _⟩ => hbmTy i
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call3_call0_cst : Ref sig .tc := ⟨.hbm, 95, rfl⟩
abbrev main_call3_call0_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_0 : Ref sig .tc := ⟨.hbm, 116, rfl⟩
abbrev main_v82 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_c_0 : Ref sig .tc := ⟨.hbm, 124, rfl⟩
abbrev main_call4_v5 : Ref sig .tc := ⟨.hbm, 125, rfl⟩
abbrev main_v83 : Ref sig .tc := ⟨.hbm, 126, rfl⟩
abbrev main_cst_1 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_2 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩

abbrev nD : Nat := 1
abbrev τ : Topo := Topo.v7x

variable {F : FTy → Type} [FloatOps F]
-- ==== Kernel10.lean ====
abbrev S8192x4096 : Shape := ⟨2, ![8192, 4096]⟩
abbrev S8192x7680 : Shape := ⟨2, ![8192, 7680]⟩
abbrev S8192x128 : Shape := ⟨2, ![8192, 128]⟩
abbrev S8192x2048 : Shape := ⟨2, ![8192, 2048]⟩
abbrev S32 : Shape := ⟨1, ![32]⟩
abbrev S2048 : Shape := ⟨1, ![2048]⟩
abbrev S_ : Shape := ⟨0, ![]⟩
abbrev S64 : Shape := ⟨1, ![64]⟩
abbrev S128 : Shape := ⟨1, ![128]⟩
abbrev S1x128 : Shape := ⟨2, ![1, 128]⟩
abbrev S128x1 : Shape := ⟨2, ![128, 1]⟩
abbrev S32x64 : Shape := ⟨2, ![32, 64]⟩
abbrev S1x2048 : Shape := ⟨2, ![1, 2048]⟩
abbrev S128x8192 : Shape := ⟨2, ![128, 8192]⟩
abbrev S128x4096 : Shape := ⟨2, ![128, 4096]⟩
abbrev S128x128 : Shape := ⟨2, ![128, 128]⟩
abbrev S128x2048 : Shape := ⟨2, ![128, 2048]⟩
abbrev S16x128x128 : Shape := ⟨3, ![16, 128, 128]⟩
abbrev S128x256 : Shape := ⟨2, ![128, 256]⟩
abbrev S256x128 : Shape := ⟨2, ![256, 128]⟩
abbrev S1x128x128 : Shape := ⟨3, ![1, 128, 128]⟩
abbrev S1x1 : Shape := ⟨2, ![1, 1]⟩
abbrev S1x256 : Shape := ⟨2, ![1, 256]⟩

abbrev nBuf : Space → Nat
  | .hbm => 28
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192x7680, .f32⟩
  | .hbm, ⟨2, _⟩ => ⟨S8192x128, .f32⟩
  | .hbm, ⟨3, _⟩ => ⟨S8192x2048, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S_, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S128x1, .f32⟩
  | .hbm, ⟨15, _⟩ => ⟨S_, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S128x1, .f32⟩
  | .hbm, ⟨20, _⟩ => ⟨S32x64, .f32⟩
  | .hbm, ⟨21, _⟩ => ⟨S2048, .f32⟩
  | .hbm, ⟨22, _⟩ => ⟨S1x2048, .f32⟩
  | .hbm, ⟨23, _⟩ => ⟨S8192x7680, .bf16⟩
  | .hbm, ⟨24, _⟩ => ⟨S128x8192, .f32⟩
  | .hbm, ⟨25, _⟩ => ⟨S8192x4096, .bf16⟩
  | .hbm, ⟨26, _⟩ => ⟨S1x2048, .f32⟩
  | .hbm, ⟨27, _⟩ => ⟨S8192x2048, .bf16⟩
  | .local _ .vmem, ⟨0, _⟩ => ⟨S128x4096, .bf16⟩
  | .local _ .vmem, ⟨1, _⟩ => ⟨S128x4096, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S128x1, .f32⟩
  | .local _ .vmem, ⟨9, _⟩ => ⟨S128x1, .f32⟩
  | .local _ .vmem, ⟨10, _⟩ => ⟨S128x2048, .bf16⟩
  | .local _ .vmem, ⟨11, _⟩ => ⟨S128x2048, .bf16⟩
  | .local _ .vmem, ⟨12, _⟩ => ⟨S128x2048, .f32⟩
  | .local _ .vmem, ⟨13, _⟩ => ⟨S128x2048, .f32⟩
  | .local _ .vmem, ⟨14, _⟩ => ⟨S1x2048, .f32⟩
  | .local _ .vmem, ⟨15, _⟩ => ⟨S1x2048, .f32⟩
  | .local _ .vmem, ⟨16, _⟩ => ⟨S128x2048, .bf16⟩
  | .local _ .vmem, ⟨17, _⟩ => ⟨S128x2048, .bf16⟩
  | .local _ .vmem, ⟨18, _⟩ => ⟨S128x2048, .f32⟩
  | .local _ .vmem, ⟨19, _⟩ => ⟨S16x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference10Ideal.lean ====
abbrev S8192x4096 : Shape := ⟨2, ![8192, 4096]⟩
abbrev S8192x7680 : Shape := ⟨2, ![8192, 7680]⟩
abbrev S8192x128 : Shape := ⟨2, ![8192, 128]⟩
abbrev S8192x2048 : Shape := ⟨2, ![8192, 2048]⟩
abbrev S32 : Shape := ⟨1, ![32]⟩
abbrev S2048 : Shape := ⟨1, ![2048]⟩
abbrev S4x2048x4096 : Shape := ⟨3, ![4, 2048, 4096]⟩
abbrev S4x2048x2048 : Shape := ⟨3, ![4, 2048, 2048]⟩
abbrev S8192x32 : Shape := ⟨2, ![8192, 32]⟩
abbrev S4x2048x32 : Shape := ⟨3, ![4, 2048, 32]⟩
abbrev S4x2048x32x64 : Shape := ⟨4, ![4, 2048, 32, 64]⟩
abbrev S4x2048x1024 : Shape := ⟨3, ![4, 2048, 1024]⟩
abbrev S4x2048x8x128 : Shape := ⟨4, ![4, 2048, 8, 128]⟩
abbrev S1x1x32 : Shape := ⟨3, ![1, 1, 32]⟩
abbrev S_ : Shape := ⟨0, ![]⟩
abbrev S4x16x128x32x1 : Shape := ⟨5, ![4, 16, 128, 32, 1]⟩
abbrev S4x16x32x128x1 : Shape := ⟨5, ![4, 16, 32, 128, 1]⟩
abbrev S4x16x32x128 : Shape := ⟨4, ![4, 16, 32, 128]⟩
abbrev S4x2048x32x1 : Shape := ⟨4, ![4, 2048, 32, 1]⟩
abbrev S4x16x128x32x64 : Shape := ⟨5, ![4, 16, 128, 32, 64]⟩
abbrev S4x16x32x128x64 : Shape := ⟨5, ![4, 16, 32, 128, 64]⟩
abbrev S4x2048x8x4x128 : Shape := ⟨5, ![4, 2048, 8, 4, 128]⟩
abbrev S4x2048x32x128 : Shape := ⟨4, ![4, 2048, 32, 128]⟩
abbrev S4x16x128x32x128 : Shape := ⟨5, ![4, 16, 128, 32, 128]⟩
abbrev S4x16x32x128x128 : Shape := ⟨5, ![4, 16, 32, 128, 128]⟩
abbrev S4x16x32x1x128 : Shape := ⟨5, ![4, 16, 32, 1, 128]⟩
abbrev S128x128 : Shape := ⟨2, ![128, 128]⟩
abbrev S4x16x32x1 : Shape := ⟨4, ![4, 16, 32, 1]⟩
abbrev S4x16x32 : Shape := ⟨3, ![4, 16, 32]⟩
abbrev S4x32x128x64 : Shape := ⟨4, ![4, 32, 128, 64]⟩
abbrev S4x1x32 : Shape := ⟨3, ![4, 1, 32]⟩
abbrev S4x32 : Shape := ⟨2, ![4, 32]⟩
abbrev S4x32x1x1 : Shape := ⟨4, ![4, 32, 1, 1]⟩
abbrev S4x1x32x128x64 : Shape := ⟨5, ![4, 1, 32, 128, 64]⟩
abbrev S32x1 : Shape := ⟨2, ![32, 1]⟩
abbrev S1x1x32x1 : Shape := ⟨4, ![1, 1, 32, 1]⟩
abbrev S4x2048x8x256 : Shape := ⟨4, ![4, 2048, 8, 256]⟩
abbrev S8x256 : Shape := ⟨2, ![8, 256]⟩
abbrev S4x2048x8 : Shape := ⟨3, ![4, 2048, 8]⟩
abbrev S4x2048x8x1 : Shape := ⟨4, ![4, 2048, 8, 1]⟩
abbrev S1x1x8x256 : Shape := ⟨4, ![1, 1, 8, 256]⟩

abbrev nBuf : Space → Nat
  | .hbm => 296
  | .vmem => 0
  | .smem => 0
  | _ => 0

abbrev hbmTy0_0 (i : Nat) : BufTy := match i % 128 with
  | 0 => ⟨S8192x4096, .f32⟩
  | 1 => ⟨S8192x7680, .f32⟩
  | 2 => ⟨S8192x128, .f32⟩
  | 3 => ⟨S8192x2048, .f32⟩
  | 4 => ⟨S32, .f32⟩
  | 5 => ⟨S32, .f32⟩
  | 6 => ⟨S32, .f32⟩
  | 7 => ⟨S32, .f32⟩
  | 8 => ⟨S32, .f32⟩
  | 9 => ⟨S2048, .f32⟩
  | 10 => ⟨S4x2048x4096, .f32⟩
  | 11 => ⟨S8192x2048, .f32⟩
  | 12 => ⟨S4x2048x2048, .f32⟩
  | 13 => ⟨S8192x32, .f32⟩
  | 14 => ⟨S4x2048x32, .f32⟩
  | 15 => ⟨S4x2048x2048, .f32⟩
  | 16 => ⟨S4x2048x32x64, .f32⟩
  | 17 => ⟨S4x2048x1024, .f32⟩
  | 18 => ⟨S4x2048x8x128, .f32⟩
  | 19 => ⟨S4x2048x1024, .f32⟩
  | 20 => ⟨S4x2048x8x128, .f32⟩
  | 21 => ⟨S4x2048x32x64, .f32⟩
  | 22 => ⟨S4x2048x32, .f32⟩
  | 23 => ⟨S4x2048x8x128, .f32⟩
  | 24 => ⟨S4x2048x8x128, .f32⟩
  | 25 => ⟨S1x1x32, .f32⟩
  | 26 => ⟨S4x2048x32, .f32⟩
  | 27 => ⟨S4x2048x32, .f32⟩
  | 28 => ⟨S_, .f32⟩
  | 29 => ⟨S4x2048x32, .f32⟩
  | 30 => ⟨S4x2048x32, .f32⟩
  | 31 => ⟨S4x2048x32, .f32⟩
  | 32 => ⟨S4x2048x32, .f32⟩
  | 33 => ⟨S4x2048x32, .i1⟩
  | 34 => ⟨S4x2048x32, .f32⟩
  | 35 => ⟨S4x2048x32, .f32⟩
  | 36 => ⟨S4x2048x32, .f32⟩
  | 37 => ⟨S4x2048x32, .f32⟩
  | 38 => ⟨S4x2048x32, .f32⟩
  | 39 => ⟨S4x2048x32, .f32⟩
  | 40 => ⟨S4x2048x32, .f32⟩
  | 41 => ⟨S4x2048x32, .f32⟩
  | 42 => ⟨S32, .f32⟩
  | 43 => ⟨S32, .f32⟩
  | 44 => ⟨S1x1x32, .f32⟩
  | 45 => ⟨S4x2048x32, .f32⟩
  | 46 => ⟨S4x2048x32, .f32⟩
  | 47 => ⟨S4x16x128x32x1, .f32⟩
  | 48 => ⟨S4x16x32x128x1, .f32⟩
  | 49 => ⟨S4x16x32x128, .f32⟩
  | 50 => ⟨S_, .f32⟩
  | 51 => ⟨S_, .f32⟩
  | 52 => ⟨S4x16x32x128, .f32⟩
  | 53 => ⟨S4x2048x32x1, .f32⟩
  | 54 => ⟨S4x2048x32x64, .f32⟩
  | 55 => ⟨S4x2048x32x64, .f32⟩
  | 56 => ⟨S4x16x128x32x64, .f32⟩
  | 57 => ⟨S4x16x32x128x64, .f32⟩
  | 58 => ⟨S4x2048x8x4x128, .f32⟩
  | 59 => ⟨S4x2048x32x128, .f32⟩
  | 60 => ⟨S4x16x128x32x128, .f32⟩
  | 61 => ⟨S4x16x32x128x128, .f32⟩
  | 62 => ⟨S4x2048x8x4x128, .f32⟩
  | 63 => ⟨S4x2048x32x128, .f32⟩
  | 64 => ⟨S4x16x128x32x128, .f32⟩
  | 65 => ⟨S4x16x32x128x128, .f32⟩
  | 66 => ⟨S4x16x32x128x1, .f32⟩
  | 67 => ⟨S4x16x32x1x128, .f32⟩
  | 68 => ⟨S4x16x32x128x128, .f32⟩
  | 69 => ⟨S4x16x32x128x128, .f32⟩
  | 70 => ⟨S4x16x32x128x128, .f32⟩
  | 71 => ⟨S_, .i1⟩
  | 72 => ⟨S128x128, .i1⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .i1⟩
  | 80 => ⟨S128x128, .i1⟩
  | 81 => ⟨S128x128, .i1⟩
  | 82 => ⟨S_, .f32⟩
  | 83 => ⟨S_, .f32⟩
  | 84 => ⟨S4x16x32x128x128, .i1⟩
  | 85 => ⟨S4x16x32x128x128, .f32⟩
  | 86 => ⟨S4x16x32x128x128, .f32⟩
  | 87 => ⟨S4x16x32x128x128, .f32⟩
  | 88 => ⟨S4x16x32x128x128, .f32⟩
  | 89 => ⟨S4x16x32x128x128, .f32⟩
  | 90 => ⟨S4x16x32x128x64, .f32⟩
  | 91 => ⟨S4x16x32x1, .f32⟩
  | 92 => ⟨S4x16x32x128, .f32⟩
  | 93 => ⟨S4x16x32x128, .f32⟩
  | 94 => ⟨S4x16x32x128, .f32⟩
  | 95 => ⟨S4x16x32x128x1, .f32⟩
  | 96 => ⟨S4x16x32x128x64, .f32⟩
  | 97 => ⟨S4x16x32x128x64, .f32⟩
  | 98 => ⟨S4x16x32x128x64, .f32⟩
  | 99 => ⟨S4x16x32x1, .f32⟩
  | 100 => ⟨S4x16x32, .f32⟩
  | 101 => ⟨S4x16x32, .f32⟩
  | 102 => ⟨S_, .f32⟩
  | 103 => ⟨S4x32x128x64, .f32⟩
  | 104 => ⟨S4x1x32, .f32⟩
  | 105 => ⟨S4x32, .f32⟩
  | 106 => ⟨S4x32x1x1, .f32⟩
  | 107 => ⟨S4x32x128x64, .f32⟩
  | 108 => ⟨S4x32x128x64, .f32⟩
  | 109 => ⟨S4x1x32x128x64, .f32⟩
  | 110 => ⟨S4x32x128x64, .f32⟩
  | 111 => ⟨S4x32x128x64, .f32⟩
  | 112 => ⟨S4x1x32, .f32⟩
  | 113 => ⟨S4x32, .f32⟩
  | 114 => ⟨S4x32x1x1, .f32⟩
  | 115 => ⟨S4x32x128x64, .f32⟩
  | 116 => ⟨S4x32x128x64, .f32⟩
  | 117 => ⟨S4x1x32x128x64, .f32⟩
  | 118 => ⟨S4x32x128x64, .f32⟩
  | 119 => ⟨S4x32x128x64, .f32⟩
  | 120 => ⟨S4x1x32, .f32⟩
  | 121 => ⟨S4x32, .f32⟩
  | 122 => ⟨S4x32x1x1, .f32⟩
  | 123 => ⟨S4x32x128x64, .f32⟩
  | 124 => ⟨S4x32x128x64, .f32⟩
  | 125 => ⟨S4x1x32x128x64, .f32⟩
  | 126 => ⟨S4x32x128x64, .f32⟩
  | 127 => ⟨S4x32x128x64, .f32⟩
  | _ => ⟨S8192x4096, .f32⟩

abbrev hbmTy0_1 (i : Nat) : BufTy := match i % 128 with
  | 0 => ⟨S4x1x32, .f32⟩
  | 1 => ⟨S4x32, .f32⟩
  | 2 => ⟨S4x32x1x1, .f32⟩
  | 3 => ⟨S4x32x128x64, .f32⟩
  | 4 => ⟨S4x32x128x64, .f32⟩
  | 5 => ⟨S4x1x32x128x64, .f32⟩
  | 6 => ⟨S4x32x128x64, .f32⟩
  | 7 => ⟨S4x32x128x64, .f32⟩
  | 8 => ⟨S4x1x32, .f32⟩
  | 9 => ⟨S4x32, .f32⟩
  | 10 => ⟨S4x32x1x1, .f32⟩
  | 11 => ⟨S4x32x128x64, .f32⟩
  | 12 => ⟨S4x32x128x64, .f32⟩
  | 13 => ⟨S4x1x32x128x64, .f32⟩
  | 14 => ⟨S4x32x128x64, .f32⟩
  | 15 => ⟨S4x32x128x64, .f32⟩
  | 16 => ⟨S4x1x32, .f32⟩
  | 17 => ⟨S4x32, .f32⟩
  | 18 => ⟨S4x32x1x1, .f32⟩
  | 19 => ⟨S4x32x128x64, .f32⟩
  | 20 => ⟨S4x32x128x64, .f32⟩
  | 21 => ⟨S4x1x32x128x64, .f32⟩
  | 22 => ⟨S4x32x128x64, .f32⟩
  | 23 => ⟨S4x32x128x64, .f32⟩
  | 24 => ⟨S4x1x32, .f32⟩
  | 25 => ⟨S4x32, .f32⟩
  | 26 => ⟨S4x32x1x1, .f32⟩
  | 27 => ⟨S4x32x128x64, .f32⟩
  | 28 => ⟨S4x32x128x64, .f32⟩
  | 29 => ⟨S4x1x32x128x64, .f32⟩
  | 30 => ⟨S4x32x128x64, .f32⟩
  | 31 => ⟨S4x32x128x64, .f32⟩
  | 32 => ⟨S4x1x32, .f32⟩
  | 33 => ⟨S4x32, .f32⟩
  | 34 => ⟨S4x32x1x1, .f32⟩
  | 35 => ⟨S4x32x128x64, .f32⟩
  | 36 => ⟨S4x32x128x64, .f32⟩
  | 37 => ⟨S4x1x32x128x64, .f32⟩
  | 38 => ⟨S4x32x128x64, .f32⟩
  | 39 => ⟨S4x32x128x64, .f32⟩
  | 40 => ⟨S4x1x32, .f32⟩
  | 41 => ⟨S4x32, .f32⟩
  | 42 => ⟨S4x32x1x1, .f32⟩
  | 43 => ⟨S4x32x128x64, .f32⟩
  | 44 => ⟨S4x32x128x64, .f32⟩
  | 45 => ⟨S4x1x32x128x64, .f32⟩
  | 46 => ⟨S4x32x128x64, .f32⟩
  | 47 => ⟨S4x32x128x64, .f32⟩
  | 48 => ⟨S4x1x32, .f32⟩
  | 49 => ⟨S4x32, .f32⟩
  | 50 => ⟨S4x32x1x1, .f32⟩
  | 51 => ⟨S4x32x128x64, .f32⟩
  | 52 => ⟨S4x32x128x64, .f32⟩
  | 53 => ⟨S4x1x32x128x64, .f32⟩
  | 54 => ⟨S4x32x128x64, .f32⟩
  | 55 => ⟨S4x32x128x64, .f32⟩
  | 56 => ⟨S4x1x32, .f32⟩
  | 57 => ⟨S4x32, .f32⟩
  | 58 => ⟨S4x32x1x1, .f32⟩
  | 59 => ⟨S4x32x128x64, .f32⟩
  | 60 => ⟨S4x32x128x64, .f32⟩
  | 61 => ⟨S4x1x32x128x64, .f32⟩
  | 62 => ⟨S4x32x128x64, .f32⟩
  | 63 => ⟨S4x32x128x64, .f32⟩
  | 64 => ⟨S4x1x32, .f32⟩
  | 65 => ⟨S4x32, .f32⟩
  | 66 => ⟨S4x32x1x1, .f32⟩
  | 67 => ⟨S4x32x128x64, .f32⟩
  | 68 => ⟨S4x32x128x64, .f32⟩
  | 69 => ⟨S4x1x32x128x64, .f32⟩
  | 70 => ⟨S4x32x128x64, .f32⟩
  | 71 => ⟨S4x32x128x64, .f32⟩
  | 72 => ⟨S4x1x32, .f32⟩
  | 73 => ⟨S4x32, .f32⟩
  | 74 => ⟨S4x32x1x1, .f32⟩
  | 75 => ⟨S4x32x128x64, .f32⟩
  | 76 => ⟨S4x32x128x64, .f32⟩
  | 77 => ⟨S4x1x32x128x64, .f32⟩
  | 78 => ⟨S4x32x128x64, .f32⟩
  | 79 => ⟨S4x32x128x64, .f32⟩
  | 80 => ⟨S4x1x32, .f32⟩
  | 81 => ⟨S4x32, .f32⟩
  | 82 => ⟨S4x32x1x1, .f32⟩
  | 83 => ⟨S4x32x128x64, .f32⟩
  | 84 => ⟨S4x32x128x64, .f32⟩
  | 85 => ⟨S4x1x32x128x64, .f32⟩
  | 86 => ⟨S4x32x128x64, .f32⟩
  | 87 => ⟨S4x32x128x64, .f32⟩
  | 88 => ⟨S4x1x32, .f32⟩
  | 89 => ⟨S4x32, .f32⟩
  | 90 => ⟨S4x32x1x1, .f32⟩
  | 91 => ⟨S4x32x128x64, .f32⟩
  | 92 => ⟨S4x32x128x64, .f32⟩
  | 93 => ⟨S4x1x32x128x64, .f32⟩
  | 94 => ⟨S4x32x128x64, .f32⟩
  | 95 => ⟨S4x32x128x64, .f32⟩
  | 96 => ⟨S4x1x32, .f32⟩
  | 97 => ⟨S4x32, .f32⟩
  | 98 => ⟨S4x32x1x1, .f32⟩
  | 99 => ⟨S4x32x128x64, .f32⟩
  | 100 => ⟨S4x32x128x64, .f32⟩
  | 101 => ⟨S4x1x32x128x64, .f32⟩
  | 102 => ⟨S4x32x128x64, .f32⟩
  | 103 => ⟨S4x32x128x64, .f32⟩
  | 104 => ⟨S4x1x32x128x64, .f32⟩
  | 105 => ⟨S4x1x32x128x64, .f32⟩
  | 106 => ⟨S4x1x32x128x64, .f32⟩
  | 107 => ⟨S4x1x32x128x64, .f32⟩
  | 108 => ⟨S4x1x32x128x64, .f32⟩
  | 109 => ⟨S4x1x32x128x64, .f32⟩
  | 110 => ⟨S4x1x32x128x64, .f32⟩
  | 111 => ⟨S4x1x32x128x64, .f32⟩
  | 112 => ⟨S4x1x32x128x64, .f32⟩
  | 113 => ⟨S4x1x32x128x64, .f32⟩
  | 114 => ⟨S4x1x32x128x64, .f32⟩
  | 115 => ⟨S4x1x32x128x64, .f32⟩
  | 116 => ⟨S4x1x32x128x64, .f32⟩
  | 117 => ⟨S4x1x32x128x64, .f32⟩
  | 118 => ⟨S4x1x32x128x64, .f32⟩
  | 119 => ⟨S4x1x32x128x64, .f32⟩
  | 120 => ⟨S4x16x32x128x64, .f32⟩
  | 121 => ⟨S4x16x32x128x64, .f32⟩
  | 122 => ⟨S4x16x32x128, .f32⟩
  | 123 => ⟨S4x16x32x128x1, .f32⟩
  | 124 => ⟨S4x16x32x128x64, .f32⟩
  | 125 => ⟨S4x16x32x128x64, .f32⟩
  | 126 => ⟨S4x16x32x128x64, .f32⟩
  | 127 => ⟨S4x16x128x32x64, .f32⟩
  | _ => ⟨S8192x4096, .f32⟩

abbrev hbmTy0_2 (i : Nat) : BufTy := match i % 128 with
  | 0 => ⟨S4x2048x32x64, .f32⟩
  | 1 => ⟨S4x2048x32x64, .f32⟩
  | 2 => ⟨S4x2048x32x64, .f32⟩
  | 3 => ⟨S4x2048x32x64, .f32⟩
  | 4 => ⟨S32x1, .f32⟩
  | 5 => ⟨S1x1x32x1, .f32⟩
  | 6 => ⟨S4x2048x32x64, .f32⟩
  | 7 => ⟨S4x2048x32x64, .f32⟩
  | 8 => ⟨S4x2048x32x64, .f32⟩
  | 9 => ⟨S4x2048x2048, .f32⟩
  | 10 => ⟨S4x2048x2048, .f32⟩
  | 11 => ⟨S4x2048x2048, .f32⟩
  | 12 => ⟨S_, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S4x2048x2048, .f32⟩
  | 20 => ⟨S4x2048x8x256, .f32⟩
  | 21 => ⟨S8x256, .f32⟩
  | 22 => ⟨S4x2048x8x256, .f32⟩
  | 23 => ⟨S_, .f32⟩
  | 24 => ⟨S4x2048x8, .f32⟩
  | 25 => ⟨S4x2048x8x1, .f32⟩
  | 26 => ⟨S_, .f32⟩
  | 27 => ⟨S4x2048x8x1, .f32⟩
  | 28 => ⟨S4x2048x8x1, .f32⟩
  | 29 => ⟨S_, .f32⟩
  | 30 => ⟨S4x2048x8x1, .f32⟩
  | 31 => ⟨S4x2048x8x1, .f32⟩
  | 32 => ⟨S4x2048x8x1, .f32⟩
  | 33 => ⟨S4x2048x8x256, .f32⟩
  | 34 => ⟨S4x2048x8x256, .f32⟩
  | 35 => ⟨S1x1x8x256, .f32⟩
  | 36 => ⟨S4x2048x8x256, .f32⟩
  | 37 => ⟨S4x2048x8x256, .f32⟩
  | 38 => ⟨S8192x2048, .f32⟩
  | 39 => ⟨S8192x2048, .bf16⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call4_cst : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_call4_v5 : Ref sig .tc := ⟨.hbm, 34, rfl⟩
abbrev main_call4_v6 : Ref sig .tc := ⟨.hbm, 35, rfl⟩
abbrev main_call4_v7 : Ref sig .tc := ⟨.hbm, 36, rfl⟩
abbrev main_call4_v8 : Ref sig .tc := ⟨.hbm, 37, rfl⟩
abbrev main_call4_v9 : Ref sig .tc := ⟨.hbm, 38, rfl⟩
abbrev main_call4_v10 : Ref sig .tc := ⟨.hbm, 39, rfl⟩
abbrev main_call4_v11 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call5_call0_cst : Ref sig .tc := ⟨.hbm, 50, rfl⟩
abbrev main_call5_call0_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c : Ref sig .tc := ⟨.hbm, 71, rfl⟩
abbrev main_v46 : Ref sig .tc := ⟨.hbm, 72, rfl⟩
abbrev main_call6_v0 : Ref sig .tc := ⟨.hbm, 73, rfl⟩
abbrev main_call6_c : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_call6_v4 : Ref sig .tc := ⟨.hbm, 78, rfl⟩
abbrev main_call6_c_0 : Ref sig .tc := ⟨.hbm, 79, rfl⟩
abbrev main_call6_v5 : Ref sig .tc := ⟨.hbm, 80, rfl⟩
abbrev main_v47 : Ref sig .tc := ⟨.hbm, 81, rfl⟩
abbrev main_cst : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_call9_v0 : Ref sig .tc := ⟨.hbm, 266, rfl⟩
abbrev main_call9_v1 : Ref sig .tc := ⟨.hbm, 267, rfl⟩
abbrev main_call9_cst : Ref sig .tc := ⟨.hbm, 268, rfl⟩
abbrev main_call9_v2 : Ref sig .tc := ⟨.hbm, 269, rfl⟩
abbrev main_call9_v3 : Ref sig .tc := ⟨.hbm, 270, rfl⟩
abbrev main_call9_cst_0 : Ref sig .tc := ⟨.hbm, 271, rfl⟩
abbrev main_call9_v4 : Ref sig .tc := ⟨.hbm, 272, rfl⟩
abbrev main_call9_v5 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_cst_1 : Ref sig .tc := ⟨.hbm, 279, rfl⟩
abbrev main_v232 : Ref sig .tc := ⟨.hbm, 280, rfl⟩
abbrev main_v233 : Ref sig .tc := ⟨.hbm, 281, rfl⟩
abbrev main_cst_2 : Ref sig .tc := ⟨.hbm, 282, rfl⟩
abbrev main_v234 : Ref sig .tc := ⟨.hbm, 283, rfl⟩
abbrev main_v235 : Ref sig .tc := ⟨.hbm, 284, rfl⟩
abbrev main_cst_3 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩

abbrev nD : Nat := 1
abbrev τ : Topo := Topo.v7x

variable {F : FTy → Type} [FloatOps F]
-- ==== Proof.Softmax.lean ====
/- One row of softmax attention over the extended reals: the form that takes powers of 2 of scores carrying the factor
   1 / log 2, sums the products with the values and divides once at the end, and the form that takes powers of e and
   divides every weight first, are equal after the row has been normalised by its root mean square. No hypothesis on
   the scores or the values: where the greatest score is infinite both normalised rows are zero. No program here. -/
module

public import Idealize.ShloMosaic.PureOps.Ideal
public import Idealize.ShloMosaic.PureOps.Ideal.Laws
public import Idealize.ShloMosaic.Lib.IdealHost

@[expose] public section

noncomputable section

namespace Cert.Proof.Attn

open Idealize.ShloMosaic

/-! ## Sums and factors -/

/-- A real factor that is not negative goes into a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of terms that are not negative, one of them `⊤`, is `⊤`. -/
theorem sum_eq_top {ι : Type} (s : Finset ι) (f : ι → EReal) (h0 : ∀ i ∈ s, 0 ≤ f i) {a : ι} (ha : a ∈ s) (hf : f a = ⊤) :
    ∑ i ∈ s, f i = ⊤ :=
  top_le_iff.mp (hf ▸ Finset.single_le_sum h0 ha)

/-! ## The literals -/

theorem lit_bot : Ideal.ofBits .f32 0xFF800000#32 = ⊥ := by simp [Ideal.ofBits, Ideal.ieee]
theorem lit_192 : Ideal.ofBits .f32 0x43400000#32 = ((192 : ℝ) : EReal) := by
  simp [Ideal.ofBits, Ideal.ieee]; norm_num [zpow_neg]; rw [← EReal.coe_mul]; norm_num
theorem lit_128 : Ideal.ofBits .f32 0x43000000#32 = ((128 : ℝ) : EReal) := by
  simp [Ideal.ofBits, Ideal.ieee]; norm_num [zpow_neg]; rw [← EReal.coe_mul]; norm_num
theorem lit_2 : Ideal.ofBits .f32 0x40000000#32 = ((2 : ℝ) : EReal) := by
  simp [Ideal.ofBits, Ideal.ieee]; norm_num [zpow_neg]; rw [← EReal.coe_mul]; norm_num
/-- The float nearest to one millionth denotes some real. -/
theorem lit_eps : ∃ e : ℝ, Ideal.ofBits .f32 0x358637BD#32 = (e : EReal) := by
  simp [Ideal.ofBits, Ideal.ieee]
  exact ⟨_, (EReal.coe_mul _ _).symm⟩

/-- `√192`, as the two programs compute it, and the logarithm of 2. -/
theorem sqrt_192 : Ideal.sqrt (Ideal.ofBits .f32 0x43400000#32) = ((Real.sqrt 192 : ℝ) : EReal) := by
  rw [lit_192, Ideal.sqrt_coe, if_neg (by norm_num)]
theorem log_2 : Ideal.log (Ideal.ofBits .f32 0x40000000#32) = ((Real.log 2 : ℝ) : EReal) := by
  rw [lit_2, Ideal.log_coe, if_neg (by norm_num)]

/-! ## The scores -/

/-- The product over 256 columns of a query row divided by `√192 · log 2` and of a key row, both zero from column 192 on,
    is the product over the 192 columns divided by `√192`, times `1 / log 2`. -/
theorem score (f g : Fin 256 → EReal) (q k : Fin 192 → EReal)
    (hf : ∀ x (h : x.val < 192), f x = Ideal.div (q ⟨x, h⟩) (((Real.sqrt 192 : ℝ) : EReal) * ((Real.log 2 : ℝ) : EReal)))
    (hg : ∀ x (h : x.val < 192), g x = k ⟨x, h⟩) (hg0 : ∀ x : Fin 256, ¬ x.val < 192 → g x = 0) :
    ∑ x, f x * g x = Ideal.div (∑ x, q x * k x) ((Real.sqrt 192 : ℝ) : EReal) * ((1 / Real.log 2 : ℝ) : EReal) := by
  have ha : (0 : ℝ) < Real.sqrt 192 := Real.sqrt_pos.mpr (by norm_num)
  have hb : (0 : ℝ) < Real.log 2 := Real.log_pos (by norm_num)
  have e : ∑ x, f x * g x = ∑ x : Fin 192, f (Fin.castAdd 64 x) * g (Fin.castAdd 64 x)
      + ∑ x : Fin 64, f (Fin.natAdd 192 x) * g (Fin.natAdd 192 x) :=
    Fin.sum_univ_add (a := 192) (b := 64) (fun x => f x * g x)
  have z : ∑ x : Fin 64, f (Fin.natAdd 192 x) * g (Fin.natAdd 192 x) = 0 :=
    Finset.sum_eq_zero fun x _ => by rw [hg0 _ (by simp), mul_zero]
  rw [e, z, add_zero, Ideal.div_coe ha.ne', mul_assoc, ← EReal.coe_mul, sum_mul_coe _ _ (by positivity)]
  refine Finset.sum_congr rfl fun x _ => ?_
  rw [hf _ (by simp), hg _ (by simp), ← EReal.coe_mul, Ideal.div_coe (mul_pos ha hb).ne',
    mul_right_comm, one_div_mul_one_div]
  rfl

/-! ## Powers and the greatest score -/

theorem exp2_mul (x : EReal) : Ideal.exp2 (x * ((1 / Real.log 2 : ℝ) : EReal)) = Ideal.exp x := by
  have hb : (0 : ℝ) < Real.log 2 := Real.log_pos (by norm_num)
  have hc : (0 : ℝ) < 1 / Real.log 2 := by positivity
  induction x with
  | bot => rw [EReal.bot_mul_coe_of_pos hc]; rfl
  | top => rw [EReal.top_mul_coe_of_pos hc]; rfl
  | coe r =>
    rw [← EReal.coe_mul, Ideal.exp2_coe, Ideal.exp_coe]
    congr 1
    show (2 : ℝ) ^ (r * (1 / Real.log 2)) = _
    rw [Real.rpow_def_of_pos (by norm_num)]
    congr 1
    field_simp

theorem sub_mul_coe (x y : EReal) {c : ℝ} (hc : 0 < c) : x * (c : EReal) - y * (c : EReal) = (x - y) * (c : EReal) := by
  rw [sub_eq_add_neg, sub_eq_add_neg, ← EReal.neg_mul,
    EReal.right_distrib_of_nonneg_of_ne_top (EReal.coe_nonneg.mpr hc.le) (EReal.coe_ne_top c)]

/-- The greatest of scores all multiplied by a positive real is the greatest score multiplied by it. -/
theorem fold_max_mul {n : ℕ} (t : Fin n → EReal) {c : ℝ} (hc : 0 < c) :
    Finset.fold max (⊥ : EReal) (fun x => t x * (c : EReal)) Finset.univ
      = Finset.fold max (⊥ : EReal) t Finset.univ * (c : EReal) := by
  have mono : Monotone fun x : EReal => x * (c : EReal) := fun x y h =>
    mul_le_mul_of_nonneg_right h (EReal.coe_nonneg.mpr hc.le)
  show Finset.univ.sup (fun x => t x * (c : EReal)) = Finset.univ.sup t * (c : EReal)
  exact (Finset.comp_sup_eq_sup_comp_of_is_total (fun x : EReal => x * (c : EReal)) mono
    (EReal.bot_mul_coe_of_pos hc)).symm

/-! ## One row -/

/-- The weight of position `x` before division: `e` to its score less the greatest. -/
def wt {n : ℕ} (t : Fin n → EReal) (x : Fin n) : EReal := Ideal.exp (t x - Finset.fold max (⊥ : EReal) t Finset.univ)

/-- Entry `d` of the row normalised by its root mean square, times the gain. -/
def norm (o : Fin 128 → EReal) (g : EReal) (d : Fin 128) : EReal :=
  o d * Ideal.rsqrt (Ideal.div (∑ x, o x * o x) (Ideal.ofBits .f32 0x43000000#32) + Ideal.ofBits .f32 0x358637BD#32) * g

/-- The row in powers of 2 is the row of weights. -/
theorem exp2_row {n : ℕ} (t : Fin n → EReal) (x : Fin n) :
    Ideal.exp2 (t x * ((1 / Real.log 2 : ℝ) : EReal)
      - Finset.fold max (⊥ : EReal) (fun x => t x * ((1 / Real.log 2 : ℝ) : EReal)) Finset.univ) = wt t x := by
  have hc : (0 : ℝ) < 1 / Real.log 2 := one_div_pos.mpr (Real.log_pos (by norm_num))
  rw [fold_max_mul t hc, sub_mul_coe _ _ hc, exp2_mul, wt]

/-- A row one of whose squares is `⊤`, or which is zero there, normalises to zero. -/
theorem norm_zero (o : Fin 128 → EReal) (ho : ∀ d, o d = ⊥ ∨ o d = 0 ∨ o d = ⊤) (g : EReal) (d : Fin 128) : norm o g d = 0 := by
  by_cases h0 : o d = 0
  · rw [norm, h0, zero_mul, zero_mul]
  have hsq : ∀ x, 0 ≤ o x * o x := fun x => by rcases ho x with h | h | h <;> rw [h] <;> simp
  have htop : o d * o d = ⊤ := by
    rcases ho d with h | h | h
    · rw [h]; simp
    · exact absurd h h0
    · rw [h]; simp
  obtain ⟨e, he⟩ := lit_eps
  rw [norm, sum_eq_top _ _ (fun x _ => hsq x) (Finset.mem_univ d) htop, lit_128, he, Ideal.div_coe (by norm_num),
    EReal.top_mul_coe_of_pos (by norm_num), EReal.top_add_coe, Ideal.rsqrt_top, mul_zero, zero_mul]

/-- A sum of products with `⊥` is `⊥`, `0` or `⊤`. -/
theorem sum_mul_bot {ι : Type} (s : Finset ι) (v : ι → EReal) :
    (∑ x ∈ s, v x * ⊥) = ⊥ ∨ (∑ x ∈ s, v x * ⊥) = 0 ∨ (∑ x ∈ s, v x * ⊥) = ⊤ := by
  refine Finset.sum_induction (p := fun x : EReal => x = ⊥ ∨ x = 0 ∨ x = ⊤) _ ?_ (.inr (.inl rfl)) fun x _ => ?_
  · rintro a b (rfl | rfl | rfl) (rfl | rfl | rfl) <;> simp
  · rcases lt_trichotomy (v x) 0 with h | h | h
    · exact .inr (.inr (EReal.mul_bot_of_neg h))
    · rw [h]; simp
    · exact .inl (EReal.mul_bot_of_pos h)

/-- THE ROW: dividing once at the end and dividing every weight first give the same normalised row. -/
theorem row {n : ℕ} (hn : 0 < n) (t : Fin n → EReal) (v : Fin n → Fin 128 → EReal) (g : EReal) (d : Fin 128) :
    norm (fun d => Ideal.div (∑ x, wt t x * v x d) (∑ x, wt t x)) g d
      = norm (fun d => ∑ x, v x d * Ideal.div (wt t x) (∑ x, wt t x)) g d := by
  haveI : Nonempty (Fin n) := ⟨⟨0, hn⟩⟩
  have hle : ∀ x, t x ≤ Finset.fold max (⊥ : EReal) t Finset.univ := fun x => Finset.le_sup (f := t) (Finset.mem_univ x)
  obtain ⟨a, -, ha⟩ := Finset.exists_mem_eq_sup Finset.univ Finset.univ_nonempty t
  replace ha : Finset.fold max (⊥ : EReal) t Finset.univ = t a := ha
  have inf : (∀ x, wt t x = 0) → norm (fun d => Ideal.div (∑ x, wt t x * v x d) (∑ x, wt t x)) g d
      = norm (fun d => ∑ x, v x d * Ideal.div (wt t x) (∑ x, wt t x)) g d := fun h => by
    have hd : Ideal.div 0 0 = ⊥ := by simp [Ideal.div]
    simp only [h, zero_mul, Finset.sum_const_zero, hd]
    rw [norm_zero _ (fun _ => .inl rfl), norm_zero _ fun d => sum_mul_bot _ _]
  generalize hM : Finset.fold max (⊥ : EReal) t Finset.univ = M at *
  induction M with
  | bot =>
    refine inf fun x => ?_
    rw [wt, hM, le_bot_iff.mp (hle x)]
    rfl
  | top =>
    refine inf fun x => ?_
    rw [wt, hM, EReal.sub_top]
    rfl
  | coe M =>
    have hw : ∀ x, ∃ p : ℝ, 0 ≤ p ∧ wt t x = (p : EReal) := fun x => by
      rw [wt, hM]
      have hx := hle x
      induction h : t x with
      | bot => exact ⟨0, le_rfl, by rw [EReal.bot_sub]; rfl⟩
      | top => rw [h] at hx; exact absurd hx (by simp)
      | coe r => exact ⟨Real.exp (r - M), (Real.exp_pos _).le, by rw [← EReal.coe_sub]; rfl⟩
    choose p hp hw using hw
    have hpa : p a = 1 := by
      have := hw a
      rw [wt, hM, ← ha, ← EReal.coe_sub, sub_self, Ideal.exp_coe, Real.exp_zero] at this
      exact (EReal.coe_injective this).symm
    have hL : 0 < ∑ x, p x := lt_of_lt_of_le one_pos (hpa ▸ Finset.single_le_sum (fun x _ => hp x) (Finset.mem_univ a))
    have hs : ∑ x, wt t x = ((∑ x, p x : ℝ) : EReal) := by
      simp only [hw]
      exact (coe_sum _ _).symm
    congr 1
    funext d
    rw [hs, Ideal.div_coe hL.ne', sum_mul_coe _ _ (by positivity)]
    refine Finset.sum_congr rfl fun x _ => ?_
    rw [Ideal.div_coe hL.ne', mul_assoc, mul_left_comm]

end Cert.Proof.Attn

end
-- ==== Proof.Block.lean ====
/- What the attention kernel's body leaves in its output block: every entry of the block is one normalised attention
   row's entry, of the block's own queries, keys, values and gain. The eight stores of 256 rows are one function of the
   rows they read, and the values' copy with the ones beside it is read back as such. -/
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Idealize.ShloMosaic Cert.Proof.Attn
open Idealize.ShloMosaic.TcCoe

/-! ## One store's rows -/

/-- The kernel's row: powers of 2 of the scores `s` less the greatest, summed against the values `va` and divided by the
    sum against the ones `u`, normalised and multiplied by the gain. -/
def KROW (s : Fin 2048 → EReal) (va u : Fin 2048 → Fin 128 → EReal) (g : EReal) (d : Fin 128) : EReal :=
  Cert.Proof.Attn.norm (fun d => Ideal.div
    (∑ x, Ideal.exp2 (s x - Finset.fold max (⊥ : EReal) s Finset.univ) * va x d)
    (∑ x, Ideal.exp2 (s x - Finset.fold max (⊥ : EReal) s Finset.univ) * u x d)) g d

/-- The score of row `r` of `q` against row `x` of `k`. -/
abbrev SC {R : ℕ} (q : (⟨2, ![R, 256]⟩ : Shape).Idx → EReal) (k : S2048x256.Idx → EReal) (r : Fin R) (x : Fin 2048) : EReal :=
  ∑ j : Fin 256, q (ix2 r j) * k (ix2 x j)

/-- One store's 256 rows, at an index. -/
theorem pay_apply (q : Vec Ideal S256x256 .bf16) (k va : Vec Ideal S2048x256 .bf16) (g : Vec Ideal S1x1x128 .f32) (r : Fin 256) (d : Fin 128) :
    k0_pay4 (F := Ideal) q k va g (ix2 r d)
      = KROW (SC q k r) (fun x d => va (ix2 x ⟨d.val, by omega⟩)) (fun x d => va (ix2 x ⟨128 + d.val, by omega⟩)) (g (ix3 0 0 d)) d := by
  unfold KROW Cert.Proof.Attn.norm
  rw [← lit_bot]
  pointwise [k0_pay4]
  rfl

/-! ## The values with the ones beside them -/

/-- The 256 columns the body multiplies the weights with: the values, then ones. -/
def VA (v : Vec Ideal S2048x128 .bf16) : Vec Ideal S2048x256 .bf16 := fun y =>
  if h : (y 1).val < 128 then v (ix2 (y 0) ⟨(y 1).val, h⟩) else 1

theorem pay2_eq (v : Vec Ideal S2048x128 .bf16) : k0_pay2 v = v := by
  funext x
  idx_vars x
  pointwise [k0_pay2]

/-- What the body's two stores into its scratch leave there is `VA` of the block of values. -/
theorem scratch_eq (v : Vec Ideal S2048x128 .bf16) :
    ((View.whole cc0_scratch0).readCov
        [(⟨Rect.unit ![0, 128] ![2048, 128] inb_S2048x256_S2048x128_0_128, k0_pay3 (F := Ideal)⟩ : View.Piece (Elt Ideal) S2048x256 .bf16),
          ⟨Rect.unit ![0, 0] ![2048, 128] inb_S2048x256_S2048x128_0_0, k0_pay2 v⟩]
        (Rect.unit ![0, 0] ![2048, 256] inb_S2048x256_S2048x256_0_0).toLoadRect) = VA v := by
  rw [View.readCov_eq_canon']
  funext j
  rw [View.canon_apply_of_pieces (VA v) _ ?_ _ (View.cover_of_tiled_head _ _ _ rfl _)]
  · exact congrArg (VA v) (funext fun a => Fin.ext (by rw [Rect.idx_unit_val]; fin_cases a <;> exact Nat.zero_add _))
  · simp only [List.forall_mem_cons]
    refine ⟨fun x => ?_, fun x => ?_, fun _ h => absurd h List.not_mem_nil⟩
    · rw [show k0_pay3 (F := Ideal) x = 1 from Ideal.ofBits_one_bf16]
      have h : ¬ 128 + 1 * (x 1).val < 128 := by omega
      refine Eq.trans ?_ (dif_neg h).symm
      rfl
    · have h : 0 + 1 * (x 1).val < 128 := by have : (x 1).val < 128 := (x 1).isLt; omega
      rw [show k0_pay2 v x = v x from congrFun (pay2_eq v) x]
      refine Eq.trans ?_ (dif_pos h).symm
      refine congrArg v (funext fun a => Fin.ext ?_)
      fin_cases a
      · exact ((Nat.zero_add _).trans (Nat.one_mul (x 0).val)).symm
      · exact ((Nat.zero_add _).trans (Nat.one_mul (x 1).val)).symm

/-- The eight stores' payloads are the one function of the rows they read. -/
theorem pay5_eq (q : Vec Ideal S256x256 .bf16) (k va : Vec Ideal S2048x256 .bf16) (g : Vec Ideal S1x1x128 .f32) :
    k0_pay5 q k va g = k0_pay4 q k va g := rfl
theorem pay7_eq (q : Vec Ideal S256x256 .bf16) (k va : Vec Ideal S2048x256 .bf16) (g : Vec Ideal S1x1x128 .f32) :
    k0_pay7 (k0_pay6 q k) va g = k0_pay4 q k va g := rfl
theorem pay9_eq (q : Vec Ideal S256x256 .bf16) (k va : Vec Ideal S2048x256 .bf16) (g : Vec Ideal S1x1x128 .f32) :
    k0_pay9 (k0_pay8 q k) va (constant S256x256 .f32 0x00000000#32) g = k0_pay4 q k va g := rfl
theorem pay13_eq (q : Vec Ideal S256x256 .bf16) (k va : Vec Ideal S2048x256 .bf16) (g : Vec Ideal S1x1x128 .f32) :
    k0_pay13 (k0_pay10 q k va) (k0_pay11 q k va) k0_pay12 g = k0_pay4 q k va g := rfl
theorem pay15_eq (q : Vec Ideal S256x256 .bf16) (k va : Vec Ideal S2048x256 .bf16) (g : Vec Ideal S1x1x128 .f32) :
    k0_pay15 (k0_pay14 q k va) g = k0_pay4 q k va g := rfl
theorem pay16_eq (q : Vec Ideal S256x256 .bf16) (k va : Vec Ideal S2048x256 .bf16) (g : Vec Ideal S1x1x128 .f32) :
    k0_pay16 q k va g = k0_pay4 q k va g := rfl
theorem pay1_eq (q : Vec Ideal S256x256 .bf16) (k va : Vec Ideal S2048x256 .bf16) (g : Vec Ideal S1x1x128 .f32) :
    k0_pay1 q k va g = k0_pay4 q k va g := rfl

/-! ## The block -/

/-- The block of one batch element and one head: row by row. -/
def BLK (q k : Vec Ideal S2048x256 .bf16) (v : Vec Ideal S2048x128 .bf16) (g : Vec Ideal S1x1x128 .f32) : Vec Ideal S2048x128 .bf16 := fun y =>
  KROW (SC q k (y 0)) (fun x d => v (ix2 x d)) (fun _ _ => 1) (g (ix3 0 0 (y 1))) (y 1)

/-- The 256 rows from row `o` on, computed from their queries, are those rows of the block. -/
theorem rows_eq (q k : Vec Ideal S2048x256 .bf16) (v : Vec Ideal S2048x128 .bf16) (g : Vec Ideal S1x1x128 .f32) (o : ℕ)
    (ho : o + 256 ≤ 2048) (hq : ∀ a, (![o, 0] : Fin 2 → ℕ) a + (![256, 256] : Fin 2 → ℕ) a ≤ S2048x256.size a)
    (hr : ∀ a, (![o, 0] : Fin 2 → ℕ) a + (![256, 128] : Fin 2 → ℕ) a ≤ S2048x128.size a) (r : Fin 256) (d : Fin 128) :
    k0_pay4 (F := Ideal) (View.ld (Val := Elt Ideal) (e' := .bf16) q (Rect.unit ![o, 0] ![256, 256] hq)) k (VA v) g (ix2 r d)
      = BLK q k v g (ix2 ⟨o + r.val, by omega⟩ d) := by
  rw [pay_apply]
  have hq' : ∀ j : Fin 256, View.ld (Val := Elt Ideal) (e' := .bf16) q (Rect.unit ![o, 0] ![256, 256] hq) (ix2 r j) = q (ix2 ⟨o + r.val, by omega⟩ j) := fun j =>
    View.ld_unit_apply_of _ _ _ _ _ _ (fun a => by fin_cases a <;> first | rfl | exact (Nat.zero_add _).symm)
  have h1 : ∀ (x : Fin 2048) (d : Fin 128), VA v (ix2 x ⟨d.val, by omega⟩) = v (ix2 x d) := fun x d => dif_pos d.isLt
  have h2 : ∀ (x : Fin 2048) (d : Fin 128), VA v (ix2 x ⟨128 + d.val, by omega⟩) = 1 := fun x d =>
    dif_neg (by show ¬ 128 + d.val < 128; omega)
  have h3 : SC (View.ld (Val := Elt Ideal) (e' := .bf16) q (Rect.unit ![o, 0] ![256, 256] hq)) k r = SC q k ⟨o + r.val, by omega⟩ :=
    funext fun x => Finset.sum_congr rfl fun j _ => congrArg (· * k (ix2 x j)) (hq' j)
  simp only [h1, h2, h3]
  rfl

/-- The same at any index of the rows. -/
theorem rows_eq' (q k : Vec Ideal S2048x256 .bf16) (v : Vec Ideal S2048x128 .bf16) (g : Vec Ideal S1x1x128 .f32) (o : ℕ)
    (ho : o + 256 ≤ 2048) (hq : ∀ a, (![o, 0] : Fin 2 → ℕ) a + (![256, 256] : Fin 2 → ℕ) a ≤ S2048x256.size a)
    (hr : ∀ a, (![o, 0] : Fin 2 → ℕ) a + (![256, 128] : Fin 2 → ℕ) a ≤ S2048x128.size a) (x : S256x128.Idx) :
    k0_pay4 (F := Ideal) (View.ld (Val := Elt Ideal) (e' := .bf16) q (Rect.unit ![o, 0] ![256, 256] hq)) k (VA v) g x
      = BLK q k v g ((Rect.unit (s := S2048x128) ![o, 0] ![256, 128] hr).emb x) := by
  idx_vars x
  rw [rows_eq q k v g o ho hq hr]
  refine congrArg (BLK q k v g) (funext fun a => Fin.ext ?_)
  fin_cases a
  · exact congrArg (o + ·) (Nat.one_mul x0.val).symm
  · exact ((Nat.zero_add _).trans (Nat.one_mul x1.val)).symm

theorem out_apply (c : Dev nD) (m : (ℓ : Loc nD τ sig) → Buf (Elt Ideal) ℓ) (t : Fin cfg0.N) :
    outsAt0 m c t = BLK (iblk m c 0 t) (iblk m c 1 t) (iblk m c 2 t) (iblk m c 3 t) := by
  have hz : (![0, 0] : Fin 2 → Nat) = fun _ => 0 := funext fun a => by fin_cases a <;> rfl
  have hz3 : (![0, 0, 0] : Fin 3 → Nat) = fun _ => 0 := funext fun a => by fin_cases a <;> rfl
  unfold outsAt0 out0_A_4
  rw [View.read_writes_eq_canon _ _ _ (cover0_A_4 c _ _ _ _ _ _ _ _ _ _ _ _ _ _ _ _ _ _)]
  funext y
  refine View.canon_apply_of_pieces _ _ ?_ y (cover0_A_4 c _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread,
    View.ld_unit_zero (S := S2048x256) hz, View.ld_unit_zero (S := S2048x128) hz, View.ld_unit_zero (S := S1x1x128) hz3]
  rw [scratch_eq]
  simp only [List.forall_mem_cons, pay5_eq, pay7_eq, pay9_eq, pay13_eq, pay15_eq, pay16_eq, pay1_eq]
  exact ⟨rows_eq' _ _ _ _ _ (by decide) _ _, rows_eq' _ _ _ _ _ (by decide) _ _, rows_eq' _ _ _ _ _ (by decide) _ _,
    rows_eq' _ _ _ _ _ (by decide) _ _, rows_eq' _ _ _ _ _ (by decide) _ _, rows_eq' _ _ _ _ _ (by decide) _ _,
    rows_eq' _ _ _ _ _ (by decide) _ _, rows_eq' _ _ _ _ _ (by decide) _ _, fun _ h => absurd h List.not_mem_nil⟩

end Cert.KernelIdeal.Att

end
-- ==== Proof.KernelValue.lean ====
/- The attention kernel's result array: at row `2048 b + s` and column `128 h + d` the normalised row of attention of
   query position `s` of batch element `b` in head `h`, of the program's own arguments. -/
module

public import proofs.«01_k».proof.Proof.Block
public import Idealize.ShloMosaic.Lib.StableHlo.ReadAt

@[expose] public section

set_option maxRecDepth 16384

noncomputable section

namespace Cert.KernelIdeal.Att

open Cert.KernelIdeal Cert.KernelIdeal.Gen Idealize.ShloMosaic Cert.Proof.Attn
open Idealize.ShloMosaic.TcCoe

variable (m : (ℓ : Loc nD τ sig) → Buf (Elt Ideal) ℓ)

/-! ## The value -/

/-- The scores of query position `s` of batch element `b` in head `h`. -/
def T (x0 x1 : S4x2048x16x192.Idx → EReal) (b : Fin 4) (h : Fin 16) (s : Fin 2048) (x : Fin 2048) : EReal :=
  Ideal.div (∑ j : Fin 192, x0 (ix4 b s h j) * x1 (ix4 b x h j)) ((Real.sqrt 192 : ℝ) : EReal)

/-- One entry of the result: the weights' sum of the values over the weights' sum, normalised. -/
def ATTr (x0 x1 : S4x2048x16x192.Idx → EReal) (x2 : S4x2048x16x128.Idx → EReal) (x3 : S16x128.Idx → EReal)
    (b : Fin 4) (h : Fin 16) (s : Fin 2048) (d : Fin 128) : EReal :=
  norm (fun d => Ideal.div (∑ x, wt (T x0 x1 b h s) x * x2 (ix4 b x h d)) (∑ x, wt (T x0 x1 b h s) x)) (x3 (ix2 h d)) d

/-- The result array. -/
def ATT (x0 x1 : S4x2048x16x192.Idx → EReal) (x2 : S4x2048x16x128.Idx → EReal) (x3 : S16x128.Idx → EReal) : S8192x2048.Idx → EReal := fun i =>
  ATTr x0 x1 x2 x3 ⟨(i 0).val / 2048, by have : (i 0).val < 8192 := (i 0).isLt; omega⟩
    ⟨(i 1).val / 128, by have : (i 1).val < 2048 := (i 1).isLt; omega⟩
    ⟨(i 0).val % 2048, by omega⟩ ⟨(i 1).val % 128, by omega⟩

/-! ## The arrays the grid reads, at an index -/

/-- The padding is zero. -/
theorem pad_zero : (FloatOps.sitofp FTy.f32 0#32 : Ideal .f32) = (0 : EReal) := by
  simp [FloatOps.sitofp]

theorem V_q (c : Dev nD) (b : Fin 4) (s : Fin 2048) (h : Fin 16) (j : Fin 256) :
    V m c main_v7 (ix2 ⟨b.val * 2048 + s.val, by omega⟩ ⟨h.val * 256 + j.val, by omega⟩)
      = if hj : j.val < 192 then Ideal.div (m ⟨c, Proc.tc.devRef main_arg0⟩ (ix4 b s h ⟨j.val, hj⟩))
          (((Real.sqrt 192 : ℝ) : EReal) * ((Real.log 2 : ℝ) : EReal)) else (0 : EReal) := by
  have e1 : (b.val * 2048 + s.val) / 2048 = b.val := by omega
  have e2 : (b.val * 2048 + s.val) % 2048 = s.val := by omega
  have e3 : (h.val * 256 + j.val) / 256 = h.val := by omega
  have e4 : (h.val * 256 + j.val) % 256 = j.val := by omega
  rw [← sqrt_192, ← log_2]
  unfold V; after_reads_at
  simp only [e1, e2, e3, e4, b.isLt, s.isLt, h.isLt, true_and, Fin.eta]
  exact dite_congr rfl (fun _ => rfl) (fun _ => pad_zero)

theorem V_k (c : Dev nD) (b : Fin 4) (s : Fin 2048) (h : Fin 16) (j : Fin 256) :
    V m c main_v10 (ix2 ⟨b.val * 2048 + s.val, by omega⟩ ⟨h.val * 256 + j.val, by omega⟩)
      = if hj : j.val < 192 then (m ⟨c, Proc.tc.devRef main_arg1⟩ : S4x2048x16x192.Idx → EReal) (ix4 b s h ⟨j.val, hj⟩) else (0 : EReal) := by
  have e1 : (b.val * 2048 + s.val) / 2048 = b.val := by omega
  have e2 : (b.val * 2048 + s.val) % 2048 = s.val := by omega
  have e3 : (h.val * 256 + j.val) / 256 = h.val := by omega
  have e4 : (h.val * 256 + j.val) % 256 = j.val := by omega
  unfold V; after_reads_at
  simp only [e1, e2, e3, e4, b.isLt, s.isLt, h.isLt, true_and, Fin.eta]
  exact dite_congr rfl (fun _ => rfl) (fun _ => pad_zero)

theorem V_v (c : Dev nD) (b : Fin 4) (s : Fin 2048) (h : Fin 16) (j : Fin 128) :
    V m c main_v12 (ix2 ⟨b.val * 2048 + s.val, by omega⟩ ⟨h.val * 128 + j.val, by omega⟩)
      = m ⟨c, Proc.tc.devRef main_arg2⟩ (ix4 b s h j) := by
  have e1 : (b.val * 2048 + s.val) / 2048 = b.val := by omega
  have e2 : (b.val * 2048 + s.val) % 2048 = s.val := by omega
  have e3 : (h.val * 128 + j.val) / 128 = h.val := by omega
  have e4 : (h.val * 128 + j.val) % 128 = j.val := by omega
  unfold V; after_reads_at
  simp only [e1, e2, e3, e4, Fin.eta]

theorem V_g (c : Dev nD) (h : Fin 16) (j : Fin 128) :
    V m c main_v13 (ix3 h 0 j) = m ⟨c, Proc.tc.devRef main_arg3⟩ (ix2 h j) := by
  unfold V; after_reads_at

/-! ## The blocks -/

/-- The batch element and the head of a grid point. -/
abbrev tb (t : Fin cfg0.N) : Fin 4 := grid0.coords t 0
abbrev th (t : Fin cfg0.N) : Fin 16 := grid0.coords t 1

theorem idx0 : ∀ t : Fin cfg0.N, win0_0.index t = ![(grid0.coords t 0).val, (grid0.coords t 1).val] := (by decide +kernel : ∀ t : Fin grid0.N, _)
theorem idx1 : ∀ t : Fin cfg0.N, win0_1.index t = ![(grid0.coords t 0).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 1).val, 0, 0] := (by decide +kernel : ∀ t : Fin grid0.N, _)
theorem idx4 : ∀ t : Fin cfg0.N, win0_4.index t = ![(grid0.coords t 0).val, (grid0.coords t 1).val] := (by decide +kernel : ∀ t : Fin grid0.N, _)

theorem b_q (c : Dev nD) (t : Fin cfg0.N) (s : Fin 2048) (j : Fin 256) :
    iblk m c 0 t (ix2 s j) = V m c main_v7 (ix2 ⟨(tb t).val * 2048 + s.val, by omega⟩ ⟨(th t).val * 256 + j.val, by omega⟩) := by
  blk_ext [iblk, idx0 t]

theorem b_k (c : Dev nD) (t : Fin cfg0.N) (s : Fin 2048) (j : Fin 256) :
    iblk m c 1 t (ix2 s j) = V m c main_v10 (ix2 ⟨(tb t).val * 2048 + s.val, by omega⟩ ⟨(th t).val * 256 + j.val, by omega⟩) := by
  blk_ext [iblk, idx1 t]

theorem b_v (c : Dev nD) (t : Fin cfg0.N) (s : Fin 2048) (j : Fin 128) :
    iblk m c 2 t (ix2 s j) = V m c main_v12 (ix2 ⟨(tb t).val * 2048 + s.val, by omega⟩ ⟨(th t).val * 128 + j.val, by omega⟩) := by
  blk_ext [iblk, idx2 t]

theorem b_g (c : Dev nD) (t : Fin cfg0.N) (j : Fin 128) :
    iblk m c 3 t (ix3 0 0 j) = V m c main_v13 (ix3 (th t) 0 j) := by
  blk_ext [iblk, idx3 t]
  exact Nat.add_zero _

/-- The scores of the block are the scaled scores of the row. -/
theorem sc_eq (c : Dev nD) (t : Fin cfg0.N) (s : Fin 2048) :
    SC (iblk m c 0 t) (iblk m c 1 t) s = fun x => T (m ⟨c, Proc.tc.devRef main_arg0⟩) (m ⟨c, Proc.tc.devRef main_arg1⟩) (tb t) (th t) s x
      * ((1 / Real.log 2 : ℝ) : EReal) := by
  funext x
  unfold SC T
  refine score (fun j => iblk m c 0 t (ix2 s j)) (fun j => iblk m c 1 t (ix2 x j)) _ _ (fun j hj => ?_) (fun j hj => ?_) (fun j hj => ?_)
  · show iblk m c 0 t (ix2 s j) = _
    rw [b_q, V_q, dif_pos hj]
  · show iblk m c 1 t (ix2 x j) = _
    rw [b_k, V_k, dif_pos hj]
  · show iblk m c 1 t (ix2 x j) = _
    rw [b_k, V_k, dif_neg hj]

/-- One entry of a grid point's block. -/
theorem blk_apply (c : Dev nD) (t : Fin cfg0.N) (s : Fin 2048) (d : Fin 128) :
    BLK (iblk m c 0 t) (iblk m c 1 t) (iblk m c 2 t) (iblk m c 3 t) (ix2 s d)
      = ATTr (m ⟨c, Proc.tc.devRef main_arg0⟩) (m ⟨c, Proc.tc.devRef main_arg1⟩) (m ⟨c, Proc.tc.devRef main_arg2⟩) (m ⟨c, Proc.tc.devRef main_arg3⟩)
          (tb t) (th t) s d := by
  have hg : iblk m c 3 t (ix3 0 0 d) = m ⟨c, Proc.tc.devRef main_arg3⟩ (ix2 (th t) d) := (b_g m c t d).trans (V_g m c (th t) d)
  have hv : ∀ (x : Fin 2048) (d : Fin 128), iblk m c 2 t (ix2 x d) = m ⟨c, Proc.tc.devRef main_arg2⟩ (ix4 (tb t) x (th t) d) :=
    fun x d => (b_v m c t x d).trans (V_v m c (tb t) x (th t) d)
  show KROW (SC (iblk m c 0 t) (iblk m c 1 t) s) (fun x d => iblk m c 2 t (ix2 x d)) (fun _ _ => 1) (iblk m c 3 t (ix3 0 0 d)) d = _
  unfold KROW ATTr
  rw [sc_eq m c t s]
  simp only [exp2_row, hg, hv, mul_one]

/-- The result array after the run. -/
theorem final (c : Dev nD) : (dats m 0 c).arrAt 4 cfg0.N
    = ATT (m ⟨c, Proc.tc.devRef main_arg0⟩) (m ⟨c, Proc.tc.devRef main_arg1⟩) (m ⟨c, Proc.tc.devRef main_arg2⟩) (m ⟨c, Proc.tc.devRef main_arg3⟩) := by
  refine (dats m 0 c).arrAt_eq_of_covers 4 _ (by decide +kernel) fun t hf y => ?_
  blk_simp
  rw [after0_4, out_apply]
  idx_vars y
  rw [blk_apply]
  have h0 : ((win0_4.blk t).view.emb (ix2 y0 y1) 0).val = (tb t).val * 2048 + y0.val := by blk_simp [idx4 t]
  have h1 : ((win0_4.blk t).view.emb (ix2 y0 y1) 1).val = (th t).val * 128 + y1.val := by blk_simp [idx4 t]
  unfold ATT
  congr 1 <;> apply Fin.ext <;> simp only [h0, h1] <;> omega

end Cert.KernelIdeal.Att

end
-- ==== Proof.RefValue.lean ====
/- The reference's result array, at an index: the same normalised row of attention, the weights divided by their sum
   before the sum of the values. Read in stages: scores, greatest score, weights, weighted values, normalisation. -/
module

public import proofs.«01_k».proof.Proof.Gen.ReferenceIdeal.Read
public import proofs.«01_k».proof.Proof.KernelValue

@[expose] public section

set_option maxRecDepth 16384

noncomputable section

namespace Cert.ReferenceIdeal.Att

open Cert.ReferenceIdeal Cert.ReferenceIdeal.Gen Cert.ReferenceIdeal.Read Idealize.ShloMosaic Cert.Proof.Attn
open Idealize.ShloMosaic.TcCoe
open Cert.KernelIdeal.Att (T ATTr ATT)

variable (x0 x1 : S4x2048x16x192.Idx → EReal) (x2 : S4x2048x16x128.Idx → EReal) (x3 : S16x128.Idx → EReal)

/-- The scores. -/
theorem v3_at (b : Fin 4) (h : Fin 16) (s x : Fin 2048) :
    val_main_v3 (F := Ideal) x0 x1 (ix4 b h s x) = T x0 x1 b h s x := by
  unfold Cert.KernelIdeal.Att.T
  rw [← sqrt_192]
  pointwise [val_main_v3, val_main_v2, val_main_v1, val_main_cst, val_main_v0]

/-- The greatest score of a row. -/
theorem v4_at (b : Fin 4) (h : Fin 16) (s : Fin 2048) :
    val_main_v4 (F := Ideal) x0 x1 (ix3 b h s) = Finset.fold max (⊥ : EReal) (T x0 x1 b h s) Finset.univ := by
  have e : T x0 x1 b h s = fun x => val_main_v3 (F := Ideal) x0 x1 (ix4 b h s x) := funext fun x => (v3_at x0 x1 b h s x).symm
  rw [e, ← lit_bot]
  unfold val_main_v4
  generalize val_main_v3 (F := Ideal) x0 x1 = y
  pointwise [val_main_cst_0]

/-- The weights, not yet divided. -/
theorem v10_at (b : Fin 4) (h : Fin 16) (s x : Fin 2048) :
    val_main_v10 (F := Ideal) x0 x1 (ix4 b h s x) = wt (T x0 x1 b h s) x := by
  have e : val_main_v10 (F := Ideal) x0 x1 (ix4 b h s x)
      = Ideal.exp (val_main_v3 (F := Ideal) x0 x1 (ix4 b h s x) - max (Ideal.ofBits .f32 0xFF800000#32) (val_main_v4 (F := Ideal) x0 x1 (ix3 b h s))) := by
    rw [val_main_v10_apply, val_main_v9_apply, val_main_v8_apply, val_main_v7_apply, val_main_v6_apply, val_main_v5_apply, val_main_cst_1_apply]
    generalize val_main_v3 (F := Ideal) x0 x1 = y
    generalize val_main_v4 (F := Ideal) x0 x1 = z
    have ez : idx_main_v7 (idx_main_v8 (ix4 b h s x)) = ix3 b h s := funext fun a => by fin_cases a <;> rfl
    rw [ez]
    rfl
  rw [e, v3_at, v4_at, lit_bot]
  unfold wt
  rw [max_eq_right bot_le]

/-- The weights. -/
theorem v14_at (b : Fin 4) (h : Fin 16) (s x : Fin 2048) :
    val_main_v14 (F := Ideal) x0 x1 (ix4 b h s x) = Ideal.div (wt (T x0 x1 b h s) x) (∑ x, wt (T x0 x1 b h s) x) := by
  have e : val_main_v14 (F := Ideal) x0 x1 (ix4 b h s x)
      = Ideal.div (val_main_v10 (F := Ideal) x0 x1 (ix4 b h s x)) (∑ k, val_main_v10 (F := Ideal) x0 x1 (ix4 b h s k)) := by
    unfold val_main_v14 val_main_v13 val_main_v12 val_main_v11
    generalize val_main_v10 (F := Ideal) x0 x1 = y
    pointwise [val_main_cst_2]
  rw [e, v10_at]
  simp only [v10_at]

/-- The weighted values. -/
theorem v15_at (b : Fin 4) (h : Fin 16) (s : Fin 2048) (d : Fin 128) :
    val_main_v15 (F := Ideal) x0 x1 x2 (ix4 b h d s)
      = ∑ x, x2 (ix4 b x h d) * Ideal.div (wt (T x0 x1 b h s) x) (∑ x, wt (T x0 x1 b h s) x) := by
  have e : val_main_v15 (F := Ideal) x0 x1 x2 (ix4 b h d s)
      = ∑ x, x2 (ix4 b x h d) * val_main_v14 (F := Ideal) x0 x1 (ix4 b h s x) := by
    unfold val_main_v15
    generalize val_main_v14 (F := Ideal) x0 x1 = y
    pointwise []
  rw [e]
  simp only [v14_at]

/-- The result. -/
theorem v31_at (r : Fin 8192) (c : Fin 2048) :
    val_main_v31 (F := Ideal) x0 x1 x2 x3 (ix2 r c) = ATT x0 x1 x2 x3 (ix2 r c) := by
  have e : val_main_v31 (F := Ideal) x0 x1 x2 x3 (ix2 r c)
      = Cert.Proof.Attn.norm (fun d => val_main_v15 (F := Ideal) x0 x1 x2 (ix4 ⟨r.val / 2048, by omega⟩ ⟨c.val / 128, by omega⟩ d ⟨r.val % 2048, by omega⟩))
          (x3 (ix2 ⟨c.val / 128, by omega⟩ ⟨c.val % 128, by omega⟩)) ⟨c.val % 128, by omega⟩ := by
    unfold Cert.Proof.Attn.norm
    unfold val_main_v31 val_main_v30 val_main_v29 val_main_v26 val_main_v25 val_main_v24 val_main_v23 val_main_v21 val_main_v19 val_main_v18 val_main_v17 val_main_v16
    generalize val_main_v15 (F := Ideal) x0 x1 x2 = y
    pointwise [val_main_v28, val_main_v27, val_main_v22, val_main_v20, val_main_cst_3, val_main_cst_4, val_main_cst_5]
  rw [e]
  simp only [v15_at]
  exact (row (by decide) _ _ _ _).symm

theorem v31_eq : val_main_v31 (F := Ideal) x0 x1 x2 x3 = ATT x0 x1 x2 x3 := by
  funext i
  idx_vars i
  exact v31_at x0 x1 x2 x3 i0 i1

end Cert.ReferenceIdeal.Att

end
-- ==== Proof.AttnClaims.lean ====
/- The claims about the attention call: the three frames, the (empty) idealization ledger, and the equality over the
   ideal instance of the kernel's result with the reference's. -/
module

public import proofs.«01_k».proof.Defs
public import proofs.«01_k».proof.Proof.Gen.Kernel.Frame
public import proofs.«01_k».proof.Proof.RefValue
public import Idealize.ShloMosaic.Lib.Quiescent

@[expose] public section

noncomputable section

open Idealize.ShloMosaic Idealize.ShloMosaic.TcCoe Idealize.SL.Sem

namespace Cert.KernelIdeal.Att

open Cert.KernelIdeal Cert.KernelIdeal.Gen

variable (m : (ℓ : Loc nD τ sig) → Buf (Elt Ideal) ℓ) (ρ : Dev nD → PrngReg)

/-- What the result is shown to hold. -/
abbrev val (c : Dev nD) : Buf (Elt Ideal) ((c : Thread nD τ).loc main_v14) :=
  ATT (m ((c : Thread nD τ).loc main_arg0)) (m ((c : Thread nD τ).loc main_arg1)) (m ((c : Thread nD τ).loc main_arg2)) (m ((c : Thread nD τ).loc main_arg3))

/-- The kernel's run, its result the attention of its arguments. -/
theorem run : θ_run defs (onTc (τ := τ) (main (F := Ideal))) ⟨m, fun _ => 0, ρ⟩ fun r => ∀ c : Dev nD,
      r.2.mem ((c : Thread nD τ).loc main_v14) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Att

namespace Cert.Proof.AttnClaims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal := trivial

/-- At `Ideal` the kernel's result array and the reference's are the attention of arguments that agree. -/
theorem algebraic : Cert.algebraic_KernelIdeal_ReferenceIdeal := by
  intro m ρ m' ρ' _ hagree
  refine ⟨fun c => Cert.KernelIdeal.Att.val m c, Cert.KernelIdeal.Att.run m ρ, ?_⟩
  refine (θ_run Cert.ReferenceIdeal.defs _ _).mono (fun _ h c => ⟨(h c).1.trans ?_, (h c).2⟩)
    (Cert.ReferenceIdeal.Value.run (F := Ideal) m' ρ')
  have h := hagree c
  refine (Cert.ReferenceIdeal.Read.val_main_v31_eq m' c).trans ?_
  refine (Cert.ReferenceIdeal.Att.v31_eq _ _ _ _).trans ?_
  rw [h.1, h.2.1, h.2.2.1, h.2.2.2]

end Cert.Proof.AttnClaims

end
-- ==== Proof.Columns.lean ====
/- The order of the input projection's columns. The layer's input weights hold, side by side, the columns of `c_q` (1024),
   `c_kv` (512), `k_rope` (64), `z` (2048), `xbc` (4096), `dt_f` (32) and `dt_b` (32). The kernel keeps `xbc`, `z`, `c_q`,
   `c_kv` in one array and `k_rope`, `dt_f`, `dt_b` in another. -/
module

public import Idealize.ShloMosaic.Lib.Pointwise

@[expose] public section

namespace Cert.Proof.Columns

/-- Where column `j` of `xbc | z | c_q | c_kv` stands in the layer's weights. -/
def colMain (j : Fin 7680) : Fin 7808 :=
  if h : j.val < 4096 then ⟨j.val + 3648, by omega⟩
  else if h' : j.val < 6144 then ⟨j.val - 2496, by omega⟩
  else ⟨j.val - 6144, by omega⟩

/-- Where column `j` of `k_rope | dt_f | dt_b` stands in the layer's weights. -/
def colSmall (j : Fin 128) : Fin 7808 :=
  if h : j.val < 64 then ⟨j.val + 1536, by omega⟩ else ⟨j.val + 7680, by omega⟩

theorem colMain_val (j : Fin 7680) : (colMain j).val
    = if j.val < 4096 then j.val + 3648 else if j.val < 6144 then j.val - 2496 else j.val - 6144 := by
  unfold colMain; split_ifs <;> rfl

theorem colSmall_val (j : Fin 128) : (colSmall j).val = if j.val < 64 then j.val + 1536 else j.val + 7680 := by
  unfold colSmall; split_ifs <;> rfl

/-- A choice by column range, as side-by-side arrays print it, is one entry at the column's place. -/
theorem main_pieces {α : Type} (f : Fin 7808 → α) (j : Fin 7680) :
    (if h : j.val < 4096 then f ⟨3648 + j.val, by omega⟩
     else if h : j.val - 4096 < 2048 then f ⟨1600 + (j.val - 4096), by omega⟩
     else if h : j.val - 4096 - 2048 < 1024 then f ⟨j.val - 4096 - 2048, by omega⟩
     else f ⟨1024 + (j.val - 4096 - 2048 - 1024), by omega⟩) = f (colMain j) := by
  have hv := colMain_val j
  split_ifs at hv ⊢ <;> first | omega | (refine congrArg f (Fin.ext ?_); simp only [hv]; omega)

theorem small_pieces {α : Type} (f : Fin 7808 → α) (j : Fin 128) :
    (if h : j.val < 64 then f ⟨1536 + j.val, by omega⟩
     else if h : j.val - 64 < 32 then f ⟨7744 + (j.val - 64), by omega⟩
     else f ⟨7776 + (j.val - 64 - 32), by omega⟩) = f (colSmall j) := by
  have hv := colSmall_val j
  split_ifs at hv ⊢ <;> first | omega | (refine congrArg f (Fin.ext ?_); simp only [hv]; omega)

end Cert.Proof.Columns

end
-- ==== Proof.InProj.lean ====
/- The layer's input projection, for the columns of `xbc`, `z`, `c_q` and `c_kv`: each entry of the result is the sum over the model width of a position's entries
   with a column of the weights, in both programs. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Columns
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel2Ideal.Inp

open Cert.Kernel2Ideal Cert.Kernel2Ideal.Gen Cert.Proof.Columns

variable (m : (ℓ : Loc nD τ sig) → Buf (Elt Ideal) ℓ) (ρ : Dev nD → PrngReg)

/-- The result array: position `r % 2048` of batch element `r / 2048` against column `i 1`. -/
def RES (x : S4x2048x4096.Idx → EReal) (w : S4096x7808.Idx → EReal) : S8192x7680.Idx → EReal := fun i =>
  ∑ k : Fin 4096, x (ix3 ⟨(i 0).val / 2048, by have : (i 0).val < 8192 := (i 0).isLt; omega⟩ ⟨(i 0).val % 2048, by omega⟩ k) * w (ix2 k (colMain (i 1)))

theorem V_x (c : Dev nD) (r : Fin 8192) (k : Fin 4096) :
    V m c main_v10 (ix2 r k) = m ⟨c, Proc.tc.devRef main_arg0⟩ (ix3 ⟨r.val / 2048, by omega⟩ ⟨r.val % 2048, by omega⟩ k) := by
  unfold V; after_reads_at

theorem V_w (c : Dev nD) (k : Fin 4096) (j : Fin 7680) :
    V m c main_v8 (ix2 k j) = m ⟨c, Proc.tc.devRef main_arg1⟩ (ix2 k (colMain j)) := by
  refine Eq.trans ?_ (main_pieces (fun q => m ⟨c, Proc.tc.devRef main_arg1⟩ (ix2 k q)) j)
  unfold V; after_reads_at
  refine dite_congr rfl (fun _ => ?_) fun _ => dite_congr rfl (fun _ => ?_) fun _ => dite_congr rfl (fun _ => ?_) fun _ => ?_ <;> after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- One block's entries. -/
theorem pay_apply (a : Vec Ideal S1024x4096 .bf16) (b : Vec Ideal S4096x1536 .bf16) (r : Fin 1024) (j : Fin 1536) :
    k0_pay1 (F := Ideal) a b (ix2 r j) = ∑ k : Fin 4096, a (ix2 r k) * b (ix2 k j) := by
  pointwise [k0_pay1]

theorem final (c : Dev nD) : (dats m 0 c).arrAt 2 cfg0.N
    = RES (m ⟨c, Proc.tc.devRef main_arg0⟩) (m ⟨c, Proc.tc.devRef main_arg1⟩) := by
  refine (dats m 0 c).arrAt_eq_of_covers 2 _ (by decide +kernel) fun t hf y => ?_
  blk_simp
  rw [after0_2]; frame_out
  idx_vars y
  rw [pay_apply]
  have h0 : ((win0_2.blk t).view.emb (ix2 y0 y1) 0).val = (grid0.coords t 0).val * 1024 + y0.val := by blk_simp [idx2 t]
  have h1 : ((win0_2.blk t).view.emb (ix2 y0 y1) 1).val = (grid0.coords t 1).val * 1536 + y1.val := by blk_simp [idx2 t]
  unfold RES
  refine Finset.sum_congr (M := EReal) rfl fun k _ => ?_
  have b0 : iblk m c 0 t (ix2 y0 k) = V m c main_v10 (ix2 ((win0_2.blk t).view.emb (ix2 y0 y1) 0) k) := by
    blk_ext [iblk, idx0 t, idx2 t]
  have b1 : iblk m c 1 t (ix2 k y1) = V m c main_v8 (ix2 k ((win0_2.blk t).view.emb (ix2 y0 y1) 1)) := by
    blk_ext [iblk, idx1 t, idx2 t]
  rw [b0, b1]
  exact congrArg₂ (· * ·) (V_x m c _ k) (V_w m c k _)

abbrev val (c : Dev nD) : Buf (Elt Ideal) ((c : Thread nD τ).loc main_v11) :=
  RES (m ((c : Thread nD τ).loc main_arg0)) (m ((c : Thread nD τ).loc main_arg1))

theorem run : θ_run defs (onTc (τ := τ) (main (F := Ideal))) ⟨m, fun _ => 0, ρ⟩ fun r => ∀ c : Dev nD,
      r.2.mem ((c : Thread nD τ).loc main_v11) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.Inp

namespace Cert.Reference2Ideal.Inp

open Cert.Reference2Ideal Cert.Reference2Ideal.Gen Cert.Reference2Ideal.Read
open Cert.Kernel2Ideal.Inp (RES)
open Cert.Proof.Columns

theorem ref_eq (x : S4x2048x4096.Idx → EReal) (w : S4096x7808.Idx → EReal) : val_main_v10 (F := Ideal) x w = RES x w := by
  funext i
  idx_vars i
  unfold RES
  pointwise [val_main_v10, val_main_v9, val_main_v8, val_main_v5, val_main_v4, val_main_v1, val_main_v2, val_main_v0]
  exact main_pieces (fun q => ∑ k : Fin 4096, x (ix3 ⟨i0.val / 2048, by omega⟩ ⟨i0.val % 2048, by omega⟩ k) * w (ix2 k q)) i1

end Cert.Reference2Ideal.Inp

namespace Cert.Proof.InClaims

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨fun c => Cert.Kernel2Ideal.Inp.val m c, Cert.Kernel2Ideal.Inp.run m ρ, ?_⟩
  refine (θ_run Cert.Reference2Ideal.defs _ _).mono (fun _ h c => ⟨(h c).1.trans ?_, (h c).2⟩)
    (Cert.Reference2Ideal.Value.run (F := Ideal) m' ρ')
  have h := hagree c
  refine (Cert.Reference2Ideal.Read.val_main_v10_eq _ _).trans ?_
  refine (Cert.Reference2Ideal.Inp.ref_eq _ _).trans ?_
  rw [h.1, h.2]

end Cert.Proof.InClaims

end
-- ==== Proof.OutProj.lean ====
/- The output projection of both mixers: in both programs each entry is the residual plus the sum, over the attention's
   and the recurrence's entries side by side, against a column of the weights. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel3Ideal.Out

open Cert.Kernel3Ideal Cert.Kernel3Ideal.Gen

variable (m : (ℓ : Loc nD τ sig) → Buf (Elt Ideal) ℓ) (ρ : Dev nD → PrngReg)

/-- The result array: the residual's entry added to the attention's row against the upper half of the weights and the
    recurrence's row against the lower half. -/
def RES (h : S4x2048x4096.Idx → EReal) (a s : S4x2048x2048.Idx → EReal) (w : S4096x4096.Idx → EReal) : S8192x4096.Idx → EReal := fun i =>
  (∑ k : Fin 2048, a (ix3 ⟨(i 0).val / 2048, by have : (i 0).val < 8192 := (i 0).isLt; omega⟩ ⟨(i 0).val % 2048, by omega⟩ k) * w (ix2 ⟨k.val, by omega⟩ (i 1)))
  + (∑ k : Fin 2048, s (ix3 ⟨(i 0).val / 2048, by have : (i 0).val < 8192 := (i 0).isLt; omega⟩ ⟨(i 0).val % 2048, by omega⟩ k) * w (ix2 ⟨2048 + k.val, by omega⟩ (i 1)))
  + h (ix3 ⟨(i 0).val / 2048, by have : (i 0).val < 8192 := (i 0).isLt; omega⟩ ⟨(i 0).val % 2048, by omega⟩ (i 1))

theorem V_a (c : Dev nD) (r : Fin 8192) (k : Fin 2048) :
    V m c main_v2 (ix2 r k) = m ⟨c, Proc.tc.devRef main_arg1⟩ (ix3 ⟨r.val / 2048, by omega⟩ ⟨r.val % 2048, by omega⟩ k) := by
  unfold V; after_reads_at

theorem V_s (c : Dev nD) (r : Fin 8192) (k : Fin 2048) :
    V m c main_v4 (ix2 r k) = m ⟨c, Proc.tc.devRef main_arg2⟩ (ix3 ⟨r.val / 2048, by omega⟩ ⟨r.val % 2048, by omega⟩ k) := by
  unfold V; after_reads_at

theorem V_w (c : Dev nD) (k : Fin 4096) (j : Fin 4096) :
    V m c main_v0 (ix2 k j) = m ⟨c, Proc.tc.devRef main_arg3⟩ (ix2 k j) := by
  unfold V; after_reads_at

theorem V_h (c : Dev nD) (r : Fin 8192) (j : Fin 4096) :
    V m c main_v5 (ix2 r j) = m ⟨c, Proc.tc.devRef main_arg0⟩ (ix3 ⟨r.val / 2048, by omega⟩ ⟨r.val % 2048, by omega⟩ j) := by
  unfold V; after_reads_at

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![1, (grid0.coords t 1).val] := (by decide +kernel : ∀ t : Fin grid0.N, _)
theorem idx4 : ∀ t : Fin cfg0.N, win0_4.index t = ![(grid0.coords t 0).val, (grid0.coords t 1).val] := (by decide +kernel : ∀ t : Fin grid0.N, _)
theorem idx5 : ∀ t : Fin cfg0.N, win0_5.index t = ![(grid0.coords t 0).val, (grid0.coords t 1).val] := (by decide +kernel : ∀ t : Fin grid0.N, _)

/-- One block's entries. -/
theorem pay_apply (a : Vec Ideal S1024x2048 .bf16) (wa : Vec Ideal S2048x1024 .bf16) (s : Vec Ideal S1024x2048 .bf16) (ws : Vec Ideal S2048x1024 .bf16)
    (h : Vec Ideal S1024x1024 .f32) (r j : Fin 1024) :
    k0_pay1 (F := Ideal) a wa s ws h (ix2 r j)
      = (∑ k : Fin 2048, a (ix2 r k) * wa (ix2 k j)) + (∑ k : Fin 2048, s (ix2 r k) * ws (ix2 k j)) + h (ix2 r j) := by
  pointwise [k0_pay1]

theorem final (c : Dev nD) : (dats m 0 c).arrAt 5 cfg0.N
    = RES (m ⟨c, Proc.tc.devRef main_arg0⟩) (m ⟨c, Proc.tc.devRef main_arg1⟩) (m ⟨c, Proc.tc.devRef main_arg2⟩) (m ⟨c, Proc.tc.devRef main_arg3⟩) := by
  refine (dats m 0 c).arrAt_eq_of_covers 5 _ (by decide +kernel) fun t hf y => ?_
  blk_simp
  rw [after0_5]; frame_out
  idx_vars y
  rw [pay_apply]
  unfold RES
  have b4 : iblk m c 4 t (ix2 y0 y1) = V m c main_v5 (ix2 ((win0_5.blk t).view.emb (ix2 y0 y1) 0) ((win0_5.blk t).view.emb (ix2 y0 y1) 1)) := by
    blk_ext [iblk, idx4 t, idx5 t]
  refine congrArg₂ (β := EReal) (γ := EReal) (· + ·) (congrArg₂ (β := EReal) (γ := EReal) (· + ·) (Finset.sum_congr (M := EReal) rfl fun k _ => ?_)
    (Finset.sum_congr (M := EReal) rfl fun k _ => ?_)) (b4.trans (V_h m c _ _))
  · have b0 : iblk m c 0 t (ix2 y0 k) = V m c main_v2 (ix2 ((win0_5.blk t).view.emb (ix2 y0 y1) 0) k) := by
      blk_ext [iblk, idx0 t, idx5 t]
    have b2 : iblk m c 2 t (ix2 k y1) = V m c main_v0 (ix2 ⟨k.val, by omega⟩ ((win0_5.blk t).view.emb (ix2 y0 y1) 1)) := by
      blk_ext [iblk, idx2 t, idx5 t]
    rw [b0, b2]
    exact congrArg₂ (· * ·) (V_a m c _ k) (V_w m c _ _)
  · have b1 : iblk m c 1 t (ix2 y0 k) = V m c main_v4 (ix2 ((win0_5.blk t).view.emb (ix2 y0 y1) 0) k) := by
      blk_ext [iblk, idx1 t, idx5 t]
    have b3 : iblk m c 3 t (ix2 k y1) = V m c main_v0 (ix2 ⟨2048 + k.val, by omega⟩ ((win0_5.blk t).view.emb (ix2 y0 y1) 1)) := by
      blk_ext [iblk, idx3 t, idx5 t]
    rw [b1, b3]
    exact congrArg₂ (· * ·) (V_s m c _ k) (V_w m c _ _)

abbrev val (c : Dev nD) : Buf (Elt Ideal) ((c : Thread nD τ).loc main_v6) :=
  RES (m ((c : Thread nD τ).loc main_arg0)) (m ((c : Thread nD τ).loc main_arg1)) (m ((c : Thread nD τ).loc main_arg2)) (m ((c : Thread nD τ).loc main_arg3))

theorem run : θ_run defs (onTc (τ := τ) (main (F := Ideal))) ⟨m, fun _ => 0, ρ⟩ fun r => ∀ c : Dev nD,
      r.2.mem ((c : Thread nD τ).loc main_v6) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Kernel3Ideal.Out

namespace Cert.Reference3Ideal.Out

open Cert.Reference3Ideal Cert.Reference3Ideal.Gen Cert.Reference3Ideal.Read
open Cert.Kernel3Ideal.Out (RES)

/-- A sum over 4096 rows, the first half read from one array and the second from another. -/
theorem sum_halves (a s : Fin 2048 → EReal) (w : Fin 4096 → EReal) :
    (∑ k : Fin 4096, (if h : k.val < 2048 then a ⟨k.val, h⟩ else s ⟨k.val - 2048, by omega⟩) * w k)
      = (∑ k : Fin 2048, a k * w ⟨k.val, by omega⟩) + ∑ k : Fin 2048, s k * w ⟨2048 + k.val, by omega⟩ := by
  refine (Fin.sum_univ_add (a := 2048) (b := 2048) _).trans (congrArg₂ (· + ·) (Finset.sum_congr rfl fun k _ => ?_) (Finset.sum_congr rfl fun k _ => ?_))
  · rw [dif_pos (show (Fin.castAdd 2048 k).val < 2048 from k.isLt)]; rfl
  · rw [dif_neg (show ¬(Fin.natAdd 2048 k).val < 2048 by simp)]
    exact congrArg₂ (· * ·) (congrArg s (Fin.ext (by simp))) rfl

theorem ref_eq (h : S4x2048x4096.Idx → EReal) (a s : S4x2048x2048.Idx → EReal) (w : S4096x4096.Idx → EReal) :
    val_main_v3 (F := Ideal) h a s w = RES h a s w := by
  funext i
  idx_vars i
  unfold RES
  refine Eq.trans ?_ (congrArg₂ (α := EReal) (β := EReal) (γ := EReal) (· + ·)
    (sum_halves (fun k => a (ix3 ⟨i0.val / 2048, by omega⟩ ⟨i0.val % 2048, by omega⟩ k))
      (fun k => s (ix3 ⟨i0.val / 2048, by omega⟩ ⟨i0.val % 2048, by omega⟩ k)) (fun k => w (ix2 k i1))) rfl)
  refine Eq.trans ?_ (add_comm (G := EReal) (h (ix3 ⟨i0.val / 2048, by omega⟩ ⟨i0.val % 2048, by omega⟩ i1)) _)
  pointwise [val_main_v3, val_main_v2, val_main_v1, val_main_v0]

end Cert.Reference3Ideal.Out

namespace Cert.Proof.OutClaims

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨fun c => Cert.Kernel3Ideal.Out.val m c, Cert.Kernel3Ideal.Out.run m ρ, ?_⟩
  refine (θ_run Cert.Reference3Ideal.defs _ _).mono (fun _ h c => ⟨(h c).1.trans ?_, (h c).2⟩)
    (Cert.Reference3Ideal.Value.run (F := Ideal) m' ρ')
  have h := hagree c
  refine (Cert.Reference3Ideal.Read.val_main_v3_eq _ _ _ _).trans ?_
  refine (Cert.Reference3Ideal.Out.ref_eq _ _ _ _).trans ?_
  rw [h.1, h.2.1, h.2.2.1, h.2.2.2]

end Cert.Proof.OutClaims

end
-- ==== Proof.Query.lean ====
/- The retrieval's query projection: each entry of the result is the sum over the model width of a position's entries
   with a column of the weights, in both programs. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel4Ideal.Query

open Cert.Kernel4Ideal Cert.Kernel4Ideal.Gen

variable (m : (ℓ : Loc nD τ sig) → Buf (Elt Ideal) ℓ) (ρ : Dev nD → PrngReg)

/-- The result array: position `r % 2048` of batch element `r / 2048` against column `i 1`. -/
def RES (x : S4x2048x4096.Idx → EReal) (w : S4096x2048.Idx → EReal) : S8192x2048.Idx → EReal := fun i =>
  ∑ k : Fin 4096, x (ix3 ⟨(i 0).val / 2048, by have : (i 0).val < 8192 := (i 0).isLt; omega⟩ ⟨(i 0).val % 2048, by omega⟩ k) * w (ix2 k (i 1))

theorem V_x (c : Dev nD) (r : Fin 8192) (k : Fin 4096) :
    V m c main_v1 (ix2 r k) = m ⟨c, Proc.tc.devRef main_arg0⟩ (ix3 ⟨r.val / 2048, by omega⟩ ⟨r.val % 2048, by omega⟩ k) := by
  unfold V; after_reads_at

theorem V_w (c : Dev nD) (k : Fin 4096) (j : Fin 2048) :
    V m c main_v2 (ix2 k j) = m ⟨c, Proc.tc.devRef main_arg1⟩ (ix2 k j) := by
  unfold V; after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- One block's entries. -/
theorem pay_apply (a : Vec Ideal S1024x4096 .bf16) (b : Vec Ideal S4096x1024 .bf16) (r j : Fin 1024) :
    k0_pay1 (F := Ideal) a b (ix2 r j) = ∑ k : Fin 4096, a (ix2 r k) * b (ix2 k j) := by
  pointwise [k0_pay1]

theorem final (c : Dev nD) : (dats m 0 c).arrAt 2 cfg0.N
    = RES (m ⟨c, Proc.tc.devRef main_arg0⟩) (m ⟨c, Proc.tc.devRef main_arg1⟩) := by
  refine (dats m 0 c).arrAt_eq_of_covers 2 _ (by decide +kernel) fun t hf y => ?_
  blk_simp
  rw [after0_2]; frame_out
  idx_vars y
  rw [pay_apply]
  have h0 : ((win0_2.blk t).view.emb (ix2 y0 y1) 0).val = (grid0.coords t 0).val * 1024 + y0.val := by blk_simp [idx2 t]
  have h1 : ((win0_2.blk t).view.emb (ix2 y0 y1) 1).val = (grid0.coords t 1).val * 1024 + y1.val := by blk_simp [idx2 t]
  unfold RES
  refine Finset.sum_congr (M := EReal) rfl fun k _ => ?_
  have b0 : iblk m c 0 t (ix2 y0 k) = V m c main_v1 (ix2 ((win0_2.blk t).view.emb (ix2 y0 y1) 0) k) := by
    blk_ext [iblk, idx0 t, idx2 t]
  have b1 : iblk m c 1 t (ix2 k y1) = V m c main_v2 (ix2 k ((win0_2.blk t).view.emb (ix2 y0 y1) 1)) := by
    blk_ext [iblk, idx1 t, idx2 t]
  rw [b0, b1]
  exact congrArg₂ (· * ·) (V_x m c _ k) (V_w m c k _)

abbrev val (c : Dev nD) : Buf (Elt Ideal) ((c : Thread nD τ).loc main_v3) :=
  RES (m ((c : Thread nD τ).loc main_arg0)) (m ((c : Thread nD τ).loc main_arg1))

theorem run : θ_run defs (onTc (τ := τ) (main (F := Ideal))) ⟨m, fun _ => 0, ρ⟩ fun r => ∀ c : Dev nD,
      r.2.mem ((c : Thread nD τ).loc main_v3) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Query

namespace Cert.Reference4Ideal.Query

open Cert.Reference4Ideal Cert.Reference4Ideal.Gen Cert.Reference4Ideal.Read
open Cert.Kernel4Ideal.Query (RES)

theorem ref_eq (x : S4x2048x4096.Idx → EReal) (w : S4096x2048.Idx → EReal) : val_main_v2 (F := Ideal) x w = RES x w := by
  funext i
  idx_vars i
  unfold RES
  pointwise [val_main_v2, val_main_v1, val_main_v0]

end Cert.Reference4Ideal.Query

namespace Cert.Proof.QueryClaims

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨fun c => Cert.Kernel4Ideal.Query.val m c, Cert.Kernel4Ideal.Query.run m ρ, ?_⟩
  refine (θ_run Cert.Reference4Ideal.defs _ _).mono (fun _ h c => ⟨(h c).1.trans ?_, (h c).2⟩)
    (Cert.Reference4Ideal.Value.run (F := Ideal) m' ρ')
  have h := hagree c
  refine (Cert.Reference4Ideal.Read.val_main_v2_eq _ _).trans ?_
  refine (Cert.Reference4Ideal.Query.ref_eq _ _).trans ?_
  rw [h.1, h.2]

end Cert.Proof.QueryClaims

end
-- ==== Proof.InSmall.lean ====
/- The layer's input projection, for the columns of `k_rope`, `dt_f` and `dt_b`: each entry of the result is the sum over the model width of a position's entries
   with a column of the weights, in both programs. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Columns
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel5Ideal.Sml

open Cert.Kernel5Ideal Cert.Kernel5Ideal.Gen Cert.Proof.Columns

variable (m : (ℓ : Loc nD τ sig) → Buf (Elt Ideal) ℓ) (ρ : Dev nD → PrngReg)

/-- The result array: position `r % 2048` of batch element `r / 2048` against column `i 1`. -/
def RES (x : S4x2048x4096.Idx → EReal) (w : S4096x7808.Idx → EReal) : S8192x128.Idx → EReal := fun i =>
  ∑ k : Fin 4096, x (ix3 ⟨(i 0).val / 2048, by have : (i 0).val < 8192 := (i 0).isLt; omega⟩ ⟨(i 0).val % 2048, by omega⟩ k) * w (ix2 k (colSmall (i 1)))

theorem V_x (c : Dev nD) (r : Fin 8192) (k : Fin 4096) :
    V m c main_v10 (ix2 r k) = m ⟨c, Proc.tc.devRef main_arg0⟩ (ix3 ⟨r.val / 2048, by omega⟩ ⟨r.val % 2048, by omega⟩ k) := by
  unfold V; after_reads_at

theorem V_w (c : Dev nD) (k : Fin 4096) (j : Fin 128) :
    V m c main_v8 (ix2 k j) = m ⟨c, Proc.tc.devRef main_arg1⟩ (ix2 k (colSmall j)) := by
  refine Eq.trans ?_ (small_pieces (fun q => m ⟨c, Proc.tc.devRef main_arg1⟩ (ix2 k q)) j)
  unfold V; after_reads_at
  refine dite_congr rfl (fun _ => ?_) fun _ => dite_congr rfl (fun _ => ?_) fun _ => ?_ <;> after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- One block's entries. -/
theorem pay_apply (a : Vec Ideal S1024x4096 .bf16) (b : Vec Ideal S4096x128 .bf16) (r : Fin 1024) (j : Fin 128) :
    k0_pay1 (F := Ideal) a b (ix2 r j) = ∑ k : Fin 4096, a (ix2 r k) * b (ix2 k j) := by
  pointwise [k0_pay1]

theorem final (c : Dev nD) : (dats m 0 c).arrAt 2 cfg0.N
    = RES (m ⟨c, Proc.tc.devRef main_arg0⟩) (m ⟨c, Proc.tc.devRef main_arg1⟩) := by
  refine (dats m 0 c).arrAt_eq_of_covers 2 _ (by decide +kernel) fun t hf y => ?_
  blk_simp
  rw [after0_2]; frame_out
  idx_vars y
  rw [pay_apply]
  have h0 : ((win0_2.blk t).view.emb (ix2 y0 y1) 0).val = (grid0.coords t 0).val * 1024 + y0.val := by blk_simp [idx2 t]
  have h1 : ((win0_2.blk t).view.emb (ix2 y0 y1) 1).val = (grid0.coords t 1).val * 128 + y1.val := by blk_simp [idx2 t]
  unfold RES
  refine Finset.sum_congr (M := EReal) rfl fun k _ => ?_
  have b0 : iblk m c 0 t (ix2 y0 k) = V m c main_v10 (ix2 ((win0_2.blk t).view.emb (ix2 y0 y1) 0) k) := by
    blk_ext [iblk, idx0 t, idx2 t]
  have b1 : iblk m c 1 t (ix2 k y1) = V m c main_v8 (ix2 k ((win0_2.blk t).view.emb (ix2 y0 y1) 1)) := by
    blk_ext [iblk, idx1 t, idx2 t]
  rw [b0, b1]
  exact congrArg₂ (· * ·) (V_x m c _ k) (V_w m c k _)

abbrev val (c : Dev nD) : Buf (Elt Ideal) ((c : Thread nD τ).loc main_v11) :=
  RES (m ((c : Thread nD τ).loc main_arg0)) (m ((c : Thread nD τ).loc main_arg1))

theorem run : θ_run defs (onTc (τ := τ) (main (F := Ideal))) ⟨m, fun _ => 0, ρ⟩ fun r => ∀ c : Dev nD,
      r.2.mem ((c : Thread nD τ).loc main_v11) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Sml

namespace Cert.Reference5Ideal.Sml

open Cert.Reference5Ideal Cert.Reference5Ideal.Gen Cert.Reference5Ideal.Read
open Cert.Kernel5Ideal.Sml (RES)
open Cert.Proof.Columns

theorem ref_eq (x : S4x2048x4096.Idx → EReal) (w : S4096x7808.Idx → EReal) : val_main_v9 (F := Ideal) x w = RES x w := by
  funext i
  idx_vars i
  unfold RES
  pointwise [val_main_v9, val_main_v8, val_main_v7, val_main_v6, val_main_v3, val_main_v0]
  exact small_pieces (fun q => ∑ k : Fin 4096, x (ix3 ⟨i0.val / 2048, by omega⟩ ⟨i0.val % 2048, by omega⟩ k) * w (ix2 k q)) i1

end Cert.Reference5Ideal.Sml

namespace Cert.Proof.SmallClaims

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨fun c => Cert.Kernel5Ideal.Sml.val m c, Cert.Kernel5Ideal.Sml.run m ρ, ?_⟩
  refine (θ_run Cert.Reference5Ideal.defs _ _).mono (fun _ h c => ⟨(h c).1.trans ?_, (h c).2⟩)
    (Cert.Reference5Ideal.Value.run (F := Ideal) m' ρ')
  have h := hagree c
  refine (Cert.Reference5Ideal.Read.val_main_v9_eq _ _).trans ?_
  refine (Cert.Reference5Ideal.Sml.ref_eq _ _).trans ?_
  rw [h.1, h.2]

end Cert.Proof.SmallClaims

end
-- ==== Proof.Weights.lean ====
/- The input projection's weights in the kernel's column order: both programs move the columns of the layer's weights to
   `xbc | z | c_q | c_kv` in one array and to `k_rope | dt_f | dt_b` in another. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Columns
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel6Ideal.Wts

open Cert.Kernel6Ideal Cert.Kernel6Ideal.Gen Cert.Proof.Columns

variable (m : (ℓ : Loc nD τ sig) → Buf (Elt Ideal) ℓ) (ρ : Dev nD → PrngReg)

/-- Columns moved by `col`. -/
def MOVE {R W : ℕ} (col : Fin W → Fin 7808) (w : (⟨2, ![R, 7808]⟩ : Shape).Idx → EReal) : (⟨2, ![R, W]⟩ : Shape).Idx → EReal :=
  fun i => w (ix2 (i 0) (col (i 1)))

/-- One store's columns, `n` of them read from column `o` on and written from column `d` on. -/
theorem piece {W n : ℕ} (X : Vec Ideal S256x7808 .f32) (col : Fin W → Fin 7808) (o d : ℕ)
    (hs : ∀ a, (![0, o] : Fin 2 → ℕ) a + (![256, n] : Fin 2 → ℕ) a ≤ S256x7808.size a)
    (hd : ∀ a, (![0, d] : Fin 2 → ℕ) a + (![256, n] : Fin 2 → ℕ) a ≤ (⟨2, ![256, W]⟩ : Shape).size a)
    (hc : ∀ j : Fin W, d ≤ j.val → j.val < d + n → (col j).val = j.val - d + o) (x : (⟨2, ![256, n]⟩ : Shape).Idx) :
    View.ld (Val := Elt Ideal) (e' := .f32) X (Rect.unit ![0, o] ![256, n] hs) x
      = MOVE (R := 256) col X ((Rect.unit (s := (⟨2, ![256, W]⟩ : Shape)) ![0, d] ![256, n] hd).emb x) := by
  refine View.ld_unit_apply_of _ _ _ _ _ _ fun a => ?_
  have h1 : ((Rect.unit (s := (⟨2, ![256, W]⟩ : Shape)) ![0, d] ![256, n] hd).emb x 1).val = d + 1 * (x 1).val := rfl
  have hx : (x 1).val < n := (x 1).isLt
  fin_cases a
  · show 0 + 1 * (x 0).val = 0 + (x 0).val
    omega
  · refine (hc _ (by omega) (by omega)).trans ?_
    show _ = o + (x 1).val
    omega

/-- The stores keep what they read: over the extended reals a cast changes nothing. -/
theorem pay1_eq (v : Vec Ideal S256x4096 .f32) : k0_pay1 v = v := rfl
theorem pay2_eq (v : Vec Ideal S256x2048 .f32) : k0_pay2 v = v := rfl
theorem pay3_eq (v : Vec Ideal S256x1024 .f32) : k0_pay3 v = v := rfl
theorem pay4_eq (v : Vec Ideal S256x512 .f32) : k0_pay4 v = v := rfl
theorem pay5_eq (v : Vec Ideal S256x64 .f32) : k0_pay5 v = v := rfl
theorem pay6_eq (v : Vec Ideal S256x32 .f32) : k0_pay6 v = v := rfl
theorem pay7_eq (v : Vec Ideal S256x32 .f32) : k0_pay7 v = v := rfl

theorem out1 (c : Dev nD) (t : Fin cfg0.N) : (outsAt0 m c t).1 = MOVE (R := 256) colMain (iblk m c 0 t) := by
  unfold outsAt0 out0_A_1
  dsimp only
  rw [View.read_writes_eq_canon _ _ _ (cover0_A_1 c _ _ _ _ _ _ _ _)]
  funext y
  refine View.canon_apply_of_pieces _ _ ?_ y (cover0_A_1 c _ _ _ _ _ _ _ _ y)
  unfold kernelRun0_A
  dsimp only
  sl_unfold_words
  simp only [View.readAt_eq_ld, (hs0_0 t).read_unread]
  simp only [List.forall_mem_cons, pay1_eq, pay2_eq, pay3_eq, pay4_eq, pay5_eq, pay6_eq, pay7_eq]
  refine ⟨fun x => ?_, fun x => ?_, fun x => ?_, fun x => ?_, fun _ h => absurd h List.not_mem_nil⟩
  · exact piece _ colMain 1024 7168 _ _ (fun j h1 h2 => by rw [colMain_val]; split_ifs <;> omega) x
  · exact piece _ colMain 0 6144 _ _ (fun j h1 h2 => by rw [colMain_val]; split_ifs <;> omega) x
  · exact piece _ colMain 1600 4096 _ _ (fun j h1 h2 => by rw [colMain_val]; split_ifs <;> omega) x
  · exact piece _ colMain 3648 0 _ _ (fun j h1 h2 => by rw [colMain_val]; split_ifs <;> omega) x

theorem out2 (c : Dev nD) (t : Fin cfg0.N) : (outsAt0 m c t).2 = MOVE (R := 256) colSmall (iblk m c 0 t) := by
  unfold outsAt0 out0_A_2
  dsimp only
  rw [View.read_writes_eq_canon _ _ _ (cover0_A_2 c _ _ _ _ _ _ _ _)]
  funext y
  refine View.canon_apply_of_pieces _ _ ?_ y (cover0_A_2 c _ _ _ _ _ _ _ _ y)
  unfold kernelRun0_A
  dsimp only
  sl_unfold_words
  simp only [View.readAt_eq_ld, (hs0_0 t).read_unread]
  simp only [List.forall_mem_cons, pay1_eq, pay2_eq, pay3_eq, pay4_eq, pay5_eq, pay6_eq, pay7_eq]
  refine ⟨fun x => ?_, fun x => ?_, fun x => ?_, fun _ h => absurd h List.not_mem_nil⟩
  · exact piece _ colSmall 7776 96 _ _ (fun j h1 h2 => by rw [colSmall_val]; split_ifs <;> omega) x
  · exact piece _ colSmall 7744 64 _ _ (fun j h1 h2 => by rw [colSmall_val]; split_ifs <;> omega) x
  · exact piece _ colSmall 1536 0 _ _ (fun j h1 h2 => by rw [colSmall_val]; split_ifs <;> omega) x

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)

theorem final1 (c : Dev nD) : (dats m 0 c).arrAt 1 cfg0.N = MOVE (R := 4096) colMain (m ⟨c, Proc.tc.devRef main_arg0⟩) := by
  refine (dats m 0 c).arrAt_eq_of_covers 1 _ (by decide +kernel) fun t hf y => ?_
  blk_simp
  rw [after0_1, out1]
  idx_vars y
  have h1 : (win0_1.blk t).view.emb (ix2 y0 y1) 1 = y1 := by apply Fin.ext; blk_simp [idx1 t]
  unfold MOVE
  rw [h1]
  show iblk m c 0 t (ix2 y0 (colMain y1)) = V m c main_arg0 (ix2 ((win0_1.blk t).view.emb (ix2 y0 y1) 0) (colMain y1))
  blk_ext [iblk, idx0 t, idx1 t]

theorem final2 (c : Dev nD) : (dats m 0 c).arrAt 2 cfg0.N = MOVE (R := 4096) colSmall (m ⟨c, Proc.tc.devRef main_arg0⟩) := by
  refine (dats m 0 c).arrAt_eq_of_covers 2 _ (by decide +kernel) fun t hf y => ?_
  blk_simp
  rw [after0_2, out2]
  idx_vars y
  have h1 : (win0_2.blk t).view.emb (ix2 y0 y1) 1 = y1 := by apply Fin.ext; blk_simp [idx2 t]
  unfold MOVE
  rw [h1]
  show iblk m c 0 t (ix2 y0 (colSmall y1)) = V m c main_arg0 (ix2 ((win0_2.blk t).view.emb (ix2 y0 y1) 0) (colSmall y1))
  blk_ext [iblk, idx0 t, idx2 t]

abbrev val1 (c : Dev nD) : Buf (Elt Ideal) ((c : Thread nD τ).loc main_v0_0) := MOVE (R := 4096) colMain (m ((c : Thread nD τ).loc main_arg0))
abbrev val2 (c : Dev nD) : Buf (Elt Ideal) ((c : Thread nD τ).loc main_v0_1) := MOVE (R := 4096) colSmall (m ((c : Thread nD τ).loc main_arg0))

theorem run : θ_run defs (onTc (τ := τ) (main (F := Ideal))) ⟨m, fun _ => 0, ρ⟩ fun r => ∀ c : Dev nD,
      r.2.mem ((c : Thread nD τ).loc main_v0_0) = val1 m c
      ∧ r.2.mem ((c : Thread nD τ).loc main_v0_1) = val2 m c
      ∧ r.2.mem ((c : Thread nD τ).loc main_arg0) = m ((c : Thread nD τ).loc main_arg0) :=
  (θ_run defs _ _).mono (fun _ h c => ⟨(h c).1.trans (final1 m c), (h c).2.1.trans (final2 m c), (h c).2.2⟩) (Value.run_blocks m ρ)

end Cert.Kernel6Ideal.Wts

namespace Cert.Reference6Ideal.Wts

open Cert.Reference6Ideal Cert.Reference6Ideal.Gen Cert.Reference6Ideal.Read Cert.Proof.Columns
open Cert.Kernel6Ideal.Wts (MOVE)

theorem ref1 (w : S4096x7808.Idx → EReal) : val_main_v8 (F := Ideal) w = MOVE (R := 4096) colMain w := by
  funext i
  idx_vars i
  unfold MOVE
  pointwise [val_main_v8, val_main_v7, val_main_v4, val_main_v3, val_main_v0, val_main_v1]
  exact main_pieces (fun q => w (ix2 i0 q)) i1

theorem ref2 (w : S4096x7808.Idx → EReal) : val_main_v10 (F := Ideal) w = MOVE (R := 4096) colSmall w := by
  funext i
  idx_vars i
  unfold MOVE
  pointwise [val_main_v10, val_main_v9, val_main_v2, val_main_v5, val_main_v6]
  exact small_pieces (fun q => w (ix2 i0 q)) i1

end Cert.Reference6Ideal.Wts

namespace Cert.Proof.WeightsClaims

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hagree
  refine ⟨fun c => Cert.Kernel6Ideal.Wts.val1 m c, fun c => Cert.Kernel6Ideal.Wts.val2 m c, Cert.Kernel6Ideal.Wts.run m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  · have h := hagree c
    refine (Cert.Reference6Ideal.Read.val_main_v8_eq _).trans ?_
    refine (Cert.Reference6Ideal.Wts.ref1 _).trans ?_
    rw [h]
  · have h := hagree c
    refine (Cert.Reference6Ideal.Read.val_main_v10_eq _).trans ?_
    refine (Cert.Reference6Ideal.Wts.ref2 _).trans ?_
    rw [h]

end Cert.Proof.WeightsClaims

end
-- ==== Proof.Norm.lean ====
/- The layer's normalisation: in both programs each entry is multiplied by the reciprocal root of its position's mean square
   and by the gain. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

namespace Cert.Kernel7Ideal.Rms

open Cert.Kernel7Ideal Cert.Kernel7Ideal.Gen

variable (m : (ℓ : Loc nD τ sig) → Buf (Elt Ideal) ℓ) (ρ : Dev nD → PrngReg)

/-- A row's entry multiplied by the reciprocal root of the row's mean square, and by the gain. -/
def RMS (x : Fin 4096 → EReal) (g : EReal) (j : Fin 4096) : EReal :=
  x j * Ideal.rsqrt (Ideal.div (∑ k, x k * x k) (Ideal.ofBits .f32 0x45800000#32) + Ideal.ofBits .f32 0x358637BD#32) * g

/-- The result array: position by position. -/
def RES (x : S4x2048x4096.Idx → EReal) (g : S4096.Idx → EReal) : S8192x4096.Idx → EReal := fun i =>
  RMS (fun k => x (ix3 ⟨(i 0).val / 2048, by have : (i 0).val < 8192 := (i 0).isLt; omega⟩ ⟨(i 0).val % 2048, by omega⟩ k)) (g (ix1 (i 1))) (i 1)

theorem V_x (c : Dev nD) (r : Fin 8192) (k : Fin 4096) :
    V m c main_v0 (ix2 r k) = m ⟨c, Proc.tc.devRef main_arg0⟩ (ix3 ⟨r.val / 2048, by omega⟩ ⟨r.val % 2048, by omega⟩ k) := by
  unfold V; after_reads_at

theorem V_g (c : Dev nD) (j : Fin 4096) : V m c main_v1 (ix2 0 j) = m ⟨c, Proc.tc.devRef main_arg1⟩ (ix1 j) := by
  unfold V; after_reads_at

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

/-- One block's entries. -/
theorem pay_apply (x : Vec Ideal S256x4096 .f32) (g : Vec Ideal S1x4096 .f32) (r : Fin 256) (j : Fin 4096) :
    k0_pay1 (F := Ideal) x g (ix2 r j) = RMS (fun k => x (ix2 r k)) (g (ix2 0 j)) j := by
  unfold RMS
  pointwise [k0_pay1]

theorem final (c : Dev nD) : (dats m 0 c).arrAt 2 cfg0.N
    = RES (m ⟨c, Proc.tc.devRef main_arg0⟩) (m ⟨c, Proc.tc.devRef main_arg1⟩) := by
  refine (dats m 0 c).arrAt_eq_of_covers 2 _ (by decide +kernel) fun t hf y => ?_
  blk_simp
  rw [after0_2]; frame_out
  idx_vars y
  rw [pay_apply]
  have h1 : (win0_2.blk t).view.emb (ix2 y0 y1) 1 = y1 := by apply Fin.ext; blk_simp [idx2 t]
  have b0 : ∀ k : Fin 4096, iblk m c 0 t (ix2 y0 k) = V m c main_v0 (ix2 ((win0_2.blk t).view.emb (ix2 y0 y1) 0) k) := fun k => by
    blk_ext [iblk, idx0 t, idx2 t]
  have b1 : iblk m c 1 t (ix2 0 y1) = V m c main_v1 (ix2 0 y1) := by
    blk_ext [iblk, idx1 t]
  unfold RES
  rw [h1, b1, V_g]
  exact congrArg (fun f => RMS f _ y1) (funext fun k => (b0 k).trans (V_x m c _ k))

abbrev val (c : Dev nD) : Buf (Elt Ideal) ((c : Thread nD τ).loc main_v2) :=
  RES (m ((c : Thread nD τ).loc main_arg0)) (m ((c : Thread nD τ).loc main_arg1))

theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel7Ideal.Rms

namespace Cert.Reference7Ideal.Rms

open Cert.Reference7Ideal Cert.Reference7Ideal.Gen Cert.Reference7Ideal.Read
open Cert.Kernel7Ideal.Rms (RES RMS)

theorem ref_eq (x : S4x2048x4096.Idx → EReal) (g : S4096.Idx → EReal) : val_main_v14 (F := Ideal) x g = RES x g := by
  funext i
  idx_vars i
  unfold RES RMS
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

end Cert.Reference7Ideal.Rms

namespace Cert.Proof.NormClaims

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m ρ m' ρ' _ hagree
  refine ⟨fun c => Cert.Kernel7Ideal.Rms.val m c, Cert.Kernel7Ideal.Rms.run m ρ, ?_⟩
  refine (θ_run Cert.Reference7Ideal.defs _ _).mono (fun _ h c => ⟨(h c).1.trans ?_, (h c).2⟩)
    (Cert.Reference7Ideal.Value.run (F := Ideal) m' ρ')
  have h := hagree c
  refine (Cert.Reference7Ideal.Read.val_main_v14_eq _ _).trans ?_
  refine (Cert.Reference7Ideal.Rms.ref_eq _ _).trans ?_
  rw [h.1, h.2]

end Cert.Proof.NormClaims

end
-- ==== Proof.PrepBlock.lean ====
module

public import proofs.«01_k».proof.Defs
public import proofs.«01_k».proof.Proof.Gen.Kernel8Ideal.Value
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel8Ideal.Prep

open Cert.Kernel8Ideal Cert.Kernel8Ideal.Gen

variable (m : (ℓ : Loc nD τ sig) → Buf (Elt Ideal) ℓ)

/-- The number 1/192 by which the kernel multiplies, and its extra factor of the queries. -/
abbrev INV : EReal := Named.named (F := Ideal) (φ := .f32) κ "inv_n" 0x3BAAAAAB#32

/-- The reciprocal root of a head's mean square; the head's lanes come in two halves of 128. -/
def SC (a b : Fin 128 → EReal) : EReal :=
  Ideal.rsqrt (((∑ k, a k * a k) + ∑ k, b k * b k) * INV + Ideal.ofBits .f32 0x358637BD#32)

/-- The rotation of a head's second half, by its two neighbours at a distance of 32 lanes. -/
def ROT (v ct lo hi : Fin 128 → EReal) (l : Fin 128) : EReal :=
  v l * ct l + v ⟨(l.val + 32) % 128, by omega⟩ * lo l + v ⟨(l.val + 96) % 128, by omega⟩ * hi l

/-- The first half of a head, at vectors. -/
def NOPE (a : FVec Ideal S256x128 .f32) (sc : FVec Ideal S256x1 .f32) (g : FVec Ideal S1x256 .f32) : FVec Ideal S256x128 .f32 :=
  mulf (mulf a (broadcastTo S256x128 sc broadcasts_S256x1_S256x128))
    (broadcastTo S256x128 (extractStridedSlice S1x128 ![0, 0] g slices_S1x256_o0_0_S1x128) broadcasts_S1x128_S256x128)

def VG (b : FVec Ideal S256x128 .f32) (g : FVec Ideal S1x256 .f32) : FVec Ideal S256x128 .f32 :=
  mulf b (broadcastTo S256x128 (extractStridedSlice S1x128 ![0, 128] g slices_S1x256_o0_128_S1x128) broadcasts_S1x128_S256x128)

def ROTV (v ct lo hi : FVec Ideal S256x128 .f32) : FVec Ideal S256x128 .f32 :=
  addf (addf (mulf v ct) (mulf (dynamicRotate 1 96#32 none v rotates_S256x128_d1) lo))
    (mulf (dynamicRotate 1 32#32 none v rotates_S256x128_d1) hi)

def ROPE (r : FVec Ideal S256x128 .f32) (sc : FVec Ideal S256x1 .f32) : FVec Ideal S256x128 .f32 :=
  mulf r (broadcastTo S256x128 sc broadcasts_S256x1_S256x128)

def SS (a : FVec Ideal S256x128 .f32) : FVec Ideal S256x1 .f32 :=
  shapeCast S256x1 (multiReduction .add [1] S256 (mulf a a) 0x00000000#32 reduces_S256x128_S256 (.inl rfl) rfl) shapeCasts_S256_S256x1

def SCV (a b : FVec Ideal S256x128 .f32) : FVec Ideal S256x1 .f32 :=
  rsqrt (addf (mulf (addf (SS a) (SS b)) (broadcast S256x1 INV))
    (broadcast S256x1 (Scalar.ofBits (F := Ideal) .f32 0x358637BD#32)))

def SCVQ (a b : FVec Ideal S256x128 .f32) : FVec Ideal S256x1 .f32 :=
  mulf (SCV a b) (broadcast S256x1 (Scalar.ofBits (F := Ideal) .f32 0x3DD53B95#32))

theorem nope_apply (a sc g) (r : Fin 256) (l : Fin 128) :
    NOPE a sc g (ix2 r l) = a (ix2 r l) * sc (ix2 r 0) * g (ix2 0 ⟨l.val, by omega⟩) := by
  pointwise [NOPE]

theorem vg_apply (b g) (r : Fin 256) (l : Fin 128) :
    VG b g (ix2 r l) = b (ix2 r l) * g (ix2 0 ⟨128 + l.val, by omega⟩) := by
  pointwise [VG]

theorem rotv_apply (v ct lo hi) (r : Fin 256) (l : Fin 128) :
    ROTV v ct lo hi (ix2 r l)
      = ROT (fun l => v (ix2 r l)) (fun l => ct (ix2 r l)) (fun l => lo (ix2 r l)) (fun l => hi (ix2 r l)) l := by
  have e1 : dynamicRotate 1 96#32 none v rotates_S256x128_d1 (ix2 r l) = v (ix2 r ⟨(l.val + 32) % 128, by omega⟩) :=
    dynamicRotate_apply _ _ _ _ _ _ fun b => by
      fin_cases b
      · rfl
      · show (l.val + 32) % 128 = (l.val + 128 - 96 % 128) % 128
        omega
  have e2 : dynamicRotate 1 32#32 none v rotates_S256x128_d1 (ix2 r l) = v (ix2 r ⟨(l.val + 96) % 128, by omega⟩) :=
    dynamicRotate_apply _ _ _ _ _ _ fun b => by
      fin_cases b
      · rfl
      · show (l.val + 96) % 128 = (l.val + 128 - 32 % 128) % 128
        omega
  show v (ix2 r l) * ct (ix2 r l) + dynamicRotate 1 96#32 none v rotates_S256x128_d1 (ix2 r l) * lo (ix2 r l)
    + dynamicRotate 1 32#32 none v rotates_S256x128_d1 (ix2 r l) * hi (ix2 r l) = _
  rw [e1, e2]
  rfl

theorem rope_apply (v sc) (r : Fin 256) (l : Fin 128) : ROPE v sc (ix2 r l) = v (ix2 r l) * sc (ix2 r 0) := by
  pointwise [ROPE]

theorem scv_apply (a b) (r : Fin 256) : SCV a b (ix2 r 0) = SC (fun k => a (ix2 r k)) (fun k => b (ix2 r k)) := by
  unfold SC
  pointwise [SCV, SS]

theorem scvq_apply (a b) (r : Fin 256) :
    SCVQ a b (ix2 r 0) = SC (fun k => a (ix2 r k)) (fun k => b (ix2 r k)) * Ideal.ofBits .f32 0x3DD53B95#32 := by
  rw [← scv_apply]; rfl

theorem slice_apply (o : Nat) (v : FVec Ideal S256x4096 .f32) (h : S256x4096.Slices ![0, o] S256x128) (r : Fin 256) (l : Fin 128)
    (ho : o + l.val < 4096) : extractStridedSlice S256x128 ![0, o] v h (ix2 r l) = v (ix2 r ⟨o + l.val, ho⟩) := by
  pointwise []

/-- A head's 256 lanes: the first half normalised, the second half rotated. -/
def HD (a b : Fin 128 → EReal) (g : Fin 256 → EReal) (ct lo hi : Fin 128 → EReal) (s : EReal) (j : Fin 256) : EReal :=
  if h : j.val < 128 then a ⟨j.val, h⟩ * s * g j
  else ROT (fun l => b l * g ⟨128 + l.val, by omega⟩) ct lo hi ⟨j.val - 128, by omega⟩ * s

/-- A block of queries. -/
def QB (qf : S256x4096.Idx → EReal) (g : S1x256.Idx → EReal) (ct lo hi : S256x128.Idx → EReal) : S256x4096.Idx → EReal := fun y =>
  HD (fun l => qf (ix2 (y 0) ⟨256 * ((y 1).val / 256) + l.val, by have : (y 1).val < 4096 := (y 1).isLt; omega⟩))
    (fun l => qf (ix2 (y 0) ⟨256 * ((y 1).val / 256) + 128 + l.val, by have : (y 1).val < 4096 := (y 1).isLt; omega⟩))
    (fun j => g (ix2 0 j)) (fun l => ct (ix2 (y 0) l)) (fun l => lo (ix2 (y 0) l)) (fun l => hi (ix2 (y 0) l))
    (SC (fun l => qf (ix2 (y 0) ⟨256 * ((y 1).val / 256) + l.val, by have : (y 1).val < 4096 := (y 1).isLt; omega⟩))
      (fun l => qf (ix2 (y 0) ⟨256 * ((y 1).val / 256) + 128 + l.val, by have : (y 1).val < 4096 := (y 1).isLt; omega⟩))
      * Ideal.ofBits .f32 0x3DD53B95#32)
    ⟨(y 1).val % 256, by omega⟩

/-- A block of keys: every head's second half is the same rotated row `kr`. -/
def KB (kv : S256x4096.Idx → EReal) (kr : S256x128.Idx → EReal) (g : S1x256.Idx → EReal) (ct lo hi : S256x128.Idx → EReal) :
    S256x4096.Idx → EReal := fun y =>
  HD (fun l => kv (ix2 (y 0) ⟨128 * ((y 1).val / 256) + l.val, by have : (y 1).val < 4096 := (y 1).isLt; omega⟩))
    (fun l => kr (ix2 (y 0) l))
    (fun j => g (ix2 0 j)) (fun l => ct (ix2 (y 0) l)) (fun l => lo (ix2 (y 0) l)) (fun l => hi (ix2 (y 0) l))
    (SC (fun l => kv (ix2 (y 0) ⟨128 * ((y 1).val / 256) + l.val, by have : (y 1).val < 4096 := (y 1).isLt; omega⟩))
      (fun l => kr (ix2 (y 0) l)))
    ⟨(y 1).val % 256, by omega⟩

/-- A store of 128 columns from column `o` on writes row `r`, lane `l` at row `r`, column `o + l`. -/
theorem emb_eq (o : Nat) (hd : ∀ a, (![0, o] : Fin 2 → ℕ) a + (![256, 128] : Fin 2 → ℕ) a ≤ S256x4096.size a)
    (r : Fin 256) (l : Fin 128) (ho : o + l.val < 4096) :
    (Rect.unit (s := S256x4096) ![0, o] ![256, 128] hd).emb (ix2 r l) = ix2 r ⟨o + l.val, ho⟩ := by
  funext a
  apply Fin.ext
  fin_cases a
  · show 0 + 1 * r.val = r.val
    omega
  · show o + 1 * l.val = o + l.val
    omega

theorem HD_lo (a b g ct lo hi s) (j : Fin 256) (h : j.val < 128) : HD a b g ct lo hi s j = a ⟨j.val, h⟩ * s * g j := dif_pos h
theorem HD_hi (a b g ct lo hi s) (j : Fin 256) (h : ¬ j.val < 128) : HD a b g ct lo hi s j
    = ROT (fun l => b l * g ⟨128 + l.val, by omega⟩) ct lo hi ⟨j.val - 128, by omega⟩ * s := dif_neg h

theorem QB_eq (qf g ct lo hi) (r : Fin 256) (h : Nat) (hh : h < 16) (j : Fin 256) (y1 : Fin 4096) (hy : y1.val = 256 * h + j.val) :
    QB qf g ct lo hi (ix2 r y1) = HD (fun l => qf (ix2 r ⟨256 * h + l.val, by omega⟩)) (fun l => qf (ix2 r ⟨256 * h + 128 + l.val, by omega⟩))
    (fun j => g (ix2 0 j)) (fun l => ct (ix2 r l)) (fun l => lo (ix2 r l)) (fun l => hi (ix2 r l))
    (SC (fun l => qf (ix2 r ⟨256 * h + l.val, by omega⟩)) (fun l => qf (ix2 r ⟨256 * h + 128 + l.val, by omega⟩))
      * Ideal.ofBits .f32 0x3DD53B95#32) j := by
  obtain rfl : h = y1.val / 256 := by omega
  have hj : j = ⟨y1.val % 256, by omega⟩ := Fin.ext (by show j.val = y1.val % 256; omega)
  exact congrArg (HD _ _ _ _ _ _ _) hj.symm

theorem KB_eq (kv kr g ct lo hi) (r : Fin 256) (h : Nat) (hh : h < 16) (j : Fin 256) (y1 : Fin 4096) (hy : y1.val = 256 * h + j.val) :
    KB kv kr g ct lo hi (ix2 r y1) = HD (fun l => kv (ix2 r ⟨128 * h + l.val, by omega⟩)) (fun l => kr (ix2 r l))
    (fun j => g (ix2 0 j)) (fun l => ct (ix2 r l)) (fun l => lo (ix2 r l)) (fun l => hi (ix2 r l))
    (SC (fun l => kv (ix2 r ⟨128 * h + l.val, by omega⟩)) (fun l => kr (ix2 r l))) j := by
  obtain rfl : h = y1.val / 256 := by omega
  have hj : j = ⟨y1.val % 256, by omega⟩ := Fin.ext (by show j.val = y1.val % 256; omega)
  exact congrArg (HD _ _ _ _ _ _ _) hj.symm

section
variable (qf : FVec Ideal S256x4096 .f32) (kr : FVec Ideal S256x128 .f32) (g : FVec Ideal S1x256 .f32) (ct lo hi : FVec Ideal S256x128 .f32) (h : Nat) (hh : h < 16) (o p : Nat)
  (hs : S256x4096.Slices ![0, o] S256x128) (hp : S256x4096.Slices ![0, p] S256x128)

include hh in
theorem pieceQN (hd : ∀ a, (![0, o] : Fin 2 → ℕ) a + (![256, 128] : Fin 2 → ℕ) a ≤ S256x4096.size a)
    (ho : o = 256 * h) (hop : p = 256 * h + 128) (x : S256x128.Idx) :
    NOPE (extractStridedSlice S256x128 ![0, o] qf hs)
      (SCVQ (extractStridedSlice S256x128 ![0, o] qf hs) (extractStridedSlice S256x128 ![0, p] qf hp)) g x
      = QB qf g ct lo hi ((Rect.unit (s := S256x4096) ![0, o] ![256, 128] hd).emb x) := by
  subst ho hop
  idx_vars x
  rw [emb_eq _ _ _ _ (by omega), nope_apply, scvq_apply, QB_eq qf g ct lo hi x0 h hh ⟨x1.val, by omega⟩ _ rfl, HD_lo _ _ _ _ _ _ _ _ x1.isLt]
  have hA : ∀ l : Fin 128, extractStridedSlice S256x128 ![0, 256 * h] qf hs (ix2 x0 l) = qf (ix2 x0 ⟨256 * h + l.val, by omega⟩) := fun l =>
    slice_apply _ _ _ _ _ (by omega)
  have hB : ∀ l : Fin 128, extractStridedSlice S256x128 ![0, 256 * h + 128] qf hp (ix2 x0 l) = qf (ix2 x0 ⟨256 * h + 128 + l.val, by omega⟩) := fun l =>
    slice_apply _ _ _ _ _ (by omega)
  simp only [hA, hB]

include hh in
theorem pieceQR (hd : ∀ a, (![0, p] : Fin 2 → ℕ) a + (![256, 128] : Fin 2 → ℕ) a ≤ S256x4096.size a)
    (ho : o = 256 * h) (hop : p = 256 * h + 128) (x : S256x128.Idx) :
    ROPE (ROTV (VG (extractStridedSlice S256x128 ![0, p] qf hp) g) ct lo hi)
      (SCVQ (extractStridedSlice S256x128 ![0, o] qf hs) (extractStridedSlice S256x128 ![0, p] qf hp)) x
      = QB qf g ct lo hi ((Rect.unit (s := S256x4096) ![0, p] ![256, 128] hd).emb x) := by
  subst ho hop
  idx_vars x
  rw [emb_eq _ _ _ _ (by omega), rope_apply, scvq_apply, rotv_apply,
    QB_eq qf g ct lo hi x0 h hh ⟨128 + x1.val, by omega⟩ _ (by show 256 * h + 128 + x1.val = 256 * h + (128 + x1.val); omega), HD_hi _ _ _ _ _ _ _ _ (by show ¬ 128 + x1.val < 128; omega)]
  have hA : ∀ l : Fin 128, extractStridedSlice S256x128 ![0, 256 * h] qf hs (ix2 x0 l) = qf (ix2 x0 ⟨256 * h + l.val, by omega⟩) := fun l =>
    slice_apply _ _ _ _ _ (by omega)
  have hB : ∀ l : Fin 128, extractStridedSlice S256x128 ![0, 256 * h + 128] qf hp (ix2 x0 l) = qf (ix2 x0 ⟨256 * h + 128 + l.val, by omega⟩) := fun l =>
    slice_apply _ _ _ _ _ (by omega)
  simp only [vg_apply, hA, hB]
  simp only [Nat.add_sub_cancel_left]

include hh in
theorem pieceKN (hd : ∀ a, (![0, p] : Fin 2 → ℕ) a + (![256, 128] : Fin 2 → ℕ) a ≤ S256x4096.size a)
    (ho : o = 128 * h) (hop : p = 256 * h) (x : S256x128.Idx) :
    NOPE (extractStridedSlice S256x128 ![0, o] qf hs) (SCV (extractStridedSlice S256x128 ![0, o] qf hs) kr) g x
      = KB qf kr g ct lo hi ((Rect.unit (s := S256x4096) ![0, p] ![256, 128] hd).emb x) := by
  subst ho hop
  idx_vars x
  rw [emb_eq _ _ _ _ (by omega), nope_apply, scv_apply, KB_eq qf kr g ct lo hi x0 h hh ⟨x1.val, by omega⟩ _ rfl, HD_lo _ _ _ _ _ _ _ _ x1.isLt]
  have hA : ∀ l : Fin 128, extractStridedSlice S256x128 ![0, 128 * h] qf hs (ix2 x0 l) = qf (ix2 x0 ⟨128 * h + l.val, by omega⟩) := fun l =>
    slice_apply _ _ _ _ _ (by omega)
  simp only [hA]

include hh in
theorem pieceKR (hd : ∀ a, (![0, p] : Fin 2 → ℕ) a + (![256, 128] : Fin 2 → ℕ) a ≤ S256x4096.size a)
    (ho : o = 128 * h) (hop : p = 256 * h + 128) (x : S256x128.Idx) :
    ROPE (ROTV (VG kr g) ct lo hi) (SCV (extractStridedSlice S256x128 ![0, o] qf hs) kr) x
      = KB qf kr g ct lo hi ((Rect.unit (s := S256x4096) ![0, p] ![256, 128] hd).emb x) := by
  subst ho hop
  idx_vars x
  rw [emb_eq _ _ _ _ (by omega), rope_apply, scv_apply, rotv_apply,
    KB_eq qf kr g ct lo hi x0 h hh ⟨128 + x1.val, by omega⟩ _ (by show 256 * h + 128 + x1.val = 256 * h + (128 + x1.val); omega), HD_hi _ _ _ _ _ _ _ _ (by show ¬ 128 + x1.val < 128; omega)]
  have hA : ∀ l : Fin 128, extractStridedSlice S256x128 ![0, 128 * h] qf hs (ix2 x0 l) = qf (ix2 x0 ⟨128 * h + l.val, by omega⟩) := fun l =>
    slice_apply _ _ _ _ _ (by omega)
  simp only [vg_apply, hA]
  simp only [Nat.add_sub_cancel_left]

end

end Cert.Kernel8Ideal.Prep

end
-- ==== Proof.PrepRow.lean ====
module

public import proofs.«01_k».proof.Proof.PrepBlock
public import proofs.«01_k».proof.Proof.Softmax
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel8Ideal.Prep

open Cert.Kernel8Ideal Cert.Kernel8Ideal.Gen

/-- Lanes from 192 on hold zero. -/
def EXT (x : Fin 192 → EReal) (j : Fin 256) : EReal := if h : j.val < 192 then x ⟨j.val, h⟩ else 0

/-- The reciprocal root of the mean square of a head's 192 entries. -/
def RR (x : Fin 192 → EReal) : EReal :=
  Ideal.rsqrt (Ideal.div (∑ k, x k * x k) (Ideal.ofBits .f32 0x43400000#32) + Ideal.ofBits .f32 0x358637BD#32)

/-- The kernel's three tables of a row, from the cosines and sines of its 32 angles. -/
def CTL (c : Fin 32 → EReal) (l : Fin 128) : EReal := if l.val < 64 then c ⟨l.val % 32, by omega⟩ else 0
def LOL (s : Fin 32 → EReal) (l : Fin 128) : EReal := if l.val < 32 then 0 - s ⟨l.val % 32, by omega⟩ else 0
def HIL (s : Fin 32 → EReal) (l : Fin 128) : EReal := if 32 ≤ l.val ∧ l.val < 64 then s ⟨l.val % 32, by omega⟩ else 0

/-- A head as the layer states it: normalised, its last 64 entries rotated, weighted, and filled to 256 lanes. -/
def RH (x g : Fin 192 → EReal) (c s : Fin 32 → EReal) (w : EReal) (j : Fin 256) : EReal :=
  if h1 : j.val < 128 then x ⟨j.val, by omega⟩ * RR x * g ⟨j.val, by omega⟩ * w
  else if h2 : j.val < 160 then
    (x ⟨j.val, by omega⟩ * RR x * g ⟨j.val, by omega⟩ * c ⟨j.val - 128, by omega⟩
      - x ⟨j.val + 32, by omega⟩ * RR x * g ⟨j.val + 32, by omega⟩ * s ⟨j.val - 128, by omega⟩) * w
  else if h3 : j.val < 192 then
    (x ⟨j.val - 32, by omega⟩ * RR x * g ⟨j.val - 32, by omega⟩ * s ⟨j.val - 160, by omega⟩
      + x ⟨j.val, by omega⟩ * RR x * g ⟨j.val, by omega⟩ * c ⟨j.val - 160, by omega⟩) * w
  else 0

theorem sq_nonneg (x : EReal) : 0 ≤ x * x := by
  induction x using EReal.rec with
  | bot => simp
  | coe r => rw [← EReal.coe_mul]; exact_mod_cast mul_self_nonneg r
  | top => simp

theorem eps_pos : ∃ e : ℝ, 0 < e ∧ Ideal.ofBits .f32 0x358637BD#32 = (e : EReal) := by
  simp only [Ideal.ofBits, Ideal.ieee]
  refine ⟨8796093 * 2 ^ (-43 : ℤ), by positivity, ?_⟩
  simp

theorem rsqrt_of_pos {z : EReal} (h : 0 < z) : 0 ≤ Ideal.rsqrt z ∧ Ideal.rsqrt z ≠ ⊤ := by
  induction z using EReal.rec with
  | bot => exact absurd h (by simp)
  | coe r =>
    have hr : 0 < r := by exact_mod_cast h
    rw [Ideal.rsqrt_coe, if_neg hr.not_gt, if_neg hr.ne']
    exact ⟨by exact_mod_cast inv_nonneg.mpr (Real.sqrt_nonneg r), EReal.coe_ne_top _⟩
  | top => rw [Ideal.rsqrt_top]; exact ⟨le_rfl, EReal.zero_ne_top⟩

theorem RR_good (x : Fin 192 → EReal) : 0 ≤ RR x ∧ RR x ≠ ⊤ := by
  refine rsqrt_of_pos ?_
  obtain ⟨e, he, hE⟩ := eps_pos
  rw [hE, Cert.Proof.Attn.lit_192, Ideal.div_coe (by norm_num)]
  have h1 : (0 : EReal) ≤ (∑ k, x k * x k) * ((1 / 192 : ℝ) : EReal) :=
    mul_nonneg (Finset.sum_nonneg fun k _ => sq_nonneg _) (by exact_mod_cast (by norm_num : (0 : ℝ) ≤ 1 / 192))
  have h2 : (0 : EReal) < (e : EReal) := by exact_mod_cast he
  exact lt_of_lt_of_le h2 (le_add_of_nonneg_left h1)

theorem inv_val : INV = ((1 / 192 : ℝ) : EReal) := IdealRules.named_const.ideal_named_scalar _ _ _ _ rfl

/-- The squares of 256 lanes, the last 64 of them zero, sum to the squares of 192 entries. -/
theorem SC_eq (x : Fin 192 → EReal) :
    SC (fun l => EXT x ⟨l.val, by omega⟩) (fun l => EXT x ⟨128 + l.val, by omega⟩) = RR x := by
  have h : (∑ k : Fin 128, EXT x ⟨k.val, by omega⟩ * EXT x ⟨k.val, by omega⟩)
      + ∑ k : Fin 128, EXT x ⟨128 + k.val, by omega⟩ * EXT x ⟨128 + k.val, by omega⟩ = ∑ k, x k * x k := by
    have e1 := Fin.sum_univ_add (a := 128) (b := 128) fun j : Fin 256 => EXT x j * EXT x j
    have e2 := Fin.sum_univ_add (a := 192) (b := 64) fun j : Fin 256 => EXT x j * EXT x j
    refine e1.symm.trans (e2.trans ?_)
    have e3 : ∀ k : Fin 192, EXT x (Fin.castAdd 64 k) = x k := fun k => dif_pos k.isLt
    have e4 : ∀ k : Fin 64, EXT x (Fin.natAdd 192 k) = 0 := fun k => dif_neg (by show ¬ 192 + k.val < 192; omega)
    rw [Finset.sum_congr (M := EReal) rfl fun k _ => congrArg (fun z => z * z) (e3 k),
      Finset.sum_congr (M := EReal) rfl fun k _ => congrArg (fun z => z * z) (e4 k)]
    simp
  unfold SC RR
  rw [h, Cert.Proof.Attn.lit_192, Ideal.div_coe (by norm_num), inv_val]

/-- A nonnegative factor other than `⊤` goes through a sum. -/
theorem add_mul_good (a b : EReal) {s : EReal} (h : 0 ≤ s) (ht : s ≠ ⊤) : (a + b) * s = a * s + b * s := by
  rw [mul_comm, EReal.left_distrib_of_nonneg_of_ne_top h ht, mul_comm s, mul_comm s]

theorem mul_ne_top {a b : EReal} (ha : 0 ≤ a) (hat : a ≠ ⊤) (hb : 0 ≤ b) (hbt : b ≠ ⊤) : a * b ≠ ⊤ := by
  lift a to ℝ using ⟨hat, fun h => by simp [h] at ha⟩
  lift b to ℝ using ⟨hbt, fun h => by simp [h] at hb⟩
  rw [← EReal.coe_mul]
  exact EReal.coe_ne_top _

set_option maxHeartbeats 1000000 in
/-- The kernel's head is the layer's head. -/
theorem HD_eq (x g : Fin 192 → EReal) (c s : Fin 32 → EReal) (w : EReal) (hw : 0 ≤ w) (hwt : w ≠ ⊤) (j : Fin 256) :
    HD (fun l => EXT x ⟨l.val, by omega⟩) (fun l => EXT x ⟨128 + l.val, by omega⟩) (EXT g) (CTL c) (LOL s) (HIL s) (RR x * w) j
      = RH x g c s w j := by
  obtain ⟨hR, hRt⟩ := RR_good x
  have hS : 0 ≤ RR x * w := mul_nonneg hR hw
  have hSt : RR x * w ≠ ⊤ := mul_ne_top hR hRt hw hwt
  unfold RH
  split_ifs with h1 h2 h3
  · rw [HD_lo _ _ _ _ _ _ _ _ h1]
    have e1 : EXT x ⟨j.val, by omega⟩ = x ⟨j.val, by omega⟩ := dif_pos (by show j.val < 192; omega)
    have e2 : EXT g j = g ⟨j.val, by omega⟩ := dif_pos (by omega)
    show EXT x ⟨j.val, _⟩ * _ * EXT g j = _
    rw [e1, e2]
    ac_rfl
  · rw [HD_hi _ _ _ _ _ _ _ _ h1]
    have e1 : EXT x ⟨128 + (j.val - 128), by omega⟩ = x ⟨j.val, by omega⟩ :=
      (dif_pos (by show 128 + (j.val - 128) < 192; omega)).trans (congrArg x (Fin.ext (by show 128 + (j.val - 128) = j.val; omega)))
    have e2 : EXT g ⟨128 + (j.val - 128), by omega⟩ = g ⟨j.val, by omega⟩ :=
      (dif_pos (by show 128 + (j.val - 128) < 192; omega)).trans (congrArg g (Fin.ext (by show 128 + (j.val - 128) = j.val; omega)))
    have e3 : EXT x ⟨128 + (j.val - 128 + 32) % 128, by omega⟩ = x ⟨j.val + 32, by omega⟩ :=
      (dif_pos (by show 128 + (j.val - 128 + 32) % 128 < 192; omega)).trans
        (congrArg x (Fin.ext (by show 128 + (j.val - 128 + 32) % 128 = j.val + 32; omega)))
    have e4 : EXT g ⟨128 + (j.val - 128 + 32) % 128, by omega⟩ = g ⟨j.val + 32, by omega⟩ :=
      (dif_pos (by show 128 + (j.val - 128 + 32) % 128 < 192; omega)).trans
        (congrArg g (Fin.ext (by show 128 + (j.val - 128 + 32) % 128 = j.val + 32; omega)))
    have e5 : CTL c ⟨j.val - 128, by omega⟩ = c ⟨j.val - 128, by omega⟩ :=
      (if_pos (by show j.val - 128 < 64; omega)).trans (congrArg c (Fin.ext (by show (j.val - 128) % 32 = j.val - 128; omega)))
    have e6 : LOL s ⟨j.val - 128, by omega⟩ = 0 - s ⟨j.val - 128, by omega⟩ :=
      (if_pos (by show j.val - 128 < 32; omega)).trans
        (congrArg (fun z => 0 - s z) (Fin.ext (by show (j.val - 128) % 32 = j.val - 128; omega)))
    have e7 : HIL s ⟨j.val - 128, by omega⟩ = 0 := if_neg (by show ¬ (32 ≤ j.val - 128 ∧ _); omega)
    simp only [ROT]
    rw [e1, e2, e3, e4, e5, e6, e7, mul_zero, add_zero, add_mul_good _ _ hS hSt, zero_sub, sub_eq_add_neg (x _ * _ * _ * _) _,
      add_mul_good _ _ hw hwt, mul_neg, neg_mul, neg_mul]
    congr 1
    · ac_rfl
    · congr 1; ac_rfl
  · rw [HD_hi _ _ _ _ _ _ _ _ h1]
    have e1 : EXT x ⟨128 + (j.val - 128), by omega⟩ = x ⟨j.val, by omega⟩ :=
      (dif_pos (by show 128 + (j.val - 128) < 192; omega)).trans (congrArg x (Fin.ext (by show 128 + (j.val - 128) = j.val; omega)))
    have e2 : EXT g ⟨128 + (j.val - 128), by omega⟩ = g ⟨j.val, by omega⟩ :=
      (dif_pos (by show 128 + (j.val - 128) < 192; omega)).trans (congrArg g (Fin.ext (by show 128 + (j.val - 128) = j.val; omega)))
    have e3 : EXT x ⟨128 + (j.val - 128 + 96) % 128, by omega⟩ = x ⟨j.val - 32, by omega⟩ :=
      (dif_pos (by show 128 + (j.val - 128 + 96) % 128 < 192; omega)).trans
        (congrArg x (Fin.ext (by show 128 + (j.val - 128 + 96) % 128 = j.val - 32; omega)))
    have e4 : EXT g ⟨128 + (j.val - 128 + 96) % 128, by omega⟩ = g ⟨j.val - 32, by omega⟩ :=
      (dif_pos (by show 128 + (j.val - 128 + 96) % 128 < 192; omega)).trans
        (congrArg g (Fin.ext (by show 128 + (j.val - 128 + 96) % 128 = j.val - 32; omega)))
    have e5 : CTL c ⟨j.val - 128, by omega⟩ = c ⟨j.val - 160, by omega⟩ :=
      (if_pos (by show j.val - 128 < 64; omega)).trans (congrArg c (Fin.ext (by show (j.val - 128) % 32 = j.val - 160; omega)))
    have e6 : HIL s ⟨j.val - 128, by omega⟩ = s ⟨j.val - 160, by omega⟩ :=
      (if_pos (by show 32 ≤ j.val - 128 ∧ j.val - 128 < 64; omega)).trans
        (congrArg s (Fin.ext (by show (j.val - 128) % 32 = j.val - 160; omega)))
    have e7 : LOL s ⟨j.val - 128, by omega⟩ = 0 := if_neg (by show ¬ j.val - 128 < 32; omega)
    simp only [ROT]
    rw [e1, e2, e3, e4, e5, e6, e7, mul_zero, add_zero, add_mul_good _ _ hS hSt, add_mul_good _ _ hw hwt, add_comm (G := EReal)]
    congr 1 <;> ac_rfl
  · rw [HD_hi _ _ _ _ _ _ _ _ h1]
    have e5 : CTL c ⟨j.val - 128, by omega⟩ = 0 := if_neg (by show ¬ j.val - 128 < 64; omega)
    have e6 : LOL s ⟨j.val - 128, by omega⟩ = 0 := if_neg (by show ¬ j.val - 128 < 32; omega)
    have e7 : HIL s ⟨j.val - 128, by omega⟩ = 0 := if_neg (by show ¬ (32 ≤ j.val - 128 ∧ j.val - 128 < 64); omega)
    simp only [ROT]
    rw [e5, e6, e7, mul_zero, mul_zero, mul_zero, add_zero, add_zero, zero_mul]

end Cert.Kernel8Ideal.Prep

end
-- ==== Proof.PrepArgs.lean ====
module

public import proofs.«01_k».proof.Proof.PrepRow
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel8Ideal.Prep

open Cert.Kernel8Ideal Cert.Kernel8Ideal.Gen

variable (m : (ℓ : Loc nD τ sig) → Buf (Elt Ideal) ℓ)

theorem V_proj (c : Dev nD) (r : Fin 8192) (k : Fin 7680) :
    V m c main_v19 (ix2 r k) = m ⟨c, Proc.tc.devRef main_arg0⟩ (ix2 r k) := by
  unfold V; after_reads_at

theorem V_small (c : Dev nD) (r : Fin 8192) (k : Fin 128) :
    V m c main_arg1 (ix2 r k) = m ⟨c, Proc.tc.devRef main_arg1⟩ (ix2 r k) := by
  unfold V; after_reads_at

theorem V_pos (c : Dev nD) (r : Fin 8192) :
    V m c main_v18 (ix2 r 0) = FloatOps.sitofp (F := Ideal) .f32 (m ⟨c, Proc.tc.devRef main_arg2⟩ (ix2 ⟨r.val / 2048, by omega⟩ ⟨r.val % 2048, by omega⟩)) := by
  unfold V; after_reads_at

theorem V_gqa (c : Dev nD) (k : Fin 1024) : V m c main_v20 (ix2 0 k) = m ⟨c, Proc.tc.devRef main_arg3⟩ (ix1 k) := by
  unfold V; after_reads_at

theorem V_gkva (c : Dev nD) (k : Fin 512) : V m c main_v21 (ix2 0 k) = m ⟨c, Proc.tc.devRef main_arg5⟩ (ix1 k) := by
  unfold V; after_reads_at

theorem V_wkv (c : Dev nD) (k : Fin 512) (p : Fin 2) (h : Fin 16) (d : Fin 128) :
    V m c main_v7 (ix2 k ⟨2048 * p.val + 128 * h.val + d.val, by omega⟩)
      = m ⟨c, Proc.tc.devRef main_arg6⟩ (ix2 k ⟨256 * h.val + 128 * p.val + d.val, by omega⟩) := by
  unfold V; after_reads_at
  exact congrArg (fun z => m (c, Proc.tc.devRef main_arg6) (ix2 k z)) (Fin.ext (by
    show (2048 * p.val + 128 * h.val + d.val) / 128 % 16 * 256 + (2048 * p.val + 128 * h.val + d.val) / 2048 * 128
      + (2048 * p.val + 128 * h.val + d.val) % 128 = 256 * h.val + 128 * p.val + d.val
    omega))

/-- The value that fills a padded lane. -/
theorem fill : FloatOps.sitofp (F := Ideal) .f32 0#32 = (0 : EReal) := by
  show (((0#32).toInt : ℝ) : EReal) = 0
  simp

theorem V_gq (c : Dev nD) (j : Fin 256) :
    V m c main_v23 (ix2 0 j) = EXT (fun d => m ⟨c, Proc.tc.devRef main_arg7⟩ (ix1 d)) j := by
  unfold V; after_reads_at
  exact dite_congr rfl (fun _ => rfl) (fun _ => fill)

theorem V_gk (c : Dev nD) (j : Fin 256) :
    V m c main_v25 (ix2 0 j) = EXT (fun d => m ⟨c, Proc.tc.devRef main_arg8⟩ (ix1 d)) j := by
  unfold V; after_reads_at
  exact dite_congr rfl (fun _ => rfl) (fun _ => fill)

theorem V_wq (c : Dev nD) (k : Fin 1024) (h : Fin 16) (j : Fin 256) :
    V m c main_v3 (ix2 k ⟨256 * h.val + j.val, by omega⟩)
      = EXT (fun d => m ⟨c, Proc.tc.devRef main_arg4⟩ (ix2 k ⟨192 * h.val + d.val, by omega⟩)) j := by
  unfold V; after_reads_at
  refine dite_congr (propext (by omega)) (fun hh => ?_) (fun _ => fill)
  exact congrArg (fun z => m (c, Proc.tc.devRef main_arg4) (ix2 k z)) (Fin.ext (by
    show (256 * h.val + j.val) / 256 * 192 + (256 * h.val + j.val) % 256 = 192 * h.val + j.val
    omega))

/-- The frequency of a pair of lanes. -/
def FR (i : Fin 32) : EReal :=
  Ideal.pow (Ideal.ofBits .f32 0x461C4000#32)
    (Ideal.div (-FloatOps.sitofp (F := Ideal) .f32 (BitVec.ofNat 32 i.val)) (Ideal.ofBits .f32 0x42000000#32))

theorem V_freq (c : Dev nD) (l : Fin 128) : V m c main_v16 (ix2 0 l)
    = if h : l.val < 32 then FR ⟨l.val, h⟩ else if h : l.val - 32 < 32 then FR ⟨l.val - 32, h⟩ else 0 := by
  unfold V; after_reads_at
  refine dite_congr rfl (fun h => ?_) (fun _ => dite_congr rfl (fun h => ?_) (fun h => ?_))
  · after_reads_at; rfl
  · after_reads_at; rfl
  · after_reads_at

theorem V_invf (c : Dev nD) (l : Fin 128) (h : l.val < 64) : V m c main_v16 (ix2 0 l) = FR ⟨l.val % 32, by omega⟩ := by
  rw [V_freq]
  split_ifs with h1 h2
  · exact congrArg FR (Fin.ext (by show l.val = l.val % 32; omega))
  · exact congrArg FR (Fin.ext (by show l.val - 32 = l.val % 32; omega))
  · omega

/-- The normalised row of a low-rank projection. -/
def NRM {n : ℕ} (N : EReal) (x g : Fin n → EReal) (k : Fin n) : EReal :=
  x k * Ideal.rsqrt (Ideal.div (∑ k, x k * x k) N + Ideal.ofBits .f32 0x358637BD#32) * g k

theorem qf_apply (x : Vec Ideal S256x1024 .bf16) (g : Vec Ideal S1x1024 .f32) (w : Vec Ideal S1024x4096 .bf16) (r : Fin 256) (j : Fin 4096) :
    k0_pay9 (F := Ideal) (k0_pay6 x) (k0_pay7 g) (k0_pay8 x) w (ix2 r j)
      = ∑ k : Fin 1024, NRM (Ideal.ofBits .f32 0x44800000#32) (fun k => x (ix2 r k)) (fun k => g (ix2 0 k)) k * w (ix2 k j) := by
  unfold NRM
  pointwise [k0_pay9, k0_pay6, k0_pay7, k0_pay8]

theorem kvf_apply (x : Vec Ideal S256x512 .bf16) (g : Vec Ideal S1x512 .f32) (w : Vec Ideal S512x4096 .bf16) (r : Fin 256) (j : Fin 4096) :
    k0_pay10 (F := Ideal) x g w (ix2 r j)
      = ∑ k : Fin 512, NRM (Ideal.ofBits .f32 0x44000000#32) (fun k => x (ix2 r k)) (fun k => g (ix2 0 k)) k * w (ix2 k j) := by
  unfold NRM
  pointwise [k0_pay10]

theorem slt64 : ∀ l : Fin 128, IntOp.cmpi .slt (BitVec.ofNat 32 l.val) 64#32 = if l.val < 64 then 1#1 else 0#1 := by decide +kernel
theorem slt32 : ∀ l : Fin 128, IntOp.cmpi .slt (BitVec.ofNat 32 l.val) 32#32 = if l.val < 32 then 1#1 else 0#1 := by decide +kernel
theorem mid : ∀ l : Fin 128, IntOp.andi (IntOp.cmpi .sge (BitVec.ofNat 32 l.val) 32#32) (IntOp.cmpi .slt (BitVec.ofNat 32 l.val) 64#32)
    = if 32 ≤ l.val ∧ l.val < 64 then 1#1 else 0#1 := by decide +kernel

theorem ct_apply (p : Vec Ideal S256x1 .f32) (f : Vec Ideal S1x128 .f32) (fr : Fin 32 → EReal)
    (hf : ∀ l : Fin 128, l.val < 64 → f (ix2 0 l) = fr ⟨l.val % 32, by omega⟩) (r : Fin 256) (l : Fin 128) :
    k0_pay2 (F := Ideal) p f (ix2 r l) = CTL (fun i => Ideal.cos (p (ix2 r 0) * fr i)) l := by
  unfold CTL
  pointwise [k0_pay2, k0_pay1]
  rw [slt64]
  split_ifs with h
  · rw [hf l h]; rfl
  · rfl

theorem lo_apply (p : Vec Ideal S256x1 .f32) (f : Vec Ideal S1x128 .f32) (fr : Fin 32 → EReal)
    (hf : ∀ l : Fin 128, l.val < 64 → f (ix2 0 l) = fr ⟨l.val % 32, by omega⟩) (r : Fin 256) (l : Fin 128) :
    k0_pay4 (F := Ideal) p f (ix2 r l) = LOL (fun i => Ideal.sin (p (ix2 r 0) * fr i)) l := by
  unfold LOL
  pointwise [k0_pay4, k0_pay3, k0_pay1]
  rw [slt32]
  split_ifs with h
  · rw [hf l (by omega)]; rfl
  · rfl

theorem hi_apply (p : Vec Ideal S256x1 .f32) (f : Vec Ideal S1x128 .f32) (fr : Fin 32 → EReal)
    (hf : ∀ l : Fin 128, l.val < 64 → f (ix2 0 l) = fr ⟨l.val % 32, by omega⟩) (r : Fin 256) (l : Fin 128) :
    k0_pay5 (F := Ideal) p f (ix2 r l) = HIL (fun i => Ideal.sin (p (ix2 r 0) * fr i)) l := by
  unfold HIL
  pointwise [k0_pay5, k0_pay3, k0_pay1]
  rw [mid]
  split_ifs with h
  · rw [hf l h.2]; rfl
  · rfl

theorem kr_apply (s : Vec Ideal S256x128 .f32) (r : Fin 256) (l : Fin 128) :
    k0_pay13 (F := Ideal) (iota .tc S256x128 32 [1] iota_S256x128_d1_w32) s (ix2 r l) = if l.val < 64 then s (ix2 r l) else 0 := by
  pointwise [k0_pay13]
  rw [slt64]
  split_ifs with h <;> rfl

theorem idx0 : ∀ t : Fin cfg0.N, win0_0.index t = ![(grid0.coords t 0).val, 6] := (by decide +kernel : ∀ t : Fin grid0.N, _)
theorem idx1 : ∀ t : Fin cfg0.N, win0_1.index t = ![(grid0.coords t 0).val, 14] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(grid0.coords t 0).val, 0] := (by decide +kernel : ∀ t : Fin grid0.N, _)
theorem idx12 : ∀ t : Fin cfg0.N, win0_12.index t = ![(grid0.coords t 0).val, 0] := (by decide +kernel : ∀ t : Fin grid0.N, _)
theorem idx13 : ∀ t : Fin cfg0.N, win0_13.index t = ![(grid0.coords t 0).val, 0] := (by decide +kernel : ∀ t : Fin grid0.N, _)

theorem b4 (c : Dev nD) (t : Fin cfg0.N) (l : Fin 128) (h : l.val < 64) : iblk m c 4 t (ix2 0 l) = FR ⟨l.val % 32, by omega⟩ := by
  refine Eq.trans ?_ (V_invf m c l h)
  blk_ext [iblk, idx4 t]

section
variable (c : Dev nD) (t : Fin cfg0.N) (R : Fin 8192) (r : Fin 256) (hR : R.val = (grid0.coords t 0).val * 256 + r.val)

include hR in
/-- The query projection's block is the columns from 6144 on of a block of rows. -/
theorem b0 (k : Fin 1024) : X0_0 m c t (ix2 r k) = m ⟨c, Proc.tc.devRef main_arg0⟩ (ix2 R ⟨6144 + k.val, by omega⟩) := by
  refine Eq.trans ?_ (V_proj m c R ⟨6144 + k.val, by omega⟩)
  unfold X0_0 Pipeline.Window.fill
  rw [dif_pos (moved0_0 t (ix2 r k))]
  blk_ext [iblk, idx0 t]

include hR in
theorem b1 (k : Fin 512) : iblk m c 1 t (ix2 r k) = m ⟨c, Proc.tc.devRef main_arg0⟩ (ix2 R ⟨7168 + k.val, by omega⟩) := by
  refine Eq.trans ?_ (V_proj m c R ⟨7168 + k.val, by omega⟩)
  blk_ext [iblk, idx1 t]

include hR in
theorem b2 (k : Fin 128) : iblk m c 2 t (ix2 r k) = m ⟨c, Proc.tc.devRef main_arg1⟩ (ix2 R k) := by
  refine Eq.trans ?_ (V_small m c R k)
  blk_ext [iblk, idx2 t]

include hR in
theorem b3 : iblk m c 3 t (ix2 r 0)
    = FloatOps.sitofp (F := Ideal) .f32 (m ⟨c, Proc.tc.devRef main_arg2⟩ (ix2 ⟨R.val / 2048, by omega⟩ ⟨R.val % 2048, by omega⟩)) := by
  refine Eq.trans ?_ (V_pos m c R)
  blk_ext [iblk, idx3 t]

theorem b5 (k : Fin 1024) : iblk m c 5 t (ix2 0 k) = m ⟨c, Proc.tc.devRef main_arg3⟩ (ix1 k) := by
  refine Eq.trans ?_ (V_gqa m c k)
  blk_ext [iblk, idx5 t]

theorem b6 (k : Fin 512) : iblk m c 6 t (ix2 0 k) = m ⟨c, Proc.tc.devRef main_arg5⟩ (ix1 k) := by
  refine Eq.trans ?_ (V_gkva m c k)
  blk_ext [iblk, idx6 t]

theorem b7 (j : Fin 256) : iblk m c 7 t (ix2 0 j) = EXT (fun d => m ⟨c, Proc.tc.devRef main_arg7⟩ (ix1 d)) j := by
  refine Eq.trans ?_ (V_gq m c j)
  blk_ext [iblk, idx7 t]

theorem b8 (j : Fin 256) : iblk m c 8 t (ix2 0 j) = EXT (fun d => m ⟨c, Proc.tc.devRef main_arg8⟩ (ix1 d)) j := by
  refine Eq.trans ?_ (V_gk m c j)
  blk_ext [iblk, idx8 t]

theorem b9 (k : Fin 1024) (j : Fin 4096) : iblk m c 9 t (ix2 k j) = V m c main_v3 (ix2 k j) := by
  blk_ext [iblk, idx9 t]

theorem b10 (k : Fin 512) (j : Fin 4096) : iblk m c 10 t (ix2 k j) = V m c main_v7 (ix2 k j) := by
  blk_ext [iblk, idx10 t]

end

end Cert.Kernel8Ideal.Prep

end
-- ==== Proof.PrepOut.lean ====
module

public import proofs.«01_k».proof.Proof.PrepBlock
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel8Ideal.Prep

open Cert.Kernel8Ideal Cert.Kernel8Ideal.Gen

variable (m : (ℓ : Loc nD τ sig) → Buf (Elt Ideal) ℓ)

theorem hz : (![0, 0] : Fin 2 → Nat) = fun _ => 0 := funext fun a => by fin_cases a <;> rfl

/-- The block of query projections of one grid step. -/
def QF (c : Dev nD) (t : Fin cfg0.N) : FVec Ideal S256x4096 .f32 :=
  k0_pay9 (k0_pay6 (X0_0 m c t)) (k0_pay7 (iblk m c 5 t)) (k0_pay8 (X0_0 m c t)) (iblk m c 9 t)

/-- The block of key and value projections. -/
def KVF (c : Dev nD) (t : Fin cfg0.N) : FVec Ideal S256x4096 .f32 :=
  k0_pay10 (iblk m c 1 t) (iblk m c 6 t) (iblk m c 10 t)

def CT (c : Dev nD) (t : Fin cfg0.N) : FVec Ideal S256x128 .f32 := k0_pay2 (iblk m c 3 t) (iblk m c 4 t)
def LO (c : Dev nD) (t : Fin cfg0.N) : FVec Ideal S256x128 .f32 := k0_pay4 (iblk m c 3 t) (iblk m c 4 t)
def HI (c : Dev nD) (t : Fin cfg0.N) : FVec Ideal S256x128 .f32 := k0_pay5 (iblk m c 3 t) (iblk m c 4 t)
def KR (c : Dev nD) (t : Fin cfg0.N) : FVec Ideal S256x128 .f32 :=
  k0_pay13 (iota .tc S256x128 32 [1] iota_S256x128_d1_w32) (iblk m c 2 t)
def GQ (c : Dev nD) (t : Fin cfg0.N) : FVec Ideal S1x256 .f32 := k0_pay11 (iblk m c 7 t)
def GK (c : Dev nD) (t : Fin cfg0.N) : FVec Ideal S1x256 .f32 := k0_pay12 (iblk m c 8 t)

/-- The first columns of the key and value projections are the keys' first halves, the last are the values. -/
def VB (kv : S256x4096.Idx → EReal) : S256x2048.Idx → EReal := fun y => kv (ix2 (y 0) ⟨2048 + (y 1).val, by have : (y 1).val < 2048 := (y 1).isLt; omega⟩)

theorem pieceV (kv : FVec Ideal S256x4096 .f32)
    (hd : ∀ a, (![0, 0] : Fin 2 → ℕ) a + (![256, 2048] : Fin 2 → ℕ) a ≤ S256x2048.size a) (x : S256x2048.Idx) :
    k0_pay187 kv x = VB kv ((Rect.unit (s := S256x2048) ![0, 0] ![256, 2048] hd).emb x) := by
  have he : (Rect.unit (s := S256x2048) ![0, 0] ![256, 2048] hd).emb x = x := by
    funext a
    apply Fin.ext
    fin_cases a
    · show 0 + 1 * (x 0).val = (x 0).val
      omega
    · show 0 + 1 * (x 1).val = (x 1).val
      omega
  rw [he]
  idx_vars x
  unfold VB
  pointwise [k0_pay187]

theorem out1 (c : Dev nD) (t : Fin cfg0.N) :
    (outsAt0 m c t).1 = QB (QF m c t) (GQ m c t) (CT m c t) (LO m c t) (HI m c t) := by
  unfold outsAt0 out0_A_11
  dsimp only
  rw [View.read_writes_eq_canon _ _ _ (cover0_A_11 (F := Ideal) c _ _ _ _ _ _ _ _ _ _ _ _ _ _ _ _ _ _ _ _ _ _ _ _ _ _ _ _ _ _ _ _ _ _ _ _ _ _ _ _)]
  funext y
  refine View.canon_apply_of_pieces _ _ ?_ y (cover0_A_11 (F := Ideal) c _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  simp only [View.ld_unit_zero (S := S256x1024) hz, View.ld_unit_zero (S := S256x512) hz, View.ld_unit_zero (S := S256x128) hz, View.ld_unit_zero (S := S256x1) hz, View.ld_unit_zero (S := S1x128) hz, View.ld_unit_zero (S := S1x1024) hz, View.ld_unit_zero (S := S1x512) hz, View.ld_unit_zero (S := S1x256) hz, View.ld_unit_zero (S := S1024x4096) hz, View.ld_unit_zero (S := S512x4096) hz]
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun _ h => absurd h List.not_mem_nil⟩
  · exact pieceQR (QF m c t) (GQ m c t) (CT m c t) (LO m c t) (HI m c t) 15 (by omega) 3840 3968 slices_S256x4096_o0_3840_S256x128 slices_S256x4096_o0_3968_S256x128 _ rfl rfl x
  · exact pieceQN (QF m c t) (GQ m c t) (CT m c t) (LO m c t) (HI m c t) 15 (by omega) 3840 3968 slices_S256x4096_o0_3840_S256x128 slices_S256x4096_o0_3968_S256x128 _ rfl rfl x
  · exact pieceQR (QF m c t) (GQ m c t) (CT m c t) (LO m c t) (HI m c t) 14 (by omega) 3584 3712 slices_S256x4096_o0_3584_S256x128 slices_S256x4096_o0_3712_S256x128 _ rfl rfl x
  · exact pieceQN (QF m c t) (GQ m c t) (CT m c t) (LO m c t) (HI m c t) 14 (by omega) 3584 3712 slices_S256x4096_o0_3584_S256x128 slices_S256x4096_o0_3712_S256x128 _ rfl rfl x
  · exact pieceQR (QF m c t) (GQ m c t) (CT m c t) (LO m c t) (HI m c t) 13 (by omega) 3328 3456 slices_S256x4096_o0_3328_S256x128 slices_S256x4096_o0_3456_S256x128 _ rfl rfl x
  · exact pieceQN (QF m c t) (GQ m c t) (CT m c t) (LO m c t) (HI m c t) 13 (by omega) 3328 3456 slices_S256x4096_o0_3328_S256x128 slices_S256x4096_o0_3456_S256x128 _ rfl rfl x
  · exact pieceQR (QF m c t) (GQ m c t) (CT m c t) (LO m c t) (HI m c t) 12 (by omega) 3072 3200 slices_S256x4096_o0_3072_S256x128 slices_S256x4096_o0_3200_S256x128 _ rfl rfl x
  · exact pieceQN (QF m c t) (GQ m c t) (CT m c t) (LO m c t) (HI m c t) 12 (by omega) 3072 3200 slices_S256x4096_o0_3072_S256x128 slices_S256x4096_o0_3200_S256x128 _ rfl rfl x
  · exact pieceQR (QF m c t) (GQ m c t) (CT m c t) (LO m c t) (HI m c t) 11 (by omega) 2816 2944 slices_S256x4096_o0_2816_S256x128 slices_S256x4096_o0_2944_S256x128 _ rfl rfl x
  · exact pieceQN (QF m c t) (GQ m c t) (CT m c t) (LO m c t) (HI m c t) 11 (by omega) 2816 2944 slices_S256x4096_o0_2816_S256x128 slices_S256x4096_o0_2944_S256x128 _ rfl rfl x
  · exact pieceQR (QF m c t) (GQ m c t) (CT m c t) (LO m c t) (HI m c t) 10 (by omega) 2560 2688 slices_S256x4096_o0_2560_S256x128 slices_S256x4096_o0_2688_S256x128 _ rfl rfl x
  · exact pieceQN (QF m c t) (GQ m c t) (CT m c t) (LO m c t) (HI m c t) 10 (by omega) 2560 2688 slices_S256x4096_o0_2560_S256x128 slices_S256x4096_o0_2688_S256x128 _ rfl rfl x
  · exact pieceQR (QF m c t) (GQ m c t) (CT m c t) (LO m c t) (HI m c t) 9 (by omega) 2304 2432 slices_S256x4096_o0_2304_S256x128 slices_S256x4096_o0_2432_S256x128 _ rfl rfl x
  · exact pieceQN (QF m c t) (GQ m c t) (CT m c t) (LO m c t) (HI m c t) 9 (by omega) 2304 2432 slices_S256x4096_o0_2304_S256x128 slices_S256x4096_o0_2432_S256x128 _ rfl rfl x
  · exact pieceQR (QF m c t) (GQ m c t) (CT m c t) (LO m c t) (HI m c t) 8 (by omega) 2048 2176 slices_S256x4096_o0_2048_S256x128 slices_S256x4096_o0_2176_S256x128 _ rfl rfl x
  · exact pieceQN (QF m c t) (GQ m c t) (CT m c t) (LO m c t) (HI m c t) 8 (by omega) 2048 2176 slices_S256x4096_o0_2048_S256x128 slices_S256x4096_o0_2176_S256x128 _ rfl rfl x
  · exact pieceQR (QF m c t) (GQ m c t) (CT m c t) (LO m c t) (HI m c t) 7 (by omega) 1792 1920 slices_S256x4096_o0_1792_S256x128 slices_S256x4096_o0_1920_S256x128 _ rfl rfl x
  · exact pieceQN (QF m c t) (GQ m c t) (CT m c t) (LO m c t) (HI m c t) 7 (by omega) 1792 1920 slices_S256x4096_o0_1792_S256x128 slices_S256x4096_o0_1920_S256x128 _ rfl rfl x
  · exact pieceQR (QF m c t) (GQ m c t) (CT m c t) (LO m c t) (HI m c t) 6 (by omega) 1536 1664 slices_S256x4096_o0_1536_S256x128 slices_S256x4096_o0_1664_S256x128 _ rfl rfl x
  · exact pieceQN (QF m c t) (GQ m c t) (CT m c t) (LO m c t) (HI m c t) 6 (by omega) 1536 1664 slices_S256x4096_o0_1536_S256x128 slices_S256x4096_o0_1664_S256x128 _ rfl rfl x
  · exact pieceQR (QF m c t) (GQ m c t) (CT m c t) (LO m c t) (HI m c t) 5 (by omega) 1280 1408 slices_S256x4096_o0_1280_S256x128 slices_S256x4096_o0_1408_S256x128 _ rfl rfl x
  · exact pieceQN (QF m c t) (GQ m c t) (CT m c t) (LO m c t) (HI m c t) 5 (by omega) 1280 1408 slices_S256x4096_o0_1280_S256x128 slices_S256x4096_o0_1408_S256x128 _ rfl rfl x
  · exact pieceQR (QF m c t) (GQ m c t) (CT m c t) (LO m c t) (HI m c t) 4 (by omega) 1024 1152 slices_S256x4096_o0_1024_S256x128 slices_S256x4096_o0_1152_S256x128 _ rfl rfl x
  · exact pieceQN (QF m c t) (GQ m c t) (CT m c t) (LO m c t) (HI m c t) 4 (by omega) 1024 1152 slices_S256x4096_o0_1024_S256x128 slices_S256x4096_o0_1152_S256x128 _ rfl rfl x
  · exact pieceQR (QF m c t) (GQ m c t) (CT m c t) (LO m c t) (HI m c t) 3 (by omega) 768 896 slices_S256x4096_o0_768_S256x128 slices_S256x4096_o0_896_S256x128 _ rfl rfl x
  · exact pieceQN (QF m c t) (GQ m c t) (CT m c t) (LO m c t) (HI m c t) 3 (by omega) 768 896 slices_S256x4096_o0_768_S256x128 slices_S256x4096_o0_896_S256x128 _ rfl rfl x
  · exact pieceQR (QF m c t) (GQ m c t) (CT m c t) (LO m c t) (HI m c t) 2 (by omega) 512 640 slices_S256x4096_o0_512_S256x128 slices_S256x4096_o0_640_S256x128 _ rfl rfl x
  · exact pieceQN (QF m c t) (GQ m c t) (CT m c t) (LO m c t) (HI m c t) 2 (by omega) 512 640 slices_S256x4096_o0_512_S256x128 slices_S256x4096_o0_640_S256x128 _ rfl rfl x
  · exact pieceQR (QF m c t) (GQ m c t) (CT m c t) (LO m c t) (HI m c t) 1 (by omega) 256 384 slices_S256x4096_o0_256_S256x128 slices_S256x4096_o0_384_S256x128 _ rfl rfl x
  · exact pieceQN (QF m c t) (GQ m c t) (CT m c t) (LO m c t) (HI m c t) 1 (by omega) 256 384 slices_S256x4096_o0_256_S256x128 slices_S256x4096_o0_384_S256x128 _ rfl rfl x
  · exact pieceQR (QF m c t) (GQ m c t) (CT m c t) (LO m c t) (HI m c t) 0 (by omega) 0 128 slices_S256x4096_o0_0_S256x128 slices_S256x4096_o0_128_S256x128 _ rfl rfl x
  · exact pieceQN (QF m c t) (GQ m c t) (CT m c t) (LO m c t) (HI m c t) 0 (by omega) 0 128 slices_S256x4096_o0_0_S256x128 slices_S256x4096_o0_128_S256x128 _ rfl rfl x

theorem out2 (c : Dev nD) (t : Fin cfg0.N) :
    (outsAt0 m c t).2.1 = KB (KVF m c t) (KR m c t) (GK m c t) (CT m c t) (LO m c t) (HI m c t) := by
  unfold outsAt0 out0_A_12
  dsimp only
  rw [View.read_writes_eq_canon _ _ _ (cover0_A_12 (F := Ideal) c _ _ _ _ _ _ _ _ _ _ _ _ _ _ _ _ _ _ _ _ _ _ _ _ _ _ _ _ _ _ _ _ _ _ _ _ _ _ _ _)]
  funext y
  refine View.canon_apply_of_pieces _ _ ?_ y (cover0_A_12 (F := Ideal) c _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  simp only [View.ld_unit_zero (S := S256x1024) hz, View.ld_unit_zero (S := S256x512) hz, View.ld_unit_zero (S := S256x128) hz, View.ld_unit_zero (S := S256x1) hz, View.ld_unit_zero (S := S1x128) hz, View.ld_unit_zero (S := S1x1024) hz, View.ld_unit_zero (S := S1x512) hz, View.ld_unit_zero (S := S1x256) hz, View.ld_unit_zero (S := S1024x4096) hz, View.ld_unit_zero (S := S512x4096) hz]
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun _ h => absurd h List.not_mem_nil⟩
  · exact pieceKR (KVF m c t) (KR m c t) (GK m c t) (CT m c t) (LO m c t) (HI m c t) 15 (by omega) 1920 3968 slices_S256x4096_o0_1920_S256x128 _ rfl rfl x
  · exact pieceKN (KVF m c t) (KR m c t) (GK m c t) (CT m c t) (LO m c t) (HI m c t) 15 (by omega) 1920 3840 slices_S256x4096_o0_1920_S256x128 _ rfl rfl x
  · exact pieceKR (KVF m c t) (KR m c t) (GK m c t) (CT m c t) (LO m c t) (HI m c t) 14 (by omega) 1792 3712 slices_S256x4096_o0_1792_S256x128 _ rfl rfl x
  · exact pieceKN (KVF m c t) (KR m c t) (GK m c t) (CT m c t) (LO m c t) (HI m c t) 14 (by omega) 1792 3584 slices_S256x4096_o0_1792_S256x128 _ rfl rfl x
  · exact pieceKR (KVF m c t) (KR m c t) (GK m c t) (CT m c t) (LO m c t) (HI m c t) 13 (by omega) 1664 3456 slices_S256x4096_o0_1664_S256x128 _ rfl rfl x
  · exact pieceKN (KVF m c t) (KR m c t) (GK m c t) (CT m c t) (LO m c t) (HI m c t) 13 (by omega) 1664 3328 slices_S256x4096_o0_1664_S256x128 _ rfl rfl x
  · exact pieceKR (KVF m c t) (KR m c t) (GK m c t) (CT m c t) (LO m c t) (HI m c t) 12 (by omega) 1536 3200 slices_S256x4096_o0_1536_S256x128 _ rfl rfl x
  · exact pieceKN (KVF m c t) (KR m c t) (GK m c t) (CT m c t) (LO m c t) (HI m c t) 12 (by omega) 1536 3072 slices_S256x4096_o0_1536_S256x128 _ rfl rfl x
  · exact pieceKR (KVF m c t) (KR m c t) (GK m c t) (CT m c t) (LO m c t) (HI m c t) 11 (by omega) 1408 2944 slices_S256x4096_o0_1408_S256x128 _ rfl rfl x
  · exact pieceKN (KVF m c t) (KR m c t) (GK m c t) (CT m c t) (LO m c t) (HI m c t) 11 (by omega) 1408 2816 slices_S256x4096_o0_1408_S256x128 _ rfl rfl x
  · exact pieceKR (KVF m c t) (KR m c t) (GK m c t) (CT m c t) (LO m c t) (HI m c t) 10 (by omega) 1280 2688 slices_S256x4096_o0_1280_S256x128 _ rfl rfl x
  · exact pieceKN (KVF m c t) (KR m c t) (GK m c t) (CT m c t) (LO m c t) (HI m c t) 10 (by omega) 1280 2560 slices_S256x4096_o0_1280_S256x128 _ rfl rfl x
  · exact pieceKR (KVF m c t) (KR m c t) (GK m c t) (CT m c t) (LO m c t) (HI m c t) 9 (by omega) 1152 2432 slices_S256x4096_o0_1152_S256x128 _ rfl rfl x
  · exact pieceKN (KVF m c t) (KR m c t) (GK m c t) (CT m c t) (LO m c t) (HI m c t) 9 (by omega) 1152 2304 slices_S256x4096_o0_1152_S256x128 _ rfl rfl x
  · exact pieceKR (KVF m c t) (KR m c t) (GK m c t) (CT m c t) (LO m c t) (HI m c t) 8 (by omega) 1024 2176 slices_S256x4096_o0_1024_S256x128 _ rfl rfl x
  · exact pieceKN (KVF m c t) (KR m c t) (GK m c t) (CT m c t) (LO m c t) (HI m c t) 8 (by omega) 1024 2048 slices_S256x4096_o0_1024_S256x128 _ rfl rfl x
  · exact pieceKR (KVF m c t) (KR m c t) (GK m c t) (CT m c t) (LO m c t) (HI m c t) 7 (by omega) 896 1920 slices_S256x4096_o0_896_S256x128 _ rfl rfl x
  · exact pieceKN (KVF m c t) (KR m c t) (GK m c t) (CT m c t) (LO m c t) (HI m c t) 7 (by omega) 896 1792 slices_S256x4096_o0_896_S256x128 _ rfl rfl x
  · exact pieceKR (KVF m c t) (KR m c t) (GK m c t) (CT m c t) (LO m c t) (HI m c t) 6 (by omega) 768 1664 slices_S256x4096_o0_768_S256x128 _ rfl rfl x
  · exact pieceKN (KVF m c t) (KR m c t) (GK m c t) (CT m c t) (LO m c t) (HI m c t) 6 (by omega) 768 1536 slices_S256x4096_o0_768_S256x128 _ rfl rfl x
  · exact pieceKR (KVF m c t) (KR m c t) (GK m c t) (CT m c t) (LO m c t) (HI m c t) 5 (by omega) 640 1408 slices_S256x4096_o0_640_S256x128 _ rfl rfl x
  · exact pieceKN (KVF m c t) (KR m c t) (GK m c t) (CT m c t) (LO m c t) (HI m c t) 5 (by omega) 640 1280 slices_S256x4096_o0_640_S256x128 _ rfl rfl x
  · exact pieceKR (KVF m c t) (KR m c t) (GK m c t) (CT m c t) (LO m c t) (HI m c t) 4 (by omega) 512 1152 slices_S256x4096_o0_512_S256x128 _ rfl rfl x
  · exact pieceKN (KVF m c t) (KR m c t) (GK m c t) (CT m c t) (LO m c t) (HI m c t) 4 (by omega) 512 1024 slices_S256x4096_o0_512_S256x128 _ rfl rfl x
  · exact pieceKR (KVF m c t) (KR m c t) (GK m c t) (CT m c t) (LO m c t) (HI m c t) 3 (by omega) 384 896 slices_S256x4096_o0_384_S256x128 _ rfl rfl x
  · exact pieceKN (KVF m c t) (KR m c t) (GK m c t) (CT m c t) (LO m c t) (HI m c t) 3 (by omega) 384 768 slices_S256x4096_o0_384_S256x128 _ rfl rfl x
  · exact pieceKR (KVF m c t) (KR m c t) (GK m c t) (CT m c t) (LO m c t) (HI m c t) 2 (by omega) 256 640 slices_S256x4096_o0_256_S256x128 _ rfl rfl x
  · exact pieceKN (KVF m c t) (KR m c t) (GK m c t) (CT m c t) (LO m c t) (HI m c t) 2 (by omega) 256 512 slices_S256x4096_o0_256_S256x128 _ rfl rfl x
  · exact pieceKR (KVF m c t) (KR m c t) (GK m c t) (CT m c t) (LO m c t) (HI m c t) 1 (by omega) 128 384 slices_S256x4096_o0_128_S256x128 _ rfl rfl x
  · exact pieceKN (KVF m c t) (KR m c t) (GK m c t) (CT m c t) (LO m c t) (HI m c t) 1 (by omega) 128 256 slices_S256x4096_o0_128_S256x128 _ rfl rfl x
  · exact pieceKR (KVF m c t) (KR m c t) (GK m c t) (CT m c t) (LO m c t) (HI m c t) 0 (by omega) 0 128 slices_S256x4096_o0_0_S256x128 _ rfl rfl x
  · exact pieceKN (KVF m c t) (KR m c t) (GK m c t) (CT m c t) (LO m c t) (HI m c t) 0 (by omega) 0 0 slices_S256x4096_o0_0_S256x128 _ rfl rfl x

theorem out3 (c : Dev nD) (t : Fin cfg0.N) : (outsAt0 m c t).2.2 = VB (KVF m c t) := by
  unfold outsAt0 out0_A_13
  dsimp only
  rw [View.read_writes_eq_canon _ _ _ (cover0_A_13 (F := Ideal) c _ _ _ _ _ _ _ _ _ _ _ _ _ _ _ _ _ _ _ _ _ _ _ _ _ _ _ _ _ _ _ _ _ _ _ _ _ _ _ _)]
  funext y
  refine View.canon_apply_of_pieces _ _ ?_ y (cover0_A_13 (F := Ideal) c _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  simp only [View.ld_unit_zero (S := S256x1024) hz, View.ld_unit_zero (S := S256x512) hz, View.ld_unit_zero (S := S256x128) hz, View.ld_unit_zero (S := S256x1) hz, View.ld_unit_zero (S := S1x128) hz, View.ld_unit_zero (S := S1x1024) hz, View.ld_unit_zero (S := S1x512) hz, View.ld_unit_zero (S := S1x256) hz, View.ld_unit_zero (S := S1024x4096) hz, View.ld_unit_zero (S := S512x4096) hz]
  simp only [List.forall_mem_cons]
  refine ⟨fun x => ?_, fun _ h => absurd h List.not_mem_nil⟩
  exact pieceV (KVF m c t) _ x

end Cert.Kernel8Ideal.Prep

end
-- ==== Proof.PrepFinal.lean ====
module

public import proofs.«01_k».proof.Proof.PrepArgs
public import proofs.«01_k».proof.Proof.PrepOut
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel8Ideal.Prep

open Cert.Kernel8Ideal Cert.Kernel8Ideal.Gen

/-! The three results over the arguments: the row `R` of the projections, the head `h`. -/

section
variable (proj : S8192x7680.Idx → EReal) (small : S8192x128.Idx → EReal) (pos : S4x2048.Idx → BitVec 32) (ga : S1024.Idx → EReal)
  (wq : S1024x3072.Idx → EReal) (gb : S512.Idx → EReal) (wkv : S512x4096.Idx → EReal) (gq gk : S192.Idx → EReal)

/-- The angles of a row. -/
def ANG (R : Fin 8192) (i : Fin 32) : EReal :=
  FloatOps.sitofp (F := Ideal) .f32 (pos (ix2 ⟨R.val / 2048, by omega⟩ ⟨R.val % 2048, by omega⟩)) * FR i

/-- The query of a row and head, before its own normalisation. -/
def QX (R : Fin 8192) (h : Fin 16) (d : Fin 192) : EReal :=
  ∑ k : Fin 1024, NRM (Ideal.ofBits .f32 0x44800000#32) (fun k : Fin 1024 => proj (ix2 R ⟨6144 + k.val, by omega⟩)) (fun k => ga (ix1 k)) k
    * wq (ix2 k ⟨192 * h.val + d.val, by omega⟩)

/-- The keys and values of a row. -/
def KVX (R : Fin 8192) (j : Fin 4096) : EReal :=
  ∑ k : Fin 512, NRM (Ideal.ofBits .f32 0x44000000#32) (fun k : Fin 512 => proj (ix2 R ⟨7168 + k.val, by omega⟩)) (fun k => gb (ix1 k)) k
    * wkv (ix2 k j)

/-- The key of a row and head, before its own normalisation. -/
def KX (R : Fin 8192) (h : Fin 16) (d : Fin 192) : EReal :=
  if d.val < 128 then KVX proj gb wkv R ⟨256 * h.val + d.val % 128, by omega⟩ else small (ix2 R ⟨d.val - 128, by omega⟩)

def RQ : S8192x4096.Idx → EReal := fun i =>
  RH (QX proj ga wq (i 0) ⟨(i 1).val / 256, by have : (i 1).val < 4096 := (i 1).isLt; omega⟩) (fun d => gq (ix1 d))
    (fun j => Ideal.cos (ANG pos (i 0) j)) (fun j => Ideal.sin (ANG pos (i 0) j)) (Ideal.ofBits .f32 0x3DD53B95#32)
    ⟨(i 1).val % 256, by omega⟩

def RK : S8192x4096.Idx → EReal := fun i =>
  RH (KX proj small gb wkv (i 0) ⟨(i 1).val / 256, by have : (i 1).val < 4096 := (i 1).isLt; omega⟩) (fun d => gk (ix1 d))
    (fun j => Ideal.cos (ANG pos (i 0) j)) (fun j => Ideal.sin (ANG pos (i 0) j)) 1
    ⟨(i 1).val % 256, by omega⟩

def RV : S8192x2048.Idx → EReal := fun i =>
  KVX proj gb wkv (i 0) ⟨256 * ((i 1).val / 128) + 128 + (i 1).val % 128, by have : (i 1).val < 2048 := (i 1).isLt; omega⟩

end

/-- The literal weight of the queries is a nonnegative real. -/
theorem lit_w : 0 ≤ Ideal.ofBits .f32 0x3DD53B95#32 ∧ Ideal.ofBits .f32 0x3DD53B95#32 ≠ ⊤ := by
  obtain ⟨w, hw, h⟩ : ∃ w : ℝ, 0 ≤ w ∧ Ideal.ofBits .f32 0x3DD53B95#32 = (w : EReal) := by
    simp only [Ideal.ofBits, Ideal.ieee]
    refine ⟨13974421 * 2 ^ (-27 : ℤ), by positivity, ?_⟩
    simp
  rw [h]
  exact ⟨by exact_mod_cast hw, EReal.coe_ne_top _⟩

variable (m : (ℓ : Loc nD τ sig) → Buf (Elt Ideal) ℓ) (ρ : Dev nD → PrngReg)

section
variable (c : Dev nD) (t : Fin cfg0.N) (R : Fin 8192) (r : Fin 256) (hR : R.val = (grid0.coords t 0).val * 256 + r.val)

include hR in
theorem qf_row (h : Fin 16) (j : Fin 256) : QF m c t (ix2 r ⟨256 * h.val + j.val, by omega⟩)
    = EXT (QX (m ⟨c, Proc.tc.devRef main_arg0⟩) (m ⟨c, Proc.tc.devRef main_arg3⟩) (m ⟨c, Proc.tc.devRef main_arg4⟩) R h) j := by
  unfold QF
  rw [qf_apply]
  have e : ∀ k : Fin 1024, iblk m c 9 t (ix2 k ⟨256 * h.val + j.val, by omega⟩)
      = EXT (fun d => m ⟨c, Proc.tc.devRef main_arg4⟩ (ix2 k ⟨192 * h.val + d.val, by omega⟩)) j := fun k =>
    (b9 m c t k _).trans (V_wq m c k h j)
  have e0 : (fun k : Fin 1024 => X0_0 m c t (ix2 r k)) = fun k => m ⟨c, Proc.tc.devRef main_arg0⟩ (ix2 R ⟨6144 + k.val, by omega⟩) :=
    funext fun k => b0 m c t R r hR k
  have e5 : (fun k : Fin 1024 => iblk m c 5 t (ix2 0 k)) = fun k => m ⟨c, Proc.tc.devRef main_arg3⟩ (ix1 k) :=
    funext fun k => b5 m c t k
  refine (Finset.sum_congr (M := EReal) rfl fun k _ =>
    congrArg₂ (fun a b : EReal => a * b) (congrFun (congrArg₂ (NRM (Ideal.ofBits .f32 0x44800000#32)) e0 e5) k) (e k)).trans ?_
  unfold EXT
  split_ifs with hj
  · rfl
  · simp

include hR in
theorem kvf_row (p : Fin 2) (h : Fin 16) (d : Fin 128) : KVF m c t (ix2 r ⟨2048 * p.val + 128 * h.val + d.val, by omega⟩)
    = KVX (m ⟨c, Proc.tc.devRef main_arg0⟩) (m ⟨c, Proc.tc.devRef main_arg5⟩) (m ⟨c, Proc.tc.devRef main_arg6⟩) R
      ⟨256 * h.val + 128 * p.val + d.val, by omega⟩ := by
  unfold KVF
  rw [kvf_apply]
  have e1 : (fun k : Fin 512 => iblk m c 1 t (ix2 r k)) = fun k => m ⟨c, Proc.tc.devRef main_arg0⟩ (ix2 R ⟨7168 + k.val, by omega⟩) :=
    funext fun k => b1 m c t R r hR k
  have e6 : (fun k : Fin 512 => iblk m c 6 t (ix2 0 k)) = fun k => m ⟨c, Proc.tc.devRef main_arg5⟩ (ix1 k) :=
    funext fun k => b6 m c t k
  exact Finset.sum_congr (M := EReal) rfl fun k _ =>
    congrArg₂ (fun a b : EReal => a * b) (congrFun (congrArg₂ (NRM (Ideal.ofBits .f32 0x44000000#32)) e1 e6) k)
      ((b10 m c t k _).trans (V_wkv m c k p h d))

include hR in
theorem ct_row (l : Fin 128) : CT m c t (ix2 r l) = CTL (fun i => Ideal.cos (ANG (m ⟨c, Proc.tc.devRef main_arg2⟩) R i)) l := by
  unfold CT
  rw [ct_apply _ _ FR (fun l h => b4 m c t l h), b3 m c t R r hR]
  rfl

include hR in
theorem lo_row (l : Fin 128) : LO m c t (ix2 r l) = LOL (fun i => Ideal.sin (ANG (m ⟨c, Proc.tc.devRef main_arg2⟩) R i)) l := by
  unfold LO
  rw [lo_apply _ _ FR (fun l h => b4 m c t l h), b3 m c t R r hR]
  rfl

include hR in
theorem hi_row (l : Fin 128) : HI m c t (ix2 r l) = HIL (fun i => Ideal.sin (ANG (m ⟨c, Proc.tc.devRef main_arg2⟩) R i)) l := by
  unfold HI
  rw [hi_apply _ _ FR (fun l h => b4 m c t l h), b3 m c t R r hR]
  rfl

include hR in
theorem q_row (y1 : Fin 4096) : QB (QF m c t) (GQ m c t) (CT m c t) (LO m c t) (HI m c t) (ix2 r y1)
    = RQ (m ⟨c, Proc.tc.devRef main_arg0⟩) (m ⟨c, Proc.tc.devRef main_arg2⟩) (m ⟨c, Proc.tc.devRef main_arg3⟩)
      (m ⟨c, Proc.tc.devRef main_arg4⟩) (m ⟨c, Proc.tc.devRef main_arg7⟩) (ix2 R y1) := by
  have ha : ∀ l : Fin 128, QF m c t (ix2 r ⟨256 * (y1.val / 256) + l.val, by omega⟩) = _ := fun l =>
    qf_row m c t R r hR ⟨y1.val / 256, by omega⟩ ⟨l.val, by omega⟩
  have hb : ∀ l : Fin 128, QF m c t (ix2 r ⟨256 * (y1.val / 256) + 128 + l.val, by omega⟩) = _ := fun l =>
    (congrArg (fun z => QF m c t (ix2 r z)) (Fin.ext (by show 256 * (y1.val / 256) + 128 + l.val = 256 * (y1.val / 256) + (128 + l.val); omega))).trans
      (qf_row m c t R r hR ⟨y1.val / 256, by omega⟩ ⟨128 + l.val, by omega⟩)
  have hg : (fun j : Fin 256 => GQ m c t (ix2 0 j)) = EXT (fun d => m ⟨c, Proc.tc.devRef main_arg7⟩ (ix1 d)) := funext fun j => by
    refine Eq.trans ?_ (b7 m c t j)
    unfold GQ
    pointwise [k0_pay11]
  have hct : (fun l : Fin 128 => CT m c t (ix2 r l)) = _ := funext fun l => ct_row m c t R r hR l
  have hlo : (fun l : Fin 128 => LO m c t (ix2 r l)) = _ := funext fun l => lo_row m c t R r hR l
  have hhi : (fun l : Fin 128 => HI m c t (ix2 r l)) = _ := funext fun l => hi_row m c t R r hR l
  have ha' := funext ha
  have hb' := funext hb
  unfold QB RQ
  show HD (fun l : Fin 128 => QF m c t (ix2 r ⟨256 * (y1.val / 256) + l.val, _⟩)) (fun l : Fin 128 => QF m c t (ix2 r ⟨256 * (y1.val / 256) + 128 + l.val, _⟩))
    (fun j : Fin 256 => GQ m c t (ix2 0 j)) (fun l : Fin 128 => CT m c t (ix2 r l)) (fun l : Fin 128 => LO m c t (ix2 r l)) (fun l : Fin 128 => HI m c t (ix2 r l))
    (SC (fun l : Fin 128 => QF m c t (ix2 r ⟨256 * (y1.val / 256) + l.val, _⟩)) (fun l : Fin 128 => QF m c t (ix2 r ⟨256 * (y1.val / 256) + 128 + l.val, _⟩)) * _) _ = _
  rw [ha', hb', hg, hct, hlo, hhi, SC_eq]
  exact HD_eq _ _ _ _ _ lit_w.1 lit_w.2 _

include hR in
/-- A key's second half. -/
theorem kr_row (l : Fin 128) :
    KR m c t (ix2 r l) = if l.val < 64 then m ⟨c, Proc.tc.devRef main_arg1⟩ (ix2 R l) else (0 : EReal) := by
  unfold KR
  rw [kr_apply, b2 m c t R r hR]

include hR in
theorem k_row (y1 : Fin 4096) : KB (KVF m c t) (KR m c t) (GK m c t) (CT m c t) (LO m c t) (HI m c t) (ix2 r y1)
    = RK (m ⟨c, Proc.tc.devRef main_arg0⟩) (m ⟨c, Proc.tc.devRef main_arg1⟩) (m ⟨c, Proc.tc.devRef main_arg2⟩)
      (m ⟨c, Proc.tc.devRef main_arg5⟩) (m ⟨c, Proc.tc.devRef main_arg6⟩) (m ⟨c, Proc.tc.devRef main_arg8⟩) (ix2 R y1) := by
  have ha : ∀ l : Fin 128, KVF m c t (ix2 r ⟨128 * (y1.val / 256) + l.val, by omega⟩)
      = EXT (KX (m ⟨c, Proc.tc.devRef main_arg0⟩) (m ⟨c, Proc.tc.devRef main_arg1⟩)
      (m ⟨c, Proc.tc.devRef main_arg5⟩) (m ⟨c, Proc.tc.devRef main_arg6⟩) R ⟨y1.val / 256, by omega⟩) ⟨l.val, by omega⟩ := fun l => by
    refine (congrArg (fun z => KVF m c t (ix2 r z)) (Fin.ext (by show 128 * (y1.val / 256) + l.val = 2048 * 0 + 128 * (y1.val / 256) + l.val; omega))).trans
      ((kvf_row m c t R r hR 0 ⟨y1.val / 256, by omega⟩ l).trans ?_)
    refine Eq.symm ((dif_pos (show l.val < 192 by omega)).trans ((if_pos (show l.val < 128 by omega)).trans ?_))
    exact congrArg (KVX _ _ _ R) (Fin.ext (by show 256 * (y1.val / 256) + l.val % 128 = 256 * (y1.val / 256) + 128 * 0 + l.val; omega))
  have hb : ∀ l : Fin 128, KR m c t (ix2 r l)
      = EXT (KX (m ⟨c, Proc.tc.devRef main_arg0⟩) (m ⟨c, Proc.tc.devRef main_arg1⟩)
      (m ⟨c, Proc.tc.devRef main_arg5⟩) (m ⟨c, Proc.tc.devRef main_arg6⟩) R ⟨y1.val / 256, by omega⟩) ⟨128 + l.val, by omega⟩ := fun l => by
    rw [kr_row m c t R r hR]
    unfold EXT
    by_cases hl : l.val < 64
    · rw [if_pos hl, dif_pos (show 128 + l.val < 192 by omega)]
      refine Eq.symm ((if_neg (show ¬ 128 + l.val < 128 by omega)).trans ?_)
      exact congrArg (fun z => m ⟨c, Proc.tc.devRef main_arg1⟩ (ix2 R z)) (Fin.ext (by show 128 + l.val - 128 = l.val; omega))
    · rw [if_neg hl, dif_neg (show ¬ 128 + l.val < 192 by omega)]
  have hg : (fun j : Fin 256 => GK m c t (ix2 0 j)) = EXT (fun d => m ⟨c, Proc.tc.devRef main_arg8⟩ (ix1 d)) := funext fun j => by
    refine Eq.trans ?_ (b8 m c t j)
    unfold GK
    pointwise [k0_pay12]
  have hct : (fun l : Fin 128 => CT m c t (ix2 r l)) = _ := funext fun l => ct_row m c t R r hR l
  have hlo : (fun l : Fin 128 => LO m c t (ix2 r l)) = _ := funext fun l => lo_row m c t R r hR l
  have hhi : (fun l : Fin 128 => HI m c t (ix2 r l)) = _ := funext fun l => hi_row m c t R r hR l
  have ha' := funext ha
  have hb' := funext hb
  unfold KB RK
  show HD (fun l : Fin 128 => KVF m c t (ix2 r ⟨128 * (y1.val / 256) + l.val, _⟩)) (fun l : Fin 128 => KR m c t (ix2 r l))
    (fun j : Fin 256 => GK m c t (ix2 0 j)) (fun l : Fin 128 => CT m c t (ix2 r l)) (fun l : Fin 128 => LO m c t (ix2 r l)) (fun l : Fin 128 => HI m c t (ix2 r l))
    (SC (fun l : Fin 128 => KVF m c t (ix2 r ⟨128 * (y1.val / 256) + l.val, _⟩)) (fun l : Fin 128 => KR m c t (ix2 r l))) _ = _
  rw [ha', hb', hg, hct, hlo, hhi, SC_eq]
  refine Eq.trans ?_ (HD_eq _ _ _ _ 1 zero_le_one (EReal.coe_ne_top 1) _)
  rw [mul_one]
  rfl

include hR in
theorem v_row (y1 : Fin 2048) : VB (KVF m c t) (ix2 r y1)
    = RV (m ⟨c, Proc.tc.devRef main_arg0⟩) (m ⟨c, Proc.tc.devRef main_arg5⟩) (m ⟨c, Proc.tc.devRef main_arg6⟩) (ix2 R y1) := by
  refine (congrArg (fun z => KVF m c t (ix2 r z)) (Fin.ext (by
    show 2048 + y1.val = 2048 * 1 + 128 * (y1.val / 128) + y1.val % 128; omega))).trans
    ((kvf_row m c t R r hR 1 ⟨y1.val / 128, by omega⟩ ⟨y1.val % 128, by omega⟩).trans ?_)
  exact congrArg (KVX _ _ _ R) (Fin.ext (by show 256 * (y1.val / 128) + 128 * 1 + y1.val % 128 = 256 * (y1.val / 128) + 128 + y1.val % 128; omega))

end

/-- The queries' array. -/
theorem final1 (c : Dev nD) : (dats m 0 c).arrAt 11 cfg0.N
    = RQ (m ⟨c, Proc.tc.devRef main_arg0⟩) (m ⟨c, Proc.tc.devRef main_arg2⟩) (m ⟨c, Proc.tc.devRef main_arg3⟩)
      (m ⟨c, Proc.tc.devRef main_arg4⟩) (m ⟨c, Proc.tc.devRef main_arg7⟩) := by
  refine (dats m 0 c).arrAt_eq_of_covers 11 _ (by decide +kernel) fun t hf y => ?_
  blk_simp
  rw [after0_11, out1]
  idx_vars y
  have h0 : ((win0_11.blk t).view.emb (ix2 y0 y1) 0).val = (grid0.coords t 0).val * 256 + y0.val := by blk_simp [idx11 t]
  have h1 : (win0_11.blk t).view.emb (ix2 y0 y1) = ix2 ((win0_11.blk t).view.emb (ix2 y0 y1) 0) y1 := by
    funext a; fin_cases a
    · rfl
    · apply Fin.ext; blk_simp [idx11 t]; rfl
  rw [h1]
  exact q_row m c t _ y0 h0 y1

/-- The keys' array. -/
theorem final2 (c : Dev nD) : (dats m 0 c).arrAt 12 cfg0.N
    = RK (m ⟨c, Proc.tc.devRef main_arg0⟩) (m ⟨c, Proc.tc.devRef main_arg1⟩) (m ⟨c, Proc.tc.devRef main_arg2⟩)
      (m ⟨c, Proc.tc.devRef main_arg5⟩) (m ⟨c, Proc.tc.devRef main_arg6⟩) (m ⟨c, Proc.tc.devRef main_arg8⟩) := by
  refine (dats m 0 c).arrAt_eq_of_covers 12 _ (by decide +kernel) fun t hf y => ?_
  blk_simp
  rw [after0_12, out2]
  idx_vars y
  have h0 : ((win0_12.blk t).view.emb (ix2 y0 y1) 0).val = (grid0.coords t 0).val * 256 + y0.val := by blk_simp [idx12 t]
  have h1 : (win0_12.blk t).view.emb (ix2 y0 y1) = ix2 ((win0_12.blk t).view.emb (ix2 y0 y1) 0) y1 := by
    funext a; fin_cases a
    · rfl
    · apply Fin.ext; blk_simp [idx12 t]; rfl
  rw [h1]
  exact k_row m c t _ y0 h0 y1

/-- The values' array. -/
theorem final3 (c : Dev nD) : (dats m 0 c).arrAt 13 cfg0.N
    = RV (m ⟨c, Proc.tc.devRef main_arg0⟩) (m ⟨c, Proc.tc.devRef main_arg5⟩) (m ⟨c, Proc.tc.devRef main_arg6⟩) := by
  refine (dats m 0 c).arrAt_eq_of_covers 13 _ (by decide +kernel) fun t hf y => ?_
  blk_simp
  rw [after0_13, out3]
  idx_vars y
  have h0 : ((win0_13.blk t).view.emb (ix2 y0 y1) 0).val = (grid0.coords t 0).val * 256 + y0.val := by blk_simp [idx13 t]
  have h1 : (win0_13.blk t).view.emb (ix2 y0 y1) = ix2 ((win0_13.blk t).view.emb (ix2 y0 y1) 0) y1 := by
    funext a; fin_cases a
    · rfl
    · apply Fin.ext; blk_simp [idx13 t]; rfl
  rw [h1]
  exact v_row m c t _ y0 h0 y1

end Cert.Kernel8Ideal.Prep

end
-- ==== Proof.PrepRef.lean ====
module

public import proofs.«01_k».proof.Proof.PrepFinal
public import proofs.«01_k».proof.Proof.Gen.Reference8Ideal.Run
public import proofs.«01_k».proof.Proof.Gen.Reference8Ideal.Read
public import Idealize.ShloMosaic.Lib.Pointwise

@[expose] public section

set_option maxRecDepth 16384

noncomputable section

open Idealize.ShloMosaic Idealize.ShloMosaic.TcCoe Idealize.SL.Sem

namespace Cert.Reference8Ideal.Prep

open Cert.Reference8Ideal Cert.Reference8Ideal.Gen Cert.Reference8Ideal.Read
open Cert.Kernel8Ideal.Prep (NRM QX KVX KX ANG FR RR RH RQ RK RV)

/-! The reference's stages at a position, a head and a lane. -/

variable (x0 : S8192x7680.Idx → EReal) (x1 : S8192x128.Idx → EReal) (x2 : S4x2048.Idx → BitVec 32) (x3 : S1024.Idx → EReal)
  (x4 : S1024x3072.Idx → EReal) (x5 : S512.Idx → EReal) (x6 : S512x4096.Idx → EReal) (x7 x8 : S192.Idx → EReal)

/-- The query latent, normalised. -/
theorem nq (R : Fin 8192) (k : Fin 1024) : val_main_v16 (F := Ideal) x0 x3 (ix2 R k)
    = NRM (Ideal.ofBits .f32 0x44800000#32) (fun k : Fin 1024 => x0 (ix2 R ⟨6144 + k.val, by omega⟩)) (fun k => x3 (ix1 k)) k := by
  unfold NRM
  pointwise [val_main_v16, val_main_v15, val_main_v14, val_main_v13, val_main_v12, val_main_v11, val_main_v10, val_main_v9,
    val_main_v8, val_main_v7, val_main_v6, val_main_v5, val_main_v4, val_main_v0, val_main_cst, val_main_cst_0, val_main_cst_1]

/-- The key and value latent, normalised. -/
theorem nkv (R : Fin 8192) (k : Fin 512) : val_main_v31 (F := Ideal) x0 x5 (ix2 R k)
    = NRM (Ideal.ofBits .f32 0x44000000#32) (fun k : Fin 512 => x0 (ix2 R ⟨7168 + k.val, by omega⟩)) (fun k => x5 (ix1 k)) k := by
  unfold NRM
  pointwise [val_main_v31, val_main_v30, val_main_v29, val_main_v28, val_main_v27, val_main_v26, val_main_v25, val_main_v24,
    val_main_v23, val_main_v22, val_main_v21, val_main_v20, val_main_v19, val_main_v1, val_main_cst_2, val_main_cst_3, val_main_cst_4]

/-- The queries before their own normalisation. -/
theorem q18 (R : Fin 8192) (h : Fin 16) (d : Fin 192) : val_main_v18 (F := Ideal) x0 x3 x4 (ix3 R h d) = QX x0 x3 x4 R h d := by
  have e : idx_main_v18 (ix3 R h d) = ix2 R ⟨192 * h.val + d.val, by omega⟩ := by
    have hh := h.isLt
    have hd := d.isLt
    funext a
    apply Fin.ext
    fin_cases a
    · show ((R.val * 16 + h.val) * 192 + d.val) / 3072 = R.val
      omega
    · show ((R.val * 16 + h.val) * 192 + d.val) % 3072 = 192 * h.val + d.val
      omega
  rw [val_main_v18_apply, e, val_main_v17_apply]
  exact Finset.sum_congr (M := EReal) rfl fun k _ => congrArg₂ (fun a b : EReal => a * b)
    ((congrArg (val_main_v16 (F := Ideal) x0 x3) (by idx_ext)).trans (nq x0 x3 R k)) (congrArg _ (by idx_ext))

/-- The up-projected keys and values. -/
theorem kv33 (R : Fin 8192) (h : Fin 16) (d : Fin 256) : val_main_v33 (F := Ideal) x0 x5 x6 (ix3 R h d)
    = KVX x0 x5 x6 R ⟨256 * h.val + d.val, by omega⟩ := by
  have e : idx_main_v33 (ix3 R h d) = ix2 R ⟨256 * h.val + d.val, by omega⟩ := by
    have hh := h.isLt
    have hd := d.isLt
    funext a
    apply Fin.ext
    fin_cases a
    · show ((R.val * 16 + h.val) * 256 + d.val) / 4096 = R.val
      omega
    · show ((R.val * 16 + h.val) * 256 + d.val) % 4096 = 256 * h.val + d.val
      omega
  rw [val_main_v33_apply, e, val_main_v32_apply]
  exact Finset.sum_congr (M := EReal) rfl fun k _ => congrArg₂ (fun a b : EReal => a * b)
    ((congrArg (val_main_v31 (F := Ideal) x0 x5) (by idx_ext)).trans (nkv x0 x5 R k)) (congrArg _ (by idx_ext))

/-- The angles, as the queries take them. -/
theorem ang78 (R : Fin 8192) (i : Fin 32) : val_main_v78 (F := Ideal) x2 (ix2 R i) = ANG x2 R i := by
  unfold ANG FR
  pointwise [val_main_v78, val_main_v77, val_main_v76, val_main_v75, val_main_v74, val_main_v73, val_main_v72, val_main_v71, val_main_v70,
    val_main_v69, val_main_v68, val_main_v67, val_main_v3, val_main_cst_11, val_main_cst_12]

/-- The angles, as the keys take them. -/
theorem ang110 (R : Fin 8192) (i : Fin 32) : val_main_v110 (F := Ideal) x2 (ix2 R i) = ANG x2 R i := by
  unfold ANG FR
  pointwise [val_main_v110, val_main_v109, val_main_v108, val_main_v107, val_main_v106, val_main_v105, val_main_v104, val_main_v103,
    val_main_v102, val_main_v101, val_main_v100, val_main_v99, val_main_v3, val_main_cst_13, val_main_cst_14]

/-- Two pieces side by side along the lanes: 128 and 64. -/
theorem cat192 (L : S8192x16x128.Idx → EReal) (K : S8192x16x64.Idx → EReal) (R : Fin 8192) (h : Fin 16) (d : Fin 192) :
    concatenate S8192x16x192 2 [⟨S8192x16x128, L⟩, ⟨S8192x16x64, K⟩] concatenates_S8192x16x128_S8192x16x64_S8192x16x192_d2 (ix3 R h d)
      = if hd : d.val < 128 then L (ix3 R h ⟨d.val, hd⟩) else K (ix3 R h ⟨d.val - 128, by omega⟩) := by
  pointwise

/-- Two halves of 32 lanes side by side. -/
theorem cat64 (L K : S8192x16x32.Idx → EReal) (R : Fin 8192) (h : Fin 16) (d : Fin 64) :
    concatenate S8192x16x64 2 [⟨S8192x16x32, L⟩, ⟨S8192x16x32, K⟩] concatenates_S8192x16x32_S8192x16x32_S8192x16x64_d2 (ix3 R h d)
      = if hd : d.val < 32 then L (ix3 R h ⟨d.val, hd⟩) else K (ix3 R h ⟨d.val - 32, by omega⟩) := by
  pointwise

/-- The 192 lanes filled up to 256. -/
theorem pad256 (L : S8192x16x192.Idx → EReal) (v : S_.Idx → EReal) (R : Fin 8192) (h : Fin 16) (d : Fin 256) :
    pad S8192x16x256 ![0, 0, 0] ![0, 0, 64] ![0, 0, 0] L v pads_S8192x16x192_S8192x16x256_000_000_0640 h_S_ (ix3 R h d)
      = if hd : d.val < 192 then L (ix3 R h ⟨d.val, hd⟩) else v (Shape.Idx.first h_S_) := by
  pointwise

/-- The keys before their own normalisation. -/
theorem k38 (R : Fin 8192) (h : Fin 16) (d : Fin 192) : val_main_v38 (F := Ideal) x0 x1 x5 x6 (ix3 R h d) = KX x0 x1 x5 x6 R h d := by
  unfold KX val_main_v38
  have eL : ∀ l : Fin 128, val_main_v34 (F := Ideal) x0 x5 x6 (ix3 R h l) = KVX x0 x5 x6 R ⟨256 * h.val + l.val, by omega⟩ := fun l => by
    rw [val_main_v34_apply]
    have e := kv33 x0 x5 x6 R h ⟨l.val, by omega⟩
    exact (congrArg (val_main_v33 (F := Ideal) x0 x5 x6) (by idx_ext)).trans e
  have eR : ∀ l : Fin 64, val_main_v37 (F := Ideal) x1 (ix3 R h l) = x1 (ix2 R ⟨l.val, by omega⟩) := fun l => by
    rw [val_main_v37_apply, val_main_v36_apply, val_main_v2_apply]; exact congrArg x1 (by idx_ext)
  refine (cat192 _ _ R h d).trans ?_
  split_ifs with hd
  · exact (eL _).trans (congrArg (KVX x0 x5 x6 R) (Fin.ext (by show 256 * h.val + d.val = 256 * h.val + d.val % 128; omega)))
  · exact eR _

/-- A normalised query lane. -/
theorem q51 (R : Fin 8192) (h : Fin 16) (d : Fin 192) : val_main_v51 (F := Ideal) x0 x3 x4 x7 (ix3 R h d)
    = QX x0 x3 x4 R h d * RR (QX x0 x3 x4 R h) * x7 (ix1 d) := by
  have e : QX x0 x3 x4 R h = fun d => val_main_v18 (F := Ideal) x0 x3 x4 (ix3 R h d) := funext fun d => (q18 x0 x3 x4 R h d).symm
  rw [e]
  unfold RR
  pointwise [val_main_v51, val_main_v50, val_main_v49, val_main_v48, val_main_v47, val_main_v46, val_main_v45, val_main_v44,
    val_main_v43, val_main_v42, val_main_v41, val_main_v40, val_main_v39, val_main_cst_5, val_main_cst_6, val_main_cst_7]

/-- A normalised key lane. -/
theorem k64 (R : Fin 8192) (h : Fin 16) (d : Fin 192) : val_main_v64 (F := Ideal) x0 x1 x5 x6 x8 (ix3 R h d)
    = KX x0 x1 x5 x6 R h d * RR (KX x0 x1 x5 x6 R h) * x8 (ix1 d) := by
  have e : KX x0 x1 x5 x6 R h = fun d => val_main_v38 (F := Ideal) x0 x1 x5 x6 (ix3 R h d) :=
    funext fun d => (k38 x0 x1 x5 x6 R h d).symm
  rw [e]
  unfold RR
  pointwise [val_main_v64, val_main_v63, val_main_v62, val_main_v61, val_main_v60, val_main_v59, val_main_v58, val_main_v57,
    val_main_v56, val_main_v55, val_main_v54, val_main_v53, val_main_v52, val_main_cst_8, val_main_cst_9, val_main_cst_10]

/-- The first rotated half of the queries. -/
theorem q89 (R : Fin 8192) (h : Fin 16) (i : Fin 32) : val_main_v89 (F := Ideal) x0 x2 x3 x4 x7 (ix3 R h i)
    = val_main_v51 (F := Ideal) x0 x3 x4 x7 (ix3 R h ⟨128 + i.val, by omega⟩) * Ideal.cos (ANG x2 R i)
      - val_main_v51 (F := Ideal) x0 x3 x4 x7 (ix3 R h ⟨128 + (32 + i.val), by omega⟩) * Ideal.sin (ANG x2 R i) := by
  rw [← ang78]
  pointwise [val_main_v89, val_main_v88, val_main_v87, val_main_v86, val_main_v85, val_main_v84, val_main_v83, val_main_v82,
    val_main_v81, val_main_v80, val_main_v79, val_main_v66]

/-- The second rotated half of the queries. -/
theorem q94 (R : Fin 8192) (h : Fin 16) (i : Fin 32) : val_main_v94 (F := Ideal) x0 x2 x3 x4 x7 (ix3 R h i)
    = val_main_v51 (F := Ideal) x0 x3 x4 x7 (ix3 R h ⟨128 + i.val, by omega⟩) * Ideal.sin (ANG x2 R i)
      + val_main_v51 (F := Ideal) x0 x3 x4 x7 (ix3 R h ⟨128 + (32 + i.val), by omega⟩) * Ideal.cos (ANG x2 R i) := by
  rw [← ang78]
  pointwise [val_main_v94, val_main_v93, val_main_v92, val_main_v91, val_main_v90, val_main_v84, val_main_v83, val_main_v82,
    val_main_v81, val_main_v80, val_main_v79, val_main_v66]

/-- The first rotated half of the keys. -/
theorem k121 (R : Fin 8192) (h : Fin 16) (i : Fin 32) : val_main_v121 (F := Ideal) x0 x1 x2 x5 x6 x8 (ix3 R h i)
    = val_main_v64 (F := Ideal) x0 x1 x5 x6 x8 (ix3 R h ⟨128 + i.val, by omega⟩) * Ideal.cos (ANG x2 R i)
      - val_main_v64 (F := Ideal) x0 x1 x5 x6 x8 (ix3 R h ⟨128 + (32 + i.val), by omega⟩) * Ideal.sin (ANG x2 R i) := by
  rw [← ang110]
  pointwise [val_main_v121, val_main_v120, val_main_v119, val_main_v118, val_main_v117, val_main_v116, val_main_v115, val_main_v114,
    val_main_v113, val_main_v112, val_main_v111, val_main_v98]

/-- The second rotated half of the keys. -/
theorem k126 (R : Fin 8192) (h : Fin 16) (i : Fin 32) : val_main_v126 (F := Ideal) x0 x1 x2 x5 x6 x8 (ix3 R h i)
    = val_main_v64 (F := Ideal) x0 x1 x5 x6 x8 (ix3 R h ⟨128 + i.val, by omega⟩) * Ideal.sin (ANG x2 R i)
      + val_main_v64 (F := Ideal) x0 x1 x5 x6 x8 (ix3 R h ⟨128 + (32 + i.val), by omega⟩) * Ideal.cos (ANG x2 R i) := by
  rw [← ang110]
  pointwise [val_main_v126, val_main_v125, val_main_v124, val_main_v123, val_main_v122, val_main_v116, val_main_v115, val_main_v114,
    val_main_v113, val_main_v112, val_main_v111, val_main_v98]

/-- The specification's lanes as three pieces, two of them rotated, and the fill. -/
theorem RH_pieces (x g N : Fin 192 → EReal) (c s : Fin 32 → EReal) (w : EReal) (hN : ∀ d, N d = x d * RR x * g d) (j : Fin 256) :
    RH x g c s w j = if hj : j.val < 192 then
        (if h1 : j.val < 128 then N ⟨j.val, hj⟩
         else if h2 : j.val - 128 < 32 then
            N ⟨128 + (j.val - 128), by omega⟩ * c ⟨j.val - 128, by omega⟩ - N ⟨128 + (32 + (j.val - 128)), by omega⟩ * s ⟨j.val - 128, by omega⟩
          else N ⟨128 + (j.val - 128 - 32), by omega⟩ * s ⟨j.val - 128 - 32, by omega⟩
            + N ⟨128 + (32 + (j.val - 128 - 32)), by omega⟩ * c ⟨j.val - 128 - 32, by omega⟩) * w
      else 0 := by
  unfold RH
  by_cases h1 : j.val < 128
  · rw [dif_pos h1, dif_pos (by omega : j.val < 192), dif_pos h1, hN]
  · rw [dif_neg h1]
    by_cases h2 : j.val < 160
    · have a1 : (⟨128 + (j.val - 128), by omega⟩ : Fin 192) = ⟨j.val, by omega⟩ := Fin.ext (by show 128 + (j.val - 128) = j.val; omega)
      have a2 : (⟨128 + (32 + (j.val - 128)), by omega⟩ : Fin 192) = ⟨j.val + 32, by omega⟩ :=
        Fin.ext (by show 128 + (32 + (j.val - 128)) = j.val + 32; omega)
      rw [dif_pos h2, dif_pos (by omega : j.val < 192), dif_neg h1, dif_pos (by omega : j.val - 128 < 32), a1, a2, hN, hN]
    · rw [dif_neg h2]
      by_cases h3 : j.val < 192
      · have a1 : (⟨128 + (j.val - 128 - 32), by omega⟩ : Fin 192) = ⟨j.val - 32, by omega⟩ :=
          Fin.ext (by show 128 + (j.val - 128 - 32) = j.val - 32; omega)
        have a2 : (⟨128 + (32 + (j.val - 128 - 32)), by omega⟩ : Fin 192) = ⟨j.val, by omega⟩ :=
          Fin.ext (by show 128 + (32 + (j.val - 128 - 32)) = j.val; omega)
        have a3 : (⟨j.val - 128 - 32, by omega⟩ : Fin 32) = ⟨j.val - 160, by omega⟩ := Fin.ext (by show j.val - 128 - 32 = j.val - 160; omega)
        rw [dif_pos h3, dif_pos h3, dif_neg h1, dif_neg (by omega : ¬ j.val - 128 < 32), a1, a2, a3, hN, hN]
      · rw [dif_neg h3, dif_neg h3]

/-- The queries, lane by lane of the filled head. -/
theorem q131 (R : Fin 8192) (h : Fin 16) (j : Fin 256) : val_main_v131 (F := Ideal) x0 x2 x3 x4 x7 (ix3 R h j)
    = RH (QX x0 x3 x4 R h) (fun d => x7 (ix1 d)) (fun i => Ideal.cos (ANG x2 R i)) (fun i => Ideal.sin (ANG x2 R i))
      (Ideal.ofBits .f32 0x3DD53B95#32) j := by
  rw [RH_pieces _ _ (fun d => val_main_v51 (F := Ideal) x0 x3 x4 x7 (ix3 R h d)) _ _ _ fun d => q51 x0 x3 x4 x7 R h d]
  unfold val_main_v131
  refine (pad256 _ _ R h j).trans (dite_congr rfl (fun hj => ?_) fun hj => ?_)
  · rw [val_main_v130_apply, val_main_v129_apply]
    refine congrArg₂ (fun a b : EReal => a * b) ?_ rfl
    unfold val_main_v96
    refine (cat192 _ _ R h _).trans (dite_congr rfl (fun h1 => ?_) fun h1 => ?_)
    · rw [val_main_v65_apply]
      exact congrArg _ (by idx_ext)
    · unfold val_main_v95
      exact (cat64 _ _ R h _).trans (dite_congr rfl (fun h2 => q89 x0 x2 x3 x4 x7 R h _) fun h2 => q94 x0 x2 x3 x4 x7 R h _)
  · rw [val_main_call0_v0_apply]
    exact Cert.Kernel8Ideal.Prep.fill

/-- The keys, lane by lane of the filled head. -/
theorem k134 (R : Fin 8192) (h : Fin 16) (j : Fin 256) : val_main_v134 (F := Ideal) x0 x1 x2 x5 x6 x8 (ix3 R h j)
    = RH (KX x0 x1 x5 x6 R h) (fun d => x8 (ix1 d)) (fun i => Ideal.cos (ANG x2 R i)) (fun i => Ideal.sin (ANG x2 R i)) 1 j := by
  rw [RH_pieces _ _ (fun d => val_main_v64 (F := Ideal) x0 x1 x5 x6 x8 (ix3 R h d)) _ _ _ fun d => k64 x0 x1 x5 x6 x8 R h d]
  unfold val_main_v134
  refine (pad256 _ _ R h j).trans (dite_congr rfl (fun hj => ?_) fun hj => ?_)
  · rw [mul_one]
    unfold val_main_v128
    refine (cat192 _ _ R h _).trans (dite_congr rfl (fun h1 => ?_) fun h1 => ?_)
    · rw [val_main_v97_apply]
      exact congrArg _ (by idx_ext)
    · unfold val_main_v127
      exact (cat64 _ _ R h _).trans (dite_congr rfl (fun h2 => k121 x0 x1 x2 x5 x6 x8 R h _) fun h2 => k126 x0 x1 x2 x5 x6 x8 R h _)
  · rw [val_main_call1_v0_apply]
    exact Cert.Kernel8Ideal.Prep.fill

/-- The queries the reference returns. -/
theorem ref1 : val_main_v133 (F := Ideal) x0 x2 x3 x4 x7 = RQ x0 x2 x3 x4 x7 := by
  funext i
  idx_vars i
  rw [val_main_v133_apply, val_main_v132_apply]
  have e : idx_main_v132 (ix2 i0 i1) = ix3 i0 ⟨i1.val / 256, by omega⟩ ⟨i1.val % 256, by omega⟩ := by idx_ext
  rw [e]
  exact q131 x0 x2 x3 x4 x7 i0 _ _

/-- The keys the reference returns. -/
theorem ref2 : val_main_v136 (F := Ideal) x0 x1 x2 x5 x6 x8 = RK x0 x1 x2 x5 x6 x8 := by
  funext i
  idx_vars i
  rw [val_main_v136_apply, val_main_v135_apply]
  have e : idx_main_v135 (ix2 i0 i1) = ix3 i0 ⟨i1.val / 256, by omega⟩ ⟨i1.val % 256, by omega⟩ := by idx_ext
  rw [e]
  exact k134 x0 x1 x2 x5 x6 x8 i0 _ _

/-- The values the reference returns. -/
theorem ref3 : val_main_v138 (F := Ideal) x0 x5 x6 = RV x0 x5 x6 := by
  funext i
  idx_vars i
  rw [val_main_v138_apply, val_main_v137_apply, val_main_v35_apply]
  have e : idx_main_v35 (idx_main_v137 (ix2 i0 i1)) = ix3 i0 ⟨i1.val / 128, by omega⟩ ⟨128 + i1.val % 128, by omega⟩ := by idx_ext
  rw [e]
  refine (kv33 x0 x5 x6 i0 _ _).trans (congrArg (KVX x0 x5 x6 i0) (Fin.ext ?_))
  show 256 * (i1.val / 128) + (128 + i1.val % 128) = 256 * (i1.val / 128) + 128 + i1.val % 128
  omega

end Cert.Reference8Ideal.Prep

end
-- ==== Proof.PrepClaims.lean ====
module

public import proofs.«01_k».proof.Defs
public import proofs.«01_k».proof.Proof.PrepRef
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent

@[expose] public section

set_option maxRecDepth 16384

noncomputable section

open Idealize.ShloMosaic Idealize.ShloMosaic.TcCoe Idealize.SL.Sem

/-! The claims about the preparation of the queries, keys and values. -/

namespace Cert.Kernel8Ideal.Prep

open Cert.Kernel8Ideal Cert.Kernel8Ideal.Gen

variable (m : (ℓ : Loc nD τ sig) → Buf (Elt Ideal) ℓ) (ρ : Dev nD → PrngReg)

abbrev val1 (c : Dev nD) : Buf (Elt Ideal) ((c : Thread nD τ).loc main_v26_0) :=
  RQ (m ((c : Thread nD τ).loc main_arg0)) (m ((c : Thread nD τ).loc main_arg2)) (m ((c : Thread nD τ).loc main_arg3)) (m ((c : Thread nD τ).loc main_arg4)) (m ((c : Thread nD τ).loc main_arg7))
abbrev val2 (c : Dev nD) : Buf (Elt Ideal) ((c : Thread nD τ).loc main_v26_1) :=
  RK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8))
abbrev val3 (c : Dev nD) : Buf (Elt Ideal) ((c : Thread nD τ).loc main_v26_2) :=
  RV (m ((c : Thread nD τ).loc main_arg0)) (m ((c : Thread nD τ).loc main_arg5)) (m ((c : Thread nD τ).loc main_arg6))

theorem run : θ_run defs (onTc (τ := τ) (main (F := Ideal))) ⟨m, fun _ => 0, ρ⟩ fun r => ∀ c : Dev nD,
      r.2.mem ((c : Thread nD τ).loc main_v26_0) = val1 m c
      ∧ r.2.mem ((c : Thread nD τ).loc main_v26_1) = val2 m c
      ∧ r.2.mem ((c : Thread nD τ).loc main_v26_2) = val3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final1 m c), (h c).2.1.trans (final2 m c), (h c).2.2.1.trans (final3 m c),
    (h c).2.2.2⟩) (Value.run_blocks m ρ)

end Cert.Kernel8Ideal.Prep

namespace Cert.Proof.PrepClaims

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

theorem preserves : Cert.preserves_Kernel8_Kernel8Ideal :=
  IdealRules.named_const.statement Cert.Kernel8Ideal.κ "inv_n" .f32 0x3BAAAAAB#32 ((1 / 192 : ℝ) : EReal) rfl

theorem algebraic : Cert.algebraic_Kernel8Ideal_Reference8Ideal := by
  intro m ρ m' ρ' _ hagree
  refine ⟨fun c => Cert.Kernel8Ideal.Prep.val1 m c, fun c => Cert.Kernel8Ideal.Prep.val2 m c, fun c => Cert.Kernel8Ideal.Prep.val3 m c,
    Cert.Kernel8Ideal.Prep.run m ρ, ?_⟩
  refine (θ_run Cert.Reference8Ideal.defs _ _).mono
    (fun _ h c => ⟨(h c).1.trans ?_, (h c).2.1.trans ?_, (h c).2.2.1.trans ?_, (h c).2.2.2⟩)
    (Cert.Reference8Ideal.Value.run (F := Ideal) m' ρ')
  · obtain ⟨a0, a1, a2, a3, a4, a5, a6, a7, a8⟩ := hagree c
    refine (Cert.Reference8Ideal.Read.val_main_v133_eq m' c).trans ?_
    refine (Cert.Reference8Ideal.Prep.ref1 _ _ _ _ _).trans ?_
    rw [a0, a2, a3, a4, a7]
  · obtain ⟨a0, a1, a2, a3, a4, a5, a6, a7, a8⟩ := hagree c
    refine (Cert.Reference8Ideal.Read.val_main_v136_eq m' c).trans ?_
    refine (Cert.Reference8Ideal.Prep.ref2 _ _ _ _ _ _).trans ?_
    rw [a0, a1, a2, a5, a6, a8]
  · obtain ⟨a0, a1, a2, a3, a4, a5, a6, a7, a8⟩ := hagree c
    refine (Cert.Reference8Ideal.Read.val_main_v138_eq _ _ _).trans ?_
    refine (Cert.Reference8Ideal.Prep.ref3 _ _ _).trans ?_
    rw [a0, a5, a6]

end Cert.Proof.PrepClaims

end
-- ==== Proof.ScanGen.lean ====
module

public import proofs.«01_k».proof.Proof.Gen.Kernel9Ideal.Frame
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

/-! One pair of heads of one chunk of the scan, with its slices as arguments: the decayed scores, the scaled inputs,
the output and the next state, and what each is at an index. -/

/-- The scaled inputs of a pair of heads. -/
def genXd (dt0 dt1 : FVec Ideal S128x1 .f32) (x : FVec Ideal S128x128 .bf16) : FVec Ideal S128x128 .f32 :=
  mulf (extf .f32 (shapeCast S128x128 x shapeCasts_S128x128_S128x128) bitsLt_bf16_f32)
    (select k0_pay32
      (broadcastTo S128x128 (shapeCast S128x1 dt0 shapeCasts_S128x1_S128x1) broadcasts_S128x1_S128x128)
      (broadcastTo S128x128 (shapeCast S128x1 dt1 shapeCasts_S128x1_S128x1) broadcasts_S128x1_S128x128))

/-- One head's decayed scores. -/
def genL (col : FVec Ideal S128x1 .f32) (row : FVec Ideal S1x128 .f32) (cb : FVec Ideal S128x128 .f32) :
    FVec Ideal S128x128 .bf16 :=
  truncf .bf16 (mulf (exp (select k0_pay22
    (subf (broadcastTo S128x128 col broadcasts_S128x1_S128x128) (broadcastTo S128x128 row broadcasts_S1x128_S128x128))
    (broadcast S128x128 (Scalar.ofBits .f32 0xFF800000#32)))) cb) bitsLt_bf16_f32

/-- The pair's output. -/
def genY (l0 l1 : FVec Ideal S128x128 .bf16) (xd : FVec Ideal S128x128 .f32) (fs0 fs1 : FVec Ideal S128x1 .f32)
    (cg : FVec Ideal S128x128 .bf16) (st : FVec Ideal S1x128x128 .f32) : FVec Ideal S128x128 .f32 :=
  addf (matmul dot_S128x256_S256x128_S128x128_1_0_0_1_n_n none
      (concatenate S128x256 1 [⟨S128x128, l0⟩, ⟨S128x128, l1⟩] concatenates_S128x128_S128x128_S128x256_d1)
      (truncf .bf16 (concatenate S256x128 0
        [⟨S128x128, select k0_pay32 xd (broadcast S128x128 (Scalar.ofBits (F := Ideal) .f32 0x00000000#32))⟩,
         ⟨S128x128, select k0_pay32 (broadcast S128x128 (Scalar.ofBits (F := Ideal) .f32 0x00000000#32)) xd⟩]
        concatenates_S128x128_S128x128_S256x128_d0) bitsLt_bf16_f32)
      (constant S128x128 .f32 0x00000000#32))
    (mulf (select k0_pay32
        (broadcastTo S128x128 (shapeCast S128x1 fs0 shapeCasts_S128x1_S128x1) broadcasts_S128x1_S128x128)
        (broadcastTo S128x128 (shapeCast S128x1 fs1 shapeCasts_S128x1_S128x1) broadcasts_S128x1_S128x128))
      (matmul dot_S128x128_S128x128_S128x128_1_0_0_1_n_n none cg
        (truncf .bf16 (shapeCast S128x128 st shapeCasts_S1x128x128_S128x128) bitsLt_bf16_f32)
        (constant S128x128 .f32 0x00000000#32)))

/-- The pair's next state. -/
def genS (xd : FVec Ideal S128x128 .f32) (te0 te1 : FVec Ideal S128x1 .f32) (cd0 cd1 : FVec Ideal S1x1 .f32)
    (bg : FVec Ideal S128x128 .bf16) (st : FVec Ideal S1x128x128 .f32) : FVec Ideal S1x128x128 .f32 :=
  shapeCast S1x128x128
    (addf (mulf (shapeCast S128x128 st shapeCasts_S1x128x128_S128x128)
        (broadcastTo S128x128 (select (extractStridedSlice S1x128 ![0, 0] k0_pay32 slices_S128x128_o0_0_S1x128)
          (broadcastTo S1x128 (shapeCast S1x1 cd0 shapeCasts_S1x1_S1x1) broadcasts_S1x1_S1x128)
          (broadcastTo S1x128 (shapeCast S1x1 cd1 shapeCasts_S1x1_S1x1) broadcasts_S1x1_S1x128))
          broadcasts_S1x128_S128x128))
      (matmul dot_S128x128_S128x128_S128x128_0_0_1_1_n_n none bg
        (truncf .bf16 (mulf xd (select k0_pay32
          (broadcastTo S128x128 (shapeCast S128x1 te0 shapeCasts_S128x1_S128x1) broadcasts_S128x1_S128x128)
          (broadcastTo S128x128 (shapeCast S128x1 te1 shapeCasts_S128x1_S128x1) broadcasts_S128x1_S128x128)))
          bitsLt_bf16_f32)
        (constant S128x128 .f32 0x00000000#32)))
    shapeCasts_S128x128_S1x128x128

/-- The word of minus infinity. -/
abbrev NINF : EReal := Ideal.ofBits FTy.f32 4286578688#32

theorem slt64 : ∀ l : Fin 128, IntOp.cmpi .slt (BitVec.ofNat 32 l.val) 64#32 = if l.val < 64 then 1#1 else 0#1 := by
  decide +kernel

/-- The choice between the two heads of a pair. -/
theorem sel64 (l : Fin 128) (a b : EReal) :
    Scalar.select (IntOp.cmpi .slt (BitVec.ofNat 32 l.val) 64#32) a b = if l.val < 64 then a else b := by
  rw [slt64]
  by_cases h : l.val < 64
  · rw [if_pos h, if_pos h]; rfl
  · rw [if_neg h, if_neg h]; rfl

/-- The choice between the past and the future of a step. -/
theorem selLe (k s : Fin 128) (a b : EReal) :
    Scalar.select (IntOp.cmpi .sle (BitVec.ofNat 32 k.val) (BitVec.ofNat 32 s.val)) a b
      = if k.val ≤ s.val then a else b := by
  rw [WordCmp.cmpi_sle_ofNat (by have := k.isLt; omega) (by have := s.isLt; omega)]
  by_cases h : k.val ≤ s.val
  · rw [if_pos h, decide_eq_true h]; rfl
  · rw [if_neg h, decide_eq_false h]; rfl

theorem genXd_apply (dt0 dt1 x) (s l : Fin 128) :
    genXd dt0 dt1 x (ix2 s l)
      = (x (ix2 s l) : EReal) * (if l.val < 64 then dt0 (ix2 s (0 : Fin 1)) else dt1 (ix2 s (0 : Fin 1)) : EReal) := by
  pointwise [genXd, k0_pay32]
  rw [sel64]

theorem genL_apply (col row cb) (s k : Fin 128) :
    genL col row cb (ix2 s k)
      = (Ideal.exp (if k.val ≤ s.val then (col (ix2 s (0 : Fin 1)) : EReal) - row (ix2 (0 : Fin 1) k) else NINF)
          * cb (ix2 s k) : EReal) := by
  pointwise [genL, k0_pay22]
  rw [selLe]

theorem genY_apply (l0 l1 xd fs0 fs1 cg st) (s l : Fin 128) :
    genY l0 l1 xd fs0 fs1 cg st (ix2 s l)
      = ((∑ k : Fin 128, (if l.val < 64 then l0 (ix2 s k) else l1 (ix2 s k) : EReal) * xd (ix2 k l))
          + (if l.val < 64 then fs0 (ix2 s (0 : Fin 1)) else fs1 (ix2 s (0 : Fin 1)) : EReal)
            * (∑ n : Fin 128, (cg (ix2 s n) : EReal) * st (ix3 (0 : Fin 1) n l)) : EReal) := by
  pointwise [genY, k0_pay32]
  simp only [sel64]
  by_cases h : l.val < 64
  · simp only [if_pos h, Finset.sum_const_zero, add_zero]
  · simp only [if_neg h, Finset.sum_const_zero, zero_add]

theorem genS_apply (xd te0 te1 cd0 cd1 bg st) (n l : Fin 128) :
    genS xd te0 te1 cd0 cd1 bg st (ix3 (0 : Fin 1) n l)
      = ((st (ix3 (0 : Fin 1) n l) : EReal)
            * (if l.val < 64 then cd0 (ix2 (0 : Fin 1) (0 : Fin 1)) else cd1 (ix2 (0 : Fin 1) (0 : Fin 1)) : EReal)
          + (∑ s : Fin 128, (bg (ix2 s n) : EReal)
              * (xd (ix2 s l) * (if l.val < 64 then te0 (ix2 s (0 : Fin 1)) else te1 (ix2 s (0 : Fin 1)) : EReal))) : EReal) := by
  pointwise [genS, k0_pay32]
  simp only [sel64]

end Cert.Kernel9Ideal.Scan
end
-- ==== Proof.ScanPieces.lean ====
module

public import proofs.«01_k».proof.Proof.ScanGen
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

/-! What every pair of heads stores, as a rectangle of one function: the block of outputs and the carried states. -/

variable (DT CUM CUMT : FVec Ideal S128x128 .f32) (XBC : FVec Ideal S128x4096 .bf16) (ST : FVec Ideal S16x128x128 .f32)

/-- A column's head, as a lane of the time steps. -/
def lane (q : Fin 16) (l : Fin 128) : Fin 128 :=
  ⟨64 + (2 * q.val + l.val / 64), by have := q.isLt; have := l.isLt; omega⟩

def colX (q : Fin 16) (l : Fin 128) : Fin 4096 := ⟨128 * q.val + l.val, by have := q.isLt; have := l.isLt; omega⟩
def colB (q : Fin 16) (n : Fin 128) : Fin 4096 :=
  ⟨2048 + 128 * (q.val / 2) + n.val, by have := q.isLt; have := n.isLt; omega⟩
def colC (q : Fin 16) (n : Fin 128) : Fin 4096 :=
  ⟨3072 + 128 * (q.val / 2) + n.val, by have := q.isLt; have := n.isLt; omega⟩

/-- A scaled input. -/
def XD (q : Fin 16) (s l : Fin 128) : EReal := (XBC (ix2 s (colX q l)) : EReal) * DT (ix2 s (lane q l))

/-- One entry of the next state. -/
def nextS (q : Fin 16) (n l : Fin 128) : EReal :=
  (ST (ix3 q n l) : EReal) * Ideal.exp (CUM (ix2 (127 : Fin 128) (lane q l)))
    + ∑ s : Fin 128, (XBC (ix2 s (colB q n)) : EReal)
        * (XD DT XBC q s l * Ideal.exp ((CUM (ix2 (127 : Fin 128) (lane q l)) : EReal) - CUM (ix2 s (lane q l))))

/-- One entry of the output. -/
def outY (q : Fin 16) (s l : Fin 128) : EReal :=
  (∑ k : Fin 128, (Ideal.exp (if k.val ≤ s.val then (CUM (ix2 s (lane q l)) : EReal) - CUMT (ix2 (lane q l) k) else NINF)
      * ∑ n : Fin 128, (XBC (ix2 s (colC q n)) : EReal) * XBC (ix2 k (colB q n))) * XD DT XBC q k l)
    + Ideal.exp (CUM (ix2 s (lane q l))) * ∑ n : Fin 128, (XBC (ix2 s (colC q n)) : EReal) * ST (ix3 q n l)

/-- The next states. -/
def TS : FVec Ideal S16x128x128 .f32 := fun y => nextS DT CUM XBC ST (y 0) (y 1) (y 2)

/-- The block of outputs. -/
def TY : FVec Ideal S128x2048 .f32 := fun y =>
  outY DT CUM CUMT XBC ST ⟨(y 1).val / 128, by have h : (y 1).val < 2048 := (y 1).isLt; omega⟩ (y 0)
    ⟨(y 1).val % 128, by omega⟩

theorem te_apply (s k : Fin 128) :
    k0_pay29 CUM (ix2 s k) = (Ideal.exp ((CUM (ix2 (127 : Fin 128) k) : EReal) - CUM (ix2 s k)) : EReal) := by
  pointwise [k0_pay29, k0_pay28]

theorem fs_apply (s k : Fin 128) : k0_pay30 CUM (ix2 s k) = (Ideal.exp (CUM (ix2 s k)) : EReal) := by
  pointwise [k0_pay30]

theorem cd_apply (k : Fin 128) : k0_pay31 CUM (ix2 (0 : Fin 1) k) = (Ideal.exp (CUM (ix2 (127 : Fin 128) k)) : EReal) := by
  pointwise [k0_pay31, k0_pay28]

/-- A choice between the two heads of a pair is a choice of lane. -/
theorem lane_sel (f : Fin 128 → EReal) (q : Fin 16) (l a b : Fin 128) (ha : a.val = 64 + 2 * q.val)
    (hb : b.val = 65 + 2 * q.val) : (if l.val < 64 then f a else f b) = f (lane q l) := by
  have hl := l.isLt
  by_cases h : l.val < 64
  · rw [if_pos h]
    exact congrArg f (Fin.ext (by show a.val = 64 + (2 * q.val + l.val / 64); omega))
  · rw [if_neg h]
    exact congrArg f (Fin.ext (by show b.val = 64 + (2 * q.val + l.val / 64); omega))

theorem slice1 (A : FVec Ideal S128x128 .f32) (o : Nat) (h) (s : Fin 128) (ho : o < 128) :
    extractStridedSlice S128x1 ![0, o] A h (ix2 s (0 : Fin 1)) = A (ix2 s ⟨o, ho⟩) := by
  pointwise []

theorem slice2 (A : FVec Ideal S128x128 .f32) (o : Nat) (h) (s : Fin 128) (ho : o < 128) :
    extractStridedSlice S1x128 ![o, 0] A h (ix2 (0 : Fin 1) s) = A (ix2 ⟨o, ho⟩ s) := by
  pointwise []

theorem slice3 (A : FVec Ideal S1x128 .f32) (o : Nat) (h) (ho : o < 128) :
    extractStridedSlice S1x1 ![0, o] A h (ix2 (0 : Fin 1) (0 : Fin 1)) = A (ix2 (0 : Fin 1) ⟨o, ho⟩) := by
  pointwise []

/-- The block of columns from `o`. -/
def blkX (o : Nat) (h : ∀ a, (![0, o] : Fin 2 → ℕ) a + (![128, 128] : Fin 2 → ℕ) a ≤ S128x4096.size a) :
    FVec Ideal S128x128 .bf16 := fun j => XBC ((Rect.unit (s := S128x4096) ![0, o] ![128, 128] h).idx j)

theorem blkX_apply (o : Nat) (h) (s l : Fin 128) (k : Fin 4096) (hk : k.val = o + l.val) :
    blkX XBC o h (ix2 s l) = XBC (ix2 s k) := by
  unfold blkX
  refine congrArg XBC ?_
  funext a
  apply Fin.ext
  fin_cases a
  · show 0 + 1 * s.val = s.val
    omega
  · show o + 1 * l.val = k.val
    omega

/-- The state of one pair. -/
def blkS (q : Nat) (h : ∀ a, (![q, 0, 0] : Fin 3 → ℕ) a + (![1, 128, 128] : Fin 3 → ℕ) a ≤ S16x128x128.size a) :
    FVec Ideal S1x128x128 .f32 := fun j => ST ((Rect.unit (s := S16x128x128) ![q, 0, 0] ![1, 128, 128] h).idx j)

theorem blkS_apply (q : Fin 16) (h) (n l : Fin 128) : blkS ST q.val h (ix3 (0 : Fin 1) n l) = ST (ix3 q n l) := by
  unfold blkS
  refine congrArg ST ?_
  funext a
  apply Fin.ext
  fin_cases a
  · show q.val + 1 * 0 = q.val
    omega
  · show 0 + 1 * n.val = n.val
    omega
  · show 0 + 1 * l.val = l.val
    omega

/-- A pair's scaled inputs, sliced out of their blocks. -/
abbrev pairXd (o o' ox : Nat) (h : S128x128.Slices ![0, o] S128x1) (h' : S128x128.Slices ![0, o'] S128x1)
    (hx : ∀ a, (![0, ox] : Fin 2 → ℕ) a + (![128, 128] : Fin 2 → ℕ) a ≤ S128x4096.size a) : FVec Ideal S128x128 .f32 :=
  genXd (extractStridedSlice S128x1 ![0, o] DT h) (extractStridedSlice S128x1 ![0, o'] DT h') (blkX XBC ox hx)

theorem pairXd_apply (q : Fin 16) (o o' ox : Nat) (h h' hx) (ho : o = 64 + 2 * q.val) (ho' : o' = 65 + 2 * q.val)
    (hox : ox = 128 * q.val) (s l : Fin 128) : pairXd DT XBC o o' ox h h' hx (ix2 s l) = XD DT XBC q s l := by
  have hq := q.isLt
  rw [pairXd, genXd_apply, blkX_apply XBC ox hx s l (colX q l) (by show 128 * q.val + l.val = _; omega),
    slice1 DT o h s (by omega), slice1 DT o' h' s (by omega)]
  unfold XD
  rw [← lane_sel (fun k => DT (ix2 s k)) q l ⟨o, by omega⟩ ⟨o', by omega⟩ ho ho']

/-- What a pair stores as its next state. -/
theorem pieceS (q o o' ox ob : Nat) (hq : q < 16) (ho : o = 64 + 2 * q) (ho' : o' = 65 + 2 * q) (hox : ox = 128 * q)
    (hob : ob = 2048 + 128 * (q / 2)) (h h' hx hb h1 h1' h2 h2' hs)
    (he : ∀ a, (![q, 0, 0] : Fin 3 → ℕ) a + (![1, 128, 128] : Fin 3 → ℕ) a ≤ S16x128x128.size a)
    (x : S1x128x128.Idx) :
    genS (pairXd DT XBC o o' ox h h' hx)
        (extractStridedSlice S128x1 ![0, o] (k0_pay29 CUM) h1) (extractStridedSlice S128x1 ![0, o'] (k0_pay29 CUM) h1')
        (extractStridedSlice S1x1 ![0, o] (k0_pay31 CUM) h2) (extractStridedSlice S1x1 ![0, o'] (k0_pay31 CUM) h2')
        (shapeCast S128x128 (blkX XBC ob hb) shapeCasts_S128x128_S128x128) (blkS ST q hs) x
      = TS DT CUM XBC ST ((Rect.unit (s := S16x128x128) ![q, 0, 0] ![1, 128, 128] he).emb x) := by
  obtain ⟨Q, rfl⟩ : ∃ Q : Fin 16, Q.val = q := ⟨⟨q, hq⟩, rfl⟩
  have e : TS DT CUM XBC ST ((Rect.unit (s := S16x128x128) ![Q.val, 0, 0] ![1, 128, 128] he).emb x)
      = nextS DT CUM XBC ST Q (x 1) (x 2) := by
    unfold TS
    congr 1
    · apply Fin.ext
      have h0 : (x 0).val < 1 := (x 0).isLt
      show Q.val + 1 * (x 0).val = Q.val
      omega
    · apply Fin.ext
      show 0 + 1 * (x 1).val = (x 1).val
      omega
    · apply Fin.ext
      show 0 + 1 * (x 2).val = (x 2).val
      omega
  rw [e]
  clear e
  idx_vars x
  have hz : x0 = 0 := Subsingleton.elim _ _
  subst hz
  show _ = nextS DT CUM XBC ST Q x1 x2
  have hQ := Q.isLt
  rw [genS_apply, blkS_apply]
  unfold nextS
  refine congrArg₂ (fun a b : EReal => a + b) ?_ (Finset.sum_congr (M := EReal) rfl fun s _ => ?_)
  · refine congrArg₂ (fun a b : EReal => a * b) rfl ?_
    rw [slice3 _ o h2 (by omega), slice3 _ o' h2' (by omega), cd_apply, cd_apply]
    exact lane_sel (fun k => Ideal.exp (CUM (ix2 (127 : Fin 128) k))) Q x2 ⟨o, by omega⟩ ⟨o', by omega⟩ ho ho'
  · rw [pairXd_apply DT XBC Q o o' ox h h' hx ho ho' hox, slice1 _ o h1 s (by omega), slice1 _ o' h1' s (by omega),
      te_apply, te_apply]
    refine congrArg₂ (fun a b : EReal => a * b) ?_ (congrArg₂ (fun a b : EReal => a * b) rfl ?_)
    · rw [shapeCast_self]
      exact blkX_apply XBC ob hb s x1 (colB Q x1) (by show 2048 + 128 * (Q.val / 2) + x1.val = _; omega)
    · exact lane_sel (fun k => Ideal.exp ((CUM (ix2 (127 : Fin 128) k) : EReal) - CUM (ix2 s k))) Q x2 ⟨o, by omega⟩
        ⟨o', by omega⟩ ho ho'

/-- The scores of a group. -/
abbrev pairCB (cg bg : FVec Ideal S128x128 .bf16) : FVec Ideal S128x128 .f32 :=
  matmul dot_S128x128_S128x128_S128x128_1_1_0_0_n_n none (shapeCast S128x128 cg shapeCasts_S128x128_S128x128)
    (shapeCast S128x128 bg shapeCasts_S128x128_S128x128) (constant S128x128 .f32 0x00000000#32)

theorem pairCB_apply (cg bg) (s k : Fin 128) :
    pairCB cg bg (ix2 s k) = (∑ n : Fin 128, (cg (ix2 s n) : EReal) * bg (ix2 k n) : EReal) := by
  pointwise [pairCB]

/-- What a pair stores as its outputs. -/
theorem pieceY (q o o' ox ob oc : Nat) (hq : q < 16) (ho : o = 64 + 2 * q) (ho' : o' = 65 + 2 * q) (hox : ox = 128 * q)
    (hob : ob = 2048 + 128 * (q / 2)) (hoc : oc = 3072 + 128 * (q / 2)) (h h' hx hb hc h1 h1' h2 h2' h3 h3' hs)
    (he : ∀ a, (![0, ox] : Fin 2 → ℕ) a + (![128, 128] : Fin 2 → ℕ) a ≤ S128x2048.size a)
    (x : S128x128.Idx) :
    shapeCast S128x128
        (genY
          (genL (extractStridedSlice S128x1 ![0, o] CUM h1) (extractStridedSlice S1x128 ![o, 0] CUMT h2)
            (pairCB (blkX XBC oc hc) (blkX XBC ob hb)))
          (genL (extractStridedSlice S128x1 ![0, o'] CUM h1') (extractStridedSlice S1x128 ![o', 0] CUMT h2')
            (pairCB (blkX XBC oc hc) (blkX XBC ob hb)))
          (pairXd DT XBC o o' ox h h' hx)
          (extractStridedSlice S128x1 ![0, o] (k0_pay30 CUM) h3) (extractStridedSlice S128x1 ![0, o'] (k0_pay30 CUM) h3')
          (shapeCast S128x128 (blkX XBC oc hc) shapeCasts_S128x128_S128x128) (blkS ST q hs))
        shapeCasts_S128x128_S128x128 x
      = TY DT CUM CUMT XBC ST ((Rect.unit (s := S128x2048) ![0, ox] ![128, 128] he).emb x) := by
  obtain ⟨Q, rfl⟩ : ∃ Q : Fin 16, Q.val = q := ⟨⟨q, hq⟩, rfl⟩
  have e : TY DT CUM CUMT XBC ST ((Rect.unit (s := S128x2048) ![0, ox] ![128, 128] he).emb x)
      = outY DT CUM CUMT XBC ST Q (x 0) (x 1) := by
    have h1 : (x 1).val < 128 := (x 1).isLt
    unfold TY
    congr 1
    · apply Fin.ext
      show (ox + 1 * (x 1).val) / 128 = Q.val
      omega
    · apply Fin.ext
      show 0 + 1 * (x 0).val = (x 0).val
      omega
    · apply Fin.ext
      show (ox + 1 * (x 1).val) % 128 = (x 1).val
      omega
  rw [e, shapeCast_self]
  clear e
  idx_vars x
  show _ = outY DT CUM CUMT XBC ST Q x0 x1
  have hQ := Q.isLt
  have hB : ∀ k n : Fin 128, blkX XBC ob hb (ix2 k n) = XBC (ix2 k (colB Q n)) := fun k n =>
    blkX_apply XBC ob hb k n (colB Q n) (by show 2048 + 128 * (Q.val / 2) + n.val = _; omega)
  have hC : ∀ k n : Fin 128, blkX XBC oc hc (ix2 k n) = XBC (ix2 k (colC Q n)) := fun k n =>
    blkX_apply XBC oc hc k n (colC Q n) (by show 3072 + 128 * (Q.val / 2) + n.val = _; omega)
  rw [genY_apply]
  unfold outY
  refine congrArg₂ (fun a b : EReal => a + b) (Finset.sum_congr (M := EReal) rfl fun k _ => ?_)
    (congrArg₂ (fun a b : EReal => a * b) ?_ (Finset.sum_congr (M := EReal) rfl fun n _ => ?_))
  · rw [pairXd_apply DT XBC Q o o' ox h h' hx ho ho' hox, genL_apply, genL_apply, pairCB_apply,
      slice1 _ o h1 x0 (by omega), slice1 _ o' h1' x0 (by omega), slice2 _ o h2 k (by omega), slice2 _ o' h2' k (by omega)]
    refine congrArg₂ (fun a b : EReal => a * b) ?_ rfl
    refine (lane_sel (fun j => Ideal.exp (if k.val ≤ x0.val then (CUM (ix2 x0 j) : EReal) - CUMT (ix2 j k) else NINF)
      * ∑ n : Fin 128, (blkX XBC oc hc (ix2 x0 n) : EReal) * blkX XBC ob hb (ix2 k n)) Q x1 ⟨o, by omega⟩
        ⟨o', by omega⟩ ho ho').trans ?_
    refine congrArg₂ (fun a b : EReal => a * b) rfl (Finset.sum_congr (M := EReal) rfl fun n _ => ?_)
    rw [hB, hC]
  · rw [slice1 _ o h3 x0 (by omega), slice1 _ o' h3' x0 (by omega), fs_apply, fs_apply]
    exact lane_sel (fun k => Ideal.exp (CUM (ix2 x0 k))) Q x1 ⟨o, by omega⟩ ⟨o', by omega⟩ ho ho'
  · rw [shapeCast_self, hC, blkS_apply]

end Cert.Kernel9Ideal.Scan
end
-- ==== Proof.ScanConv.lean ====
module

public import proofs.«01_k».proof.Proof.ScanPieces
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

/-! The chunk's rows between their two halos, and the convolution over them. -/

variable (i : grid0.Coords) (x0 : FVec Ideal S128x4096 .bf16) (x1 x2 : FVec Ideal S16x4096 .bf16)
  (E : FVec Ideal S144x4096 .f32) (w : FVec Ideal S5x4096 .f32) (b : FVec Ideal S1x4096 .f32)

/-- A row before the chunk: zero when the chunk is the first. -/
def rowP (r : Fin 8) (k : Fin 4096) : EReal :=
  Scalar.select (Scalar.cmpi .eq (BitVec.ofNat 32 (i 1).val) 0#32) 0
    (x1 (ix2 ⟨8 + r.val, by have := r.isLt; omega⟩ k))

/-- A row after the chunk: zero when the chunk is the last. -/
def rowN (r : Fin 8) (k : Fin 4096) : EReal :=
  Scalar.select (Scalar.cmpi .eq (BitVec.ofNat 32 (i 1).val) 15#32) 0
    (x2 (ix2 ⟨r.val, by have := r.isLt; omega⟩ k))

/-- The rows of the chunk with eight rows on either side. -/
def rowE (r : Fin 144) (k : Fin 4096) : EReal :=
  if h : r.val < 8 then rowP i x1 ⟨r.val, h⟩ k
  else if h' : r.val < 136 then x0 (ix2 ⟨r.val - 8, by omega⟩ k)
  else rowN i x2 ⟨r.val - 136, by have := r.isLt; omega⟩ k

def TE : FVec Ideal S144x4096 .f32 := fun y => rowE i x0 x1 x2 (y 0) (y 1)

theorem pieceP (h : ∀ a, (![0, 0] : Fin 2 → ℕ) a + (![8, 4096] : Fin 2 → ℕ) a ≤ S144x4096.size a) (z : S8x4096.Idx) :
    k0_pay3 (F := Ideal) i x1 z = TE i x0 x1 x2 ((Rect.unit (s := S144x4096) ![0, 0] ![8, 4096] h).emb z) := by
  have e : TE i x0 x1 x2 ((Rect.unit (s := S144x4096) ![0, 0] ![8, 4096] h).emb z) = rowP i x1 (z 0) (z 1) := by
    have h0 : (z 0).val < 8 := (z 0).isLt
    unfold TE rowE
    rw [dif_pos (by show 0 + 1 * (z 0).val < 8; omega)]
    congr 1
    · apply Fin.ext
      show 0 + 1 * (z 0).val = (z 0).val
      omega
    · apply Fin.ext
      show 0 + 1 * (z 1).val = (z 1).val
      omega
  rw [e]
  clear e
  idx_vars z
  show _ = rowP i x1 z0 z1
  unfold rowP
  pointwise [k0_pay3]

theorem pieceN (h : ∀ a, (![136, 0] : Fin 2 → ℕ) a + (![8, 4096] : Fin 2 → ℕ) a ≤ S144x4096.size a) (z : S8x4096.Idx) :
    k0_pay5 (F := Ideal) i x2 z = TE i x0 x1 x2 ((Rect.unit (s := S144x4096) ![136, 0] ![8, 4096] h).emb z) := by
  have e : TE i x0 x1 x2 ((Rect.unit (s := S144x4096) ![136, 0] ![8, 4096] h).emb z) = rowN i x2 (z 0) (z 1) := by
    have h0 : (z 0).val < 8 := (z 0).isLt
    unfold TE rowE
    rw [dif_neg (by show ¬136 + 1 * (z 0).val < 8; omega), dif_neg (by show ¬136 + 1 * (z 0).val < 136; omega)]
    congr 1
    · apply Fin.ext
      show 136 + 1 * (z 0).val - 136 = (z 0).val
      omega
    · apply Fin.ext
      show 0 + 1 * (z 1).val = (z 1).val
      omega
  rw [e]
  clear e
  idx_vars z
  show _ = rowN i x2 z0 z1
  unfold rowN
  pointwise [k0_pay5]

theorem pieceM (h : ∀ a, (![8, 0] : Fin 2 → ℕ) a + (![128, 4096] : Fin 2 → ℕ) a ≤ S144x4096.size a) (z : S128x4096.Idx) :
    k0_pay4 (F := Ideal) x0 z = TE i x0 x1 x2 ((Rect.unit (s := S144x4096) ![8, 0] ![128, 4096] h).emb z) := by
  have e : TE i x0 x1 x2 ((Rect.unit (s := S144x4096) ![8, 0] ![128, 4096] h).emb z) = (x0 (ix2 (z 0) (z 1)) : EReal) := by
    have h0 : (z 0).val < 128 := (z 0).isLt
    unfold TE rowE
    rw [dif_neg (by show ¬8 + 1 * (z 0).val < 8; omega), dif_pos (by show 8 + 1 * (z 0).val < 136; omega)]
    refine congrArg x0 ?_
    congr 1
    · apply Fin.ext
      show 8 + 1 * (z 0).val - 8 = (z 0).val
      omega
    · apply Fin.ext
      show 0 + 1 * (z 1).val = (z 1).val
      omega
  rw [e]
  clear e
  idx_vars z
  show _ = (x0 (ix2 z0 z1) : EReal)
  pointwise [k0_pay4]

/-- A row number moved by up to four rows. -/
def rsh (s : Fin 128) (k : Nat) (hk : k ≤ 4) : Fin 144 := ⟨6 + k + s.val, by have := s.isLt; omega⟩

/-- The convolution with its bias. -/
def convE (s : Fin 128) (k : Fin 4096) : EReal :=
  ((((b (ix2 (0 : Fin 1) k) + w (ix2 (0 : Fin 5) k) * E (ix2 (rsh s 0 (by omega)) k))
    + w (ix2 (1 : Fin 5) k) * E (ix2 (rsh s 1 (by omega)) k))
    + w (ix2 (2 : Fin 5) k) * E (ix2 (rsh s 2 (by omega)) k))
    + w (ix2 (3 : Fin 5) k) * E (ix2 (rsh s 3 (by omega)) k))
    + w (ix2 (4 : Fin 5) k) * E (ix2 (rsh s 4 (by omega)) k)

def TX : FVec Ideal S128x4096 .bf16 := fun y =>
  (convE E w b (y 0) (y 1) * Ideal.logistic (convE E w b (y 0) (y 1)) : EReal)

/-- A block of 512 columns of the convolution, from its slices. -/
def genC (v0 u0 : FVec Ideal S1x512 .f32) (e0 : FVec Ideal S128x512 .f32) (u1 : FVec Ideal S1x512 .f32)
    (e1 : FVec Ideal S128x512 .f32) (u2 : FVec Ideal S1x512 .f32) (e2 : FVec Ideal S128x512 .f32)
    (u3 : FVec Ideal S1x512 .f32) (e3 : FVec Ideal S128x512 .f32) (u4 : FVec Ideal S1x512 .f32)
    (e4 : FVec Ideal S128x512 .f32) : FVec Ideal S128x512 .f32 :=
  let up := fun u : FVec Ideal S1x512 .f32 =>
    broadcastTo S128x512 (shapeCast S1x512 u shapeCasts_S1x512_S1x512) broadcasts_S1x512_S128x512
  addf (addf (addf (addf (addf (up v0) (mulf (up u0) e0)) (mulf (up u1) e1)) (mulf (up u2) e2)) (mulf (up u3) e3))
    (mulf (up u4) e4)

/-- The block through its activation. -/
def genA (a : FVec Ideal S128x512 .f32) : FVec Ideal S128x512 .bf16 :=
  truncf .bf16 (mulf a (logistic a)) bitsLt_bf16_f32

def ldW (k o : Nat) (h : ∀ a, (![k, o] : Fin 2 → ℕ) a + (![1, 512] : Fin 2 → ℕ) a ≤ S5x4096.size a) :
    FVec Ideal S1x512 .f32 := fun j => w ((Rect.unit (s := S5x4096) ![k, o] ![1, 512] h).idx j)
def ldB (o : Nat) (h : ∀ a, (![0, o] : Fin 2 → ℕ) a + (![1, 512] : Fin 2 → ℕ) a ≤ S1x4096.size a) :
    FVec Ideal S1x512 .f32 := fun j => b ((Rect.unit (s := S1x4096) ![0, o] ![1, 512] h).idx j)
def ldE (k o : Nat) (h : ∀ a, (![k, o] : Fin 2 → ℕ) a + (![128, 512] : Fin 2 → ℕ) a ≤ S144x4096.size a) :
    FVec Ideal S128x512 .f32 := fun j => E ((Rect.unit (s := S144x4096) ![k, o] ![128, 512] h).idx j)

theorem ldW_apply (n : Nat) (k : Fin 5) (hk : k.val = n) (o : Nat) (h) (l : Fin 512) (c : Fin 4096)
    (hc : c.val = o + l.val) : ldW w n o h (ix2 (0 : Fin 1) l) = w (ix2 k c) := by
  subst hk
  unfold ldW
  refine congrArg w ?_
  funext a
  apply Fin.ext
  fin_cases a
  · show k.val + 1 * 0 = k.val
    omega
  · show o + 1 * l.val = c.val
    omega

theorem ldB_apply (o : Nat) (h) (l : Fin 512) (c : Fin 4096) (hc : c.val = o + l.val) :
    ldB b o h (ix2 (0 : Fin 1) l) = b (ix2 (0 : Fin 1) c) := by
  unfold ldB
  refine congrArg b ?_
  funext a
  apply Fin.ext
  fin_cases a
  · rfl
  · show o + 1 * l.val = c.val
    omega

theorem ldE_apply (k o : Nat) (h) (s : Fin 128) (l : Fin 512) (r : Fin 144) (c : Fin 4096) (hr : r.val = k + s.val)
    (hc : c.val = o + l.val) : ldE E k o h (ix2 s l) = E (ix2 r c) := by
  unfold ldE
  refine congrArg E ?_
  funext a
  apply Fin.ext
  fin_cases a
  · show k + 1 * s.val = r.val
    omega
  · show o + 1 * l.val = c.val
    omega

theorem pieceX (o : Nat) (hv h0 g0 h1 g1 h2 g2 h3 g3 h4 g4)
    (he : ∀ a, (![0, o] : Fin 2 → ℕ) a + (![128, 512] : Fin 2 → ℕ) a ≤ S128x4096.size a) (z : S128x512.Idx) :
    genA (genC (ldB b o hv) (ldW w 0 o h0) (ldE E 6 o g0) (ldW w 1 o h1) (ldE E 7 o g1) (ldW w 2 o h2) (ldE E 8 o g2)
        (ldW w 3 o h3) (ldE E 9 o g3) (ldW w 4 o h4) (ldE E 10 o g4)) z
      = TX E w b ((Rect.unit (s := S128x4096) ![0, o] ![128, 512] he).emb z) := by
  have ho := he 1
  replace ho : o + 512 ≤ 4096 := ho
  have hz1 : (z 1).val < 512 := (z 1).isLt
  have e : TX E w b ((Rect.unit (s := S128x4096) ![0, o] ![128, 512] he).emb z)
      = (convE E w b (z 0) ⟨o + (z 1).val, by omega⟩ * Ideal.logistic (convE E w b (z 0) ⟨o + (z 1).val, by omega⟩) : EReal) := by
    unfold TX
    have e0 : ((Rect.unit (s := S128x4096) ![0, o] ![128, 512] he).emb z) 0 = z 0 := by
      apply Fin.ext
      show 0 + 1 * (z 0).val = (z 0).val
      omega
    have e1 : ((Rect.unit (s := S128x4096) ![0, o] ![128, 512] he).emb z) 1 = (⟨o + (z 1).val, by omega⟩ : Fin 4096) := by
      apply Fin.ext
      show o + 1 * (z 1).val = o + (z 1).val
      omega
    rw [e0, e1]
  rw [e]
  clear e
  idx_vars z
  have hc : (⟨o + z1.val, by omega⟩ : Fin 4096).val = o + z1.val := rfl
  show _ = (convE E w b z0 ⟨o + z1.val, _⟩ * Ideal.logistic (convE E w b z0 ⟨o + z1.val, _⟩) : EReal)
  generalize (⟨o + z1.val, by omega⟩ : Fin 4096) = C at hc ⊢
  have q : ∀ (v0 u0 e0 u1 e1 u2 e2 u3 e3 u4 e4), genC v0 u0 e0 u1 e1 u2 e2 u3 e3 u4 e4 (ix2 z0 z1)
      = (((((v0 (ix2 (0 : Fin 1) z1) + u0 (ix2 (0 : Fin 1) z1) * e0 (ix2 z0 z1)) + u1 (ix2 (0 : Fin 1) z1) * e1 (ix2 z0 z1))
        + u2 (ix2 (0 : Fin 1) z1) * e2 (ix2 z0 z1)) + u3 (ix2 (0 : Fin 1) z1) * e3 (ix2 z0 z1))
        + u4 (ix2 (0 : Fin 1) z1) * e4 (ix2 z0 z1) : EReal) := by
    intro v0 u0 e0 u1 e1 u2 e2 u3 e3 u4 e4
    pointwise [genC]
  have q' : ∀ a, genA a (ix2 z0 z1) = (a (ix2 z0 z1) * Ideal.logistic (a (ix2 z0 z1)) : EReal) := by
    intro a
    pointwise [genA]
  rw [q', q, ldB_apply b o hv z1 C hc, ldW_apply w 0 (0 : Fin 5) rfl o h0 z1 C hc, ldW_apply w 1 (1 : Fin 5) rfl o h1 z1 C hc,
    ldW_apply w 2 (2 : Fin 5) rfl o h2 z1 C hc, ldW_apply w 3 (3 : Fin 5) rfl o h3 z1 C hc, ldW_apply w 4 (4 : Fin 5) rfl o h4 z1 C hc,
    ldE_apply E 6 o g0 z0 z1 (rsh z0 0 (by omega)) C rfl hc, ldE_apply E 7 o g1 z0 z1 (rsh z0 1 (by omega)) C rfl hc,
    ldE_apply E 8 o g2 z0 z1 (rsh z0 2 (by omega)) C rfl hc, ldE_apply E 9 o g3 z0 z1 (rsh z0 3 (by omega)) C rfl hc,
    ldE_apply E 10 o g4 z0 z1 (rsh z0 4 (by omega)) C rfl hc]
  rfl

end Cert.Kernel9Ideal.Scan
end
-- ==== Proof.ScanCaseA.lean ====
module

public import proofs.«01_k».proof.Proof.ScanConv
public import Idealize.ShloMosaic.Lib.Pointwise
public import Idealize.ShloMosaic.Lib.Pipeline.ReadBack
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

/-! What the kernel leaves at a batch's first chunk: the scratch rows, the convolved block, the outputs and the carried states, each
as one function of the blocks it read. -/

variable (c : Dev nD) (i : grid0.Coords) (arg2 : Memref sig .tc .vmem S128x4096 .bf16) (harg2 : arg2.IsWhole) (arg3 : Memref sig .tc .vmem S16x4096
  .bf16) (harg3 : arg3.IsWhole) (arg4 : Memref sig .tc .vmem S16x4096 .bf16) (harg4 : arg4.IsWhole) (arg5 :
  Memref sig .tc .vmem S128x128 .f32) (harg5 : arg5.IsWhole) (arg6 : Memref sig .tc .vmem S128x128 .f32) (harg6
  : arg6.IsWhole) (arg7 : Memref sig .tc .vmem S5x4096 .f32) (harg7 : arg7.IsWhole) (arg8 : Memref sig .tc .vmem
  S1x4096 .f32) (harg8 : arg8.IsWhole) (arg9 : Memref sig .tc .vmem S1x128 .f32) (harg9 : arg9.IsWhole) (arg10 :
  Memref sig .tc .vmem S1x128 .f32) (harg10 : arg10.IsWhole) (arg11 : Memref sig .tc .vmem S128x1 .f32) (harg11
  : arg11.IsWhole) (arg12 : Memref sig .tc .vmem S128x1 .f32) (harg12 : arg12.IsWhole) (arg13 : Memref sig .tc
  .vmem S128x2048 .f32) (harg13 : arg13.IsWhole) (arg14 : Memref sig .tc .vmem S128x4096 .bf16) (harg14 :
  arg14.IsWhole) (arg15 : Memref sig .tc .vmem S144x4096 .f32) (harg15 : arg15.IsWhole) (arg16 : Memref sig .tc
  .vmem S128x2048 .f32) (harg16 : arg16.IsWhole) (arg17 : Memref sig .tc .vmem S16x128x128 .f32) (harg17 :
  arg17.IsWhole)
  (hc0 : cond0_0 i)
  (x0 : FVec Ideal S128x4096 .bf16) (x1 : FVec Ideal S16x4096 .bf16) (x2 : FVec Ideal S16x4096 .bf16) (x3 : FVec
  Ideal S128x128 .f32) (x4 : FVec Ideal S128x128 .f32) (x5 : FVec Ideal S5x4096 .f32) (x6 : FVec Ideal S1x4096
  .f32) (x7 : FVec Ideal S1x128 .f32) (x8 : FVec Ideal S1x128 .f32) (x9 : FVec Ideal S128x1 .f32) (x10 : FVec
  Ideal S128x1 .f32)

private theorem hz2 : (![0, 0] : Fin 2 → Nat) = fun _ => 0 := funext fun a => by fin_cases a <;> rfl

/-- The run of the body at these blocks. -/
abbrev runA := kernelRun0_A (F := Ideal) c i
  arg2 harg2 arg3 harg3 arg4 harg4 arg5 harg5 arg6 harg6 arg7 harg7 arg8 harg8 arg9 harg9 arg10 harg10
  arg11 harg11 arg12 harg12 arg13 harg13 arg14 harg14 arg15 harg15 arg16 harg16 arg17 harg17
  hc0 x0 x1 x2 x3 x4 x5 x6 x7 x8 x9 x10

theorem extA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).2.2.2.1 = TE i x0 x1 x2 := by
  funext y
  refine View.canon_apply_of_pieces (Val := Elt Ideal) (e := .f32) (TE i x0 x1 x2) _ ?_ y ?_
  · unfold runA kernelRun0_A
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread]
    simp only [View.ld_unit_zero (S := S128x4096) hz2, View.ld_unit_zero (S := S16x4096) hz2]
    simp only [List.forall_mem_cons]
    refine ⟨fun x => ?_, fun x => ?_, fun x => ?_, fun p hp => absurd hp List.not_mem_nil⟩
    · exact pieceN i x0 x1 x2 _ x
    · exact pieceM i x0 x1 x2 _ x
    · exact pieceP i x0 x1 x2 _ x
  · exact View.cover_of_tiledBy _ ![8, 4096] (by sl_kernel_rfl) y

theorem xbcA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).2.1 = TX (TE i x0 x1 x2) x5 x6 := by
  have hE := extA c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10
  funext y
  refine View.canon_apply_of_pieces (Val := Elt Ideal) (e := .bf16) (TX (TE i x0 x1 x2) x5 x6) _ ?_ y (cover0_A_12 (F := Ideal) c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 y)
  revert hE
  unfold runA kernelRun0_A
  dsimp only
  sl_unfold_words
  intro hE
  simp only [View.readCov_eq_canon']
  rw [hE]
  clear hE
  simp only [View.readAt_eq_ld, harg2.read_unread, harg3.read_unread, harg4.read_unread, harg5.read_unread, harg6.read_unread, harg7.read_unread, harg8.read_unread, harg9.read_unread, harg10.read_unread, harg11.read_unread, harg12.read_unread]
  generalize TE i x0 x1 x2 = E
  simp only [List.forall_mem_cons]
  refine ⟨fun x => ?_, fun x => ?_, fun x => ?_, fun x => ?_, fun x => ?_, fun x => ?_, fun x => ?_, fun x => ?_, fun p hp => absurd hp List.not_mem_nil⟩
  · exact pieceX E x5 x6 3584 _ _ _ _ _ _ _ _ _ _ _ _ x
  · exact pieceX E x5 x6 3072 _ _ _ _ _ _ _ _ _ _ _ _ x
  · exact pieceX E x5 x6 2560 _ _ _ _ _ _ _ _ _ _ _ _ x
  · exact pieceX E x5 x6 2048 _ _ _ _ _ _ _ _ _ _ _ _ x
  · exact pieceX E x5 x6 1536 _ _ _ _ _ _ _ _ _ _ _ _ x
  · exact pieceX E x5 x6 1024 _ _ _ _ _ _ _ _ _ _ _ _ x
  · exact pieceX E x5 x6 512 _ _ _ _ _ _ _ _ _ _ _ _ x
  · exact pieceX E x5 x6 0 _ _ _ _ _ _ _ _ _ _ _ _ x

theorem ysA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).2.2.2.2.1
    = TY (k0_pay24 (F := Ideal) x3 x7)
      (k0_pay25 (F := Ideal) x3 x7 x8) (k0_pay27 (F := Ideal) k0_pay23 (k0_pay26 (F := Ideal) x4 x9) x10)
      (TX (TE i x0 x1 x2) x5 x6) (k0_pay2 (F := Ideal)) := by
  have hX := xbcA c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10
  funext y
  refine View.canon_apply_of_pieces (Val := Elt Ideal) (e := .f32) (TY (k0_pay24 (F := Ideal) x3 x7)
      (k0_pay25 (F := Ideal) x3 x7 x8) (k0_pay27 (F := Ideal) k0_pay23 (k0_pay26 (F := Ideal) x4 x9) x10)
      (TX (TE i x0 x1 x2) x5 x6) (k0_pay2 (F := Ideal)))
    _ ?_ y (View.cover_of_tiledL _ ![128, 128] (by sl_kernel_rfl) y)
  revert hX
  unfold runA kernelRun0_A
  dsimp only
  sl_unfold_words
  intro hX
  simp (discharger := decide) only [↓View.readCov_skip arg17.view, ↓View.readCov_fill arg17.view]
  simp only [View.readCov_eq_canon' arg14.view]
  rw [hX]
  clear hX
  simp only [View.readAt_eq_ld, harg2.read_unread, harg3.read_unread, harg4.read_unread, harg5.read_unread, harg6.read_unread, harg7.read_unread, harg8.read_unread, harg9.read_unread, harg10.read_unread, harg11.read_unread, harg12.read_unread]
  simp only [View.ld_unit_zero (S := S128x128) hz2, View.ld_unit_zero (S := S1x128) hz2,
    View.ld_unit_zero (S := S128x1) hz2]
  generalize TX (TE i x0 x1 x2) x5 x6 = XBC
  generalize k0_pay24 (F := Ideal) x3 x7 = DT
  generalize k0_pay25 (F := Ideal) x3 x7 x8 = CUM
  generalize hCT : k0_pay27 (F := Ideal) k0_pay23 (k0_pay26 (F := Ideal) x4 x9) x10 = CUMT
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceY DT CUM CUMT XBC (k0_pay2 (F := Ideal)) 15 94 95 1920 2944 3968 (by decide) rfl rfl rfl rfl rfl
      slices_S128x128_o0_94_S128x1 slices_S128x128_o0_95_S128x1 inb_S128x4096_S128x128_0_1920
      inb_S128x4096_S128x128_0_2944 inb_S128x4096_S128x128_0_3968 slices_S128x128_o0_94_S128x1
      slices_S128x128_o0_95_S128x1 slices_S128x128_o94_0_S1x128 slices_S128x128_o95_0_S1x128
      slices_S128x128_o0_94_S128x1 slices_S128x128_o0_95_S128x1 inb_S16x128x128_S1x128x128_15_0_0
      inb_S128x2048_S128x128_0_1920 x
  · exact pieceY DT CUM CUMT XBC (k0_pay2 (F := Ideal)) 14 92 93 1792 2944 3968 (by decide) rfl rfl rfl rfl rfl
      slices_S128x128_o0_92_S128x1 slices_S128x128_o0_93_S128x1 inb_S128x4096_S128x128_0_1792
      inb_S128x4096_S128x128_0_2944 inb_S128x4096_S128x128_0_3968 slices_S128x128_o0_92_S128x1
      slices_S128x128_o0_93_S128x1 slices_S128x128_o92_0_S1x128 slices_S128x128_o93_0_S1x128
      slices_S128x128_o0_92_S128x1 slices_S128x128_o0_93_S128x1 inb_S16x128x128_S1x128x128_14_0_0
      inb_S128x2048_S128x128_0_1792 x
  · exact pieceY DT CUM CUMT XBC (k0_pay2 (F := Ideal)) 13 90 91 1664 2816 3840 (by decide) rfl rfl rfl rfl rfl
      slices_S128x128_o0_90_S128x1 slices_S128x128_o0_91_S128x1 inb_S128x4096_S128x128_0_1664
      inb_S128x4096_S128x128_0_2816 inb_S128x4096_S128x128_0_3840 slices_S128x128_o0_90_S128x1
      slices_S128x128_o0_91_S128x1 slices_S128x128_o90_0_S1x128 slices_S128x128_o91_0_S1x128
      slices_S128x128_o0_90_S128x1 slices_S128x128_o0_91_S128x1 inb_S16x128x128_S1x128x128_13_0_0
      inb_S128x2048_S128x128_0_1664 x
  · exact pieceY DT CUM CUMT XBC (k0_pay2 (F := Ideal)) 12 88 89 1536 2816 3840 (by decide) rfl rfl rfl rfl rfl
      slices_S128x128_o0_88_S128x1 slices_S128x128_o0_89_S128x1 inb_S128x4096_S128x128_0_1536
      inb_S128x4096_S128x128_0_2816 inb_S128x4096_S128x128_0_3840 slices_S128x128_o0_88_S128x1
      slices_S128x128_o0_89_S128x1 slices_S128x128_o88_0_S1x128 slices_S128x128_o89_0_S1x128
      slices_S128x128_o0_88_S128x1 slices_S128x128_o0_89_S128x1 inb_S16x128x128_S1x128x128_12_0_0
      inb_S128x2048_S128x128_0_1536 x
  · exact pieceY DT CUM CUMT XBC (k0_pay2 (F := Ideal)) 11 86 87 1408 2688 3712 (by decide) rfl rfl rfl rfl rfl
      slices_S128x128_o0_86_S128x1 slices_S128x128_o0_87_S128x1 inb_S128x4096_S128x128_0_1408
      inb_S128x4096_S128x128_0_2688 inb_S128x4096_S128x128_0_3712 slices_S128x128_o0_86_S128x1
      slices_S128x128_o0_87_S128x1 slices_S128x128_o86_0_S1x128 slices_S128x128_o87_0_S1x128
      slices_S128x128_o0_86_S128x1 slices_S128x128_o0_87_S128x1 inb_S16x128x128_S1x128x128_11_0_0
      inb_S128x2048_S128x128_0_1408 x
  · exact pieceY DT CUM CUMT XBC (k0_pay2 (F := Ideal)) 10 84 85 1280 2688 3712 (by decide) rfl rfl rfl rfl rfl
      slices_S128x128_o0_84_S128x1 slices_S128x128_o0_85_S128x1 inb_S128x4096_S128x128_0_1280
      inb_S128x4096_S128x128_0_2688 inb_S128x4096_S128x128_0_3712 slices_S128x128_o0_84_S128x1
      slices_S128x128_o0_85_S128x1 slices_S128x128_o84_0_S1x128 slices_S128x128_o85_0_S1x128
      slices_S128x128_o0_84_S128x1 slices_S128x128_o0_85_S128x1 inb_S16x128x128_S1x128x128_10_0_0
      inb_S128x2048_S128x128_0_1280 x
  · exact pieceY DT CUM CUMT XBC (k0_pay2 (F := Ideal)) 9 82 83 1152 2560 3584 (by decide) rfl rfl rfl rfl rfl
      slices_S128x128_o0_82_S128x1 slices_S128x128_o0_83_S128x1 inb_S128x4096_S128x128_0_1152
      inb_S128x4096_S128x128_0_2560 inb_S128x4096_S128x128_0_3584 slices_S128x128_o0_82_S128x1
      slices_S128x128_o0_83_S128x1 slices_S128x128_o82_0_S1x128 slices_S128x128_o83_0_S1x128
      slices_S128x128_o0_82_S128x1 slices_S128x128_o0_83_S128x1 inb_S16x128x128_S1x128x128_9_0_0
      inb_S128x2048_S128x128_0_1152 x
  · exact pieceY DT CUM CUMT XBC (k0_pay2 (F := Ideal)) 8 80 81 1024 2560 3584 (by decide) rfl rfl rfl rfl rfl
      slices_S128x128_o0_80_S128x1 slices_S128x128_o0_81_S128x1 inb_S128x4096_S128x128_0_1024
      inb_S128x4096_S128x128_0_2560 inb_S128x4096_S128x128_0_3584 slices_S128x128_o0_80_S128x1
      slices_S128x128_o0_81_S128x1 slices_S128x128_o80_0_S1x128 slices_S128x128_o81_0_S1x128
      slices_S128x128_o0_80_S128x1 slices_S128x128_o0_81_S128x1 inb_S16x128x128_S1x128x128_8_0_0
      inb_S128x2048_S128x128_0_1024 x
  · exact pieceY DT CUM CUMT XBC (k0_pay2 (F := Ideal)) 7 78 79 896 2432 3456 (by decide) rfl rfl rfl rfl rfl
      slices_S128x128_o0_78_S128x1 slices_S128x128_o0_79_S128x1 inb_S128x4096_S128x128_0_896
      inb_S128x4096_S128x128_0_2432 inb_S128x4096_S128x128_0_3456 slices_S128x128_o0_78_S128x1
      slices_S128x128_o0_79_S128x1 slices_S128x128_o78_0_S1x128 slices_S128x128_o79_0_S1x128
      slices_S128x128_o0_78_S128x1 slices_S128x128_o0_79_S128x1 inb_S16x128x128_S1x128x128_7_0_0
      inb_S128x2048_S128x128_0_896 x
  · exact pieceY DT CUM CUMT XBC (k0_pay2 (F := Ideal)) 6 76 77 768 2432 3456 (by decide) rfl rfl rfl rfl rfl
      slices_S128x128_o0_76_S128x1 slices_S128x128_o0_77_S128x1 inb_S128x4096_S128x128_0_768
      inb_S128x4096_S128x128_0_2432 inb_S128x4096_S128x128_0_3456 slices_S128x128_o0_76_S128x1
      slices_S128x128_o0_77_S128x1 slices_S128x128_o76_0_S1x128 slices_S128x128_o77_0_S1x128
      slices_S128x128_o0_76_S128x1 slices_S128x128_o0_77_S128x1 inb_S16x128x128_S1x128x128_6_0_0
      inb_S128x2048_S128x128_0_768 x
  · exact pieceY DT CUM CUMT XBC (k0_pay2 (F := Ideal)) 5 74 75 640 2304 3328 (by decide) rfl rfl rfl rfl rfl
      slices_S128x128_o0_74_S128x1 slices_S128x128_o0_75_S128x1 inb_S128x4096_S128x128_0_640
      inb_S128x4096_S128x128_0_2304 inb_S128x4096_S128x128_0_3328 slices_S128x128_o0_74_S128x1
      slices_S128x128_o0_75_S128x1 slices_S128x128_o74_0_S1x128 slices_S128x128_o75_0_S1x128
      slices_S128x128_o0_74_S128x1 slices_S128x128_o0_75_S128x1 inb_S16x128x128_S1x128x128_5_0_0
      inb_S128x2048_S128x128_0_640 x
  · exact pieceY DT CUM CUMT XBC (k0_pay2 (F := Ideal)) 4 72 73 512 2304 3328 (by decide) rfl rfl rfl rfl rfl
      slices_S128x128_o0_72_S128x1 slices_S128x128_o0_73_S128x1 inb_S128x4096_S128x128_0_512
      inb_S128x4096_S128x128_0_2304 inb_S128x4096_S128x128_0_3328 slices_S128x128_o0_72_S128x1
      slices_S128x128_o0_73_S128x1 slices_S128x128_o72_0_S1x128 slices_S128x128_o73_0_S1x128
      slices_S128x128_o0_72_S128x1 slices_S128x128_o0_73_S128x1 inb_S16x128x128_S1x128x128_4_0_0
      inb_S128x2048_S128x128_0_512 x
  · exact pieceY DT CUM CUMT XBC (k0_pay2 (F := Ideal)) 3 70 71 384 2176 3200 (by decide) rfl rfl rfl rfl rfl
      slices_S128x128_o0_70_S128x1 slices_S128x128_o0_71_S128x1 inb_S128x4096_S128x128_0_384
      inb_S128x4096_S128x128_0_2176 inb_S128x4096_S128x128_0_3200 slices_S128x128_o0_70_S128x1
      slices_S128x128_o0_71_S128x1 slices_S128x128_o70_0_S1x128 slices_S128x128_o71_0_S1x128
      slices_S128x128_o0_70_S128x1 slices_S128x128_o0_71_S128x1 inb_S16x128x128_S1x128x128_3_0_0
      inb_S128x2048_S128x128_0_384 x
  · exact pieceY DT CUM CUMT XBC (k0_pay2 (F := Ideal)) 2 68 69 256 2176 3200 (by decide) rfl rfl rfl rfl rfl
      slices_S128x128_o0_68_S128x1 slices_S128x128_o0_69_S128x1 inb_S128x4096_S128x128_0_256
      inb_S128x4096_S128x128_0_2176 inb_S128x4096_S128x128_0_3200 slices_S128x128_o0_68_S128x1
      slices_S128x128_o0_69_S128x1 slices_S128x128_o68_0_S1x128 slices_S128x128_o69_0_S1x128
      slices_S128x128_o0_68_S128x1 slices_S128x128_o0_69_S128x1 inb_S16x128x128_S1x128x128_2_0_0
      inb_S128x2048_S128x128_0_256 x
  · exact pieceY DT CUM CUMT XBC (k0_pay2 (F := Ideal)) 1 66 67 128 2048 3072 (by decide) rfl rfl rfl rfl rfl
      slices_S128x128_o0_66_S128x1 slices_S128x128_o0_67_S128x1 inb_S128x4096_S128x128_0_128
      inb_S128x4096_S128x128_0_2048 inb_S128x4096_S128x128_0_3072 slices_S128x128_o0_66_S128x1
      slices_S128x128_o0_67_S128x1 slices_S128x128_o66_0_S1x128 slices_S128x128_o67_0_S1x128
      slices_S128x128_o0_66_S128x1 slices_S128x128_o0_67_S128x1 inb_S16x128x128_S1x128x128_1_0_0
      inb_S128x2048_S128x128_0_128 x
  · subst hCT
    exact pieceY DT CUM (k0_pay27 (F := Ideal) k0_pay23 (k0_pay26 (F := Ideal) x4 x9) x10) XBC (k0_pay2 (F := Ideal)) 0 64 65 0 2048 3072 (by decide) rfl rfl rfl rfl rfl
      slices_S128x128_o0_64_S128x1 slices_S128x128_o0_65_S128x1 inb_S128x4096_S128x128_0_0
      inb_S128x4096_S128x128_0_2048 inb_S128x4096_S128x128_0_3072 slices_S128x128_o0_64_S128x1
      slices_S128x128_o0_65_S128x1 slices_S128x128_o64_0_S1x128 slices_S128x128_o65_0_S1x128
      slices_S128x128_o0_64_S128x1 slices_S128x128_o0_65_S128x1 inb_S16x128x128_S1x128x128_0_0_0
      inb_S128x2048_S128x128_0_0 x

theorem stA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).2.2.1
    = TS (k0_pay24 (F := Ideal) x3 x7) (k0_pay25 (F := Ideal) x3 x7 x8) (TX (TE i x0 x1 x2) x5 x6) (k0_pay2 (F := Ideal)) := by
  have hX := xbcA c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10
  funext y
  rw [← List.take_append_drop 16 (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).2.2.1]
  refine View.canon_append_of_pieces (Val := Elt Ideal) (e := .f32)
    (TS (k0_pay24 (F := Ideal) x3 x7) (k0_pay25 (F := Ideal) x3 x7 x8) (TX (TE i x0 x1 x2) x5 x6) (k0_pay2 (F := Ideal))) _ _ ?_ y
    (View.cover_of_tiledL _ ![1, 128, 128] (by sl_kernel_rfl) y)
  revert hX
  unfold runA kernelRun0_A
  dsimp only
  sl_unfold_words
  dsimp only [List.take]
  intro hX
  simp (discharger := decide) only [↓View.readCov_skip arg17.view, ↓View.readCov_fill arg17.view]
  simp only [View.readCov_eq_canon' arg14.view]
  rw [hX]
  clear hX
  simp only [View.readAt_eq_ld, harg2.read_unread, harg3.read_unread, harg4.read_unread, harg5.read_unread, harg6.read_unread, harg7.read_unread, harg8.read_unread, harg9.read_unread, harg10.read_unread, harg11.read_unread, harg12.read_unread]
  simp only [View.ld_unit_zero (S := S128x128) hz2, View.ld_unit_zero (S := S1x128) hz2,
    View.ld_unit_zero (S := S128x1) hz2]
  generalize TX (TE i x0 x1 x2) x5 x6 = XBC
  generalize k0_pay24 (F := Ideal) x3 x7 = DT
  generalize k0_pay25 (F := Ideal) x3 x7 x8 = CUM
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceS DT CUM XBC (k0_pay2 (F := Ideal)) 15 94 95 1920 2944 (by decide) rfl rfl rfl rfl
      slices_S128x128_o0_94_S128x1 slices_S128x128_o0_95_S128x1 inb_S128x4096_S128x128_0_1920
      inb_S128x4096_S128x128_0_2944 slices_S128x128_o0_94_S128x1 slices_S128x128_o0_95_S128x1
      slices_S1x128_o0_94_S1x1 slices_S1x128_o0_95_S1x1 inb_S16x128x128_S1x128x128_15_0_0
      inb_S16x128x128_S1x128x128_15_0_0 x
  · exact pieceS DT CUM XBC (k0_pay2 (F := Ideal)) 14 92 93 1792 2944 (by decide) rfl rfl rfl rfl
      slices_S128x128_o0_92_S128x1 slices_S128x128_o0_93_S128x1 inb_S128x4096_S128x128_0_1792
      inb_S128x4096_S128x128_0_2944 slices_S128x128_o0_92_S128x1 slices_S128x128_o0_93_S128x1
      slices_S1x128_o0_92_S1x1 slices_S1x128_o0_93_S1x1 inb_S16x128x128_S1x128x128_14_0_0
      inb_S16x128x128_S1x128x128_14_0_0 x
  · exact pieceS DT CUM XBC (k0_pay2 (F := Ideal)) 13 90 91 1664 2816 (by decide) rfl rfl rfl rfl
      slices_S128x128_o0_90_S128x1 slices_S128x128_o0_91_S128x1 inb_S128x4096_S128x128_0_1664
      inb_S128x4096_S128x128_0_2816 slices_S128x128_o0_90_S128x1 slices_S128x128_o0_91_S128x1
      slices_S1x128_o0_90_S1x1 slices_S1x128_o0_91_S1x1 inb_S16x128x128_S1x128x128_13_0_0
      inb_S16x128x128_S1x128x128_13_0_0 x
  · exact pieceS DT CUM XBC (k0_pay2 (F := Ideal)) 12 88 89 1536 2816 (by decide) rfl rfl rfl rfl
      slices_S128x128_o0_88_S128x1 slices_S128x128_o0_89_S128x1 inb_S128x4096_S128x128_0_1536
      inb_S128x4096_S128x128_0_2816 slices_S128x128_o0_88_S128x1 slices_S128x128_o0_89_S128x1
      slices_S1x128_o0_88_S1x1 slices_S1x128_o0_89_S1x1 inb_S16x128x128_S1x128x128_12_0_0
      inb_S16x128x128_S1x128x128_12_0_0 x
  · exact pieceS DT CUM XBC (k0_pay2 (F := Ideal)) 11 86 87 1408 2688 (by decide) rfl rfl rfl rfl
      slices_S128x128_o0_86_S128x1 slices_S128x128_o0_87_S128x1 inb_S128x4096_S128x128_0_1408
      inb_S128x4096_S128x128_0_2688 slices_S128x128_o0_86_S128x1 slices_S128x128_o0_87_S128x1
      slices_S1x128_o0_86_S1x1 slices_S1x128_o0_87_S1x1 inb_S16x128x128_S1x128x128_11_0_0
      inb_S16x128x128_S1x128x128_11_0_0 x
  · exact pieceS DT CUM XBC (k0_pay2 (F := Ideal)) 10 84 85 1280 2688 (by decide) rfl rfl rfl rfl
      slices_S128x128_o0_84_S128x1 slices_S128x128_o0_85_S128x1 inb_S128x4096_S128x128_0_1280
      inb_S128x4096_S128x128_0_2688 slices_S128x128_o0_84_S128x1 slices_S128x128_o0_85_S128x1
      slices_S1x128_o0_84_S1x1 slices_S1x128_o0_85_S1x1 inb_S16x128x128_S1x128x128_10_0_0
      inb_S16x128x128_S1x128x128_10_0_0 x
  · exact pieceS DT CUM XBC (k0_pay2 (F := Ideal)) 9 82 83 1152 2560 (by decide) rfl rfl rfl rfl
      slices_S128x128_o0_82_S128x1 slices_S128x128_o0_83_S128x1 inb_S128x4096_S128x128_0_1152
      inb_S128x4096_S128x128_0_2560 slices_S128x128_o0_82_S128x1 slices_S128x128_o0_83_S128x1
      slices_S1x128_o0_82_S1x1 slices_S1x128_o0_83_S1x1 inb_S16x128x128_S1x128x128_9_0_0
      inb_S16x128x128_S1x128x128_9_0_0 x
  · exact pieceS DT CUM XBC (k0_pay2 (F := Ideal)) 8 80 81 1024 2560 (by decide) rfl rfl rfl rfl
      slices_S128x128_o0_80_S128x1 slices_S128x128_o0_81_S128x1 inb_S128x4096_S128x128_0_1024
      inb_S128x4096_S128x128_0_2560 slices_S128x128_o0_80_S128x1 slices_S128x128_o0_81_S128x1
      slices_S1x128_o0_80_S1x1 slices_S1x128_o0_81_S1x1 inb_S16x128x128_S1x128x128_8_0_0
      inb_S16x128x128_S1x128x128_8_0_0 x
  · exact pieceS DT CUM XBC (k0_pay2 (F := Ideal)) 7 78 79 896 2432 (by decide) rfl rfl rfl rfl
      slices_S128x128_o0_78_S128x1 slices_S128x128_o0_79_S128x1 inb_S128x4096_S128x128_0_896
      inb_S128x4096_S128x128_0_2432 slices_S128x128_o0_78_S128x1 slices_S128x128_o0_79_S128x1
      slices_S1x128_o0_78_S1x1 slices_S1x128_o0_79_S1x1 inb_S16x128x128_S1x128x128_7_0_0
      inb_S16x128x128_S1x128x128_7_0_0 x
  · exact pieceS DT CUM XBC (k0_pay2 (F := Ideal)) 6 76 77 768 2432 (by decide) rfl rfl rfl rfl
      slices_S128x128_o0_76_S128x1 slices_S128x128_o0_77_S128x1 inb_S128x4096_S128x128_0_768
      inb_S128x4096_S128x128_0_2432 slices_S128x128_o0_76_S128x1 slices_S128x128_o0_77_S128x1
      slices_S1x128_o0_76_S1x1 slices_S1x128_o0_77_S1x1 inb_S16x128x128_S1x128x128_6_0_0
      inb_S16x128x128_S1x128x128_6_0_0 x
  · exact pieceS DT CUM XBC (k0_pay2 (F := Ideal)) 5 74 75 640 2304 (by decide) rfl rfl rfl rfl
      slices_S128x128_o0_74_S128x1 slices_S128x128_o0_75_S128x1 inb_S128x4096_S128x128_0_640
      inb_S128x4096_S128x128_0_2304 slices_S128x128_o0_74_S128x1 slices_S128x128_o0_75_S128x1
      slices_S1x128_o0_74_S1x1 slices_S1x128_o0_75_S1x1 inb_S16x128x128_S1x128x128_5_0_0
      inb_S16x128x128_S1x128x128_5_0_0 x
  · exact pieceS DT CUM XBC (k0_pay2 (F := Ideal)) 4 72 73 512 2304 (by decide) rfl rfl rfl rfl
      slices_S128x128_o0_72_S128x1 slices_S128x128_o0_73_S128x1 inb_S128x4096_S128x128_0_512
      inb_S128x4096_S128x128_0_2304 slices_S128x128_o0_72_S128x1 slices_S128x128_o0_73_S128x1
      slices_S1x128_o0_72_S1x1 slices_S1x128_o0_73_S1x1 inb_S16x128x128_S1x128x128_4_0_0
      inb_S16x128x128_S1x128x128_4_0_0 x
  · exact pieceS DT CUM XBC (k0_pay2 (F := Ideal)) 3 70 71 384 2176 (by decide) rfl rfl rfl rfl
      slices_S128x128_o0_70_S128x1 slices_S128x128_o0_71_S128x1 inb_S128x4096_S128x128_0_384
      inb_S128x4096_S128x128_0_2176 slices_S128x128_o0_70_S128x1 slices_S128x128_o0_71_S128x1
      slices_S1x128_o0_70_S1x1 slices_S1x128_o0_71_S1x1 inb_S16x128x128_S1x128x128_3_0_0
      inb_S16x128x128_S1x128x128_3_0_0 x
  · exact pieceS DT CUM XBC (k0_pay2 (F := Ideal)) 2 68 69 256 2176 (by decide) rfl rfl rfl rfl
      slices_S128x128_o0_68_S128x1 slices_S128x128_o0_69_S128x1 inb_S128x4096_S128x128_0_256
      inb_S128x4096_S128x128_0_2176 slices_S128x128_o0_68_S128x1 slices_S128x128_o0_69_S128x1
      slices_S1x128_o0_68_S1x1 slices_S1x128_o0_69_S1x1 inb_S16x128x128_S1x128x128_2_0_0
      inb_S16x128x128_S1x128x128_2_0_0 x
  · exact pieceS DT CUM XBC (k0_pay2 (F := Ideal)) 1 66 67 128 2048 (by decide) rfl rfl rfl rfl
      slices_S128x128_o0_66_S128x1 slices_S128x128_o0_67_S128x1 inb_S128x4096_S128x128_0_128
      inb_S128x4096_S128x128_0_2048 slices_S128x128_o0_66_S128x1 slices_S128x128_o0_67_S128x1
      slices_S1x128_o0_66_S1x1 slices_S1x128_o0_67_S1x1 inb_S16x128x128_S1x128x128_1_0_0
      inb_S16x128x128_S1x128x128_1_0_0 x
  · exact pieceS DT CUM XBC (k0_pay2 (F := Ideal)) 0 64 65 0 2048 (by decide) rfl rfl rfl rfl
      slices_S128x128_o0_64_S128x1 slices_S128x128_o0_65_S128x1 inb_S128x4096_S128x128_0_0
      inb_S128x4096_S128x128_0_2048 slices_S128x128_o0_64_S128x1 slices_S128x128_o0_65_S128x1
      slices_S1x128_o0_64_S1x1 slices_S1x128_o0_65_S1x1 inb_S16x128x128_S1x128x128_0_0_0
      inb_S16x128x128_S1x128x128_0_0_0 x

theorem outA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10).1
    = TY (k0_pay24 (F := Ideal) x3 x7)
      (k0_pay25 (F := Ideal) x3 x7 x8) (k0_pay27 (F := Ideal) k0_pay23 (k0_pay26 (F := Ideal) x4 x9) x10)
      (TX (TE i x0 x1 x2) x5 x6) (k0_pay2 (F := Ideal)) := by
  rw [← ysA c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10]
  unfold runA kernelRun0_A
  dsimp only
  refine (View.canon_cons_unit_lit (Val := Elt Ideal) (S := S128x2048) (off := ![0, 0]) _ _ _ (by decide)).trans ?_
  refine (View.readCov_eq_canon' (Val := Elt Ideal) _ _ _).trans ?_
  exact View.ld_unit_zero (S := S128x2048) hz2 _ _

end Cert.Kernel9Ideal.Scan
end
-- ==== Proof.ScanCaseB.lean ====
module

public import proofs.«01_k».proof.Proof.ScanConv
public import Idealize.ShloMosaic.Lib.Pointwise
public import Idealize.ShloMosaic.Lib.Pipeline.ReadBack
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

/-! What the kernel leaves at a later chunk: the scratch rows, the convolved block, the outputs and the carried states, each
as one function of the blocks it read. -/

variable (c : Dev nD) (i : grid0.Coords) (arg2 : Memref sig .tc .vmem S128x4096 .bf16) (harg2 : arg2.IsWhole) (arg3 : Memref sig .tc .vmem S16x4096
  .bf16) (harg3 : arg3.IsWhole) (arg4 : Memref sig .tc .vmem S16x4096 .bf16) (harg4 : arg4.IsWhole) (arg5 :
  Memref sig .tc .vmem S128x128 .f32) (harg5 : arg5.IsWhole) (arg6 : Memref sig .tc .vmem S128x128 .f32) (harg6
  : arg6.IsWhole) (arg7 : Memref sig .tc .vmem S5x4096 .f32) (harg7 : arg7.IsWhole) (arg8 : Memref sig .tc .vmem
  S1x4096 .f32) (harg8 : arg8.IsWhole) (arg9 : Memref sig .tc .vmem S1x128 .f32) (harg9 : arg9.IsWhole) (arg10 :
  Memref sig .tc .vmem S1x128 .f32) (harg10 : arg10.IsWhole) (arg11 : Memref sig .tc .vmem S128x1 .f32) (harg11
  : arg11.IsWhole) (arg12 : Memref sig .tc .vmem S128x1 .f32) (harg12 : arg12.IsWhole) (arg13 : Memref sig .tc
  .vmem S128x2048 .f32) (harg13 : arg13.IsWhole) (arg14 : Memref sig .tc .vmem S128x4096 .bf16) (harg14 :
  arg14.IsWhole) (arg15 : Memref sig .tc .vmem S144x4096 .f32) (harg15 : arg15.IsWhole) (arg16 : Memref sig .tc
  .vmem S128x2048 .f32) (harg16 : arg16.IsWhole) (arg17 : Memref sig .tc .vmem S16x128x128 .f32) (harg17 :
  arg17.IsWhole)
  (hc0 : ¬cond0_0 i)
  (x0 : FVec Ideal S128x4096 .bf16) (x1 : FVec Ideal S16x4096 .bf16) (x2 : FVec Ideal S16x4096 .bf16) (x3 : FVec
  Ideal S128x128 .f32) (x4 : FVec Ideal S128x128 .f32) (x5 : FVec Ideal S5x4096 .f32) (x6 : FVec Ideal S1x4096
  .f32) (x7 : FVec Ideal S1x128 .f32) (x8 : FVec Ideal S1x128 .f32) (x9 : FVec Ideal S128x1 .f32) (x10 : FVec
  Ideal S128x1 .f32) (xs2 : FVec Ideal S16x128x128 .f32)

private theorem hz2 : (![0, 0] : Fin 2 → Nat) = fun _ => 0 := funext fun a => by fin_cases a <;> rfl

/-- The run of the body at these blocks. -/
abbrev runB := kernelRun0_B (F := Ideal) c i
  arg2 harg2 arg3 harg3 arg4 harg4 arg5 harg5 arg6 harg6 arg7 harg7 arg8 harg8 arg9 harg9 arg10 harg10
  arg11 harg11 arg12 harg12 arg13 harg13 arg14 harg14 arg15 harg15 arg16 harg16 arg17 harg17
  hc0 x0 x1 x2 x3 x4 x5 x6 x7 x8 x9 x10 xs2

theorem extB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2).2.2.2.1 = TE i x0 x1 x2 := by
  funext y
  refine View.canon_apply_of_pieces (Val := Elt Ideal) (e := .f32) (TE i x0 x1 x2) _ ?_ y ?_
  · unfold runB kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread]
    simp only [View.ld_unit_zero (S := S128x4096) hz2, View.ld_unit_zero (S := S16x4096) hz2]
    simp only [List.forall_mem_cons]
    refine ⟨fun x => ?_, fun x => ?_, fun x => ?_, fun p hp => absurd hp List.not_mem_nil⟩
    · exact pieceN i x0 x1 x2 _ x
    · exact pieceM i x0 x1 x2 _ x
    · exact pieceP i x0 x1 x2 _ x
  · exact View.cover_of_tiledBy _ ![8, 4096] (by sl_kernel_rfl) y

theorem xbcB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2).2.1 = TX (TE i x0 x1 x2) x5 x6 := by
  have hE := extB c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2
  funext y
  refine View.canon_apply_of_pieces (Val := Elt Ideal) (e := .bf16) (TX (TE i x0 x1 x2) x5 x6) _ ?_ y (cover0_B_12 (F := Ideal) c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2 y)
  revert hE
  unfold runB kernelRun0_B
  dsimp only
  sl_unfold_words
  intro hE
  simp only [View.readCov_eq_canon']
  rw [hE]
  clear hE
  simp only [View.readAt_eq_ld, harg2.read_unread, harg3.read_unread, harg4.read_unread, harg5.read_unread, harg6.read_unread, harg7.read_unread, harg8.read_unread, harg9.read_unread, harg10.read_unread, harg11.read_unread, harg12.read_unread]
  generalize TE i x0 x1 x2 = E
  simp only [List.forall_mem_cons]
  refine ⟨fun x => ?_, fun x => ?_, fun x => ?_, fun x => ?_, fun x => ?_, fun x => ?_, fun x => ?_, fun x => ?_, fun p hp => absurd hp List.not_mem_nil⟩
  · exact pieceX E x5 x6 3584 _ _ _ _ _ _ _ _ _ _ _ _ x
  · exact pieceX E x5 x6 3072 _ _ _ _ _ _ _ _ _ _ _ _ x
  · exact pieceX E x5 x6 2560 _ _ _ _ _ _ _ _ _ _ _ _ x
  · exact pieceX E x5 x6 2048 _ _ _ _ _ _ _ _ _ _ _ _ x
  · exact pieceX E x5 x6 1536 _ _ _ _ _ _ _ _ _ _ _ _ x
  · exact pieceX E x5 x6 1024 _ _ _ _ _ _ _ _ _ _ _ _ x
  · exact pieceX E x5 x6 512 _ _ _ _ _ _ _ _ _ _ _ _ x
  · exact pieceX E x5 x6 0 _ _ _ _ _ _ _ _ _ _ _ _ x

theorem ysB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2).2.2.2.2.1
    = TY (k0_pay24 (F := Ideal) x3 x7)
      (k0_pay25 (F := Ideal) x3 x7 x8) (k0_pay27 (F := Ideal) k0_pay23 (k0_pay26 (F := Ideal) x4 x9) x10)
      (TX (TE i x0 x1 x2) x5 x6) xs2 := by
  have hX := xbcB c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2
  funext y
  refine View.canon_apply_of_pieces (Val := Elt Ideal) (e := .f32) (TY (k0_pay24 (F := Ideal) x3 x7)
      (k0_pay25 (F := Ideal) x3 x7 x8) (k0_pay27 (F := Ideal) k0_pay23 (k0_pay26 (F := Ideal) x4 x9) x10)
      (TX (TE i x0 x1 x2) x5 x6) xs2)
    _ ?_ y (View.cover_of_tiledL _ ![128, 128] (by sl_kernel_rfl) y)
  revert hX
  unfold runB kernelRun0_B
  dsimp only
  sl_unfold_words
  intro hX
  simp only [View.readCov_eq_canon' arg14.view]
  rw [hX]
  clear hX
  simp only [View.readAt_eq_ld, harg2.read_unread, harg3.read_unread, harg4.read_unread, harg5.read_unread, harg6.read_unread, harg7.read_unread, harg8.read_unread, harg9.read_unread, harg10.read_unread, harg11.read_unread, harg12.read_unread, harg17.read_unread]
  simp only [View.ld_unit_zero (S := S128x128) hz2, View.ld_unit_zero (S := S1x128) hz2,
    View.ld_unit_zero (S := S128x1) hz2]
  generalize TX (TE i x0 x1 x2) x5 x6 = XBC
  generalize k0_pay24 (F := Ideal) x3 x7 = DT
  generalize k0_pay25 (F := Ideal) x3 x7 x8 = CUM
  generalize hCT : k0_pay27 (F := Ideal) k0_pay23 (k0_pay26 (F := Ideal) x4 x9) x10 = CUMT
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceY DT CUM CUMT XBC xs2 15 94 95 1920 2944 3968 (by decide) rfl rfl rfl rfl rfl
      slices_S128x128_o0_94_S128x1 slices_S128x128_o0_95_S128x1 inb_S128x4096_S128x128_0_1920
      inb_S128x4096_S128x128_0_2944 inb_S128x4096_S128x128_0_3968 slices_S128x128_o0_94_S128x1
      slices_S128x128_o0_95_S128x1 slices_S128x128_o94_0_S1x128 slices_S128x128_o95_0_S1x128
      slices_S128x128_o0_94_S128x1 slices_S128x128_o0_95_S128x1 inb_S16x128x128_S1x128x128_15_0_0
      inb_S128x2048_S128x128_0_1920 x
  · exact pieceY DT CUM CUMT XBC xs2 14 92 93 1792 2944 3968 (by decide) rfl rfl rfl rfl rfl
      slices_S128x128_o0_92_S128x1 slices_S128x128_o0_93_S128x1 inb_S128x4096_S128x128_0_1792
      inb_S128x4096_S128x128_0_2944 inb_S128x4096_S128x128_0_3968 slices_S128x128_o0_92_S128x1
      slices_S128x128_o0_93_S128x1 slices_S128x128_o92_0_S1x128 slices_S128x128_o93_0_S1x128
      slices_S128x128_o0_92_S128x1 slices_S128x128_o0_93_S128x1 inb_S16x128x128_S1x128x128_14_0_0
      inb_S128x2048_S128x128_0_1792 x
  · exact pieceY DT CUM CUMT XBC xs2 13 90 91 1664 2816 3840 (by decide) rfl rfl rfl rfl rfl
      slices_S128x128_o0_90_S128x1 slices_S128x128_o0_91_S128x1 inb_S128x4096_S128x128_0_1664
      inb_S128x4096_S128x128_0_2816 inb_S128x4096_S128x128_0_3840 slices_S128x128_o0_90_S128x1
      slices_S128x128_o0_91_S128x1 slices_S128x128_o90_0_S1x128 slices_S128x128_o91_0_S1x128
      slices_S128x128_o0_90_S128x1 slices_S128x128_o0_91_S128x1 inb_S16x128x128_S1x128x128_13_0_0
      inb_S128x2048_S128x128_0_1664 x
  · exact pieceY DT CUM CUMT XBC xs2 12 88 89 1536 2816 3840 (by decide) rfl rfl rfl rfl rfl
      slices_S128x128_o0_88_S128x1 slices_S128x128_o0_89_S128x1 inb_S128x4096_S128x128_0_1536
      inb_S128x4096_S128x128_0_2816 inb_S128x4096_S128x128_0_3840 slices_S128x128_o0_88_S128x1
      slices_S128x128_o0_89_S128x1 slices_S128x128_o88_0_S1x128 slices_S128x128_o89_0_S1x128
      slices_S128x128_o0_88_S128x1 slices_S128x128_o0_89_S128x1 inb_S16x128x128_S1x128x128_12_0_0
      inb_S128x2048_S128x128_0_1536 x
  · exact pieceY DT CUM CUMT XBC xs2 11 86 87 1408 2688 3712 (by decide) rfl rfl rfl rfl rfl
      slices_S128x128_o0_86_S128x1 slices_S128x128_o0_87_S128x1 inb_S128x4096_S128x128_0_1408
      inb_S128x4096_S128x128_0_2688 inb_S128x4096_S128x128_0_3712 slices_S128x128_o0_86_S128x1
      slices_S128x128_o0_87_S128x1 slices_S128x128_o86_0_S1x128 slices_S128x128_o87_0_S1x128
      slices_S128x128_o0_86_S128x1 slices_S128x128_o0_87_S128x1 inb_S16x128x128_S1x128x128_11_0_0
      inb_S128x2048_S128x128_0_1408 x
  · exact pieceY DT CUM CUMT XBC xs2 10 84 85 1280 2688 3712 (by decide) rfl rfl rfl rfl rfl
      slices_S128x128_o0_84_S128x1 slices_S128x128_o0_85_S128x1 inb_S128x4096_S128x128_0_1280
      inb_S128x4096_S128x128_0_2688 inb_S128x4096_S128x128_0_3712 slices_S128x128_o0_84_S128x1
      slices_S128x128_o0_85_S128x1 slices_S128x128_o84_0_S1x128 slices_S128x128_o85_0_S1x128
      slices_S128x128_o0_84_S128x1 slices_S128x128_o0_85_S128x1 inb_S16x128x128_S1x128x128_10_0_0
      inb_S128x2048_S128x128_0_1280 x
  · exact pieceY DT CUM CUMT XBC xs2 9 82 83 1152 2560 3584 (by decide) rfl rfl rfl rfl rfl
      slices_S128x128_o0_82_S128x1 slices_S128x128_o0_83_S128x1 inb_S128x4096_S128x128_0_1152
      inb_S128x4096_S128x128_0_2560 inb_S128x4096_S128x128_0_3584 slices_S128x128_o0_82_S128x1
      slices_S128x128_o0_83_S128x1 slices_S128x128_o82_0_S1x128 slices_S128x128_o83_0_S1x128
      slices_S128x128_o0_82_S128x1 slices_S128x128_o0_83_S128x1 inb_S16x128x128_S1x128x128_9_0_0
      inb_S128x2048_S128x128_0_1152 x
  · exact pieceY DT CUM CUMT XBC xs2 8 80 81 1024 2560 3584 (by decide) rfl rfl rfl rfl rfl
      slices_S128x128_o0_80_S128x1 slices_S128x128_o0_81_S128x1 inb_S128x4096_S128x128_0_1024
      inb_S128x4096_S128x128_0_2560 inb_S128x4096_S128x128_0_3584 slices_S128x128_o0_80_S128x1
      slices_S128x128_o0_81_S128x1 slices_S128x128_o80_0_S1x128 slices_S128x128_o81_0_S1x128
      slices_S128x128_o0_80_S128x1 slices_S128x128_o0_81_S128x1 inb_S16x128x128_S1x128x128_8_0_0
      inb_S128x2048_S128x128_0_1024 x
  · exact pieceY DT CUM CUMT XBC xs2 7 78 79 896 2432 3456 (by decide) rfl rfl rfl rfl rfl
      slices_S128x128_o0_78_S128x1 slices_S128x128_o0_79_S128x1 inb_S128x4096_S128x128_0_896
      inb_S128x4096_S128x128_0_2432 inb_S128x4096_S128x128_0_3456 slices_S128x128_o0_78_S128x1
      slices_S128x128_o0_79_S128x1 slices_S128x128_o78_0_S1x128 slices_S128x128_o79_0_S1x128
      slices_S128x128_o0_78_S128x1 slices_S128x128_o0_79_S128x1 inb_S16x128x128_S1x128x128_7_0_0
      inb_S128x2048_S128x128_0_896 x
  · exact pieceY DT CUM CUMT XBC xs2 6 76 77 768 2432 3456 (by decide) rfl rfl rfl rfl rfl
      slices_S128x128_o0_76_S128x1 slices_S128x128_o0_77_S128x1 inb_S128x4096_S128x128_0_768
      inb_S128x4096_S128x128_0_2432 inb_S128x4096_S128x128_0_3456 slices_S128x128_o0_76_S128x1
      slices_S128x128_o0_77_S128x1 slices_S128x128_o76_0_S1x128 slices_S128x128_o77_0_S1x128
      slices_S128x128_o0_76_S128x1 slices_S128x128_o0_77_S128x1 inb_S16x128x128_S1x128x128_6_0_0
      inb_S128x2048_S128x128_0_768 x
  · exact pieceY DT CUM CUMT XBC xs2 5 74 75 640 2304 3328 (by decide) rfl rfl rfl rfl rfl
      slices_S128x128_o0_74_S128x1 slices_S128x128_o0_75_S128x1 inb_S128x4096_S128x128_0_640
      inb_S128x4096_S128x128_0_2304 inb_S128x4096_S128x128_0_3328 slices_S128x128_o0_74_S128x1
      slices_S128x128_o0_75_S128x1 slices_S128x128_o74_0_S1x128 slices_S128x128_o75_0_S1x128
      slices_S128x128_o0_74_S128x1 slices_S128x128_o0_75_S128x1 inb_S16x128x128_S1x128x128_5_0_0
      inb_S128x2048_S128x128_0_640 x
  · exact pieceY DT CUM CUMT XBC xs2 4 72 73 512 2304 3328 (by decide) rfl rfl rfl rfl rfl
      slices_S128x128_o0_72_S128x1 slices_S128x128_o0_73_S128x1 inb_S128x4096_S128x128_0_512
      inb_S128x4096_S128x128_0_2304 inb_S128x4096_S128x128_0_3328 slices_S128x128_o0_72_S128x1
      slices_S128x128_o0_73_S128x1 slices_S128x128_o72_0_S1x128 slices_S128x128_o73_0_S1x128
      slices_S128x128_o0_72_S128x1 slices_S128x128_o0_73_S128x1 inb_S16x128x128_S1x128x128_4_0_0
      inb_S128x2048_S128x128_0_512 x
  · exact pieceY DT CUM CUMT XBC xs2 3 70 71 384 2176 3200 (by decide) rfl rfl rfl rfl rfl
      slices_S128x128_o0_70_S128x1 slices_S128x128_o0_71_S128x1 inb_S128x4096_S128x128_0_384
      inb_S128x4096_S128x128_0_2176 inb_S128x4096_S128x128_0_3200 slices_S128x128_o0_70_S128x1
      slices_S128x128_o0_71_S128x1 slices_S128x128_o70_0_S1x128 slices_S128x128_o71_0_S1x128
      slices_S128x128_o0_70_S128x1 slices_S128x128_o0_71_S128x1 inb_S16x128x128_S1x128x128_3_0_0
      inb_S128x2048_S128x128_0_384 x
  · exact pieceY DT CUM CUMT XBC xs2 2 68 69 256 2176 3200 (by decide) rfl rfl rfl rfl rfl
      slices_S128x128_o0_68_S128x1 slices_S128x128_o0_69_S128x1 inb_S128x4096_S128x128_0_256
      inb_S128x4096_S128x128_0_2176 inb_S128x4096_S128x128_0_3200 slices_S128x128_o0_68_S128x1
      slices_S128x128_o0_69_S128x1 slices_S128x128_o68_0_S1x128 slices_S128x128_o69_0_S1x128
      slices_S128x128_o0_68_S128x1 slices_S128x128_o0_69_S128x1 inb_S16x128x128_S1x128x128_2_0_0
      inb_S128x2048_S128x128_0_256 x
  · exact pieceY DT CUM CUMT XBC xs2 1 66 67 128 2048 3072 (by decide) rfl rfl rfl rfl rfl
      slices_S128x128_o0_66_S128x1 slices_S128x128_o0_67_S128x1 inb_S128x4096_S128x128_0_128
      inb_S128x4096_S128x128_0_2048 inb_S128x4096_S128x128_0_3072 slices_S128x128_o0_66_S128x1
      slices_S128x128_o0_67_S128x1 slices_S128x128_o66_0_S1x128 slices_S128x128_o67_0_S1x128
      slices_S128x128_o0_66_S128x1 slices_S128x128_o0_67_S128x1 inb_S16x128x128_S1x128x128_1_0_0
      inb_S128x2048_S128x128_0_128 x
  · subst hCT
    exact pieceY DT CUM (k0_pay27 (F := Ideal) k0_pay23 (k0_pay26 (F := Ideal) x4 x9) x10) XBC xs2 0 64 65 0 2048 3072 (by decide) rfl rfl rfl rfl rfl
      slices_S128x128_o0_64_S128x1 slices_S128x128_o0_65_S128x1 inb_S128x4096_S128x128_0_0
      inb_S128x4096_S128x128_0_2048 inb_S128x4096_S128x128_0_3072 slices_S128x128_o0_64_S128x1
      slices_S128x128_o0_65_S128x1 slices_S128x128_o64_0_S1x128 slices_S128x128_o65_0_S1x128
      slices_S128x128_o0_64_S128x1 slices_S128x128_o0_65_S128x1 inb_S16x128x128_S1x128x128_0_0_0
      inb_S128x2048_S128x128_0_0 x

theorem stB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2).2.2.1
    = TS (k0_pay24 (F := Ideal) x3 x7) (k0_pay25 (F := Ideal) x3 x7 x8) (TX (TE i x0 x1 x2) x5 x6) xs2 := by
  have hX := xbcB c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2
  funext y
  refine View.canon_apply_of_pieces (Val := Elt Ideal) (e := .f32)
    (TS (k0_pay24 (F := Ideal) x3 x7) (k0_pay25 (F := Ideal) x3 x7 x8) (TX (TE i x0 x1 x2) x5 x6) xs2) _ ?_ y
    (View.cover_of_tiledL _ ![1, 128, 128] (by sl_kernel_rfl) y)
  revert hX
  unfold runB kernelRun0_B
  dsimp only
  sl_unfold_words
  intro hX
  simp only [View.readCov_eq_canon' arg14.view]
  rw [hX]
  clear hX
  simp only [View.readAt_eq_ld, harg2.read_unread, harg3.read_unread, harg4.read_unread, harg5.read_unread, harg6.read_unread, harg7.read_unread, harg8.read_unread, harg9.read_unread, harg10.read_unread, harg11.read_unread, harg12.read_unread, harg17.read_unread]
  simp only [View.ld_unit_zero (S := S128x128) hz2, View.ld_unit_zero (S := S1x128) hz2,
    View.ld_unit_zero (S := S128x1) hz2]
  generalize TX (TE i x0 x1 x2) x5 x6 = XBC
  generalize k0_pay24 (F := Ideal) x3 x7 = DT
  generalize k0_pay25 (F := Ideal) x3 x7 x8 = CUM
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceS DT CUM XBC xs2 15 94 95 1920 2944 (by decide) rfl rfl rfl rfl
      slices_S128x128_o0_94_S128x1 slices_S128x128_o0_95_S128x1 inb_S128x4096_S128x128_0_1920
      inb_S128x4096_S128x128_0_2944 slices_S128x128_o0_94_S128x1 slices_S128x128_o0_95_S128x1
      slices_S1x128_o0_94_S1x1 slices_S1x128_o0_95_S1x1 inb_S16x128x128_S1x128x128_15_0_0
      inb_S16x128x128_S1x128x128_15_0_0 x
  · exact pieceS DT CUM XBC xs2 14 92 93 1792 2944 (by decide) rfl rfl rfl rfl
      slices_S128x128_o0_92_S128x1 slices_S128x128_o0_93_S128x1 inb_S128x4096_S128x128_0_1792
      inb_S128x4096_S128x128_0_2944 slices_S128x128_o0_92_S128x1 slices_S128x128_o0_93_S128x1
      slices_S1x128_o0_92_S1x1 slices_S1x128_o0_93_S1x1 inb_S16x128x128_S1x128x128_14_0_0
      inb_S16x128x128_S1x128x128_14_0_0 x
  · exact pieceS DT CUM XBC xs2 13 90 91 1664 2816 (by decide) rfl rfl rfl rfl
      slices_S128x128_o0_90_S128x1 slices_S128x128_o0_91_S128x1 inb_S128x4096_S128x128_0_1664
      inb_S128x4096_S128x128_0_2816 slices_S128x128_o0_90_S128x1 slices_S128x128_o0_91_S128x1
      slices_S1x128_o0_90_S1x1 slices_S1x128_o0_91_S1x1 inb_S16x128x128_S1x128x128_13_0_0
      inb_S16x128x128_S1x128x128_13_0_0 x
  · exact pieceS DT CUM XBC xs2 12 88 89 1536 2816 (by decide) rfl rfl rfl rfl
      slices_S128x128_o0_88_S128x1 slices_S128x128_o0_89_S128x1 inb_S128x4096_S128x128_0_1536
      inb_S128x4096_S128x128_0_2816 slices_S128x128_o0_88_S128x1 slices_S128x128_o0_89_S128x1
      slices_S1x128_o0_88_S1x1 slices_S1x128_o0_89_S1x1 inb_S16x128x128_S1x128x128_12_0_0
      inb_S16x128x128_S1x128x128_12_0_0 x
  · exact pieceS DT CUM XBC xs2 11 86 87 1408 2688 (by decide) rfl rfl rfl rfl
      slices_S128x128_o0_86_S128x1 slices_S128x128_o0_87_S128x1 inb_S128x4096_S128x128_0_1408
      inb_S128x4096_S128x128_0_2688 slices_S128x128_o0_86_S128x1 slices_S128x128_o0_87_S128x1
      slices_S1x128_o0_86_S1x1 slices_S1x128_o0_87_S1x1 inb_S16x128x128_S1x128x128_11_0_0
      inb_S16x128x128_S1x128x128_11_0_0 x
  · exact pieceS DT CUM XBC xs2 10 84 85 1280 2688 (by decide) rfl rfl rfl rfl
      slices_S128x128_o0_84_S128x1 slices_S128x128_o0_85_S128x1 inb_S128x4096_S128x128_0_1280
      inb_S128x4096_S128x128_0_2688 slices_S128x128_o0_84_S128x1 slices_S128x128_o0_85_S128x1
      slices_S1x128_o0_84_S1x1 slices_S1x128_o0_85_S1x1 inb_S16x128x128_S1x128x128_10_0_0
      inb_S16x128x128_S1x128x128_10_0_0 x
  · exact pieceS DT CUM XBC xs2 9 82 83 1152 2560 (by decide) rfl rfl rfl rfl
      slices_S128x128_o0_82_S128x1 slices_S128x128_o0_83_S128x1 inb_S128x4096_S128x128_0_1152
      inb_S128x4096_S128x128_0_2560 slices_S128x128_o0_82_S128x1 slices_S128x128_o0_83_S128x1
      slices_S1x128_o0_82_S1x1 slices_S1x128_o0_83_S1x1 inb_S16x128x128_S1x128x128_9_0_0
      inb_S16x128x128_S1x128x128_9_0_0 x
  · exact pieceS DT CUM XBC xs2 8 80 81 1024 2560 (by decide) rfl rfl rfl rfl
      slices_S128x128_o0_80_S128x1 slices_S128x128_o0_81_S128x1 inb_S128x4096_S128x128_0_1024
      inb_S128x4096_S128x128_0_2560 slices_S128x128_o0_80_S128x1 slices_S128x128_o0_81_S128x1
      slices_S1x128_o0_80_S1x1 slices_S1x128_o0_81_S1x1 inb_S16x128x128_S1x128x128_8_0_0
      inb_S16x128x128_S1x128x128_8_0_0 x
  · exact pieceS DT CUM XBC xs2 7 78 79 896 2432 (by decide) rfl rfl rfl rfl
      slices_S128x128_o0_78_S128x1 slices_S128x128_o0_79_S128x1 inb_S128x4096_S128x128_0_896
      inb_S128x4096_S128x128_0_2432 slices_S128x128_o0_78_S128x1 slices_S128x128_o0_79_S128x1
      slices_S1x128_o0_78_S1x1 slices_S1x128_o0_79_S1x1 inb_S16x128x128_S1x128x128_7_0_0
      inb_S16x128x128_S1x128x128_7_0_0 x
  · exact pieceS DT CUM XBC xs2 6 76 77 768 2432 (by decide) rfl rfl rfl rfl
      slices_S128x128_o0_76_S128x1 slices_S128x128_o0_77_S128x1 inb_S128x4096_S128x128_0_768
      inb_S128x4096_S128x128_0_2432 slices_S128x128_o0_76_S128x1 slices_S128x128_o0_77_S128x1
      slices_S1x128_o0_76_S1x1 slices_S1x128_o0_77_S1x1 inb_S16x128x128_S1x128x128_6_0_0
      inb_S16x128x128_S1x128x128_6_0_0 x
  · exact pieceS DT CUM XBC xs2 5 74 75 640 2304 (by decide) rfl rfl rfl rfl
      slices_S128x128_o0_74_S128x1 slices_S128x128_o0_75_S128x1 inb_S128x4096_S128x128_0_640
      inb_S128x4096_S128x128_0_2304 slices_S128x128_o0_74_S128x1 slices_S128x128_o0_75_S128x1
      slices_S1x128_o0_74_S1x1 slices_S1x128_o0_75_S1x1 inb_S16x128x128_S1x128x128_5_0_0
      inb_S16x128x128_S1x128x128_5_0_0 x
  · exact pieceS DT CUM XBC xs2 4 72 73 512 2304 (by decide) rfl rfl rfl rfl
      slices_S128x128_o0_72_S128x1 slices_S128x128_o0_73_S128x1 inb_S128x4096_S128x128_0_512
      inb_S128x4096_S128x128_0_2304 slices_S128x128_o0_72_S128x1 slices_S128x128_o0_73_S128x1
      slices_S1x128_o0_72_S1x1 slices_S1x128_o0_73_S1x1 inb_S16x128x128_S1x128x128_4_0_0
      inb_S16x128x128_S1x128x128_4_0_0 x
  · exact pieceS DT CUM XBC xs2 3 70 71 384 2176 (by decide) rfl rfl rfl rfl
      slices_S128x128_o0_70_S128x1 slices_S128x128_o0_71_S128x1 inb_S128x4096_S128x128_0_384
      inb_S128x4096_S128x128_0_2176 slices_S128x128_o0_70_S128x1 slices_S128x128_o0_71_S128x1
      slices_S1x128_o0_70_S1x1 slices_S1x128_o0_71_S1x1 inb_S16x128x128_S1x128x128_3_0_0
      inb_S16x128x128_S1x128x128_3_0_0 x
  · exact pieceS DT CUM XBC xs2 2 68 69 256 2176 (by decide) rfl rfl rfl rfl
      slices_S128x128_o0_68_S128x1 slices_S128x128_o0_69_S128x1 inb_S128x4096_S128x128_0_256
      inb_S128x4096_S128x128_0_2176 slices_S128x128_o0_68_S128x1 slices_S128x128_o0_69_S128x1
      slices_S1x128_o0_68_S1x1 slices_S1x128_o0_69_S1x1 inb_S16x128x128_S1x128x128_2_0_0
      inb_S16x128x128_S1x128x128_2_0_0 x
  · exact pieceS DT CUM XBC xs2 1 66 67 128 2048 (by decide) rfl rfl rfl rfl
      slices_S128x128_o0_66_S128x1 slices_S128x128_o0_67_S128x1 inb_S128x4096_S128x128_0_128
      inb_S128x4096_S128x128_0_2048 slices_S128x128_o0_66_S128x1 slices_S128x128_o0_67_S128x1
      slices_S1x128_o0_66_S1x1 slices_S1x128_o0_67_S1x1 inb_S16x128x128_S1x128x128_1_0_0
      inb_S16x128x128_S1x128x128_1_0_0 x
  · exact pieceS DT CUM XBC xs2 0 64 65 0 2048 (by decide) rfl rfl rfl rfl
      slices_S128x128_o0_64_S128x1 slices_S128x128_o0_65_S128x1 inb_S128x4096_S128x128_0_0
      inb_S128x4096_S128x128_0_2048 slices_S128x128_o0_64_S128x1 slices_S128x128_o0_65_S128x1
      slices_S1x128_o0_64_S1x1 slices_S1x128_o0_65_S1x1 inb_S16x128x128_S1x128x128_0_0_0
      inb_S16x128x128_S1x128x128_0_0_0 x

theorem outB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2).1
    = TY (k0_pay24 (F := Ideal) x3 x7)
      (k0_pay25 (F := Ideal) x3 x7 x8) (k0_pay27 (F := Ideal) k0_pay23 (k0_pay26 (F := Ideal) x4 x9) x10)
      (TX (TE i x0 x1 x2) x5 x6) xs2 := by
  rw [← ysB c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 hc0 x0 x1 x2
    x3 x4 x5 x6 x7 x8 x9 x10 xs2]
  unfold runB kernelRun0_B
  dsimp only
  refine (View.canon_cons_unit_lit (Val := Elt Ideal) (S := S128x2048) (off := ![0, 0]) _ _ _ (by decide)).trans ?_
  refine (View.readCov_eq_canon' (Val := Elt Ideal) _ _ _).trans ?_
  exact View.ld_unit_zero (S := S128x2048) hz2 _ _

end Cert.Kernel9Ideal.Scan
end
-- ==== Proof.ScanSpec.lean ====
/- The forward scan in closed form, over the layer's arrays: the short convolution with its activation, the time steps, their
   running sums inside a chunk, the state carried from chunk to chunk, and the outputs. -/
module

public import proofs.«01_k».proof.Proof.ScanCaseA
public import proofs.«01_k».proof.Proof.ScanCaseB
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

variable (p : S8192x7680.Idx → EReal) (sm : S8192x128.Idx → EReal) (cw : S5x1x4096.Idx → EReal) (cb : S4096.Idx → EReal)
  (al df : S32.Idx → EReal)

/-- The row of a chunk's position. -/
def row (t : ℕ) (r : Fin 128) : Fin 8192 := ⟨(128 * t + r.val) % 8192, Nat.mod_lt _ (by norm_num)⟩

/-- A tap of the convolution: zero outside the batch element. -/
def tap (R : Fin 8192) (k : ℕ) (d : Fin 4096) : EReal :=
  if 2 ≤ R.val % 2048 + k ∧ R.val % 2048 + k < 2050 then
    p (ix2 ⟨(R.val + k - 2) % 8192, Nat.mod_lt _ (by norm_num)⟩ ⟨d.val, by omega⟩) else 0

/-- The convolution with its bias. -/
def conv (R : Fin 8192) (d : Fin 4096) : EReal :=
  ((((cb (ix1 d) + cw (ix3 (0 : Fin 5) (0 : Fin 1) d) * tap p R 0 d) + cw (ix3 (1 : Fin 5) (0 : Fin 1) d) * tap p R 1 d)
    + cw (ix3 (2 : Fin 5) (0 : Fin 1) d) * tap p R 2 d) + cw (ix3 (3 : Fin 5) (0 : Fin 1) d) * tap p R 3 d)
    + cw (ix3 (4 : Fin 5) (0 : Fin 1) d) * tap p R 4 d

/-- The activated convolution. -/
def act (R : Fin 8192) (d : Fin 4096) : EReal := conv p cw cb R d * Ideal.logistic (conv p cw cb R d)

def softp (x : EReal) : EReal := max x 0 + Ideal.log1p (Ideal.exp (0 - FloatOps.absf (F := Ideal) (φ := .f32) x))

/-- A head's time step. -/
def dts (R : Fin 8192) (h : Fin 32) : EReal := softp (sm (ix2 R ⟨64 + h.val, by omega⟩) + df (ix1 h))

/-- A head's decay exponents. -/
def adt (R : Fin 8192) (h : Fin 32) : EReal := dts sm df R h * (0 - Ideal.exp (al (ix1 h)))

/-- Their running sums inside a chunk. -/
def cum (t : ℕ) (r : Fin 128) (h : Fin 32) : EReal :=
  ∑ x : Fin 128, if x.val ≤ r.val then adt sm al df (row t x) h else 0

/-- A scaled input of a head. -/
def xdt (R : Fin 8192) (h : Fin 32) (e : Fin 64) : EReal :=
  act p cw cb R ⟨64 * h.val + e.val, by omega⟩ * dts sm df R h

/-- A head's input and output projections of the state. -/
def bg (R : Fin 8192) (h : Fin 32) (n : Fin 128) : EReal := act p cw cb R ⟨2048 + 128 * (h.val / 4) + n.val, by omega⟩
def cg (R : Fin 8192) (h : Fin 32) (n : Fin 128) : EReal := act p cw cb R ⟨3072 + 128 * (h.val / 4) + n.val, by omega⟩

/-- What a chunk adds to a head's state. -/
def inc (t : ℕ) (h : Fin 32) (n : Fin 128) (e : Fin 64) : EReal :=
  ∑ s : Fin 128, bg p cw cb (row t s) h n
    * (xdt p sm cw cb df (row t s) h e * Ideal.exp (cum sm al df t 127 h - cum sm al df t s h))

/-- A head's state before chunk `s` of batch element `b`. -/
def state (b : ℕ) (h : Fin 32) (n : Fin 128) (e : Fin 64) : ℕ → EReal
  | 0 => 0
  | s + 1 => state b h n e s * Ideal.exp (cum sm al df (16 * b + s) 127 h) + inc p sm cw cb al df (16 * b + s) h n e

/-- An output of a head. -/
def outh (t : ℕ) (r : Fin 128) (h : Fin 32) (e : Fin 64) : EReal :=
  (∑ k : Fin 128, (Ideal.exp (if k.val ≤ r.val then cum sm al df t r h - cum sm al df t k h else NINF)
      * ∑ n : Fin 128, cg p cw cb (row t r) h n * bg p cw cb (row t k) h n) * xdt p sm cw cb df (row t k) h e)
    + Ideal.exp (cum sm al df t r h) * ∑ n : Fin 128, cg p cw cb (row t r) h n * state p sm cw cb al df (t / 16) h n e (t % 16)

/-- The two results. -/
def RO : S8192x2048.Idx → EReal := fun i =>
  outh p sm cw cb al df ((i 0).val / 128) ⟨(i 0).val % 128, Nat.mod_lt _ (by norm_num)⟩
    ⟨(i 1).val / 64, by have : (i 1).val < 2048 := (i 1).isLt; omega⟩ ⟨(i 1).val % 64, Nat.mod_lt _ (by norm_num)⟩
def RX : S8192x4096.Idx → EReal := fun i => act p cw cb (i 0) (i 1)

end Cert.Kernel9Ideal.Scan
end
-- ==== Proof.ScanArgs.lean ====
/- The blocks a step of the forward scan reads, over the layer's arrays, and what a step leaves. -/
module

public import proofs.«01_k».proof.Proof.ScanSpec
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

variable (m : (ℓ : Loc nD τ sig) → Buf (Elt Ideal) ℓ)

theorem V_p (c : Dev nD) (r : Fin 8192) (k : Fin 7680) :
    V m c main_v8 (ix2 r k) = m ⟨c, Proc.tc.devRef main_arg0⟩ (ix2 r k) := by
  unfold V; after_reads_at

theorem V_sm (c : Dev nD) (r : Fin 8192) (k : Fin 128) :
    V m c main_arg1 (ix2 r k) = m ⟨c, Proc.tc.devRef main_arg1⟩ (ix2 r k) := by
  unfold V; after_reads_at

theorem V_smT (c : Dev nD) (r : Fin 8192) (k : Fin 128) :
    V m c main_v9 (ix2 k r) = m ⟨c, Proc.tc.devRef main_arg1⟩ (ix2 r k) := by
  unfold V; after_reads_at

theorem V_cw (c : Dev nD) (j : Fin 5) (k : Fin 4096) :
    V m c main_v10 (ix2 j k) = m ⟨c, Proc.tc.devRef main_arg2⟩ (ix3 j 0 k) := by
  unfold V; after_reads_at

theorem V_cb (c : Dev nD) (k : Fin 4096) : V m c main_v11 (ix2 0 k) = m ⟨c, Proc.tc.devRef main_arg3⟩ (ix1 k) := by
  unfold V; after_reads_at

theorem V_bl (c : Dev nD) (h : Fin 32) :
    V m c main_v2 (ix2 0 ⟨64 + h.val, by omega⟩) = m ⟨c, Proc.tc.devRef main_arg6⟩ (ix1 h) := by
  unfold V; after_reads_at
  after_reads_at

theorem V_bc (c : Dev nD) (h : Fin 32) :
    V m c main_v3 (ix2 ⟨64 + h.val, by omega⟩ 0) = m ⟨c, Proc.tc.devRef main_arg6⟩ (ix1 h) := by
  unfold V; after_reads_at
  after_reads_at

theorem V_al (c : Dev nD) (h : Fin 32) :
    V m c main_v6 (ix2 0 ⟨64 + h.val, by omega⟩) = m ⟨c, Proc.tc.devRef main_arg4⟩ (ix1 h) := by
  unfold V; after_reads_at
  after_reads_at

theorem V_ac (c : Dev nD) (h : Fin 32) :
    V m c main_v7 (ix2 ⟨64 + h.val, by omega⟩ 0) = m ⟨c, Proc.tc.devRef main_arg4⟩ (ix1 h) := by
  unfold V; after_reads_at
  after_reads_at

theorem idx0 : ∀ t : Fin cfg0.N, win0_0.index t = ![t.val, 0] := (by decide +kernel : ∀ t : Fin grid0.N, _)
theorem idx1 : ∀ t : Fin cfg0.N, win0_1.index t = ![8 * t.val - 1, 0] := (by decide +kernel : ∀ t : Fin grid0.N, _)
theorem idx2 : ∀ t : Fin cfg0.N, win0_2.index t = ![min (8 * (t.val + 1)) 511, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem coord1 : ∀ t : Fin cfg0.N, (grid0.coords t 1).val = t.val % 16 := (by decide +kernel : ∀ t : Fin grid0.N, _)

section
variable (c : Dev nD) (t : Fin cfg0.N)

theorem b0 (R : Fin 8192) (r : Fin 128) (hR : R.val = t.val * 128 + r.val) (k : Fin 4096) :
    X0_0 m c t (ix2 r k) = m ⟨c, Proc.tc.devRef main_arg0⟩ (ix2 R ⟨k.val, by omega⟩) := by
  refine Eq.trans ?_ (V_p m c R ⟨k.val, by omega⟩)
  unfold X0_0 Pipeline.Window.fill
  rw [dif_pos (moved0_0 t (ix2 r k))]
  blk_ext [iblk, idx0 t]

theorem b1 (R : Fin 8192) (r : Fin 16) (hR : R.val = (8 * t.val - 1) * 16 + r.val) (k : Fin 4096) :
    X0_1 m c t (ix2 r k) = m ⟨c, Proc.tc.devRef main_arg0⟩ (ix2 R ⟨k.val, by omega⟩) := by
  refine Eq.trans ?_ (V_p m c R ⟨k.val, by omega⟩)
  unfold X0_1 Pipeline.Window.fill
  rw [dif_pos (moved0_1 t (ix2 r k))]
  blk_ext [iblk, idx1 t]

theorem b2 (R : Fin 8192) (r : Fin 16) (hR : R.val = (min (8 * (t.val + 1)) 511) * 16 + r.val) (k : Fin 4096) :
    X0_2 m c t (ix2 r k) = m ⟨c, Proc.tc.devRef main_arg0⟩ (ix2 R ⟨k.val, by omega⟩) := by
  refine Eq.trans ?_ (V_p m c R ⟨k.val, by omega⟩)
  unfold X0_2 Pipeline.Window.fill
  rw [dif_pos (moved0_2 t (ix2 r k))]
  blk_ext [iblk, idx2 t]

theorem b3 (R : Fin 8192) (r : Fin 128) (hR : R.val = t.val * 128 + r.val) (k : Fin 128) :
    iblk m c 3 t (ix2 r k) = m ⟨c, Proc.tc.devRef main_arg1⟩ (ix2 R k) := by
  refine Eq.trans ?_ (V_sm m c R k)
  blk_ext [iblk, idx3 t]

theorem b4 (R : Fin 8192) (r : Fin 128) (hR : R.val = t.val * 128 + r.val) (k : Fin 128) :
    iblk m c 4 t (ix2 k r) = m ⟨c, Proc.tc.devRef main_arg1⟩ (ix2 R k) := by
  refine Eq.trans ?_ (V_smT m c R k)
  blk_ext [iblk, idx4 t]

theorem b5 (j : Fin 5) (k : Fin 4096) : iblk m c 5 t (ix2 j k) = m ⟨c, Proc.tc.devRef main_arg2⟩ (ix3 j 0 k) := by
  refine Eq.trans ?_ (V_cw m c j k)
  blk_ext [iblk, idx5 t]

theorem b6 (k : Fin 4096) : iblk m c 6 t (ix2 0 k) = m ⟨c, Proc.tc.devRef main_arg3⟩ (ix1 k) := by
  refine Eq.trans ?_ (V_cb m c k)
  blk_ext [iblk, idx6 t]

theorem b7 (h : Fin 32) : iblk m c 7 t (ix2 0 ⟨64 + h.val, by omega⟩) = m ⟨c, Proc.tc.devRef main_arg6⟩ (ix1 h) := by
  refine Eq.trans ?_ (V_bl m c h)
  blk_ext [iblk, idx7 t]

theorem b8 (h : Fin 32) : iblk m c 8 t (ix2 0 ⟨64 + h.val, by omega⟩) = m ⟨c, Proc.tc.devRef main_arg4⟩ (ix1 h) := by
  refine Eq.trans ?_ (V_al m c h)
  blk_ext [iblk, idx8 t]

theorem b9 (h : Fin 32) : iblk m c 9 t (ix2 ⟨64 + h.val, by omega⟩ 0) = m ⟨c, Proc.tc.devRef main_arg6⟩ (ix1 h) := by
  refine Eq.trans ?_ (V_bc m c h)
  blk_ext [iblk, idx9 t]

theorem b10 (h : Fin 32) : iblk m c 10 t (ix2 ⟨64 + h.val, by omega⟩ 0) = m ⟨c, Proc.tc.devRef main_arg4⟩ (ix1 h) := by
  refine Eq.trans ?_ (V_ac m c h)
  blk_ext [iblk, idx10 t]

/-- What a step computes from its blocks. -/
def XB : FVec Ideal S128x4096 .bf16 :=
  TX (TE (grid0.coords t) (X0_0 m c t) (X0_1 m c t) (X0_2 m c t)) (iblk m c 5 t) (iblk m c 6 t)
def DB : FVec Ideal S128x128 .f32 := k0_pay24 (F := Ideal) (iblk m c 3 t) (iblk m c 7 t)
def CB : FVec Ideal S128x128 .f32 := k0_pay25 (F := Ideal) (iblk m c 3 t) (iblk m c 7 t) (iblk m c 8 t)
def CBT : FVec Ideal S128x128 .f32 :=
  k0_pay27 (F := Ideal) k0_pay23 (k0_pay26 (F := Ideal) (iblk m c 4 t) (iblk m c 9 t)) (iblk m c 10 t)

/-- A batch element's first chunk starts from nothing. -/
theorem outs_A (h0 : t.val % 16 = 0) : outsAt0 m c t.val t.isLt
    = (TY (DB m c t) (CB m c t) (CBT m c t) (XB m c t) (k0_pay2 (F := Ideal)), XB m c t,
      TS (DB m c t) (CB m c t) (XB m c t) (k0_pay2 (F := Ideal))) := by
  rw [outsAt0_A m c t h0]
  refine Prod.ext ?_ (Prod.ext ?_ ?_)
  · unfold out0_A_11
    rw [View.read_writes_junk_eq_canon, outA]
    rfl
  · unfold out0_A_12
    rw [View.read_writes_junk_eq_canon, xbcA]
    rfl
  · unfold sout0_A_2
    rw [View.read_writes_junk_eq_canon, stA]
    rfl

/-- A later chunk starts from what the chunk before it left. -/
theorem outs_B (h0 : ¬t.val % 16 = 0) (S : FVec Ideal S16x128x128 .f32)
    (hS : (outsAt0 m c (t.val - 1) (Nat.lt_of_le_of_lt (Nat.sub_le _ _) t.isLt)).2.2 = S) : outsAt0 m c t.val t.isLt
    = (TY (DB m c t) (CB m c t) (CBT m c t) (XB m c t) S, XB m c t, TS (DB m c t) (CB m c t) (XB m c t) S) := by
  rw [outsAt0_B m c t h0, hS]
  refine Prod.ext ?_ (Prod.ext ?_ ?_)
  · unfold out0_B_11
    rw [View.read_writes_junk_eq_canon, outB]
    rfl
  · unfold out0_B_12
    rw [View.read_writes_junk_eq_canon, xbcB]
    rfl
  · unfold sout0_B_2
    rw [View.read_writes_junk_eq_canon, stB]
    rfl

end

end Cert.Kernel9Ideal.Scan
end
-- ==== Proof.ScanFinal.lean ====
/- The forward scan's results: every step leaves the state of the closed form, and stores its outputs. -/
module

public import proofs.«01_k».proof.Proof.ScanArgs
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel9Ideal.Scan

open Cert.Kernel9Ideal Cert.Kernel9Ideal.Gen

theorem sel_eq {α : Type} (a b : ℕ) (ha : a < 16) (hb : b < 16) (x y : α) :
    Scalar.select (Scalar.cmpi .eq (BitVec.ofNat 32 a) (BitVec.ofNat 32 b)) x y = if a = b then x else y := by
  interval_cases a <;> interval_cases b <;> rfl

/-- The triangle of ones. -/
theorem tri (x r : Fin 128) : FloatOps.sitofp (F := Ideal) .f32
      (BitVec.setWidth 32 (IntOp.cmpi .sle (BitVec.ofNat 32 x.val) (BitVec.ofNat 32 r.val)))
    = if x.val ≤ r.val then (1 : EReal) else 0 := by
  have h1 : ((BitVec.setWidth 32 (1#1)).toInt : ℝ) = 1 := by norm_num
  have h0 : ((BitVec.setWidth 32 (0#1)).toInt : ℝ) = 0 := by norm_num
  rw [WordCmp.cmpi_sle_ofNat (by have := x.isLt; omega) (by have := r.isLt; omega)]
  by_cases h : x.val ≤ r.val
  · rw [if_pos h, decide_eq_true h]
    show (((BitVec.setWidth 32 (1#1)).toInt : ℝ) : EReal) = 1
    rw [h1]; rfl
  · rw [if_neg h, decide_eq_false h]
    show (((BitVec.setWidth 32 (0#1)).toInt : ℝ) : EReal) = 0
    rw [h0]; rfl

variable (m : (ℓ : Loc nD τ sig) → Buf (Elt Ideal) ℓ)

section
variable (c : Dev nD)

/-- The arguments. -/
abbrev aP : S8192x7680.Idx → EReal := m ⟨c, Proc.tc.devRef main_arg0⟩
abbrev aS : S8192x128.Idx → EReal := m ⟨c, Proc.tc.devRef main_arg1⟩
abbrev aW : S5x1x4096.Idx → EReal := m ⟨c, Proc.tc.devRef main_arg2⟩
abbrev aB : S4096.Idx → EReal := m ⟨c, Proc.tc.devRef main_arg3⟩
abbrev aA : S32.Idx → EReal := m ⟨c, Proc.tc.devRef main_arg4⟩
abbrev aD : S32.Idx → EReal := m ⟨c, Proc.tc.devRef main_arg6⟩

theorem n64 : cfg0.N = 64 := by decide +kernel

variable (t : Fin cfg0.N)

theorem row_val (r : Fin 128) : (row t.val r).val = t.val * 128 + r.val := by
  have ht : t.val < 64 := lt_of_lt_of_eq t.isLt n64
  show (128 * t.val + r.val) % 8192 = _
  omega

/-- A row of the chunk with its neighbours is a tap of the convolution. -/
theorem TE_tap (r : Fin 128) (k : ℕ) (hk : k ≤ 4) (d : Fin 4096) :
    TE (grid0.coords t) (X0_0 m c t) (X0_1 m c t) (X0_2 m c t) (ix2 (rsh r k hk) d) = tap (aP m c) (row t.val r) k d := by
  have ht : t.val < 64 := lt_of_lt_of_eq t.isLt n64
  have hr := r.isLt
  have hv := row_val t r
  show rowE (grid0.coords t) (X0_0 m c t) (X0_1 m c t) (X0_2 m c t) (rsh r k hk) d = _
  have hs : (rsh r k hk).val = 6 + k + r.val := rfl
  unfold rowE tap
  by_cases h1 : 6 + k + r.val < 8
  · rw [dif_pos (show (rsh r k hk).val < 8 from h1)]
    unfold rowP
    rw [coord1 t]
    refine (sel_eq (t.val % 16) 0 (by omega) (by omega) _ _).trans ?_
    by_cases h0 : t.val % 16 = 0
    · rw [if_pos h0, if_neg (by omega)]
    · rw [if_neg h0, if_pos (by omega)]
      exact b1 m c t _ _ (by show ((row t.val r).val + k - 2) % 8192 = (8 * t.val - 1) * 16 + (8 + (6 + k + r.val)); omega) d
  · rw [dif_neg (show ¬(rsh r k hk).val < 8 from h1)]
    by_cases h2 : 6 + k + r.val < 136
    · rw [dif_pos (show (rsh r k hk).val < 136 from h2), if_pos (by omega)]
      exact b0 m c t _ _ (by show ((row t.val r).val + k - 2) % 8192 = t.val * 128 + (6 + k + r.val - 8); omega) d
    · rw [dif_neg (show ¬(rsh r k hk).val < 136 from h2)]
      unfold rowN
      rw [coord1 t]
      refine (sel_eq (t.val % 16) 15 (by omega) (by omega) _ _).trans ?_
      by_cases h0 : t.val % 16 = 15
      · rw [if_pos h0, if_neg (by omega)]
      · rw [if_neg h0, if_pos (by omega)]
        exact b2 m c t _ _ (by show ((row t.val r).val + k - 2) % 8192 = (min (8 * (t.val + 1)) 511) * 16 + (6 + k + r.val - 136); omega) d

theorem XB_apply (r : Fin 128) (d : Fin 4096) : XB m c t (ix2 r d) = act (aP m c) (aW m c) (aB m c) (row t.val r) d := by
  have e : convE (TE (grid0.coords t) (X0_0 m c t) (X0_1 m c t) (X0_2 m c t)) (iblk m c 5 t) (iblk m c 6 t) r d
      = conv (aP m c) (aW m c) (aB m c) (row t.val r) d := by
    unfold convE conv
    rw [TE_tap, TE_tap, TE_tap, TE_tap, TE_tap, b6 m c t d, b5 m c t 0 d, b5 m c t 1 d, b5 m c t 2 d, b5 m c t 3 d, b5 m c t 4 d]
  unfold XB TX act
  rw [← e]
  rfl

theorem pay24 (a : FVec Ideal S128x128 .f32) (b : FVec Ideal S1x128 .f32) (r k : Fin 128) :
    k0_pay24 (F := Ideal) a b (ix2 r k) = softp (a (ix2 r k) + b (ix2 0 k)) := by
  unfold softp
  pointwise [k0_pay24]

theorem pay26 (a : FVec Ideal S128x128 .f32) (b : FVec Ideal S128x1 .f32) (r k : Fin 128) :
    k0_pay26 (F := Ideal) a b (ix2 r k) = a (ix2 r k) + b (ix2 r 0) := by
  pointwise [k0_pay26]

theorem DB_apply (r : Fin 128) (h : Fin 32) : DB m c t (ix2 r ⟨64 + h.val, by omega⟩) = dts (aS m c) (aD m c) (row t.val r) h := by
  unfold DB dts
  rw [pay24, b3 m c t _ r (row_val t r), b7 m c t h]

theorem pay25 (a : FVec Ideal S128x128 .f32) (b d : FVec Ideal S1x128 .f32) (r k : Fin 128) :
    k0_pay25 (F := Ideal) a b d (ix2 r k) = ∑ x : Fin 128,
      FloatOps.sitofp (F := Ideal) .f32 (BitVec.setWidth 32 (IntOp.cmpi .sle (BitVec.ofNat 32 x.val) (BitVec.ofNat 32 r.val)))
        * (k0_pay24 (F := Ideal) a b (ix2 x k) * (0 - Ideal.exp (d (ix2 0 k)))) := by
  pointwise [k0_pay25, k0_pay22]

theorem pay27 (a : FVec Ideal S128x128 .f32) (d : FVec Ideal S128x1 .f32) (r k : Fin 128) :
    k0_pay27 (F := Ideal) k0_pay23 a d (ix2 r k) = ∑ x : Fin 128,
      softp (a (ix2 r x)) * (0 - Ideal.exp (d (ix2 r 0)))
        * FloatOps.sitofp (F := Ideal) .f32 (BitVec.setWidth 32 (IntOp.cmpi .sle (BitVec.ofNat 32 x.val) (BitVec.ofNat 32 k.val))) := by
  unfold softp
  pointwise [k0_pay27, k0_pay23]

theorem CB_apply (r : Fin 128) (h : Fin 32) :
    CB m c t (ix2 r ⟨64 + h.val, by omega⟩) = cum (aS m c) (aA m c) (aD m c) t.val r h := by
  unfold CB cum adt
  rw [pay25]
  refine Finset.sum_congr (M := EReal) rfl fun x _ => ?_
  rw [tri, ← DB_apply m c t x h, b8 m c t h]
  by_cases hx : x.val ≤ r.val
  · rw [if_pos hx, if_pos hx, one_mul]; rfl
  · rw [if_neg hx, if_neg hx, zero_mul]

theorem CBT_apply (r : Fin 128) (h : Fin 32) :
    CBT m c t (ix2 ⟨64 + h.val, by omega⟩ r) = cum (aS m c) (aA m c) (aD m c) t.val r h := by
  unfold CBT cum adt dts
  rw [pay27]
  refine Finset.sum_congr (M := EReal) rfl fun x _ => ?_
  rw [tri, pay26, b4 m c t _ x (row_val t x), b9 m c t h, b10 m c t h]
  by_cases hx : x.val ≤ r.val
  · rw [if_pos hx, if_pos hx, mul_one]
  · rw [if_neg hx, if_neg hx, mul_zero]

/-- The states of the closed form, two heads a tile. -/
def SB (b s : ℕ) : FVec Ideal S16x128x128 .f32 := fun y =>
  state (aP m c) (aS m c) (aW m c) (aB m c) (aA m c) (aD m c) b
    ⟨2 * (y 0).val + (y 2).val / 64, by have h0 : (y 0).val < 16 := (y 0).isLt; have h2 : (y 2).val < 128 := (y 2).isLt; omega⟩
    (y 1) ⟨(y 2).val % 64, Nat.mod_lt _ (by norm_num)⟩ s

section
variable (q : Fin 16) (l : Fin 128)

/-- The head and the lane of a column of a pair. -/
def hd : Fin 32 := ⟨2 * q.val + l.val / 64, by omega⟩
def ln : Fin 64 := ⟨l.val % 64, Nat.mod_lt _ (by norm_num)⟩

theorem CBl (r : Fin 128) : CB m c t (ix2 r (lane q l)) = cum (aS m c) (aA m c) (aD m c) t.val r (hd q l) :=
  CB_apply m c t r (hd q l)
theorem CBTl (r : Fin 128) : CBT m c t (ix2 (lane q l) r) = cum (aS m c) (aA m c) (aD m c) t.val r (hd q l) :=
  CBT_apply m c t r (hd q l)
theorem XBb (r n : Fin 128) : XB m c t (ix2 r (colB q n)) = bg (aP m c) (aW m c) (aB m c) (row t.val r) (hd q l) n :=
  (XB_apply m c t r _).trans (congrArg (act _ _ _ _) (Fin.ext (by
    show 2048 + 128 * (q.val / 2) + n.val = 2048 + 128 * ((2 * q.val + l.val / 64) / 4) + n.val
    have := l.isLt
    omega)))
theorem XBc (r n : Fin 128) : XB m c t (ix2 r (colC q n)) = cg (aP m c) (aW m c) (aB m c) (row t.val r) (hd q l) n :=
  (XB_apply m c t r _).trans (congrArg (act _ _ _ _) (Fin.ext (by
    show 3072 + 128 * (q.val / 2) + n.val = 3072 + 128 * ((2 * q.val + l.val / 64) / 4) + n.val
    have := l.isLt
    omega)))
theorem XDl (r : Fin 128) : XD (DB m c t) (XB m c t) q r l
    = xdt (aP m c) (aS m c) (aW m c) (aB m c) (aD m c) (row t.val r) (hd q l) (ln l) := by
  unfold XD xdt
  refine congrArg₂ (fun a b : EReal => a * b) ?_ (DB_apply m c t r (hd q l))
  exact (XB_apply m c t r _).trans (congrArg (act _ _ _ _) (Fin.ext (by
    show 128 * q.val + l.val = 64 * (2 * q.val + l.val / 64) + l.val % 64
    omega)))

end

/-- A step's new states. -/
theorem TS_eq (b s : ℕ) (hb : t.val = 16 * b + s) :
    TS (DB m c t) (CB m c t) (XB m c t) (SB m c b s) = SB m c b (s + 1) := by
  funext y
  idx_vars y
  show nextS (DB m c t) (CB m c t) (XB m c t) (SB m c b s) y0 y1 y2
    = state (aP m c) (aS m c) (aW m c) (aB m c) (aA m c) (aD m c) b (hd y0 y2) y1 (ln y2) (s + 1)
  unfold nextS state inc
  rw [← hb]
  refine congrArg₂ (fun a b : EReal => a + b) (congrArg₂ (fun a b : EReal => a * b) rfl ?_)
    (Finset.sum_congr (M := EReal) rfl fun x _ => ?_)
  · rw [CBl m c t y0 y2 127]
  · rw [CBl m c t y0 y2 127, CBl m c t y0 y2 x, XBb m c t y0 y2 x y1, XDl m c t y0 y2 x]

/-- A step's outputs. -/
theorem TY_eq (r : Fin 128) (y : Fin 2048) :
    TY (DB m c t) (CB m c t) (CBT m c t) (XB m c t) (SB m c (t.val / 16) (t.val % 16)) (ix2 r y)
      = outh (aP m c) (aS m c) (aW m c) (aB m c) (aA m c) (aD m c) t.val r ⟨y.val / 64, by omega⟩
        ⟨y.val % 64, Nat.mod_lt _ (by norm_num)⟩ := by
  obtain ⟨q, hq⟩ : ∃ q : Fin 16, q.val = y.val / 128 := ⟨⟨y.val / 128, by omega⟩, rfl⟩
  obtain ⟨l, hl⟩ : ∃ l : Fin 128, l.val = y.val % 128 := ⟨⟨y.val % 128, by omega⟩, rfl⟩
  have e1 : (⟨y.val / 64, by omega⟩ : Fin 32) = hd q l := Fin.ext (by
    show y.val / 64 = 2 * q.val + l.val / 64
    omega)
  have e2 : (⟨y.val % 64, Nat.mod_lt _ (by norm_num)⟩ : Fin 64) = ln l := Fin.ext (by
    show y.val % 64 = l.val % 64
    omega)
  rw [e1, e2]
  have e : TY (DB m c t) (CB m c t) (CBT m c t) (XB m c t) (SB m c (t.val / 16) (t.val % 16)) (ix2 r y)
      = outY (DB m c t) (CB m c t) (CBT m c t) (XB m c t) (SB m c (t.val / 16) (t.val % 16)) q r l := by
    unfold TY
    congr 1
    · exact Fin.ext hq.symm
    · exact Fin.ext hl.symm
  rw [e]
  unfold outY outh
  refine congrArg₂ (fun a b : EReal => a + b) (Finset.sum_congr (M := EReal) rfl fun k _ => ?_)
    (congrArg₂ (fun a b : EReal => a * b) ?_ (Finset.sum_congr (M := EReal) rfl fun n _ => ?_))
  · refine congrArg₂ (fun a b : EReal => a * b) (congrArg₂ (fun a b : EReal => a * b) ?_
      (Finset.sum_congr (M := EReal) rfl fun n _ => ?_)) (XDl m c t q l k)
    · rw [CBl m c t q l r, CBTl m c t q l k]
    · rw [XBc m c t q l r n, XBb m c t q l k n]
  · rw [CBl m c t q l r]
  · rw [XBc m c t q l r n]
    rfl

end

/-- Nothing is carried into a batch element's first chunk. -/
theorem zero_state (c : Dev nD) (b : ℕ) : (k0_pay2 (F := Ideal)) = SB m c b 0 := by
  funext y
  show _ = (0 : EReal)
  idx_vars y
  pointwise [k0_pay2]

/-- The carried states. -/
theorem carried (c : Dev nD) : ∀ (n : ℕ) (hn : n < cfg0.N), (outsAt0 m c n hn).2.2 = SB m c (n / 16) (n % 16 + 1)
  | n, hn => by
    by_cases h0 : n % 16 = 0
    · rw [outs_A m c ⟨n, hn⟩ h0, zero_state m c (n / 16)]
      refine (TS_eq m c ⟨n, hn⟩ (n / 16) 0 (by show n = _; omega)).trans ?_
      rw [h0]
    · have ih := carried c (n - 1) (Nat.lt_of_le_of_lt (Nat.sub_le _ _) hn)
      have e : (n - 1) / 16 = n / 16 := by omega
      have e' : (n - 1) % 16 + 1 = n % 16 := by omega
      rw [e, e'] at ih
      rw [outs_B m c ⟨n, hn⟩ h0 _ ih]
      exact TS_eq m c ⟨n, hn⟩ (n / 16) (n % 16) (by show n = _; omega)
termination_by n => n
decreasing_by omega

/-- What a step stores. -/
theorem stored (c : Dev nD) (t : Fin cfg0.N) : (outsAt0 m c t.val t.isLt).1
      = TY (DB m c t) (CB m c t) (CBT m c t) (XB m c t) (SB m c (t.val / 16) (t.val % 16))
    ∧ (outsAt0 m c t.val t.isLt).2.1 = XB m c t := by
  by_cases h0 : t.val % 16 = 0
  · rw [outs_A m c t h0, zero_state m c (t.val / 16), h0]
    exact ⟨rfl, rfl⟩
  · have ih := carried m c (t.val - 1) (Nat.lt_of_le_of_lt (Nat.sub_le _ _) t.isLt)
    have e : (t.val - 1) / 16 = t.val / 16 := by omega
    have e' : (t.val - 1) % 16 + 1 = t.val % 16 := by omega
    rw [e, e'] at ih
    rw [outs_B m c t h0 _ ih]
    exact ⟨rfl, rfl⟩

/-- The outputs' array. -/
theorem final1 (c : Dev nD) : (dats m 0 c).arrAt 11 cfg0.N = RO (aP m c) (aS m c) (aW m c) (aB m c) (aA m c) (aD m c) := by
  refine (dats m 0 c).arrAt_eq_of_covers 11 _ (by decide +kernel) fun t hf y => ?_
  blk_simp
  rw [after0_11, (stored m c t).1]
  idx_vars y
  have h0 : ((win0_11.blk t).view.emb (ix2 y0 y1) 0).val = t.val * 128 + y0.val := by blk_simp [idx11 t]
  have h1 : (win0_11.blk t).view.emb (ix2 y0 y1) = ix2 ((win0_11.blk t).view.emb (ix2 y0 y1) 0) y1 := by
    funext a; fin_cases a
    · rfl
    · apply Fin.ext; blk_simp [idx11 t]; rfl
  rw [h1, TY_eq]
  have hy := y0.isLt
  unfold RO
  have ha : ((win0_11.blk t).view.emb (ix2 y0 y1) 0).val / 128 = t.val := by omega
  have hb : ((win0_11.blk t).view.emb (ix2 y0 y1) 0).val % 128 = y0.val := by omega
  show _ = outh _ _ _ _ _ _ (((win0_11.blk t).view.emb (ix2 y0 y1) 0).val / 128) ⟨((win0_11.blk t).view.emb (ix2 y0 y1) 0).val % 128, _⟩ _ _
  rw [ha]
  exact congrArg (fun z => outh _ _ _ _ _ _ t.val z _ _) (Fin.ext hb.symm)

/-- The activated convolution's array. -/
theorem final2 (c : Dev nD) : (dats m 0 c).arrAt 12 cfg0.N = RX (aP m c) (aW m c) (aB m c) := by
  refine (dats m 0 c).arrAt_eq_of_covers 12 _ (by decide +kernel) fun t hf y => ?_
  blk_simp
  rw [after0_12, (stored m c t).2]
  idx_vars y
  have h0 : ((win0_12.blk t).view.emb (ix2 y0 y1) 0).val = t.val * 128 + y0.val := by blk_simp [idx12 t]
  have h1 : (win0_12.blk t).view.emb (ix2 y0 y1) = ix2 ((win0_12.blk t).view.emb (ix2 y0 y1) 0) y1 := by
    funext a; fin_cases a
    · rfl
    · apply Fin.ext; blk_simp [idx12 t]; rfl
  rw [h1, XB_apply]
  exact congrArg (fun z => act _ _ _ z y1) (Fin.ext ((row_val t y0).trans h0.symm))

end Cert.Kernel9Ideal.Scan
end
-- ==== Proof.ScanIdx.lean ====
/- The reference's reshapes, as index maps. -/
module

public import proofs.«01_k».proof.Proof.ScanSpec
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- A position of a batch element from its chunk and its place in the chunk, and a row from its batch element and position. -/
def sq (c : Fin 16) (l : Fin 128) : Fin 2048 := ⟨128 * c.val + l.val, by omega⟩
def rr (b : Fin 4) (s : Fin 2048) : Fin 8192 := ⟨2048 * b.val + s.val, by omega⟩

theorem sq_val (c : Fin 16) (l : Fin 128) : (sq c l).val = 128 * c.val + l.val := rfl
theorem rr_val (b : Fin 4) (s : Fin 2048) : (rr b s).val = 2048 * b.val + s.val := rfl

theorem rr_sq (b : Fin 4) (c : Fin 16) (l : Fin 128) : rr b (sq c l) = row (16 * b.val + c.val) l := Fin.ext (by
  show 2048 * b.val + (128 * c.val + l.val) = (128 * (16 * b.val + c.val) + l.val) % 8192
  omega)

theorem i60 (b : Fin 4) (c : Fin 16) (l : Fin 128) (h : Fin 32) : idx_main_v60 (ix5 b c l h 0) = ix3 b (sq c l) h := by
  funext a
  apply Fin.ext
  fin_cases a <;> (try rfl) <;> dsimp [sq, rr, idx_main_v60, ix2, ix3, ix4, ix5] <;> omega

theorem i62 (b : Fin 4) (c : Fin 16) (h : Fin 32) (l : Fin 128) : idx_main_v62 (ix4 b c h l) = ix5 b c h l 0 := by
  funext a
  apply Fin.ext
  fin_cases a <;> (try rfl) <;> dsimp [sq, rr, idx_main_v62, ix2, ix3, ix4, ix5] <;> omega

theorem i67 (b : Fin 4) (c : Fin 16) (l : Fin 128) (h : Fin 32) (e : Fin 64) : idx_main_v67 (ix5 b c l h e) = ix4 b (sq c l) h e := by
  funext a
  apply Fin.ext
  fin_cases a <;> (try rfl) <;> dsimp [sq, rr, idx_main_v67, ix2, ix3, ix4, ix5] <;> omega

theorem i71 (b : Fin 4) (c : Fin 16) (l : Fin 128) (h : Fin 32) (n : Fin 128) : idx_main_v71 (ix5 b c l h n) = ix4 b (sq c l) h n := by
  funext a
  apply Fin.ext
  fin_cases a <;> (try rfl) <;> dsimp [sq, rr, idx_main_v71, ix2, ix3, ix4, ix5] <;> omega

theorem i75 (b : Fin 4) (c : Fin 16) (l : Fin 128) (h : Fin 32) (n : Fin 128) : idx_main_v75 (ix5 b c l h n) = ix4 b (sq c l) h n := by
  funext a
  apply Fin.ext
  fin_cases a <;> (try rfl) <;> dsimp [sq, rr, idx_main_v75, ix2, ix3, ix4, ix5] <;> omega

theorem i70 (b : Fin 4) (s : Fin 2048) (h : Fin 32) (n : Fin 128) : idx_main_v70 (ix4 b s h n) = ix5 b s ⟨h.val / 4, by omega⟩ ⟨h.val % 4, by omega⟩ n := by
  funext a
  apply Fin.ext
  fin_cases a <;> (try rfl) <;> dsimp [sq, rr, idx_main_v70, ix2, ix3, ix4, ix5] <;> omega

theorem i74 (b : Fin 4) (s : Fin 2048) (h : Fin 32) (n : Fin 128) : idx_main_v74 (ix4 b s h n) = ix5 b s ⟨h.val / 4, by omega⟩ ⟨h.val % 4, by omega⟩ n := by
  funext a
  apply Fin.ext
  fin_cases a <;> (try rfl) <;> dsimp [sq, rr, idx_main_v74, ix2, ix3, ix4, ix5] <;> omega

theorem i46 (b : Fin 4) (s : Fin 2048) (h : Fin 32) (e : Fin 64) : idx_main_v46 (ix4 b s h e) = ix3 b s ⟨64 * h.val + e.val, by omega⟩ := by
  funext a
  apply Fin.ext
  fin_cases a <;> (try rfl) <;> dsimp [sq, rr, idx_main_v46, ix2, ix3, ix4, ix5] <;> omega

theorem i48 (b : Fin 4) (s : Fin 2048) (g : Fin 8) (n : Fin 128) : idx_main_v48 (ix4 b s g n) = ix3 b s ⟨128 * g.val + n.val, by omega⟩ := by
  funext a
  apply Fin.ext
  fin_cases a <;> (try rfl) <;> dsimp [sq, rr, idx_main_v48, ix2, ix3, ix4, ix5] <;> omega

theorem i50 (b : Fin 4) (s : Fin 2048) (g : Fin 8) (n : Fin 128) : idx_main_v50 (ix4 b s g n) = ix3 b s ⟨128 * g.val + n.val, by omega⟩ := by
  funext a
  apply Fin.ext
  fin_cases a <;> (try rfl) <;> dsimp [sq, rr, idx_main_v50, ix2, ix3, ix4, ix5] <;> omega

theorem i253 (b : Fin 4) (s : Fin 2048) (h : Fin 32) (e : Fin 64) : idx_main_v253 (ix4 b s h e) = ix5 b ⟨s.val / 128, by omega⟩ ⟨s.val % 128, by omega⟩ h e := by
  funext a
  apply Fin.ext
  fin_cases a <;> (try rfl) <;> dsimp [sq, rr, idx_main_v253, ix2, ix3, ix4, ix5] <;> omega

theorem i254 (R : Fin 8192) (y : Fin 2048) : idx_main_v254 (ix2 R y) = ix4 ⟨R.val / 2048, by omega⟩ ⟨R.val % 2048, by omega⟩ ⟨y.val / 64, by omega⟩ ⟨y.val % 64, by omega⟩ := by
  funext a
  apply Fin.ext
  fin_cases a <;> (try rfl) <;> dsimp [sq, rr, idx_main_v254, ix2, ix3, ix4, ix5] <;> omega

theorem i255 (R : Fin 8192) (d : Fin 4096) : idx_main_v255 (ix2 R d) = ix3 ⟨R.val / 2048, by omega⟩ ⟨R.val % 2048, by omega⟩ d := by
  funext a
  apply Fin.ext
  fin_cases a <;> (try rfl) <;> dsimp [sq, rr, idx_main_v255, ix2, ix3, ix4, ix5] <;> omega

theorem i3 (b : Fin 4) (s : Fin 2048) (h : Fin 32) : idx_main_v3 (ix3 b s h) = ix2 (rr b s) h := by
  funext a
  apply Fin.ext
  fin_cases a <;> (try rfl) <;> dsimp [sq, rr, idx_main_v3, ix2, ix3, ix4, ix5] <;> omega

theorem i1 (b : Fin 4) (s : Fin 2048) (d : Fin 4096) : idx_main_v1 (ix3 b s d) = ix2 (rr b s) d := by
  funext a
  apply Fin.ext
  fin_cases a <;> (try rfl) <;> dsimp [sq, rr, idx_main_v1, ix2, ix3, ix4, ix5] <;> omega

end Cert.Reference9Ideal.Scan
end
-- ==== Proof.ScanRefA.lean ====
/- The reference's stages: the short convolution and its activation. -/
module

public import proofs.«01_k».proof.Proof.ScanIdx
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- The padded input at a row. -/
theorem pad4 (x : S4x2048x4096.Idx → EReal) (v : S_.Idx → EReal) (hv : ∀ i, v i = 0) (b : Fin 4) (u : Fin 2052) (d : Fin 4096) :
    pad S4x2052x4096 ![0, 2, 0] ![0, 2, 0] ![0, 0, 0] x v pads_S4x2048x4096_S4x2052x4096_000_220_000 h_S_ (ix3 b u d)
      = if h : 2 ≤ u.val ∧ u.val < 2050 then x (ix3 b ⟨u.val - 2, by omega⟩ d) else (0 : EReal) := by
  rw [← hv (Shape.Idx.first h_S_)]
  pointwise
  exact dite_congr (propext (by omega)) (fun _ => rfl) fun _ => rfl

/-- A row of the padded input is a tap. -/
theorem v4_eq (b : Fin 4) (s : Fin 2048) (k : ℕ) (hk : k ≤ 4) (d : Fin 4096) :
    val_main_v4 (F := Ideal) x0 (ix3 b ⟨s.val + k, by omega⟩ d) = tap x0 (rr b s) k d := by
  have h0 : FloatOps.sitofp (F := Ideal) .f32 0#32 = (0 : EReal) := by
    show (((0#32).toInt : ℝ) : EReal) = 0
    simp
  unfold val_main_v4 tap
  refine (pad4 (val_main_v1 (F := Ideal) x0) (val_main_call0_v0 (F := Ideal)) (fun _ => h0) b ⟨s.val + k, by omega⟩ d).trans ?_
  have hb := b.isLt
  have hs := s.isLt
  have hr := rr_val b s
  by_cases h : 2 ≤ s.val + k ∧ s.val + k < 2050
  · rw [dif_pos h, if_pos (by omega), val_main_v1_apply, i1, val_main_v0_apply]
    refine congrArg x0 (funext fun a => Fin.ext ?_)
    match a with
    | ⟨0, _⟩ =>
      show (rr b ⟨s.val + k - 2, by omega⟩).val = ((rr b s).val + k - 2) % 8192
      rw [rr_val]
      dsimp only
      omega
    | ⟨1, _⟩ => rfl
  · rw [dif_neg h, if_neg (by omega)]

/-- One tap of the convolution. -/
theorem v10_eq (b : Fin 4) (s : Fin 2048) (d : Fin 4096) :
    val_main_v10 (F := Ideal) x0 x2 (ix3 b s d) = x2 (ix3 0 0 d) * tap x0 (rr b s) 0 d := by
  have e1 : val_main_v5 (F := Ideal) x0 (ix3 b s d) = val_main_v4 (F := Ideal) x0 (ix3 b ⟨s.val + 0, by omega⟩ d) := by
    rw [val_main_v5_apply]
    exact congrArg _ (by idx_ext)
  have e2 : val_main_v9 (F := Ideal) x2 (ix3 b s d) = x2 (ix3 0 0 d) := by
    rw [val_main_v9_apply, val_main_v8_apply, val_main_v7_apply, val_main_v6_apply]
    exact congrArg x2 (by idx_ext)
  rw [val_main_v10_apply, e1, e2, v4_eq x0 b s 0 (by omega) d]
  exact mul_comm (G := EReal) _ _

/-- One tap of the convolution. -/
theorem v18_eq (b : Fin 4) (s : Fin 2048) (d : Fin 4096) :
    val_main_v18 (F := Ideal) x0 x2 (ix3 b s d) = x2 (ix3 1 0 d) * tap x0 (rr b s) 1 d := by
  have e1 : val_main_v13 (F := Ideal) x0 (ix3 b s d) = val_main_v4 (F := Ideal) x0 (ix3 b ⟨s.val + 1, by omega⟩ d) := by
    rw [val_main_v13_apply]
    exact congrArg _ (by idx_ext)
  have e2 : val_main_v17 (F := Ideal) x2 (ix3 b s d) = x2 (ix3 1 0 d) := by
    rw [val_main_v17_apply, val_main_v16_apply, val_main_v15_apply, val_main_v14_apply]
    exact congrArg x2 (by idx_ext)
  rw [val_main_v18_apply, e1, e2, v4_eq x0 b s 1 (by omega) d]
  exact mul_comm (G := EReal) _ _

/-- One tap of the convolution. -/
theorem v25_eq (b : Fin 4) (s : Fin 2048) (d : Fin 4096) :
    val_main_v25 (F := Ideal) x0 x2 (ix3 b s d) = x2 (ix3 2 0 d) * tap x0 (rr b s) 2 d := by
  have e1 : val_main_v20 (F := Ideal) x0 (ix3 b s d) = val_main_v4 (F := Ideal) x0 (ix3 b ⟨s.val + 2, by omega⟩ d) := by
    rw [val_main_v20_apply]
    exact congrArg _ (by idx_ext)
  have e2 : val_main_v24 (F := Ideal) x2 (ix3 b s d) = x2 (ix3 2 0 d) := by
    rw [val_main_v24_apply, val_main_v23_apply, val_main_v22_apply, val_main_v21_apply]
    exact congrArg x2 (by idx_ext)
  rw [val_main_v25_apply, e1, e2, v4_eq x0 b s 2 (by omega) d]
  exact mul_comm (G := EReal) _ _

/-- One tap of the convolution. -/
theorem v32_eq (b : Fin 4) (s : Fin 2048) (d : Fin 4096) :
    val_main_v32 (F := Ideal) x0 x2 (ix3 b s d) = x2 (ix3 3 0 d) * tap x0 (rr b s) 3 d := by
  have e1 : val_main_v27 (F := Ideal) x0 (ix3 b s d) = val_main_v4 (F := Ideal) x0 (ix3 b ⟨s.val + 3, by omega⟩ d) := by
    rw [val_main_v27_apply]
    exact congrArg _ (by idx_ext)
  have e2 : val_main_v31 (F := Ideal) x2 (ix3 b s d) = x2 (ix3 3 0 d) := by
    rw [val_main_v31_apply, val_main_v30_apply, val_main_v29_apply, val_main_v28_apply]
    exact congrArg x2 (by idx_ext)
  rw [val_main_v32_apply, e1, e2, v4_eq x0 b s 3 (by omega) d]
  exact mul_comm (G := EReal) _ _

/-- One tap of the convolution. -/
theorem v39_eq (b : Fin 4) (s : Fin 2048) (d : Fin 4096) :
    val_main_v39 (F := Ideal) x0 x2 (ix3 b s d) = x2 (ix3 4 0 d) * tap x0 (rr b s) 4 d := by
  have e1 : val_main_v34 (F := Ideal) x0 (ix3 b s d) = val_main_v4 (F := Ideal) x0 (ix3 b ⟨s.val + 4, by omega⟩ d) := by
    rw [val_main_v34_apply]
    exact congrArg _ (by idx_ext)
  have e2 : val_main_v38 (F := Ideal) x2 (ix3 b s d) = x2 (ix3 4 0 d) := by
    rw [val_main_v38_apply, val_main_v37_apply, val_main_v36_apply, val_main_v35_apply]
    exact congrArg x2 (by idx_ext)
  rw [val_main_v39_apply, e1, e2, v4_eq x0 b s 4 (by omega) d]
  exact mul_comm (G := EReal) _ _

/-- The convolution with its bias. -/
theorem v43_eq (b : Fin 4) (s : Fin 2048) (d : Fin 4096) :
    val_main_v43 (F := Ideal) x0 x2 x3 (ix3 b s d) = conv x0 x2 x3 (rr b s) d := by
  have e0 : val_main_v11 (F := Ideal) (ix3 b s d) = (0 : EReal) := by
    pointwise [val_main_v11, val_main_cst]
  have e1 : val_main_v42 (F := Ideal) x3 (ix3 b s d) = x3 (ix1 d) := by
    rw [val_main_v42_apply, val_main_v41_apply]
    exact congrArg x3 (by idx_ext)
  unfold conv
  rw [val_main_v43_apply, val_main_v40_apply, val_main_v33_apply, val_main_v26_apply, val_main_v19_apply, val_main_v12_apply, v10_eq, v18_eq,
    v25_eq, v32_eq, v39_eq, e0, e1]
  show ((((((0 : EReal) + _) + _) + _) + _) + _) + _ = _
  rw [zero_add]
  ac_rfl

/-- The activation. -/
theorem v44_eq (b : Fin 4) (s : Fin 2048) (d : Fin 4096) :
    val_main_v44 (F := Ideal) x0 x2 x3 (ix3 b s d) = act x0 x2 x3 (rr b s) d := by
  unfold act
  rw [← v43_eq]
  unfold Ideal.logistic
  pointwise [val_main_v44, val_main_call1_v5, val_main_call1_v4, val_main_call1_v3, val_main_call1_v2, val_main_call1_v1, val_main_call1_v0,
    val_main_call1_cst, val_main_call1_cst_0]

end Cert.Reference9Ideal.Scan
end
-- ==== Proof.ScanCum.lean ====
/- The running sums as the reference prints them: a window of the whole chunk, padded low. -/
module

public import proofs.«01_k».proof.Proof.ScanSpec
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

abbrev Win : Shape := ⟨4, ![1, 1, 1, 128]⟩

theorem win_numel : Win.numel = 128 := by decide +kernel

theorem win_symm (n : Fin Win.numel) : Win.rowMajor.symm n = ix4 (0 : Fin 1) (0 : Fin 1) (0 : Fin 1) (n.cast win_numel) :=
  (Win.rowMajor.symm_apply_eq).2 (Fin.ext (by
    rw [Shape.rowMajor_val_four]
    show n.val = ((0 * 1 + 0) * 1 + 0) * 128 + n.val
    omega))

/-- A rotated sum. -/
theorem sum_rot (f : Fin 128 → EReal) (l : Fin 128) :
    (∑ n : Fin 128, if h : 127 ≤ l.val + n.val then f ⟨l.val + n.val - 127, by omega⟩ else 0)
      = ∑ x : Fin 128, if x.val ≤ l.val then f x else 0 := by
  rw [← Equiv.sum_comp (Equiv.addRight (l + 1)) (fun x : Fin 128 => if x.val ≤ l.val then f x else 0)]
  refine Finset.sum_congr rfl fun n _ => ?_
  have hl := l.isLt
  have hn := n.isLt
  have e : ((Equiv.addRight (l + 1)) n).val = (n.val + (l.val + 1)) % 128 := by
    show (n + (l + 1)).val = _
    rw [Fin.val_add, Fin.val_add]
    show (n.val + (l.val + 1) % 128) % 128 = _
    omega
  by_cases h : 127 ≤ l.val + n.val
  · rw [dif_pos h, if_pos (by rw [e]; omega)]
    exact congrArg f (Fin.ext (by rw [e]; dsimp only; omega))
  · rw [dif_neg h, if_neg (by rw [e]; omega)]

theorem cumsum4 (x : S4x16x32x128.Idx → EReal) (init : S_.Idx → EReal) (h0 : ∀ i, init i = 0)
    (h : S4x16x32x128.ReduceWindows (![1, 1, 1, 128] : Fin 4 → Nat) ![1, 1, 1, 1] ![0, 0, 0, 127] ![0, 0, 0, 0] S4x16x32x128)
    (hu : 0 < S_.numel) (b : Fin 4) (c : Fin 16) (g : Fin 32) (l : Fin 128) :
    Host.reduceWindow (fun a b : EReal => a + b) ![1, 1, 1, 128] ![1, 1, 1, 1] ![0, 0, 0, 127] ![0, 0, 0, 0] x init h hu (ix4 b c g l)
      = ∑ k : Fin 128, if k.val ≤ l.val then x (ix4 b c g k) else 0 := by
  rw [← sum_rot (fun k => x (ix4 b c g k)) l]
  unfold Host.reduceWindow
  refine (foldl_add _ _ _).trans ?_
  rw [h0, zero_add]
  refine (Fin.sum_univ_def _).symm.trans ?_
  refine Fintype.sum_equiv (finCongr win_numel) _ _ fun n => ?_
  have w0 : (Win.rowMajor.symm n 0).val = 0 := by rw [win_symm]; rfl
  have w1 : (Win.rowMajor.symm n 1).val = 0 := by rw [win_symm]; rfl
  have w2 : (Win.rowMajor.symm n 2).val = 0 := by rw [win_symm]; rfl
  have w3 : (Win.rowMajor.symm n 3).val = n.val := by rw [win_symm]; rfl
  have hn : n.val < 128 := (n.cast win_numel).isLt
  have hl := l.isLt
  have hb := b.isLt
  have hc := c.isLt
  have hg := g.isLt
  show _ = if h : 127 ≤ l.val + n.val then x (ix4 b c g ⟨l.val + n.val - 127, _⟩) else 0
  by_cases hh : 127 ≤ l.val + n.val
  · rw [dif_pos hh, dif_pos]
    · refine congrArg x (funext fun a => Fin.ext ?_)
      match a with
      | ⟨0, _⟩ =>
        show b.val * 1 + (Win.rowMajor.symm n 0).val - 0 = b.val
        rw [w0]; omega
      | ⟨1, _⟩ =>
        show c.val * 1 + (Win.rowMajor.symm n 1).val - 0 = c.val
        rw [w1]; omega
      | ⟨2, _⟩ =>
        show g.val * 1 + (Win.rowMajor.symm n 2).val - 0 = g.val
        rw [w2]; omega
      | ⟨3, _⟩ =>
        show l.val * 1 + (Win.rowMajor.symm n 3).val - 127 = l.val + n.val - 127
        rw [w3]; omega
    · intro a
      match a with
      | ⟨0, _⟩ =>
        show 0 ≤ b.val * 1 + (Win.rowMajor.symm n 0).val ∧ b.val * 1 + (Win.rowMajor.symm n 0).val - 0 < 4
        rw [w0]; omega
      | ⟨1, _⟩ =>
        show 0 ≤ c.val * 1 + (Win.rowMajor.symm n 1).val ∧ c.val * 1 + (Win.rowMajor.symm n 1).val - 0 < 16
        rw [w1]; omega
      | ⟨2, _⟩ =>
        show 0 ≤ g.val * 1 + (Win.rowMajor.symm n 2).val ∧ g.val * 1 + (Win.rowMajor.symm n 2).val - 0 < 32
        rw [w2]; omega
      | ⟨3, _⟩ =>
        show 127 ≤ l.val * 1 + (Win.rowMajor.symm n 3).val ∧ l.val * 1 + (Win.rowMajor.symm n 3).val - 127 < 128
        rw [w3]; omega
  · rw [dif_neg hh, dif_neg]
    intro hin
    have h3 := hin 3
    change 127 ≤ l.val * 1 + (Win.rowMajor.symm n 3).val ∧ l.val * 1 + (Win.rowMajor.symm n 3).val - 127 < 128 at h3
    rw [w3] at h3
    omega

end Cert.Reference9Ideal.Scan
end
-- ==== Proof.ScanRefB.lean ====
/- The reference's stages: the time steps, the decay exponents and their running sums. -/
module

public import proofs.«01_k».proof.Proof.ScanIdx
public import proofs.«01_k».proof.Proof.ScanCum
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- The time steps. -/
theorem v54_eq (b : Fin 4) (s : Fin 2048) (h : Fin 32) :
    val_main_v54 (F := Ideal) x1 x6 (ix3 b s h) = dts x1 x6 (rr b s) h := by
  have e : val_main_v53 (F := Ideal) x1 x6 (ix3 b s h) = x1 (ix2 (rr b s) ⟨64 + h.val, by omega⟩) + x6 (ix1 h) := by
    rw [show rr b s = ⟨b.val * 2048 + s.val, by omega⟩ from Fin.ext (by
      have := rr_val b s
      dsimp only
      omega)]
    pointwise [val_main_v53, val_main_v52, val_main_v51, val_main_v3, val_main_v2]
  unfold dts softp
  rw [← e]
  pointwise [val_main_v54, val_main_call2_v11, val_main_call2_v10, val_main_call2_v9, val_main_call2_v8, val_main_call2_v7, val_main_call2_v6,
    val_main_call2_v5, val_main_call2_v4, val_main_call2_v3, val_main_call2_v2, val_main_call2_v1, val_main_call2_v0, val_main_call2_cst]
  rw [if_neg (fun hn => hn rfl), zero_sub]

/-- The decay exponents. -/
theorem v62_eq (b : Fin 4) (c : Fin 16) (h : Fin 32) (l : Fin 128) :
    val_main_v62 (F := Ideal) x1 x4 x6 (ix4 b c h l) = adt x1 x4 x6 (row (16 * b.val + c.val) l) h := by
  have e : val_main_v58 (F := Ideal) x4 (ix3 b (sq c l) h) = 0 - Ideal.exp (x4 (ix1 h)) := by
    pointwise [val_main_v58, val_main_v57, val_main_v56, val_main_v55]
    exact (zero_sub _).symm
  unfold adt
  rw [← rr_sq, ← v54_eq, ← e, val_main_v62_apply, i62, val_main_v61_apply, val_main_v60_apply]
  exact congrArg (val_main_v59 (F := Ideal) x1 x4 x6) ((congrArg idx_main_v60 (by idx_ext)).trans (i60 b c l h))

/-- Their running sums. -/
theorem v63_eq (b : Fin 4) (c : Fin 16) (h : Fin 32) (l : Fin 128) :
    val_main_v63 (F := Ideal) x1 x4 x6 (ix4 b c h l) = cum x1 x4 x6 (16 * b.val + c.val) l h := by
  have h0 : ∀ i, val_main_call3_call0_v0 (F := Ideal) i = (0 : EReal) := fun i => by
    pointwise [val_main_call3_call0_v0, val_main_call3_call0_cst]
  unfold cum
  refine (cumsum4 (val_main_v62 (F := Ideal) x1 x4 x6) (fun _ => val_main_call3_call0_v0 (F := Ideal) (Shape.Idx.first h_S_)) (fun _ => h0 _) reduceWindows_S4x16x32x128_S4x16x32x128_w1s1p0_0_w1s1p0_0_w1s1p0_0_w128s1p127_0 h_S_ b c h l).trans ?_
  exact Finset.sum_congr (M := EReal) rfl fun k _ => by rw [v62_eq]

end Cert.Reference9Ideal.Scan
end
-- ==== Proof.ScanRefC.lean ====
/- The reference's stages: the values, and the two groups of projections, of the scan. -/
module

public import proofs.«01_k».proof.Proof.ScanRefA
public import proofs.«01_k».proof.Proof.ScanRefB
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- The scaled inputs. -/
theorem v68_eq (b : Fin 4) (c : Fin 16) (h : Fin 32) (l : Fin 128) (e : Fin 64) :
    val_main_v68 (F := Ideal) x0 x1 x2 x3 x6 (ix5 b c h l e) = xdt x0 x1 x2 x3 x6 (row (16 * b.val + c.val) l) h e := by
  have e1 : val_main_v65 (F := Ideal) x1 x6 (ix4 b (sq c l) h e) = val_main_v54 (F := Ideal) x1 x6 (ix3 b (sq c l) h) := by
    pointwise [val_main_v65, val_main_v64]
  have e2 : val_main_v45 (F := Ideal) x0 x2 x3 (ix3 b (sq c l) ⟨64 * h.val + e.val, by omega⟩)
      = val_main_v44 (F := Ideal) x0 x2 x3 (ix3 b (sq c l) ⟨64 * h.val + e.val, by omega⟩) := by
    pointwise [val_main_v45]
  have e3 : val_main_v46 (F := Ideal) x0 x2 x3 (ix4 b (sq c l) h e)
      = val_main_v45 (F := Ideal) x0 x2 x3 (ix3 b (sq c l) ⟨64 * h.val + e.val, by omega⟩) :=
    (val_main_v46_apply ..).trans (congrArg _ (i46 b (sq c l) h e))
  have e4 : val_main_v68 (F := Ideal) x0 x1 x2 x3 x6 (ix5 b c h l e) = val_main_v66 (F := Ideal) x0 x1 x2 x3 x6 (ix4 b (sq c l) h e) := by
    rw [val_main_v68_apply, val_main_v67_apply]
    exact congrArg _ ((congrArg idx_main_v67 (by idx_ext)).trans (i67 b c l h e))
  unfold xdt
  rw [← rr_sq, ← v54_eq, ← v44_eq, ← e1, ← e2, ← e3, e4, val_main_v66_apply]
  rfl

/-- A head's input projection. -/
theorem v72_eq (b : Fin 4) (c : Fin 16) (h : Fin 32) (l n : Fin 128) :
    val_main_v72 (F := Ideal) x0 x2 x3 (ix5 b c h l n) = bg x0 x2 x3 (row (16 * b.val + c.val) l) h n := by
  have e2 : val_main_v47 (F := Ideal) x0 x2 x3 (ix3 b (sq c l) ⟨128 * (h.val / 4) + n.val, by omega⟩)
      = val_main_v44 (F := Ideal) x0 x2 x3 (ix3 b (sq c l) ⟨2048 + 128 * (h.val / 4) + n.val, by omega⟩) := by
    pointwise [val_main_v47]
    try exact congrArg (fun z => val_main_v44 (F := Ideal) x0 x2 x3 (ix3 b (sq c l) z)) (Fin.ext (by dsimp only; omega))
  have e3 : val_main_v69 (F := Ideal) x0 x2 x3 (ix5 b (sq c l) ⟨h.val / 4, by omega⟩ ⟨h.val % 4, by omega⟩ n)
      = val_main_v48 (F := Ideal) x0 x2 x3 (ix4 b (sq c l) ⟨h.val / 4, by omega⟩ n) := by
    pointwise [val_main_v69]
  unfold bg
  rw [← rr_sq, ← v44_eq, ← e2]
  refine Eq.trans ?_ ((e3.trans (val_main_v48_apply ..)).trans (congrArg _ (i48 b (sq c l) ⟨h.val / 4, by omega⟩ n)))
  rw [← i70, ← val_main_v70_apply, ← i71, ← val_main_v71_apply, val_main_v72_apply]
  exact congrArg _ (by idx_ext)

/-- A head's output projection. -/
theorem v76_eq (b : Fin 4) (c : Fin 16) (h : Fin 32) (l n : Fin 128) :
    val_main_v76 (F := Ideal) x0 x2 x3 (ix5 b c h l n) = cg x0 x2 x3 (row (16 * b.val + c.val) l) h n := by
  have e2 : val_main_v49 (F := Ideal) x0 x2 x3 (ix3 b (sq c l) ⟨128 * (h.val / 4) + n.val, by omega⟩)
      = val_main_v44 (F := Ideal) x0 x2 x3 (ix3 b (sq c l) ⟨3072 + 128 * (h.val / 4) + n.val, by omega⟩) := by
    pointwise [val_main_v49]
    try exact congrArg (fun z => val_main_v44 (F := Ideal) x0 x2 x3 (ix3 b (sq c l) z)) (Fin.ext (by dsimp only; omega))
  have e3 : val_main_v73 (F := Ideal) x0 x2 x3 (ix5 b (sq c l) ⟨h.val / 4, by omega⟩ ⟨h.val % 4, by omega⟩ n)
      = val_main_v50 (F := Ideal) x0 x2 x3 (ix4 b (sq c l) ⟨h.val / 4, by omega⟩ n) := by
    pointwise [val_main_v73]
  unfold cg
  rw [← rr_sq, ← v44_eq, ← e2]
  refine Eq.trans ?_ ((e3.trans (val_main_v50_apply ..)).trans (congrArg _ (i50 b (sq c l) ⟨h.val / 4, by omega⟩ n)))
  rw [← i74, ← val_main_v74_apply, ← i75, ← val_main_v75_apply, val_main_v76_apply]
  exact congrArg _ (by idx_ext)

end Cert.Reference9Ideal.Scan
end
-- ==== Proof.ScanRefD.lean ====
/- The reference's stages: the parts of the scan within a chunk. -/
module

public import proofs.«01_k».proof.Proof.ScanRefC
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- The decays between the positions of a chunk. -/
theorem v85_eq (b : Fin 4) (c : Fin 16) (h : Fin 32) (l k : Fin 128) :
    val_main_v85 (F := Ideal) x1 x4 x6 (ix5 b c h l k)
      = Ideal.exp (if k.val ≤ l.val then cum x1 x4 x6 (16 * b.val + c.val) l h - cum x1 x4 x6 (16 * b.val + c.val) k h else NINF) := by
  rw [← v63_eq, ← v63_eq]
  pointwise [val_main_v85, val_main_v84, val_main_call5_v2, val_main_call5_v1, val_main_call5_v0, val_main_cst_1, val_main_v83, val_main_call4_v5,
    val_main_call4_c_0, val_main_call4_v4, val_main_call4_v3, val_main_call4_v2, val_main_call4_v1, val_main_call4_c, val_main_call4_v0, val_main_v82,
    val_main_c_0, val_main_v81, val_main_v80, val_main_v79, val_main_v78, val_main_v77]
  refine congrArg Ideal.exp ?_
  rw [show IntOp.addi (BitVec.ofNat 32 l.val) 0#32 = BitVec.ofNat 32 l.val from BitVec.add_zero _]
  by_cases hk : k.val ≤ l.val
  · rw [if_pos hk, (WordCmp.cmpi_sge_ofNat_eq_one_iff (by have := l.isLt; omega) (by have := k.isLt; omega)).mpr hk]
    rfl
  · rw [if_neg hk, (WordCmp.cmpi_sge_ofNat_eq_zero_iff (by have := l.isLt; omega) (by have := k.isLt; omega)).mpr hk]
    rfl

/-- The scores within a chunk. -/
theorem v86_eq (b : Fin 4) (c : Fin 16) (h : Fin 32) (l k : Fin 128) :
    val_main_v86 (F := Ideal) x0 x2 x3 (ix5 b c h l k)
      = ∑ n : Fin 128, cg x0 x2 x3 (row (16 * b.val + c.val) l) h n * bg x0 x2 x3 (row (16 * b.val + c.val) k) h n := by
  rw [val_main_v86_apply]
  exact Finset.sum_congr (M := EReal) rfl fun n _ => congrArg₂ (fun a b : EReal => a * b)
    ((congrArg (val_main_v76 (F := Ideal) x0 x2 x3) (by idx_ext)).trans (v76_eq x0 x2 x3 b c h l n))
    ((congrArg (val_main_v72 (F := Ideal) x0 x2 x3) (by idx_ext)).trans (v72_eq x0 x2 x3 b c h k n))

/-- The part of the output that comes from the same chunk. -/
theorem v88_eq (b : Fin 4) (c : Fin 16) (h : Fin 32) (l : Fin 128) (e : Fin 64) :
    val_main_v88 (F := Ideal) x0 x1 x2 x3 x4 x6 (ix5 b c h l e)
      = ∑ k : Fin 128, (Ideal.exp (if k.val ≤ l.val then cum x1 x4 x6 (16 * b.val + c.val) l h - cum x1 x4 x6 (16 * b.val + c.val) k h else NINF)
          * ∑ n : Fin 128, cg x0 x2 x3 (row (16 * b.val + c.val) l) h n * bg x0 x2 x3 (row (16 * b.val + c.val) k) h n) * xdt x0 x1 x2 x3 x6 (row (16 * b.val + c.val) k) h e := by
  have e1 : ∀ k : Fin 128, val_main_v87 (F := Ideal) x0 x1 x2 x3 x4 x6 (ix5 b c h l k)
      = Ideal.exp (if k.val ≤ l.val then cum x1 x4 x6 (16 * b.val + c.val) l h - cum x1 x4 x6 (16 * b.val + c.val) k h else NINF)
          * ∑ n : Fin 128, cg x0 x2 x3 (row (16 * b.val + c.val) l) h n * bg x0 x2 x3 (row (16 * b.val + c.val) k) h n := fun k => by
    rw [val_main_v87_apply, v86_eq, v85_eq]
    exact mul_comm (G := EReal) _ _
  rw [val_main_v88_apply]
  exact Finset.sum_congr (M := EReal) rfl fun k _ => congrArg₂ (fun a b : EReal => a * b)
    ((congrArg (val_main_v87 (F := Ideal) x0 x1 x2 x3 x4 x6) (by idx_ext)).trans (e1 k))
    ((congrArg (val_main_v68 (F := Ideal) x0 x1 x2 x3 x6) (by idx_ext)).trans (v68_eq x0 x1 x2 x3 x6 b c h k e))

/-- What a chunk adds to the state. -/
theorem v96_eq (b : Fin 4) (c : Fin 16) (h : Fin 32) (n : Fin 128) (e : Fin 64) :
    val_main_v96 (F := Ideal) x0 x1 x2 x3 x4 x6 (ix5 b c h n e) = inc x0 x1 x2 x3 x4 x6 (16 * b.val + c.val) h n e := by
  have e1 : ∀ s : Fin 128, val_main_v94 (F := Ideal) x1 x4 x6 (ix5 b c h s e)
      = Ideal.exp (cum x1 x4 x6 (16 * b.val + c.val) 127 h - cum x1 x4 x6 (16 * b.val + c.val) s h) := fun s => by
    rw [val_main_v94_apply, val_main_v93_apply, val_main_v92_apply, val_main_v91_apply, val_main_v90_apply, val_main_v89_apply]
    exact congrArg Ideal.exp (congrArg₂ (fun a b : EReal => a - b)
      ((congrArg (val_main_v63 (F := Ideal) x1 x4 x6) (by idx_ext)).trans (v63_eq x1 x4 x6 b c h 127))
      ((congrArg (val_main_v63 (F := Ideal) x1 x4 x6) (by idx_ext)).trans (v63_eq x1 x4 x6 b c h s)))
  have e2 : ∀ s : Fin 128, val_main_v95 (F := Ideal) x0 x1 x2 x3 x4 x6 (ix5 b c h s e)
      = xdt x0 x1 x2 x3 x6 (row (16 * b.val + c.val) s) h e * Ideal.exp (cum x1 x4 x6 (16 * b.val + c.val) 127 h - cum x1 x4 x6 (16 * b.val + c.val) s h) := fun s => by
    rw [val_main_v95_apply, e1, v68_eq]
    rfl
  unfold inc
  rw [val_main_v96_apply]
  exact Finset.sum_congr (M := EReal) rfl fun s _ => congrArg₂ (fun a b : EReal => a * b)
    ((congrArg (val_main_v72 (F := Ideal) x0 x2 x3) (by idx_ext)).trans (v72_eq x0 x2 x3 b c h s n))
    ((congrArg (val_main_v95 (F := Ideal) x0 x1 x2 x3 x4 x6) (by idx_ext)).trans (e2 s))

/-- How much a chunk lets the state decay. -/
theorem v99_eq (b : Fin 4) (c : Fin 16) (h : Fin 32) :
    val_main_v99 (F := Ideal) x1 x4 x6 (ix3 b c h) = Ideal.exp (cum x1 x4 x6 (16 * b.val + c.val) 127 h) := by
  have i98 : idx_main_v98 (ix3 b c h) = ix4 b c h 0 := by
    funext a
    apply Fin.ext
    fin_cases a <;> (try rfl) <;> dsimp [idx_main_v98, ix3, ix4] <;> omega
  rw [val_main_v99_apply, val_main_v98_apply, i98, val_main_v97_apply]
  exact congrArg Ideal.exp ((congrArg (val_main_v63 (F := Ideal) x1 x4 x6) (by idx_ext)).trans (v63_eq x1 x4 x6 b c h 127))

end Cert.Reference9Ideal.Scan
end
-- ==== Proof.ScanRefE.lean ====
/- The reference's stages: the states carried from chunk to chunk. -/
module

public import proofs.«01_k».proof.Proof.ScanRefD
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- The index of a chunk's decay. -/
theorem i102 (b : Fin 4) (h : Fin 32) : idx_main_v102 (ix2 b h) = ix3 b 0 h := by
  funext a
  apply Fin.ext
  fin_cases a <;> (try rfl) <;> dsimp [idx_main_v102, ix2, ix3] <;> omega

/-- The index of what a chunk adds. -/
theorem i107 (b : Fin 4) (h : Fin 32) (n : Fin 128) (e : Fin 64) : idx_main_v107 (ix4 b h n e) = ix5 b 0 h n e := by
  funext a
  apply Fin.ext
  fin_cases a <;> (try rfl) <;> dsimp [idx_main_v107, ix4, ix5] <;> omega

/-- The state before the first chunk. -/
theorem st0 (b : Fin 4) (h : Fin 32) (n : Fin 128) (e : Fin 64) :
    val_main_v100 (F := Ideal) (ix4 b h n e) = state x0 x1 x2 x3 x4 x6 b.val h n e 0 := by
  refine Eq.trans (b := (0 : EReal)) ?_ rfl
  rw [val_main_v100_apply]
  pointwise [val_main_cst_2]

/-- The state after 1 chunk. -/
theorem st1 (b : Fin 4) (h : Fin 32) (n : Fin 128) (e : Fin 64) :
    val_main_v108 (F := Ideal) x0 x1 x2 x3 x4 x6 (ix4 b h n e) = state x0 x1 x2 x3 x4 x6 b.val h n e 1 := by
  have e1 : val_main_v104 (F := Ideal) x1 x4 x6 (ix4 b h n e) = Ideal.exp (cum x1 x4 x6 (16 * b.val + 0) 127 h) := by
    rw [val_main_v104_apply, val_main_v103_apply, val_main_v102_apply, val_main_v101_apply]
    exact (congrArg (val_main_v99 (F := Ideal) x1 x4 x6) ((congrArg idx_main_v101
      ((congrArg idx_main_v102 (by idx_ext)).trans (i102 b h))).trans (by idx_ext))).trans (v99_eq x1 x4 x6 b 0 h)
  have e2 : val_main_v107 (F := Ideal) x0 x1 x2 x3 x4 x6 (ix4 b h n e) = inc x0 x1 x2 x3 x4 x6 (16 * b.val + 0) h n e := by
    rw [val_main_v107_apply, val_main_v106_apply]
    exact (congrArg (val_main_v96 (F := Ideal) x0 x1 x2 x3 x4 x6) ((congrArg idx_main_v106 (i107 b h n e)).trans (by idx_ext))).trans
      (v96_eq x0 x1 x2 x3 x4 x6 b 0 h n e)
  rw [val_main_v108_apply, val_main_v105_apply, st0 x0 x1 x2 x3 x4 x6, e1, e2]
  rfl

/-- The state after 2 chunks. -/
theorem st2 (b : Fin 4) (h : Fin 32) (n : Fin 128) (e : Fin 64) :
    val_main_v116 (F := Ideal) x0 x1 x2 x3 x4 x6 (ix4 b h n e) = state x0 x1 x2 x3 x4 x6 b.val h n e 2 := by
  have e1 : val_main_v112 (F := Ideal) x1 x4 x6 (ix4 b h n e) = Ideal.exp (cum x1 x4 x6 (16 * b.val + 1) 127 h) := by
    rw [val_main_v112_apply, val_main_v111_apply, val_main_v110_apply, val_main_v109_apply]
    exact (congrArg (val_main_v99 (F := Ideal) x1 x4 x6) ((congrArg idx_main_v109
      ((congrArg idx_main_v110 (by idx_ext)).trans (i102 b h))).trans (by idx_ext))).trans (v99_eq x1 x4 x6 b 1 h)
  have e2 : val_main_v115 (F := Ideal) x0 x1 x2 x3 x4 x6 (ix4 b h n e) = inc x0 x1 x2 x3 x4 x6 (16 * b.val + 1) h n e := by
    rw [val_main_v115_apply, val_main_v114_apply]
    exact (congrArg (val_main_v96 (F := Ideal) x0 x1 x2 x3 x4 x6) ((congrArg idx_main_v114 (i107 b h n e)).trans (by idx_ext))).trans
      (v96_eq x0 x1 x2 x3 x4 x6 b 1 h n e)
  rw [val_main_v116_apply, val_main_v113_apply, st1, e1, e2]
  rfl

/-- The state after 3 chunks. -/
theorem st3 (b : Fin 4) (h : Fin 32) (n : Fin 128) (e : Fin 64) :
    val_main_v124 (F := Ideal) x0 x1 x2 x3 x4 x6 (ix4 b h n e) = state x0 x1 x2 x3 x4 x6 b.val h n e 3 := by
  have e1 : val_main_v120 (F := Ideal) x1 x4 x6 (ix4 b h n e) = Ideal.exp (cum x1 x4 x6 (16 * b.val + 2) 127 h) := by
    rw [val_main_v120_apply, val_main_v119_apply, val_main_v118_apply, val_main_v117_apply]
    exact (congrArg (val_main_v99 (F := Ideal) x1 x4 x6) ((congrArg idx_main_v117
      ((congrArg idx_main_v118 (by idx_ext)).trans (i102 b h))).trans (by idx_ext))).trans (v99_eq x1 x4 x6 b 2 h)
  have e2 : val_main_v123 (F := Ideal) x0 x1 x2 x3 x4 x6 (ix4 b h n e) = inc x0 x1 x2 x3 x4 x6 (16 * b.val + 2) h n e := by
    rw [val_main_v123_apply, val_main_v122_apply]
    exact (congrArg (val_main_v96 (F := Ideal) x0 x1 x2 x3 x4 x6) ((congrArg idx_main_v122 (i107 b h n e)).trans (by idx_ext))).trans
      (v96_eq x0 x1 x2 x3 x4 x6 b 2 h n e)
  rw [val_main_v124_apply, val_main_v121_apply, st2, e1, e2]
  rfl

/-- The state after 4 chunks. -/
theorem st4 (b : Fin 4) (h : Fin 32) (n : Fin 128) (e : Fin 64) :
    val_main_v132 (F := Ideal) x0 x1 x2 x3 x4 x6 (ix4 b h n e) = state x0 x1 x2 x3 x4 x6 b.val h n e 4 := by
  have e1 : val_main_v128 (F := Ideal) x1 x4 x6 (ix4 b h n e) = Ideal.exp (cum x1 x4 x6 (16 * b.val + 3) 127 h) := by
    rw [val_main_v128_apply, val_main_v127_apply, val_main_v126_apply, val_main_v125_apply]
    exact (congrArg (val_main_v99 (F := Ideal) x1 x4 x6) ((congrArg idx_main_v125
      ((congrArg idx_main_v126 (by idx_ext)).trans (i102 b h))).trans (by idx_ext))).trans (v99_eq x1 x4 x6 b 3 h)
  have e2 : val_main_v131 (F := Ideal) x0 x1 x2 x3 x4 x6 (ix4 b h n e) = inc x0 x1 x2 x3 x4 x6 (16 * b.val + 3) h n e := by
    rw [val_main_v131_apply, val_main_v130_apply]
    exact (congrArg (val_main_v96 (F := Ideal) x0 x1 x2 x3 x4 x6) ((congrArg idx_main_v130 (i107 b h n e)).trans (by idx_ext))).trans
      (v96_eq x0 x1 x2 x3 x4 x6 b 3 h n e)
  rw [val_main_v132_apply, val_main_v129_apply, st3, e1, e2]
  rfl

/-- The state after 5 chunks. -/
theorem st5 (b : Fin 4) (h : Fin 32) (n : Fin 128) (e : Fin 64) :
    val_main_v140 (F := Ideal) x0 x1 x2 x3 x4 x6 (ix4 b h n e) = state x0 x1 x2 x3 x4 x6 b.val h n e 5 := by
  have e1 : val_main_v136 (F := Ideal) x1 x4 x6 (ix4 b h n e) = Ideal.exp (cum x1 x4 x6 (16 * b.val + 4) 127 h) := by
    rw [val_main_v136_apply, val_main_v135_apply, val_main_v134_apply, val_main_v133_apply]
    exact (congrArg (val_main_v99 (F := Ideal) x1 x4 x6) ((congrArg idx_main_v133
      ((congrArg idx_main_v134 (by idx_ext)).trans (i102 b h))).trans (by idx_ext))).trans (v99_eq x1 x4 x6 b 4 h)
  have e2 : val_main_v139 (F := Ideal) x0 x1 x2 x3 x4 x6 (ix4 b h n e) = inc x0 x1 x2 x3 x4 x6 (16 * b.val + 4) h n e := by
    rw [val_main_v139_apply, val_main_v138_apply]
    exact (congrArg (val_main_v96 (F := Ideal) x0 x1 x2 x3 x4 x6) ((congrArg idx_main_v138 (i107 b h n e)).trans (by idx_ext))).trans
      (v96_eq x0 x1 x2 x3 x4 x6 b 4 h n e)
  rw [val_main_v140_apply, val_main_v137_apply, st4, e1, e2]
  rfl

/-- The state after 6 chunks. -/
theorem st6 (b : Fin 4) (h : Fin 32) (n : Fin 128) (e : Fin 64) :
    val_main_v148 (F := Ideal) x0 x1 x2 x3 x4 x6 (ix4 b h n e) = state x0 x1 x2 x3 x4 x6 b.val h n e 6 := by
  have e1 : val_main_v144 (F := Ideal) x1 x4 x6 (ix4 b h n e) = Ideal.exp (cum x1 x4 x6 (16 * b.val + 5) 127 h) := by
    rw [val_main_v144_apply, val_main_v143_apply, val_main_v142_apply, val_main_v141_apply]
    exact (congrArg (val_main_v99 (F := Ideal) x1 x4 x6) ((congrArg idx_main_v141
      ((congrArg idx_main_v142 (by idx_ext)).trans (i102 b h))).trans (by idx_ext))).trans (v99_eq x1 x4 x6 b 5 h)
  have e2 : val_main_v147 (F := Ideal) x0 x1 x2 x3 x4 x6 (ix4 b h n e) = inc x0 x1 x2 x3 x4 x6 (16 * b.val + 5) h n e := by
    rw [val_main_v147_apply, val_main_v146_apply]
    exact (congrArg (val_main_v96 (F := Ideal) x0 x1 x2 x3 x4 x6) ((congrArg idx_main_v146 (i107 b h n e)).trans (by idx_ext))).trans
      (v96_eq x0 x1 x2 x3 x4 x6 b 5 h n e)
  rw [val_main_v148_apply, val_main_v145_apply, st5, e1, e2]
  rfl

/-- The state after 7 chunks. -/
theorem st7 (b : Fin 4) (h : Fin 32) (n : Fin 128) (e : Fin 64) :
    val_main_v156 (F := Ideal) x0 x1 x2 x3 x4 x6 (ix4 b h n e) = state x0 x1 x2 x3 x4 x6 b.val h n e 7 := by
  have e1 : val_main_v152 (F := Ideal) x1 x4 x6 (ix4 b h n e) = Ideal.exp (cum x1 x4 x6 (16 * b.val + 6) 127 h) := by
    rw [val_main_v152_apply, val_main_v151_apply, val_main_v150_apply, val_main_v149_apply]
    exact (congrArg (val_main_v99 (F := Ideal) x1 x4 x6) ((congrArg idx_main_v149
      ((congrArg idx_main_v150 (by idx_ext)).trans (i102 b h))).trans (by idx_ext))).trans (v99_eq x1 x4 x6 b 6 h)
  have e2 : val_main_v155 (F := Ideal) x0 x1 x2 x3 x4 x6 (ix4 b h n e) = inc x0 x1 x2 x3 x4 x6 (16 * b.val + 6) h n e := by
    rw [val_main_v155_apply, val_main_v154_apply]
    exact (congrArg (val_main_v96 (F := Ideal) x0 x1 x2 x3 x4 x6) ((congrArg idx_main_v154 (i107 b h n e)).trans (by idx_ext))).trans
      (v96_eq x0 x1 x2 x3 x4 x6 b 6 h n e)
  rw [val_main_v156_apply, val_main_v153_apply, st6, e1, e2]
  rfl

/-- The state after 8 chunks. -/
theorem st8 (b : Fin 4) (h : Fin 32) (n : Fin 128) (e : Fin 64) :
    val_main_v164 (F := Ideal) x0 x1 x2 x3 x4 x6 (ix4 b h n e) = state x0 x1 x2 x3 x4 x6 b.val h n e 8 := by
  have e1 : val_main_v160 (F := Ideal) x1 x4 x6 (ix4 b h n e) = Ideal.exp (cum x1 x4 x6 (16 * b.val + 7) 127 h) := by
    rw [val_main_v160_apply, val_main_v159_apply, val_main_v158_apply, val_main_v157_apply]
    exact (congrArg (val_main_v99 (F := Ideal) x1 x4 x6) ((congrArg idx_main_v157
      ((congrArg idx_main_v158 (by idx_ext)).trans (i102 b h))).trans (by idx_ext))).trans (v99_eq x1 x4 x6 b 7 h)
  have e2 : val_main_v163 (F := Ideal) x0 x1 x2 x3 x4 x6 (ix4 b h n e) = inc x0 x1 x2 x3 x4 x6 (16 * b.val + 7) h n e := by
    rw [val_main_v163_apply, val_main_v162_apply]
    exact (congrArg (val_main_v96 (F := Ideal) x0 x1 x2 x3 x4 x6) ((congrArg idx_main_v162 (i107 b h n e)).trans (by idx_ext))).trans
      (v96_eq x0 x1 x2 x3 x4 x6 b 7 h n e)
  rw [val_main_v164_apply, val_main_v161_apply, st7, e1, e2]
  rfl

/-- The state after 9 chunks. -/
theorem st9 (b : Fin 4) (h : Fin 32) (n : Fin 128) (e : Fin 64) :
    val_main_v172 (F := Ideal) x0 x1 x2 x3 x4 x6 (ix4 b h n e) = state x0 x1 x2 x3 x4 x6 b.val h n e 9 := by
  have e1 : val_main_v168 (F := Ideal) x1 x4 x6 (ix4 b h n e) = Ideal.exp (cum x1 x4 x6 (16 * b.val + 8) 127 h) := by
    rw [val_main_v168_apply, val_main_v167_apply, val_main_v166_apply, val_main_v165_apply]
    exact (congrArg (val_main_v99 (F := Ideal) x1 x4 x6) ((congrArg idx_main_v165
      ((congrArg idx_main_v166 (by idx_ext)).trans (i102 b h))).trans (by idx_ext))).trans (v99_eq x1 x4 x6 b 8 h)
  have e2 : val_main_v171 (F := Ideal) x0 x1 x2 x3 x4 x6 (ix4 b h n e) = inc x0 x1 x2 x3 x4 x6 (16 * b.val + 8) h n e := by
    rw [val_main_v171_apply, val_main_v170_apply]
    exact (congrArg (val_main_v96 (F := Ideal) x0 x1 x2 x3 x4 x6) ((congrArg idx_main_v170 (i107 b h n e)).trans (by idx_ext))).trans
      (v96_eq x0 x1 x2 x3 x4 x6 b 8 h n e)
  rw [val_main_v172_apply, val_main_v169_apply, st8, e1, e2]
  rfl

/-- The state after 10 chunks. -/
theorem st10 (b : Fin 4) (h : Fin 32) (n : Fin 128) (e : Fin 64) :
    val_main_v180 (F := Ideal) x0 x1 x2 x3 x4 x6 (ix4 b h n e) = state x0 x1 x2 x3 x4 x6 b.val h n e 10 := by
  have e1 : val_main_v176 (F := Ideal) x1 x4 x6 (ix4 b h n e) = Ideal.exp (cum x1 x4 x6 (16 * b.val + 9) 127 h) := by
    rw [val_main_v176_apply, val_main_v175_apply, val_main_v174_apply, val_main_v173_apply]
    exact (congrArg (val_main_v99 (F := Ideal) x1 x4 x6) ((congrArg idx_main_v173
      ((congrArg idx_main_v174 (by idx_ext)).trans (i102 b h))).trans (by idx_ext))).trans (v99_eq x1 x4 x6 b 9 h)
  have e2 : val_main_v179 (F := Ideal) x0 x1 x2 x3 x4 x6 (ix4 b h n e) = inc x0 x1 x2 x3 x4 x6 (16 * b.val + 9) h n e := by
    rw [val_main_v179_apply, val_main_v178_apply]
    exact (congrArg (val_main_v96 (F := Ideal) x0 x1 x2 x3 x4 x6) ((congrArg idx_main_v178 (i107 b h n e)).trans (by idx_ext))).trans
      (v96_eq x0 x1 x2 x3 x4 x6 b 9 h n e)
  rw [val_main_v180_apply, val_main_v177_apply, st9, e1, e2]
  rfl

/-- The state after 11 chunks. -/
theorem st11 (b : Fin 4) (h : Fin 32) (n : Fin 128) (e : Fin 64) :
    val_main_v188 (F := Ideal) x0 x1 x2 x3 x4 x6 (ix4 b h n e) = state x0 x1 x2 x3 x4 x6 b.val h n e 11 := by
  have e1 : val_main_v184 (F := Ideal) x1 x4 x6 (ix4 b h n e) = Ideal.exp (cum x1 x4 x6 (16 * b.val + 10) 127 h) := by
    rw [val_main_v184_apply, val_main_v183_apply, val_main_v182_apply, val_main_v181_apply]
    exact (congrArg (val_main_v99 (F := Ideal) x1 x4 x6) ((congrArg idx_main_v181
      ((congrArg idx_main_v182 (by idx_ext)).trans (i102 b h))).trans (by idx_ext))).trans (v99_eq x1 x4 x6 b 10 h)
  have e2 : val_main_v187 (F := Ideal) x0 x1 x2 x3 x4 x6 (ix4 b h n e) = inc x0 x1 x2 x3 x4 x6 (16 * b.val + 10) h n e := by
    rw [val_main_v187_apply, val_main_v186_apply]
    exact (congrArg (val_main_v96 (F := Ideal) x0 x1 x2 x3 x4 x6) ((congrArg idx_main_v186 (i107 b h n e)).trans (by idx_ext))).trans
      (v96_eq x0 x1 x2 x3 x4 x6 b 10 h n e)
  rw [val_main_v188_apply, val_main_v185_apply, st10, e1, e2]
  rfl

/-- The state after 12 chunks. -/
theorem st12 (b : Fin 4) (h : Fin 32) (n : Fin 128) (e : Fin 64) :
    val_main_v196 (F := Ideal) x0 x1 x2 x3 x4 x6 (ix4 b h n e) = state x0 x1 x2 x3 x4 x6 b.val h n e 12 := by
  have e1 : val_main_v192 (F := Ideal) x1 x4 x6 (ix4 b h n e) = Ideal.exp (cum x1 x4 x6 (16 * b.val + 11) 127 h) := by
    rw [val_main_v192_apply, val_main_v191_apply, val_main_v190_apply, val_main_v189_apply]
    exact (congrArg (val_main_v99 (F := Ideal) x1 x4 x6) ((congrArg idx_main_v189
      ((congrArg idx_main_v190 (by idx_ext)).trans (i102 b h))).trans (by idx_ext))).trans (v99_eq x1 x4 x6 b 11 h)
  have e2 : val_main_v195 (F := Ideal) x0 x1 x2 x3 x4 x6 (ix4 b h n e) = inc x0 x1 x2 x3 x4 x6 (16 * b.val + 11) h n e := by
    rw [val_main_v195_apply, val_main_v194_apply]
    exact (congrArg (val_main_v96 (F := Ideal) x0 x1 x2 x3 x4 x6) ((congrArg idx_main_v194 (i107 b h n e)).trans (by idx_ext))).trans
      (v96_eq x0 x1 x2 x3 x4 x6 b 11 h n e)
  rw [val_main_v196_apply, val_main_v193_apply, st11, e1, e2]
  rfl

/-- The state after 13 chunks. -/
theorem st13 (b : Fin 4) (h : Fin 32) (n : Fin 128) (e : Fin 64) :
    val_main_v204 (F := Ideal) x0 x1 x2 x3 x4 x6 (ix4 b h n e) = state x0 x1 x2 x3 x4 x6 b.val h n e 13 := by
  have e1 : val_main_v200 (F := Ideal) x1 x4 x6 (ix4 b h n e) = Ideal.exp (cum x1 x4 x6 (16 * b.val + 12) 127 h) := by
    rw [val_main_v200_apply, val_main_v199_apply, val_main_v198_apply, val_main_v197_apply]
    exact (congrArg (val_main_v99 (F := Ideal) x1 x4 x6) ((congrArg idx_main_v197
      ((congrArg idx_main_v198 (by idx_ext)).trans (i102 b h))).trans (by idx_ext))).trans (v99_eq x1 x4 x6 b 12 h)
  have e2 : val_main_v203 (F := Ideal) x0 x1 x2 x3 x4 x6 (ix4 b h n e) = inc x0 x1 x2 x3 x4 x6 (16 * b.val + 12) h n e := by
    rw [val_main_v203_apply, val_main_v202_apply]
    exact (congrArg (val_main_v96 (F := Ideal) x0 x1 x2 x3 x4 x6) ((congrArg idx_main_v202 (i107 b h n e)).trans (by idx_ext))).trans
      (v96_eq x0 x1 x2 x3 x4 x6 b 12 h n e)
  rw [val_main_v204_apply, val_main_v201_apply, st12, e1, e2]
  rfl

/-- The state after 14 chunks. -/
theorem st14 (b : Fin 4) (h : Fin 32) (n : Fin 128) (e : Fin 64) :
    val_main_v212 (F := Ideal) x0 x1 x2 x3 x4 x6 (ix4 b h n e) = state x0 x1 x2 x3 x4 x6 b.val h n e 14 := by
  have e1 : val_main_v208 (F := Ideal) x1 x4 x6 (ix4 b h n e) = Ideal.exp (cum x1 x4 x6 (16 * b.val + 13) 127 h) := by
    rw [val_main_v208_apply, val_main_v207_apply, val_main_v206_apply, val_main_v205_apply]
    exact (congrArg (val_main_v99 (F := Ideal) x1 x4 x6) ((congrArg idx_main_v205
      ((congrArg idx_main_v206 (by idx_ext)).trans (i102 b h))).trans (by idx_ext))).trans (v99_eq x1 x4 x6 b 13 h)
  have e2 : val_main_v211 (F := Ideal) x0 x1 x2 x3 x4 x6 (ix4 b h n e) = inc x0 x1 x2 x3 x4 x6 (16 * b.val + 13) h n e := by
    rw [val_main_v211_apply, val_main_v210_apply]
    exact (congrArg (val_main_v96 (F := Ideal) x0 x1 x2 x3 x4 x6) ((congrArg idx_main_v210 (i107 b h n e)).trans (by idx_ext))).trans
      (v96_eq x0 x1 x2 x3 x4 x6 b 13 h n e)
  rw [val_main_v212_apply, val_main_v209_apply, st13, e1, e2]
  rfl

/-- The state after 15 chunks. -/
theorem st15 (b : Fin 4) (h : Fin 32) (n : Fin 128) (e : Fin 64) :
    val_main_v220 (F := Ideal) x0 x1 x2 x3 x4 x6 (ix4 b h n e) = state x0 x1 x2 x3 x4 x6 b.val h n e 15 := by
  have e1 : val_main_v216 (F := Ideal) x1 x4 x6 (ix4 b h n e) = Ideal.exp (cum x1 x4 x6 (16 * b.val + 14) 127 h) := by
    rw [val_main_v216_apply, val_main_v215_apply, val_main_v214_apply, val_main_v213_apply]
    exact (congrArg (val_main_v99 (F := Ideal) x1 x4 x6) ((congrArg idx_main_v213
      ((congrArg idx_main_v214 (by idx_ext)).trans (i102 b h))).trans (by idx_ext))).trans (v99_eq x1 x4 x6 b 14 h)
  have e2 : val_main_v219 (F := Ideal) x0 x1 x2 x3 x4 x6 (ix4 b h n e) = inc x0 x1 x2 x3 x4 x6 (16 * b.val + 14) h n e := by
    rw [val_main_v219_apply, val_main_v218_apply]
    exact (congrArg (val_main_v96 (F := Ideal) x0 x1 x2 x3 x4 x6) ((congrArg idx_main_v218 (i107 b h n e)).trans (by idx_ext))).trans
      (v96_eq x0 x1 x2 x3 x4 x6 b 14 h n e)
  rw [val_main_v220_apply, val_main_v217_apply, st14, e1, e2]
  rfl

end Cert.Reference9Ideal.Scan
end
-- ==== Proof.ScanRef.lean ====
/- The reference computes the closed form. -/
module

public import proofs.«01_k».proof.Proof.ScanRefE
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.Reference9Ideal.Scan

open Cert.Reference9Ideal Cert.Reference9Ideal.Gen Cert.Reference9Ideal.Read
open Cert.Kernel9Ideal.Scan (row tap conv act softp dts adt cum xdt bg cg inc state outh RO RX NINF)

variable (x0 : S8192x7680.Idx → EReal) (x1 : S8192x128.Idx → EReal) (x2 : S5x1x4096.Idx → EReal) (x3 : S4096.Idx → EReal)
  (x4 x6 : S32.Idx → EReal)

/-- Sixteen parts of one chunk each, put after one another, at a chunk. -/
theorem cat16 (f : Fin 16 → S4x1x32x128x64.Idx → EReal) (hc) (b : Fin 4) (c : Fin 16) (h : Fin 32) (n : Fin 128) (e : Fin 64) :
    concatenate S4x16x32x128x64 1 [⟨S4x1x32x128x64, f 0⟩, ⟨S4x1x32x128x64, f 1⟩, ⟨S4x1x32x128x64, f 2⟩, ⟨S4x1x32x128x64, f 3⟩, ⟨S4x1x32x128x64, f 4⟩, ⟨S4x1x32x128x64, f 5⟩, ⟨S4x1x32x128x64, f 6⟩, ⟨S4x1x32x128x64, f 7⟩, ⟨S4x1x32x128x64, f 8⟩, ⟨S4x1x32x128x64, f 9⟩, ⟨S4x1x32x128x64, f 10⟩, ⟨S4x1x32x128x64, f 11⟩, ⟨S4x1x32x128x64, f 12⟩, ⟨S4x1x32x128x64, f 13⟩, ⟨S4x1x32x128x64, f 14⟩, ⟨S4x1x32x128x64, f 15⟩] hc (ix5 b c h n e)
      = f c (ix5 b 0 h n e) := by
  fin_cases c <;> pointwise

/-- The state before each chunk. -/
theorem v245_eq (b : Fin 4) (c : Fin 16) (h : Fin 32) (n : Fin 128) (e : Fin 64) :
    val_main_v245 (F := Ideal) x0 x1 x2 x3 x4 x6 (ix5 b c h n e) = state x0 x1 x2 x3 x4 x6 b.val h n e c.val := by
  refine (cat16 ![val_main_v229 (F := Ideal), val_main_v230 (F := Ideal) x0 x1 x2 x3 x4 x6, val_main_v231 (F := Ideal) x0 x1 x2 x3 x4 x6, val_main_v232 (F := Ideal) x0 x1 x2 x3 x4 x6, val_main_v233 (F := Ideal) x0 x1 x2 x3 x4 x6, val_main_v234 (F := Ideal) x0 x1 x2 x3 x4 x6, val_main_v235 (F := Ideal) x0 x1 x2 x3 x4 x6, val_main_v236 (F := Ideal) x0 x1 x2 x3 x4 x6, val_main_v237 (F := Ideal) x0 x1 x2 x3 x4 x6, val_main_v238 (F := Ideal) x0 x1 x2 x3 x4 x6, val_main_v239 (F := Ideal) x0 x1 x2 x3 x4 x6, val_main_v240 (F := Ideal) x0 x1 x2 x3 x4 x6, val_main_v241 (F := Ideal) x0 x1 x2 x3 x4 x6, val_main_v242 (F := Ideal) x0 x1 x2 x3 x4 x6, val_main_v243 (F := Ideal) x0 x1 x2 x3 x4 x6, val_main_v244 (F := Ideal) x0 x1 x2 x3 x4 x6]
    _ b c h n e).trans ?_
  fin_cases c
  · exact (val_main_v229_apply (ix5 b 0 h n e)).trans ((congrArg (val_main_v100 (F := Ideal)) (by idx_ext)).trans (st0 x0 x1 x2 x3 x4 x6 b h n e))
  · exact (val_main_v230_apply ..).trans ((congrArg (val_main_v108 (F := Ideal) x0 x1 x2 x3 x4 x6) (by idx_ext)).trans (st1 x0 x1 x2 x3 x4 x6 b h n e))
  · exact (val_main_v231_apply ..).trans ((congrArg (val_main_v116 (F := Ideal) x0 x1 x2 x3 x4 x6) (by idx_ext)).trans (st2 x0 x1 x2 x3 x4 x6 b h n e))
  · exact (val_main_v232_apply ..).trans ((congrArg (val_main_v124 (F := Ideal) x0 x1 x2 x3 x4 x6) (by idx_ext)).trans (st3 x0 x1 x2 x3 x4 x6 b h n e))
  · exact (val_main_v233_apply ..).trans ((congrArg (val_main_v132 (F := Ideal) x0 x1 x2 x3 x4 x6) (by idx_ext)).trans (st4 x0 x1 x2 x3 x4 x6 b h n e))
  · exact (val_main_v234_apply ..).trans ((congrArg (val_main_v140 (F := Ideal) x0 x1 x2 x3 x4 x6) (by idx_ext)).trans (st5 x0 x1 x2 x3 x4 x6 b h n e))
  · exact (val_main_v235_apply ..).trans ((congrArg (val_main_v148 (F := Ideal) x0 x1 x2 x3 x4 x6) (by idx_ext)).trans (st6 x0 x1 x2 x3 x4 x6 b h n e))
  · exact (val_main_v236_apply ..).trans ((congrArg (val_main_v156 (F := Ideal) x0 x1 x2 x3 x4 x6) (by idx_ext)).trans (st7 x0 x1 x2 x3 x4 x6 b h n e))
  · exact (val_main_v237_apply ..).trans ((congrArg (val_main_v164 (F := Ideal) x0 x1 x2 x3 x4 x6) (by idx_ext)).trans (st8 x0 x1 x2 x3 x4 x6 b h n e))
  · exact (val_main_v238_apply ..).trans ((congrArg (val_main_v172 (F := Ideal) x0 x1 x2 x3 x4 x6) (by idx_ext)).trans (st9 x0 x1 x2 x3 x4 x6 b h n e))
  · exact (val_main_v239_apply ..).trans ((congrArg (val_main_v180 (F := Ideal) x0 x1 x2 x3 x4 x6) (by idx_ext)).trans (st10 x0 x1 x2 x3 x4 x6 b h n e))
  · exact (val_main_v240_apply ..).trans ((congrArg (val_main_v188 (F := Ideal) x0 x1 x2 x3 x4 x6) (by idx_ext)).trans (st11 x0 x1 x2 x3 x4 x6 b h n e))
  · exact (val_main_v241_apply ..).trans ((congrArg (val_main_v196 (F := Ideal) x0 x1 x2 x3 x4 x6) (by idx_ext)).trans (st12 x0 x1 x2 x3 x4 x6 b h n e))
  · exact (val_main_v242_apply ..).trans ((congrArg (val_main_v204 (F := Ideal) x0 x1 x2 x3 x4 x6) (by idx_ext)).trans (st13 x0 x1 x2 x3 x4 x6 b h n e))
  · exact (val_main_v243_apply ..).trans ((congrArg (val_main_v212 (F := Ideal) x0 x1 x2 x3 x4 x6) (by idx_ext)).trans (st14 x0 x1 x2 x3 x4 x6 b h n e))
  · exact (val_main_v244_apply ..).trans ((congrArg (val_main_v220 (F := Ideal) x0 x1 x2 x3 x4 x6) (by idx_ext)).trans (st15 x0 x1 x2 x3 x4 x6 b h n e))

/-- The outputs. -/
theorem v251_eq (b : Fin 4) (c : Fin 16) (h : Fin 32) (l : Fin 128) (e : Fin 64) :
    val_main_v251 (F := Ideal) x0 x1 x2 x3 x4 x6 (ix5 b c h l e) = outh x0 x1 x2 x3 x4 x6 (16 * b.val + c.val) l h e := by
  have hm : (16 * b.val + c.val) % 16 = c.val := by omega
  have hd : (16 * b.val + c.val) / 16 = b.val := by omega
  have e1 : val_main_v249 (F := Ideal) x1 x4 x6 (ix5 b c h l e) = Ideal.exp (cum x1 x4 x6 (16 * b.val + c.val) l h) := by
    rw [val_main_v249_apply, val_main_v248_apply, val_main_v247_apply]
    exact congrArg Ideal.exp ((congrArg (val_main_v63 (F := Ideal) x1 x4 x6) (by idx_ext)).trans (v63_eq x1 x4 x6 b c h l))
  have e2 : val_main_v246 (F := Ideal) x0 x1 x2 x3 x4 x6 (ix5 b c h l e)
      = ∑ n : Fin 128, cg x0 x2 x3 (row (16 * b.val + c.val) l) h n * state x0 x1 x2 x3 x4 x6 b.val h n e c.val := by
    rw [val_main_v246_apply]
    exact Finset.sum_congr (M := EReal) rfl fun n _ => congrArg₂ (fun a b : EReal => a * b)
      ((congrArg (val_main_v76 (F := Ideal) x0 x2 x3) (by idx_ext)).trans (v76_eq x0 x2 x3 b c h l n))
      ((congrArg (val_main_v245 (F := Ideal) x0 x1 x2 x3 x4 x6) (by idx_ext)).trans (v245_eq x0 x1 x2 x3 x4 x6 b c h n e))
  unfold outh
  rw [hm, hd, val_main_v251_apply, v88_eq, val_main_v250_apply, e1, e2]
  exact congrArg (fun z : EReal => _ + z) (mul_comm (G := EReal) _ _)

/-- The reference's first result. -/
theorem v254_eq : val_main_v254 (F := Ideal) x0 x1 x2 x3 x4 x6 = RO x0 x1 x2 x3 x4 x6 := by
  funext i
  idx_vars i
  have h0 := i0.isLt
  have h1 := i1.isLt
  have ht : 16 * (i0.val / 2048) + i0.val % 2048 / 128 = i0.val / 128 := by omega
  have hl : i0.val % 2048 % 128 = i0.val % 128 := by omega
  rw [val_main_v254_apply, i254, val_main_v253_apply, i253, val_main_v252_apply]
  refine (congrArg (val_main_v251 (F := Ideal) x0 x1 x2 x3 x4 x6) (by idx_ext)).trans
    ((v251_eq x0 x1 x2 x3 x4 x6 ⟨i0.val / 2048, _⟩ ⟨i0.val % 2048 / 128, _⟩ ⟨i1.val / 64, _⟩
      ⟨i0.val % 2048 % 128, _⟩ ⟨i1.val % 64, _⟩).trans ?_)
  show outh x0 x1 x2 x3 x4 x6 _ _ _ _ = outh x0 x1 x2 x3 x4 x6 (i0.val / 128) _ _ _
  rw [ht]
  exact congrArg (fun z => outh x0 x1 x2 x3 x4 x6 (i0.val / 128) z _ _) (Fin.ext hl)

/-- The reference's second result. -/
theorem v256_eq : val_main_v256 (F := Ideal) x0 x2 x3 = RX x0 x2 x3 := by
  funext i
  idx_vars i
  have h0 := i0.isLt
  refine Eq.trans (b := val_main_v255 (F := Ideal) x0 x2 x3 (ix2 i0 i1)) rfl ?_
  rw [val_main_v255_apply, i255, v44_eq]
  exact congrArg (fun z => act x0 x2 x3 z i1) (Fin.ext (by
    rw [rr_val]
    show 2048 * (i0.val / 2048) + i0.val % 2048 = i0.val
    omega))

end Cert.Reference9Ideal.Scan
end
-- ==== Proof.ScanClaims.lean ====
module

public import proofs.«01_k».proof.Defs
public import proofs.«01_k».proof.Proof.ScanFinal
public import proofs.«01_k».proof.Proof.ScanRef
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Quiescent

@[expose] public section

set_option maxRecDepth 16384

noncomputable section

open Idealize.ShloMosaic Idealize.ShloMosaic.TcCoe Idealize.SL.Sem

/-! The claims about the forward scan. -/

namespace Cert.Kernel9Ideal.Scan

open Cert.Kernel9Ideal Cert.Kernel9Ideal.Gen

variable (m : (ℓ : Loc nD τ sig) → Buf (Elt Ideal) ℓ) (ρ : Dev nD → PrngReg)

abbrev val1 (c : Dev nD) : Buf (Elt Ideal) ((c : Thread nD τ).loc main_v12_0) :=
  RO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
abbrev val2 (c : Dev nD) : Buf (Elt Ideal) ((c : Thread nD τ).loc main_v12_1) :=
  RX (m ((c : Thread nD τ).loc main_arg0)) (m ((c : Thread nD τ).loc main_arg2)) (m ((c : Thread nD τ).loc main_arg3))

theorem run : θ_run defs (onTc (τ := τ) (main (F := Ideal))) ⟨m, fun _ => 0, ρ⟩ fun r => ∀ c : Dev nD,
      r.2.mem ((c : Thread nD τ).loc main_v12_0) = val1 m c
      ∧ r.2.mem ((c : Thread nD τ).loc main_v12_1) = val2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 11).trans (final1 m c), ((h.1 c).1 12).trans (final2 m c), h.2 c⟩)
    (θ_run_and (run_main m ρ) (unchanged m ρ))

end Cert.Kernel9Ideal.Scan

namespace Cert.Proof.ScanClaims

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := by
  intro m ρ m' ρ' _ hagree
  refine ⟨fun c => Cert.Kernel9Ideal.Scan.val1 m c, fun c => Cert.Kernel9Ideal.Scan.val2 m c, Cert.Kernel9Ideal.Scan.run m ρ, ?_⟩
  refine (θ_run Cert.Reference9Ideal.defs _ _).mono
    (fun _ h c => ⟨(h c).1.trans ?_, (h c).2.1.trans ?_, (h c).2.2⟩)
    (Cert.Reference9Ideal.Value.run (F := Ideal) m' ρ')
  · obtain ⟨a0, a1, a2, a3, a4, a5, a6, a7⟩ := hagree c
    refine (Cert.Reference9Ideal.Read.val_main_v254_eq _).trans ?_
    refine (Cert.Reference9Ideal.Scan.v254_eq _ _ _ _ _ _).trans ?_
    show Cert.Kernel9Ideal.Scan.RO (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg6)) = _
    rw [a0, a1, a2, a3, a4, a6]
  · obtain ⟨a0, a1, a2, a3, a4, a5, a6, a7⟩ := hagree c
    refine (Cert.Reference9Ideal.Read.val_main_v256_eq _).trans ?_
    refine (Cert.Reference9Ideal.Scan.v256_eq _ _ _).trans ?_
    show Cert.Kernel9Ideal.Scan.RX (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3)) = _
    rw [a0, a2, a3]

end Cert.Proof.ScanClaims

end
-- ==== Proof.BwdGen.lean ====
module

public import proofs.«01_k».proof.Proof.Gen.Kernel10Ideal.Frame
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! One pair of heads of one chunk of the backward scan, with its slices as arguments: the decayed scores, the scaled inputs,
the output and the next state, and what each is at an index. -/

/-- The scaled inputs of a pair of heads. -/
def genXd (dt0 dt1 : FVec Ideal S128x1 .f32) (x : FVec Ideal S128x128 .bf16) : FVec Ideal S128x128 .f32 :=
  mulf (extf .f32 (shapeCast S128x128 x shapeCasts_S128x128_S128x128) bitsLt_bf16_f32)
    (select k0_pay15
      (broadcastTo S128x128 (shapeCast S128x1 dt0 shapeCasts_S128x1_S128x1) broadcasts_S128x1_S128x128)
      (broadcastTo S128x128 (shapeCast S128x1 dt1 shapeCasts_S128x1_S128x1) broadcasts_S128x1_S128x128))

/-- One head's decayed scores. -/
def genL (col : FVec Ideal S128x1 .f32) (row : FVec Ideal S1x128 .f32) (cb : FVec Ideal S128x128 .f32) :
    FVec Ideal S128x128 .bf16 :=
  truncf .bf16 (mulf (exp (select k0_pay3
    (subf (broadcastTo S128x128 col broadcasts_S128x1_S128x128) (broadcastTo S128x128 row broadcasts_S1x128_S128x128))
    (broadcast S128x128 (Scalar.ofBits .f32 0xFF800000#32)))) cb) bitsLt_bf16_f32

/-- The pair's output. -/
def genY (l0 l1 : FVec Ideal S128x128 .bf16) (xd : FVec Ideal S128x128 .f32) (fs0 fs1 : FVec Ideal S128x1 .f32)
    (cg : FVec Ideal S128x128 .bf16) (st : FVec Ideal S1x128x128 .f32) : FVec Ideal S128x128 .f32 :=
  addf (matmul dot_S128x256_S256x128_S128x128_1_0_0_1_n_n none
      (concatenate S128x256 1 [⟨S128x128, l0⟩, ⟨S128x128, l1⟩] concatenates_S128x128_S128x128_S128x256_d1)
      (truncf .bf16 (concatenate S256x128 0
        [⟨S128x128, select k0_pay15 xd (broadcast S128x128 (Scalar.ofBits (F := Ideal) .f32 0x00000000#32))⟩,
         ⟨S128x128, select k0_pay15 (broadcast S128x128 (Scalar.ofBits (F := Ideal) .f32 0x00000000#32)) xd⟩]
        concatenates_S128x128_S128x128_S256x128_d0) bitsLt_bf16_f32)
      (constant S128x128 .f32 0x00000000#32))
    (mulf (select k0_pay15
        (broadcastTo S128x128 (shapeCast S128x1 fs0 shapeCasts_S128x1_S128x1) broadcasts_S128x1_S128x128)
        (broadcastTo S128x128 (shapeCast S128x1 fs1 shapeCasts_S128x1_S128x1) broadcasts_S128x1_S128x128))
      (matmul dot_S128x128_S128x128_S128x128_1_0_0_1_n_n none cg
        (truncf .bf16 (shapeCast S128x128 st shapeCasts_S1x128x128_S128x128) bitsLt_bf16_f32)
        (constant S128x128 .f32 0x00000000#32)))

/-- The pair's next state. -/
def genS (xd : FVec Ideal S128x128 .f32) (te0 te1 : FVec Ideal S128x1 .f32) (cd0 cd1 : FVec Ideal S1x1 .f32)
    (bg : FVec Ideal S128x128 .bf16) (st : FVec Ideal S1x128x128 .f32) : FVec Ideal S1x128x128 .f32 :=
  shapeCast S1x128x128
    (addf (mulf (shapeCast S128x128 st shapeCasts_S1x128x128_S128x128)
        (broadcastTo S128x128 (select (extractStridedSlice S1x128 ![0, 0] k0_pay15 slices_S128x128_o0_0_S1x128)
          (broadcastTo S1x128 (shapeCast S1x1 cd0 shapeCasts_S1x1_S1x1) broadcasts_S1x1_S1x128)
          (broadcastTo S1x128 (shapeCast S1x1 cd1 shapeCasts_S1x1_S1x1) broadcasts_S1x1_S1x128))
          broadcasts_S1x128_S128x128))
      (matmul dot_S128x128_S128x128_S128x128_0_0_1_1_n_n none bg
        (truncf .bf16 (mulf xd (select k0_pay15
          (broadcastTo S128x128 (shapeCast S128x1 te0 shapeCasts_S128x1_S128x1) broadcasts_S128x1_S128x128)
          (broadcastTo S128x128 (shapeCast S128x1 te1 shapeCasts_S128x1_S128x1) broadcasts_S128x1_S128x128)))
          bitsLt_bf16_f32)
        (constant S128x128 .f32 0x00000000#32)))
    shapeCasts_S128x128_S1x128x128

/-- The word of minus infinity. -/
abbrev NINF : EReal := Ideal.ofBits FTy.f32 4286578688#32

theorem slt64 : ∀ l : Fin 128, IntOp.cmpi .slt (BitVec.ofNat 32 l.val) 64#32 = if l.val < 64 then 1#1 else 0#1 := by
  decide +kernel

/-- The choice between the two heads of a pair. -/
theorem sel64 (l : Fin 128) (a b : EReal) :
    Scalar.select (IntOp.cmpi .slt (BitVec.ofNat 32 l.val) 64#32) a b = if l.val < 64 then a else b := by
  rw [slt64]
  by_cases h : l.val < 64
  · rw [if_pos h, if_pos h]; rfl
  · rw [if_neg h, if_neg h]; rfl

/-- The choice between the future and the past of a step. -/
theorem selLe (k s : Fin 128) (a b : EReal) :
    Scalar.select (IntOp.cmpi .sge (BitVec.ofNat 32 k.val) (BitVec.ofNat 32 s.val)) a b
      = if s.val ≤ k.val then a else b := by
  show Scalar.select (IntOp.cmpi .sle (BitVec.ofNat 32 s.val) (BitVec.ofNat 32 k.val)) a b = _
  rw [WordCmp.cmpi_sle_ofNat (by have := s.isLt; omega) (by have := k.isLt; omega)]
  by_cases h : s.val ≤ k.val
  · rw [if_pos h, decide_eq_true h]; rfl
  · rw [if_neg h, decide_eq_false h]; rfl

theorem genXd_apply (dt0 dt1 x) (s l : Fin 128) :
    genXd dt0 dt1 x (ix2 s l)
      = (x (ix2 s l) : EReal) * (if l.val < 64 then dt0 (ix2 s (0 : Fin 1)) else dt1 (ix2 s (0 : Fin 1)) : EReal) := by
  pointwise [genXd, k0_pay15]
  rw [sel64]

theorem genL_apply (col row cb) (s k : Fin 128) :
    genL col row cb (ix2 s k)
      = (Ideal.exp (if s.val ≤ k.val then (col (ix2 s (0 : Fin 1)) : EReal) - row (ix2 (0 : Fin 1) k) else NINF)
          * cb (ix2 s k) : EReal) := by
  pointwise [genL, k0_pay3]
  rw [selLe]

theorem genY_apply (l0 l1 xd fs0 fs1 cg st) (s l : Fin 128) :
    genY l0 l1 xd fs0 fs1 cg st (ix2 s l)
      = ((∑ k : Fin 128, (if l.val < 64 then l0 (ix2 s k) else l1 (ix2 s k) : EReal) * xd (ix2 k l))
          + (if l.val < 64 then fs0 (ix2 s (0 : Fin 1)) else fs1 (ix2 s (0 : Fin 1)) : EReal)
            * (∑ n : Fin 128, (cg (ix2 s n) : EReal) * st (ix3 (0 : Fin 1) n l)) : EReal) := by
  pointwise [genY, k0_pay15]
  simp only [sel64]
  by_cases h : l.val < 64
  · simp only [if_pos h, Finset.sum_const_zero, add_zero]
  · simp only [if_neg h, Finset.sum_const_zero, zero_add]

theorem genS_apply (xd te0 te1 cd0 cd1 bg st) (n l : Fin 128) :
    genS xd te0 te1 cd0 cd1 bg st (ix3 (0 : Fin 1) n l)
      = ((st (ix3 (0 : Fin 1) n l) : EReal)
            * (if l.val < 64 then cd0 (ix2 (0 : Fin 1) (0 : Fin 1)) else cd1 (ix2 (0 : Fin 1) (0 : Fin 1)) : EReal)
          + (∑ s : Fin 128, (bg (ix2 s n) : EReal)
              * (xd (ix2 s l) * (if l.val < 64 then te0 (ix2 s (0 : Fin 1)) else te1 (ix2 s (0 : Fin 1)) : EReal))) : EReal) := by
  pointwise [genS, k0_pay15]
  simp only [sel64]

end Cert.Kernel10Ideal.Scan
end
-- ==== Proof.BwdPieces.lean ====
module

public import proofs.«01_k».proof.Proof.BwdGen
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! What every pair of heads stores, as a rectangle of one function: the block of outputs and the carried states. -/

variable (DT CUM CUMT : FVec Ideal S128x128 .f32) (XBC : FVec Ideal S128x4096 .bf16) (ST : FVec Ideal S16x128x128 .f32)

/-- A column's head, as a lane of the time steps. -/
def lane (q : Fin 16) (l : Fin 128) : Fin 128 :=
  ⟨96 + (2 * q.val + l.val / 64), by have := q.isLt; have := l.isLt; omega⟩

def colX (q : Fin 16) (l : Fin 128) : Fin 4096 := ⟨128 * q.val + l.val, by have := q.isLt; have := l.isLt; omega⟩
def colB (q : Fin 16) (n : Fin 128) : Fin 4096 :=
  ⟨2048 + 128 * (q.val / 2) + n.val, by have := q.isLt; have := n.isLt; omega⟩
def colC (q : Fin 16) (n : Fin 128) : Fin 4096 :=
  ⟨3072 + 128 * (q.val / 2) + n.val, by have := q.isLt; have := n.isLt; omega⟩

/-- A scaled input. -/
def XD (q : Fin 16) (s l : Fin 128) : EReal := (XBC (ix2 s (colX q l)) : EReal) * DT (ix2 s (lane q l))

/-- One entry of the next state. -/
def nextS (q : Fin 16) (n l : Fin 128) : EReal :=
  (ST (ix3 q n l) : EReal) * Ideal.exp (CUM (ix2 (0 : Fin 128) (lane q l)))
    + ∑ s : Fin 128, (XBC (ix2 s (colB q n)) : EReal)
        * (XD DT XBC q s l * Ideal.exp ((CUM (ix2 (0 : Fin 128) (lane q l)) : EReal) - CUM (ix2 s (lane q l))))

/-- One entry of the output. -/
def outY (q : Fin 16) (s l : Fin 128) : EReal :=
  (∑ k : Fin 128, (Ideal.exp (if s.val ≤ k.val then (CUM (ix2 s (lane q l)) : EReal) - CUMT (ix2 (lane q l) k) else NINF)
      * ∑ n : Fin 128, (XBC (ix2 s (colC q n)) : EReal) * XBC (ix2 k (colB q n))) * XD DT XBC q k l)
    + Ideal.exp (CUM (ix2 s (lane q l))) * ∑ n : Fin 128, (XBC (ix2 s (colC q n)) : EReal) * ST (ix3 q n l)

/-- The next states. -/
def TS : FVec Ideal S16x128x128 .f32 := fun y => nextS DT CUM XBC ST (y 0) (y 1) (y 2)

/-- The block of outputs. -/
def TY : FVec Ideal S128x2048 .f32 := fun y =>
  outY DT CUM CUMT XBC ST ⟨(y 1).val / 128, by have h : (y 1).val < 2048 := (y 1).isLt; omega⟩ (y 0)
    ⟨(y 1).val % 128, by omega⟩

theorem te_apply (s k : Fin 128) :
    k0_pay12 CUM (ix2 s k) = (Ideal.exp ((CUM (ix2 (0 : Fin 128) k) : EReal) - CUM (ix2 s k)) : EReal) := by
  pointwise [k0_pay12, k0_pay11]

theorem fs_apply (s k : Fin 128) : k0_pay13 CUM (ix2 s k) = (Ideal.exp (CUM (ix2 s k)) : EReal) := by
  pointwise [k0_pay13]

theorem cd_apply (k : Fin 128) : k0_pay14 CUM (ix2 (0 : Fin 1) k) = (Ideal.exp (CUM (ix2 (0 : Fin 128) k)) : EReal) := by
  pointwise [k0_pay14, k0_pay11]

/-- A choice between the two heads of a pair is a choice of lane. -/
theorem lane_sel (f : Fin 128 → EReal) (q : Fin 16) (l a b : Fin 128) (ha : a.val = 96 + 2 * q.val)
    (hb : b.val = 97 + 2 * q.val) : (if l.val < 64 then f a else f b) = f (lane q l) := by
  have hl := l.isLt
  by_cases h : l.val < 64
  · rw [if_pos h]
    exact congrArg f (Fin.ext (by show a.val = 96 + (2 * q.val + l.val / 64); omega))
  · rw [if_neg h]
    exact congrArg f (Fin.ext (by show b.val = 96 + (2 * q.val + l.val / 64); omega))

theorem slice1 (A : FVec Ideal S128x128 .f32) (o : Nat) (h) (s : Fin 128) (ho : o < 128) :
    extractStridedSlice S128x1 ![0, o] A h (ix2 s (0 : Fin 1)) = A (ix2 s ⟨o, ho⟩) := by
  pointwise []

theorem slice2 (A : FVec Ideal S128x128 .f32) (o : Nat) (h) (s : Fin 128) (ho : o < 128) :
    extractStridedSlice S1x128 ![o, 0] A h (ix2 (0 : Fin 1) s) = A (ix2 ⟨o, ho⟩ s) := by
  pointwise []

theorem slice3 (A : FVec Ideal S1x128 .f32) (o : Nat) (h) (ho : o < 128) :
    extractStridedSlice S1x1 ![0, o] A h (ix2 (0 : Fin 1) (0 : Fin 1)) = A (ix2 (0 : Fin 1) ⟨o, ho⟩) := by
  pointwise []

/-- The block of columns from `o`. -/
def blkX (o : Nat) (h : ∀ a, (![0, o] : Fin 2 → ℕ) a + (![128, 128] : Fin 2 → ℕ) a ≤ S128x4096.size a) :
    FVec Ideal S128x128 .bf16 := fun j => XBC ((Rect.unit (s := S128x4096) ![0, o] ![128, 128] h).idx j)

theorem blkX_apply (o : Nat) (h) (s l : Fin 128) (k : Fin 4096) (hk : k.val = o + l.val) :
    blkX XBC o h (ix2 s l) = XBC (ix2 s k) := by
  unfold blkX
  refine congrArg XBC ?_
  funext a
  apply Fin.ext
  fin_cases a
  · show 0 + 1 * s.val = s.val
    omega
  · show o + 1 * l.val = k.val
    omega

/-- The state of one pair. -/
def blkS (q : Nat) (h : ∀ a, (![q, 0, 0] : Fin 3 → ℕ) a + (![1, 128, 128] : Fin 3 → ℕ) a ≤ S16x128x128.size a) :
    FVec Ideal S1x128x128 .f32 := fun j => ST ((Rect.unit (s := S16x128x128) ![q, 0, 0] ![1, 128, 128] h).idx j)

theorem blkS_apply (q : Fin 16) (h) (n l : Fin 128) : blkS ST q.val h (ix3 (0 : Fin 1) n l) = ST (ix3 q n l) := by
  unfold blkS
  refine congrArg ST ?_
  funext a
  apply Fin.ext
  fin_cases a
  · show q.val + 1 * 0 = q.val
    omega
  · show 0 + 1 * n.val = n.val
    omega
  · show 0 + 1 * l.val = l.val
    omega

/-- A pair's scaled inputs, sliced out of their blocks. -/
abbrev pairXd (o o' ox : Nat) (h : S128x128.Slices ![0, o] S128x1) (h' : S128x128.Slices ![0, o'] S128x1)
    (hx : ∀ a, (![0, ox] : Fin 2 → ℕ) a + (![128, 128] : Fin 2 → ℕ) a ≤ S128x4096.size a) : FVec Ideal S128x128 .f32 :=
  genXd (extractStridedSlice S128x1 ![0, o] DT h) (extractStridedSlice S128x1 ![0, o'] DT h') (blkX XBC ox hx)

theorem pairXd_apply (q : Fin 16) (o o' ox : Nat) (h h' hx) (ho : o = 96 + 2 * q.val) (ho' : o' = 97 + 2 * q.val)
    (hox : ox = 128 * q.val) (s l : Fin 128) : pairXd DT XBC o o' ox h h' hx (ix2 s l) = XD DT XBC q s l := by
  have hq := q.isLt
  rw [pairXd, genXd_apply, blkX_apply XBC ox hx s l (colX q l) (by show 128 * q.val + l.val = _; omega),
    slice1 DT o h s (by omega), slice1 DT o' h' s (by omega)]
  unfold XD
  rw [← lane_sel (fun k => DT (ix2 s k)) q l ⟨o, by omega⟩ ⟨o', by omega⟩ ho ho']

/-- What a pair stores as its next state. -/
theorem pieceS (q o o' ox ob : Nat) (hq : q < 16) (ho : o = 96 + 2 * q) (ho' : o' = 97 + 2 * q) (hox : ox = 128 * q)
    (hob : ob = 2048 + 128 * (q / 2)) (h h' hx hb h1 h1' h2 h2' hs)
    (he : ∀ a, (![q, 0, 0] : Fin 3 → ℕ) a + (![1, 128, 128] : Fin 3 → ℕ) a ≤ S16x128x128.size a)
    (x : S1x128x128.Idx) :
    genS (pairXd DT XBC o o' ox h h' hx)
        (extractStridedSlice S128x1 ![0, o] (k0_pay12 CUM) h1) (extractStridedSlice S128x1 ![0, o'] (k0_pay12 CUM) h1')
        (extractStridedSlice S1x1 ![0, o] (k0_pay14 CUM) h2) (extractStridedSlice S1x1 ![0, o'] (k0_pay14 CUM) h2')
        (shapeCast S128x128 (blkX XBC ob hb) shapeCasts_S128x128_S128x128) (blkS ST q hs) x
      = TS DT CUM XBC ST ((Rect.unit (s := S16x128x128) ![q, 0, 0] ![1, 128, 128] he).emb x) := by
  obtain ⟨Q, rfl⟩ : ∃ Q : Fin 16, Q.val = q := ⟨⟨q, hq⟩, rfl⟩
  have e : TS DT CUM XBC ST ((Rect.unit (s := S16x128x128) ![Q.val, 0, 0] ![1, 128, 128] he).emb x)
      = nextS DT CUM XBC ST Q (x 1) (x 2) := by
    unfold TS
    congr 1
    · apply Fin.ext
      have h0 : (x 0).val < 1 := (x 0).isLt
      show Q.val + 1 * (x 0).val = Q.val
      omega
    · apply Fin.ext
      show 0 + 1 * (x 1).val = (x 1).val
      omega
    · apply Fin.ext
      show 0 + 1 * (x 2).val = (x 2).val
      omega
  rw [e]
  clear e
  idx_vars x
  have hz : x0 = 0 := Subsingleton.elim _ _
  subst hz
  show _ = nextS DT CUM XBC ST Q x1 x2
  have hQ := Q.isLt
  rw [genS_apply, blkS_apply]
  unfold nextS
  refine congrArg₂ (fun a b : EReal => a + b) ?_ (Finset.sum_congr (M := EReal) rfl fun s _ => ?_)
  · refine congrArg₂ (fun a b : EReal => a * b) rfl ?_
    rw [slice3 _ o h2 (by omega), slice3 _ o' h2' (by omega), cd_apply, cd_apply]
    exact lane_sel (fun k => Ideal.exp (CUM (ix2 (0 : Fin 128) k))) Q x2 ⟨o, by omega⟩ ⟨o', by omega⟩ ho ho'
  · rw [pairXd_apply DT XBC Q o o' ox h h' hx ho ho' hox, slice1 _ o h1 s (by omega), slice1 _ o' h1' s (by omega),
      te_apply, te_apply]
    refine congrArg₂ (fun a b : EReal => a * b) ?_ (congrArg₂ (fun a b : EReal => a * b) rfl ?_)
    · rw [shapeCast_self]
      exact blkX_apply XBC ob hb s x1 (colB Q x1) (by show 2048 + 128 * (Q.val / 2) + x1.val = _; omega)
    · exact lane_sel (fun k => Ideal.exp ((CUM (ix2 (0 : Fin 128) k) : EReal) - CUM (ix2 s k))) Q x2 ⟨o, by omega⟩
        ⟨o', by omega⟩ ho ho'

/-- The scores of a group. -/
abbrev pairCB (cg bg : FVec Ideal S128x128 .bf16) : FVec Ideal S128x128 .f32 :=
  matmul dot_S128x128_S128x128_S128x128_1_1_0_0_n_n none (shapeCast S128x128 cg shapeCasts_S128x128_S128x128)
    (shapeCast S128x128 bg shapeCasts_S128x128_S128x128) (constant S128x128 .f32 0x00000000#32)

theorem pairCB_apply (cg bg) (s k : Fin 128) :
    pairCB cg bg (ix2 s k) = (∑ n : Fin 128, (cg (ix2 s n) : EReal) * bg (ix2 k n) : EReal) := by
  pointwise [pairCB]

/-- What a pair stores as its outputs. -/
theorem pieceY (q o o' ox ob oc : Nat) (hq : q < 16) (ho : o = 96 + 2 * q) (ho' : o' = 97 + 2 * q) (hox : ox = 128 * q)
    (hob : ob = 2048 + 128 * (q / 2)) (hoc : oc = 3072 + 128 * (q / 2)) (h h' hx hb hc h1 h1' h2 h2' h3 h3' hs)
    (he : ∀ a, (![0, ox] : Fin 2 → ℕ) a + (![128, 128] : Fin 2 → ℕ) a ≤ S128x2048.size a)
    (x : S128x128.Idx) :
    shapeCast S128x128
        (genY
          (genL (extractStridedSlice S128x1 ![0, o] CUM h1) (extractStridedSlice S1x128 ![o, 0] CUMT h2)
            (pairCB (blkX XBC oc hc) (blkX XBC ob hb)))
          (genL (extractStridedSlice S128x1 ![0, o'] CUM h1') (extractStridedSlice S1x128 ![o', 0] CUMT h2')
            (pairCB (blkX XBC oc hc) (blkX XBC ob hb)))
          (pairXd DT XBC o o' ox h h' hx)
          (extractStridedSlice S128x1 ![0, o] (k0_pay13 CUM) h3) (extractStridedSlice S128x1 ![0, o'] (k0_pay13 CUM) h3')
          (shapeCast S128x128 (blkX XBC oc hc) shapeCasts_S128x128_S128x128) (blkS ST q hs))
        shapeCasts_S128x128_S128x128 x
      = TY DT CUM CUMT XBC ST ((Rect.unit (s := S128x2048) ![0, ox] ![128, 128] he).emb x) := by
  obtain ⟨Q, rfl⟩ : ∃ Q : Fin 16, Q.val = q := ⟨⟨q, hq⟩, rfl⟩
  have e : TY DT CUM CUMT XBC ST ((Rect.unit (s := S128x2048) ![0, ox] ![128, 128] he).emb x)
      = outY DT CUM CUMT XBC ST Q (x 0) (x 1) := by
    have h1 : (x 1).val < 128 := (x 1).isLt
    unfold TY
    congr 1
    · apply Fin.ext
      show (ox + 1 * (x 1).val) / 128 = Q.val
      omega
    · apply Fin.ext
      show 0 + 1 * (x 0).val = (x 0).val
      omega
    · apply Fin.ext
      show (ox + 1 * (x 1).val) % 128 = (x 1).val
      omega
  rw [e, shapeCast_self]
  clear e
  idx_vars x
  show _ = outY DT CUM CUMT XBC ST Q x0 x1
  have hQ := Q.isLt
  have hB : ∀ k n : Fin 128, blkX XBC ob hb (ix2 k n) = XBC (ix2 k (colB Q n)) := fun k n =>
    blkX_apply XBC ob hb k n (colB Q n) (by show 2048 + 128 * (Q.val / 2) + n.val = _; omega)
  have hC : ∀ k n : Fin 128, blkX XBC oc hc (ix2 k n) = XBC (ix2 k (colC Q n)) := fun k n =>
    blkX_apply XBC oc hc k n (colC Q n) (by show 3072 + 128 * (Q.val / 2) + n.val = _; omega)
  rw [genY_apply]
  unfold outY
  refine congrArg₂ (fun a b : EReal => a + b) (Finset.sum_congr (M := EReal) rfl fun k _ => ?_)
    (congrArg₂ (fun a b : EReal => a * b) ?_ (Finset.sum_congr (M := EReal) rfl fun n _ => ?_))
  · rw [pairXd_apply DT XBC Q o o' ox h h' hx ho ho' hox, genL_apply, genL_apply, pairCB_apply,
      slice1 _ o h1 x0 (by omega), slice1 _ o' h1' x0 (by omega), slice2 _ o h2 k (by omega), slice2 _ o' h2' k (by omega)]
    refine congrArg₂ (fun a b : EReal => a * b) ?_ rfl
    refine (lane_sel (fun j => Ideal.exp (if x0.val ≤ k.val then (CUM (ix2 x0 j) : EReal) - CUMT (ix2 j k) else NINF)
      * ∑ n : Fin 128, (blkX XBC oc hc (ix2 x0 n) : EReal) * blkX XBC ob hb (ix2 k n)) Q x1 ⟨o, by omega⟩
        ⟨o', by omega⟩ ho ho').trans ?_
    refine congrArg₂ (fun a b : EReal => a * b) rfl (Finset.sum_congr (M := EReal) rfl fun n _ => ?_)
    rw [hB, hC]
  · rw [slice1 _ o h3 x0 (by omega), slice1 _ o' h3' x0 (by omega), fs_apply, fs_apply]
    exact lane_sel (fun k => Ideal.exp (CUM (ix2 x0 k))) Q x1 ⟨o, by omega⟩ ⟨o', by omega⟩ ho ho'
  · rw [shapeCast_self, hC, blkS_apply]

end Cert.Kernel10Ideal.Scan
end
-- ==== Proof.BwdGate.lean ====
module

public import proofs.«01_k».proof.Proof.BwdPieces
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! The last stage of the backward scan: both scans and the skip added, the gate, and the normalisation of a group of 256
columns. -/

/-- The gated sum of one group. -/
def genV (ys yf : FVec Ideal S128x256 .f32) (dk : FVec Ideal S1x256 .f32) (xb z : FVec Ideal S128x256 .bf16) :
    FVec Ideal S128x256 .f32 :=
  mulf (addf (addf ys yf) (mulf (broadcastTo S128x256 (shapeCast S1x256 dk shapeCasts_S1x256_S1x256) broadcasts_S1x256_S128x256)
      (extf .f32 (shapeCast S128x256 xb shapeCasts_S128x256_S128x256) bitsLt_bf16_f32)))
    (mulf (extf .f32 (shapeCast S128x256 z shapeCasts_S128x256_S128x256) bitsLt_bf16_f32)
      (logistic (extf .f32 (shapeCast S128x256 z shapeCasts_S128x256_S128x256) bitsLt_bf16_f32)))

/-- The normalisation of one group. -/
def genN (v : FVec Ideal S128x256 .f32) (gn : FVec Ideal S1x256 .f32) : FVec Ideal S128x256 .bf16 :=
  truncf .bf16 (mulf (mulf v (broadcastTo S128x256 (rsqrt (addf
      (divf (shapeCast S128x1 (multiReduction .add [1] S128 (mulf v v) 0x00000000#32 reduces_S128x256_S128 (.inl rfl) rfl)
          shapeCasts_S128_S128x1) (broadcast S128x1 (Scalar.ofBits .f32 0x43800000#32)))
      (broadcast S128x1 (Scalar.ofBits .f32 0x358637BD#32)))) broadcasts_S128x1_S128x256))
    (broadcastTo S128x256 (shapeCast S1x256 gn shapeCasts_S1x256_S1x256) broadcasts_S1x256_S128x256)) bitsLt_bf16_f32

/-- The words of the group's length and of the normalisation's epsilon. -/
abbrev W256 : EReal := Ideal.ofBits FTy.f32 0x43800000#32
abbrev WEPS : EReal := Ideal.ofBits FTy.f32 0x358637BD#32

theorem genV_apply (ys yf dk xb z) (s : Fin 128) (l : Fin 256) :
    genV ys yf dk xb z (ix2 s l)
      = (((ys (ix2 s l) : EReal) + yf (ix2 s l)) + dk (ix2 (0 : Fin 1) l) * xb (ix2 s l))
        * (z (ix2 s l) * Ideal.logistic (z (ix2 s l))) := by
  pointwise [genV]

theorem genN_apply (v gn) (s : Fin 128) (l : Fin 256) :
    genN v gn (ix2 s l)
      = (v (ix2 s l) : EReal) * Ideal.rsqrt (Ideal.div (∑ j : Fin 256, (v (ix2 s j) : EReal) * v (ix2 s j)) W256 + WEPS)
        * gn (ix2 (0 : Fin 1) l) := by
  pointwise [genN]

variable (Y YF : FVec Ideal S128x2048 .f32) (DK GN : FVec Ideal S1x2048 .f32) (XBC : FVec Ideal S128x4096 .bf16)
  (Z : FVec Ideal S128x2048 .bf16)

/-- One gated entry. -/
def gateV (s : Fin 128) (k : Fin 2048) : EReal :=
  (((Y (ix2 s k) : EReal) + YF (ix2 s k)) + DK (ix2 (0 : Fin 1) k) * XBC (ix2 s ⟨k.val, by omega⟩))
    * (Z (ix2 s k) * Ideal.logistic (Z (ix2 s k)))

/-- A column of a group. -/
def gcol (g : ℕ) (j : Fin 256) : Fin 2048 := ⟨(256 * g + j.val) % 2048, Nat.mod_lt _ (by norm_num)⟩

/-- One entry of the result. -/
def outN (s : Fin 128) (k : Fin 2048) : EReal :=
  gateV Y YF DK XBC Z s k
    * Ideal.rsqrt (Ideal.div (∑ j : Fin 256, gateV Y YF DK XBC Z s (gcol (k.val / 256) j) * gateV Y YF DK XBC Z s (gcol (k.val / 256) j))
        W256 + WEPS)
    * GN (ix2 (0 : Fin 1) k)

/-- The block of results. -/
def TO : FVec Ideal S128x2048 .bf16 := fun y => outN Y YF DK GN XBC Z (y 0) (y 1)

def blk2 {e : FTy} (A : FVec Ideal S128x2048 e) (o : Nat)
    (h : ∀ a, (![0, o] : Fin 2 → ℕ) a + (![128, 256] : Fin 2 → ℕ) a ≤ S128x2048.size a) :
    FVec Ideal S128x256 e := fun j => A ((Rect.unit (s := S128x2048) ![0, o] ![128, 256] h).idx j)
def blk1 {e : FTy} (A : FVec Ideal S1x2048 e) (o : Nat)
    (h : ∀ a, (![0, o] : Fin 2 → ℕ) a + (![1, 256] : Fin 2 → ℕ) a ≤ S1x2048.size a) :
    FVec Ideal S1x256 e := fun j => A ((Rect.unit (s := S1x2048) ![0, o] ![1, 256] h).idx j)
def blk4 {e : FTy} (A : FVec Ideal S128x4096 e) (o : Nat)
    (h : ∀ a, (![0, o] : Fin 2 → ℕ) a + (![128, 256] : Fin 2 → ℕ) a ≤ S128x4096.size a) :
    FVec Ideal S128x256 e := fun j => A ((Rect.unit (s := S128x4096) ![0, o] ![128, 256] h).idx j)

theorem blk2_apply {e : FTy} (A : FVec Ideal S128x2048 e) (o : Nat) (h) (s : Fin 128) (l : Fin 256) (k : Fin 2048)
    (hk : k.val = o + l.val) : blk2 A o h (ix2 s l) = A (ix2 s k) := by
  unfold blk2
  refine congrArg A ?_
  funext a
  apply Fin.ext
  fin_cases a
  · show 0 + 1 * s.val = s.val
    omega
  · show o + 1 * l.val = k.val
    omega

theorem blk1_apply {e : FTy} (A : FVec Ideal S1x2048 e) (o : Nat) (h) (l : Fin 256) (k : Fin 2048)
    (hk : k.val = o + l.val) : blk1 A o h (ix2 (0 : Fin 1) l) = A (ix2 (0 : Fin 1) k) := by
  unfold blk1
  refine congrArg A ?_
  funext a
  apply Fin.ext
  fin_cases a
  · rfl
  · show o + 1 * l.val = k.val
    omega

theorem blk4_apply {e : FTy} (A : FVec Ideal S128x4096 e) (o : Nat) (h) (s : Fin 128) (l : Fin 256) (k : Fin 4096)
    (hk : k.val = o + l.val) : blk4 A o h (ix2 s l) = A (ix2 s k) := by
  unfold blk4
  refine congrArg A ?_
  funext a
  apply Fin.ext
  fin_cases a
  · show 0 + 1 * s.val = s.val
    omega
  · show o + 1 * l.val = k.val
    omega

theorem pairV_apply (o : Nat) (h1 h2 h3) (s : Fin 128) (l : Fin 256) (k : Fin 2048) (hk : k.val = o + l.val) :
    genV (blk2 Y o h1) (blk2 YF o h1) (blk1 DK o h2) (blk4 XBC o h3) (blk2 Z o h1) (ix2 s l) = gateV Y YF DK XBC Z s k := by
  rw [genV_apply, blk2_apply Y o h1 s l k hk, blk2_apply YF o h1 s l k hk, blk1_apply DK o h2 l k hk,
    blk4_apply XBC o h3 s l ⟨k.val, by omega⟩ hk, blk2_apply Z o h1 s l k hk]
  rfl

/-- What a group stores. -/
theorem pieceO (g o : Nat) (hg : g < 8) (ho : o = 256 * g) (h1 h2 h3)
    (he : ∀ a, (![0, o] : Fin 2 → ℕ) a + (![128, 256] : Fin 2 → ℕ) a ≤ S128x2048.size a) (x : S128x256.Idx) :
    genN (genV (blk2 Y o h1) (blk2 YF o h1) (blk1 DK o h2) (blk4 XBC o h3) (blk2 Z o h1)) (blk1 GN o h2) x
      = TO Y YF DK GN XBC Z ((Rect.unit (s := S128x2048) ![0, o] ![128, 256] he).emb x) := by
  have hx1 : (x 1).val < 256 := (x 1).isLt
  obtain ⟨k, hk⟩ : ∃ k : Fin 2048, k.val = o + (x 1).val := ⟨⟨o + (x 1).val, by omega⟩, rfl⟩
  have e : TO Y YF DK GN XBC Z ((Rect.unit (s := S128x2048) ![0, o] ![128, 256] he).emb x)
      = outN Y YF DK GN XBC Z (x 0) k := by
    unfold TO
    congr 1
    · apply Fin.ext
      show 0 + 1 * (x 0).val = (x 0).val
      omega
    · apply Fin.ext
      show o + 1 * (x 1).val = k.val
      omega
  rw [e]
  clear e
  idx_vars x
  change k.val = o + x1.val at hk
  have hx1 := x1.isLt
  show _ = outN Y YF DK GN XBC Z x0 k
  rw [genN_apply, pairV_apply Y YF DK XBC Z o h1 h2 h3 x0 x1 k hk, blk1_apply GN o h2 x1 k hk]
  unfold outN
  refine congrArg₂ (fun a b : EReal => a * b) (congrArg₂ (fun a b : EReal => a * b) rfl (congrArg Ideal.rsqrt
    (congrArg₂ (fun a b : EReal => a + b) (congrArg₂ Ideal.div
      (Finset.sum_congr (M := EReal) rfl fun j _ => ?_) rfl) rfl))) rfl
  rw [pairV_apply Y YF DK XBC Z o h1 h2 h3 x0 j (gcol (k.val / 256) j) (by
    show (256 * (k.val / 256) + j.val) % 2048 = _
    have := j.isLt
    omega)]

end Cert.Kernel10Ideal.Scan
end
-- ==== Proof.BwdCaseA.lean ====
module

public import proofs.«01_k».proof.Proof.BwdGate
public import Idealize.ShloMosaic.Lib.Pointwise
public import Idealize.ShloMosaic.Lib.Pipeline.ReadBack
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! What the kernel leaves at a batch element's last chunk, where the backward scan starts: the block of outputs, the carried states and the gated, normalised
results, each as one function of the blocks it read. -/

variable (c : Dev nD) (i : grid0.Coords) (arg2 : Memref sig .tc .vmem S128x4096 .bf16) (harg2 : arg2.IsWhole) (arg3 : Memref sig .tc .vmem
  S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128
  .f32) (harg6 : arg6.IsWhole) (arg7 : Memref sig .tc .vmem S128x1 .f32) (harg7 : arg7.IsWhole) (arg8 :
  Memref sig .tc .vmem S128x1 .f32) (harg8 : arg8.IsWhole) (arg9 : Memref sig .tc .vmem S128x2048 .bf16)
  (harg9 : arg9.IsWhole) (arg10 : Memref sig .tc .vmem S128x2048 .f32) (harg10 : arg10.IsWhole) (arg11 :
  Memref sig .tc .vmem S1x2048 .f32) (harg11 : arg11.IsWhole) (arg12 : Memref sig .tc .vmem S1x2048 .f32)
  (harg12 : arg12.IsWhole) (arg13 : Memref sig .tc .vmem S128x2048 .bf16) (harg13 : arg13.IsWhole) (arg14 :
  Memref sig .tc .vmem S128x2048 .f32) (harg14 : arg14.IsWhole) (arg15 : Memref sig .tc .vmem S16x128x128
  .f32) (harg15 : arg15.IsWhole)
  (hc0 : cond0_0 i)
  (x0 : FVec Ideal S128x4096 .bf16) (x1 : FVec Ideal S128x128 .f32) (x2 : FVec Ideal S128x128 .f32) (x3 :
  FVec Ideal S1x128 .f32) (x4 : FVec Ideal S1x128 .f32) (x5 : FVec Ideal S128x1 .f32) (x6 : FVec Ideal
  S128x1 .f32) (x7 : FVec Ideal S128x2048 .bf16) (x8 : FVec Ideal S128x2048 .f32) (x9 : FVec Ideal S1x2048
  .f32) (x10 : FVec Ideal S1x2048 .f32)

private theorem hz2 : (![0, 0] : Fin 2 → Nat) = fun _ => 0 := funext fun a => by fin_cases a <;> rfl

/-- The run of the body at these blocks. -/
abbrev runA := kernelRun0_A (F := Ideal) c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10

theorem ysA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10).2.2.1
    = TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 (k0_pay2 (F := Ideal)) := by
  funext y
  refine View.canon_apply_of_pieces (Val := Elt Ideal) (e := .f32) (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 (k0_pay2 (F := Ideal)))
    _ ?_ y (View.cover_of_tiledL _ ![128, 128] (by sl_kernel_rfl) y)
  unfold runA kernelRun0_A
  dsimp only
  sl_unfold_words
  simp (discharger := decide) only [↓View.readCov_skip arg15.view, ↓View.readCov_fill arg15.view]
  simp only [View.readAt_eq_ld, harg2.read_unread, harg3.read_unread, harg4.read_unread, harg5.read_unread, harg6.read_unread, harg7.read_unread, harg8.read_unread, harg9.read_unread, harg10.read_unread, harg11.read_unread, harg12.read_unread]
  simp only [View.ld_unit_zero (S := S128x128) hz2, View.ld_unit_zero (S := S1x128) hz2,
    View.ld_unit_zero (S := S128x1) hz2]
  generalize k0_pay5 (F := Ideal) x1 x3 = DT
  generalize k0_pay6 (F := Ideal) x1 x3 x4 = CUM
  generalize hCT : (k0_pay10 (F := Ideal) k0_pay4 (k0_pay8 (F := Ideal) x2 x5) (k0_pay9 (F := Ideal) x2 x5) (Scalar.ofBits (F := Ideal) .f32 0x00000000#32) x6) = CUMT
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceY DT CUM CUMT x0 (k0_pay2 (F := Ideal)) 15 126 127 1920 2944 3968 (by decide) rfl rfl rfl rfl rfl
      slices_S128x128_o0_126_S128x1 slices_S128x128_o0_127_S128x1 inb_S128x4096_S128x128_0_1920
      inb_S128x4096_S128x128_0_2944 inb_S128x4096_S128x128_0_3968 slices_S128x128_o0_126_S128x1
      slices_S128x128_o0_127_S128x1 slices_S128x128_o126_0_S1x128 slices_S128x128_o127_0_S1x128
      slices_S128x128_o0_126_S128x1 slices_S128x128_o0_127_S128x1 inb_S16x128x128_S1x128x128_15_0_0
      inb_S128x2048_S128x128_0_1920 x
  · exact pieceY DT CUM CUMT x0 (k0_pay2 (F := Ideal)) 14 124 125 1792 2944 3968 (by decide) rfl rfl rfl rfl rfl
      slices_S128x128_o0_124_S128x1 slices_S128x128_o0_125_S128x1 inb_S128x4096_S128x128_0_1792
      inb_S128x4096_S128x128_0_2944 inb_S128x4096_S128x128_0_3968 slices_S128x128_o0_124_S128x1
      slices_S128x128_o0_125_S128x1 slices_S128x128_o124_0_S1x128 slices_S128x128_o125_0_S1x128
      slices_S128x128_o0_124_S128x1 slices_S128x128_o0_125_S128x1 inb_S16x128x128_S1x128x128_14_0_0
      inb_S128x2048_S128x128_0_1792 x
  · exact pieceY DT CUM CUMT x0 (k0_pay2 (F := Ideal)) 13 122 123 1664 2816 3840 (by decide) rfl rfl rfl rfl rfl
      slices_S128x128_o0_122_S128x1 slices_S128x128_o0_123_S128x1 inb_S128x4096_S128x128_0_1664
      inb_S128x4096_S128x128_0_2816 inb_S128x4096_S128x128_0_3840 slices_S128x128_o0_122_S128x1
      slices_S128x128_o0_123_S128x1 slices_S128x128_o122_0_S1x128 slices_S128x128_o123_0_S1x128
      slices_S128x128_o0_122_S128x1 slices_S128x128_o0_123_S128x1 inb_S16x128x128_S1x128x128_13_0_0
      inb_S128x2048_S128x128_0_1664 x
  · exact pieceY DT CUM CUMT x0 (k0_pay2 (F := Ideal)) 12 120 121 1536 2816 3840 (by decide) rfl rfl rfl rfl rfl
      slices_S128x128_o0_120_S128x1 slices_S128x128_o0_121_S128x1 inb_S128x4096_S128x128_0_1536
      inb_S128x4096_S128x128_0_2816 inb_S128x4096_S128x128_0_3840 slices_S128x128_o0_120_S128x1
      slices_S128x128_o0_121_S128x1 slices_S128x128_o120_0_S1x128 slices_S128x128_o121_0_S1x128
      slices_S128x128_o0_120_S128x1 slices_S128x128_o0_121_S128x1 inb_S16x128x128_S1x128x128_12_0_0
      inb_S128x2048_S128x128_0_1536 x
  · exact pieceY DT CUM CUMT x0 (k0_pay2 (F := Ideal)) 11 118 119 1408 2688 3712 (by decide) rfl rfl rfl rfl rfl
      slices_S128x128_o0_118_S128x1 slices_S128x128_o0_119_S128x1 inb_S128x4096_S128x128_0_1408
      inb_S128x4096_S128x128_0_2688 inb_S128x4096_S128x128_0_3712 slices_S128x128_o0_118_S128x1
      slices_S128x128_o0_119_S128x1 slices_S128x128_o118_0_S1x128 slices_S128x128_o119_0_S1x128
      slices_S128x128_o0_118_S128x1 slices_S128x128_o0_119_S128x1 inb_S16x128x128_S1x128x128_11_0_0
      inb_S128x2048_S128x128_0_1408 x
  · exact pieceY DT CUM CUMT x0 (k0_pay2 (F := Ideal)) 10 116 117 1280 2688 3712 (by decide) rfl rfl rfl rfl rfl
      slices_S128x128_o0_116_S128x1 slices_S128x128_o0_117_S128x1 inb_S128x4096_S128x128_0_1280
      inb_S128x4096_S128x128_0_2688 inb_S128x4096_S128x128_0_3712 slices_S128x128_o0_116_S128x1
      slices_S128x128_o0_117_S128x1 slices_S128x128_o116_0_S1x128 slices_S128x128_o117_0_S1x128
      slices_S128x128_o0_116_S128x1 slices_S128x128_o0_117_S128x1 inb_S16x128x128_S1x128x128_10_0_0
      inb_S128x2048_S128x128_0_1280 x
  · exact pieceY DT CUM CUMT x0 (k0_pay2 (F := Ideal)) 9 114 115 1152 2560 3584 (by decide) rfl rfl rfl rfl rfl
      slices_S128x128_o0_114_S128x1 slices_S128x128_o0_115_S128x1 inb_S128x4096_S128x128_0_1152
      inb_S128x4096_S128x128_0_2560 inb_S128x4096_S128x128_0_3584 slices_S128x128_o0_114_S128x1
      slices_S128x128_o0_115_S128x1 slices_S128x128_o114_0_S1x128 slices_S128x128_o115_0_S1x128
      slices_S128x128_o0_114_S128x1 slices_S128x128_o0_115_S128x1 inb_S16x128x128_S1x128x128_9_0_0
      inb_S128x2048_S128x128_0_1152 x
  · exact pieceY DT CUM CUMT x0 (k0_pay2 (F := Ideal)) 8 112 113 1024 2560 3584 (by decide) rfl rfl rfl rfl rfl
      slices_S128x128_o0_112_S128x1 slices_S128x128_o0_113_S128x1 inb_S128x4096_S128x128_0_1024
      inb_S128x4096_S128x128_0_2560 inb_S128x4096_S128x128_0_3584 slices_S128x128_o0_112_S128x1
      slices_S128x128_o0_113_S128x1 slices_S128x128_o112_0_S1x128 slices_S128x128_o113_0_S1x128
      slices_S128x128_o0_112_S128x1 slices_S128x128_o0_113_S128x1 inb_S16x128x128_S1x128x128_8_0_0
      inb_S128x2048_S128x128_0_1024 x
  · exact pieceY DT CUM CUMT x0 (k0_pay2 (F := Ideal)) 7 110 111 896 2432 3456 (by decide) rfl rfl rfl rfl rfl
      slices_S128x128_o0_110_S128x1 slices_S128x128_o0_111_S128x1 inb_S128x4096_S128x128_0_896
      inb_S128x4096_S128x128_0_2432 inb_S128x4096_S128x128_0_3456 slices_S128x128_o0_110_S128x1
      slices_S128x128_o0_111_S128x1 slices_S128x128_o110_0_S1x128 slices_S128x128_o111_0_S1x128
      slices_S128x128_o0_110_S128x1 slices_S128x128_o0_111_S128x1 inb_S16x128x128_S1x128x128_7_0_0
      inb_S128x2048_S128x128_0_896 x
  · exact pieceY DT CUM CUMT x0 (k0_pay2 (F := Ideal)) 6 108 109 768 2432 3456 (by decide) rfl rfl rfl rfl rfl
      slices_S128x128_o0_108_S128x1 slices_S128x128_o0_109_S128x1 inb_S128x4096_S128x128_0_768
      inb_S128x4096_S128x128_0_2432 inb_S128x4096_S128x128_0_3456 slices_S128x128_o0_108_S128x1
      slices_S128x128_o0_109_S128x1 slices_S128x128_o108_0_S1x128 slices_S128x128_o109_0_S1x128
      slices_S128x128_o0_108_S128x1 slices_S128x128_o0_109_S128x1 inb_S16x128x128_S1x128x128_6_0_0
      inb_S128x2048_S128x128_0_768 x
  · exact pieceY DT CUM CUMT x0 (k0_pay2 (F := Ideal)) 5 106 107 640 2304 3328 (by decide) rfl rfl rfl rfl rfl
      slices_S128x128_o0_106_S128x1 slices_S128x128_o0_107_S128x1 inb_S128x4096_S128x128_0_640
      inb_S128x4096_S128x128_0_2304 inb_S128x4096_S128x128_0_3328 slices_S128x128_o0_106_S128x1
      slices_S128x128_o0_107_S128x1 slices_S128x128_o106_0_S1x128 slices_S128x128_o107_0_S1x128
      slices_S128x128_o0_106_S128x1 slices_S128x128_o0_107_S128x1 inb_S16x128x128_S1x128x128_5_0_0
      inb_S128x2048_S128x128_0_640 x
  · exact pieceY DT CUM CUMT x0 (k0_pay2 (F := Ideal)) 4 104 105 512 2304 3328 (by decide) rfl rfl rfl rfl rfl
      slices_S128x128_o0_104_S128x1 slices_S128x128_o0_105_S128x1 inb_S128x4096_S128x128_0_512
      inb_S128x4096_S128x128_0_2304 inb_S128x4096_S128x128_0_3328 slices_S128x128_o0_104_S128x1
      slices_S128x128_o0_105_S128x1 slices_S128x128_o104_0_S1x128 slices_S128x128_o105_0_S1x128
      slices_S128x128_o0_104_S128x1 slices_S128x128_o0_105_S128x1 inb_S16x128x128_S1x128x128_4_0_0
      inb_S128x2048_S128x128_0_512 x
  · exact pieceY DT CUM CUMT x0 (k0_pay2 (F := Ideal)) 3 102 103 384 2176 3200 (by decide) rfl rfl rfl rfl rfl
      slices_S128x128_o0_102_S128x1 slices_S128x128_o0_103_S128x1 inb_S128x4096_S128x128_0_384
      inb_S128x4096_S128x128_0_2176 inb_S128x4096_S128x128_0_3200 slices_S128x128_o0_102_S128x1
      slices_S128x128_o0_103_S128x1 slices_S128x128_o102_0_S1x128 slices_S128x128_o103_0_S1x128
      slices_S128x128_o0_102_S128x1 slices_S128x128_o0_103_S128x1 inb_S16x128x128_S1x128x128_3_0_0
      inb_S128x2048_S128x128_0_384 x
  · exact pieceY DT CUM CUMT x0 (k0_pay2 (F := Ideal)) 2 100 101 256 2176 3200 (by decide) rfl rfl rfl rfl rfl
      slices_S128x128_o0_100_S128x1 slices_S128x128_o0_101_S128x1 inb_S128x4096_S128x128_0_256
      inb_S128x4096_S128x128_0_2176 inb_S128x4096_S128x128_0_3200 slices_S128x128_o0_100_S128x1
      slices_S128x128_o0_101_S128x1 slices_S128x128_o100_0_S1x128 slices_S128x128_o101_0_S1x128
      slices_S128x128_o0_100_S128x1 slices_S128x128_o0_101_S128x1 inb_S16x128x128_S1x128x128_2_0_0
      inb_S128x2048_S128x128_0_256 x
  · exact pieceY DT CUM CUMT x0 (k0_pay2 (F := Ideal)) 1 98 99 128 2048 3072 (by decide) rfl rfl rfl rfl rfl
      slices_S128x128_o0_98_S128x1 slices_S128x128_o0_99_S128x1 inb_S128x4096_S128x128_0_128
      inb_S128x4096_S128x128_0_2048 inb_S128x4096_S128x128_0_3072 slices_S128x128_o0_98_S128x1
      slices_S128x128_o0_99_S128x1 slices_S128x128_o98_0_S1x128 slices_S128x128_o99_0_S1x128
      slices_S128x128_o0_98_S128x1 slices_S128x128_o0_99_S128x1 inb_S16x128x128_S1x128x128_1_0_0
      inb_S128x2048_S128x128_0_128 x
  · subst hCT
    exact pieceY DT CUM (k0_pay10 (F := Ideal) k0_pay4 (k0_pay8 (F := Ideal) x2 x5) (k0_pay9 (F := Ideal) x2 x5) (Scalar.ofBits (F := Ideal) .f32 0x00000000#32) x6) x0 (k0_pay2 (F := Ideal)) 0 96 97 0 2048 3072 (by decide) rfl rfl rfl rfl rfl
      slices_S128x128_o0_96_S128x1 slices_S128x128_o0_97_S128x1 inb_S128x4096_S128x128_0_0
      inb_S128x4096_S128x128_0_2048 inb_S128x4096_S128x128_0_3072 slices_S128x128_o0_96_S128x1
      slices_S128x128_o0_97_S128x1 slices_S128x128_o96_0_S1x128 slices_S128x128_o97_0_S1x128
      slices_S128x128_o0_96_S128x1 slices_S128x128_o0_97_S128x1 inb_S16x128x128_S1x128x128_0_0_0
      inb_S128x2048_S128x128_0_0 x

theorem stA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10).2.1
    = TS (k0_pay5 (F := Ideal) x1 x3) (k0_pay6 (F := Ideal) x1 x3 x4) x0 (k0_pay2 (F := Ideal)) := by
  funext y
  rw [← List.take_append_drop 16 (runA
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10).2.1]
  refine View.canon_append_of_pieces (Val := Elt Ideal) (e := .f32)
    (TS (k0_pay5 (F := Ideal) x1 x3) (k0_pay6 (F := Ideal) x1 x3 x4) x0 (k0_pay2 (F := Ideal))) _ _ ?_ y
    (View.cover_of_tiledL _ ![1, 128, 128] (by sl_kernel_rfl) y)
  unfold runA kernelRun0_A
  dsimp only
  sl_unfold_words
  dsimp only [List.take]
  simp (discharger := decide) only [↓View.readCov_skip arg15.view, ↓View.readCov_fill arg15.view]
  simp only [View.readAt_eq_ld, harg2.read_unread, harg3.read_unread, harg4.read_unread, harg5.read_unread, harg6.read_unread, harg7.read_unread, harg8.read_unread, harg9.read_unread, harg10.read_unread, harg11.read_unread, harg12.read_unread]
  simp only [View.ld_unit_zero (S := S128x128) hz2, View.ld_unit_zero (S := S1x128) hz2,
    View.ld_unit_zero (S := S128x1) hz2]
  generalize k0_pay5 (F := Ideal) x1 x3 = DT
  generalize k0_pay6 (F := Ideal) x1 x3 x4 = CUM
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceS DT CUM x0 (k0_pay2 (F := Ideal)) 15 126 127 1920 2944 (by decide) rfl rfl rfl rfl
      slices_S128x128_o0_126_S128x1 slices_S128x128_o0_127_S128x1 inb_S128x4096_S128x128_0_1920
      inb_S128x4096_S128x128_0_2944 slices_S128x128_o0_126_S128x1 slices_S128x128_o0_127_S128x1
      slices_S1x128_o0_126_S1x1 slices_S1x128_o0_127_S1x1 inb_S16x128x128_S1x128x128_15_0_0
      inb_S16x128x128_S1x128x128_15_0_0 x
  · exact pieceS DT CUM x0 (k0_pay2 (F := Ideal)) 14 124 125 1792 2944 (by decide) rfl rfl rfl rfl
      slices_S128x128_o0_124_S128x1 slices_S128x128_o0_125_S128x1 inb_S128x4096_S128x128_0_1792
      inb_S128x4096_S128x128_0_2944 slices_S128x128_o0_124_S128x1 slices_S128x128_o0_125_S128x1
      slices_S1x128_o0_124_S1x1 slices_S1x128_o0_125_S1x1 inb_S16x128x128_S1x128x128_14_0_0
      inb_S16x128x128_S1x128x128_14_0_0 x
  · exact pieceS DT CUM x0 (k0_pay2 (F := Ideal)) 13 122 123 1664 2816 (by decide) rfl rfl rfl rfl
      slices_S128x128_o0_122_S128x1 slices_S128x128_o0_123_S128x1 inb_S128x4096_S128x128_0_1664
      inb_S128x4096_S128x128_0_2816 slices_S128x128_o0_122_S128x1 slices_S128x128_o0_123_S128x1
      slices_S1x128_o0_122_S1x1 slices_S1x128_o0_123_S1x1 inb_S16x128x128_S1x128x128_13_0_0
      inb_S16x128x128_S1x128x128_13_0_0 x
  · exact pieceS DT CUM x0 (k0_pay2 (F := Ideal)) 12 120 121 1536 2816 (by decide) rfl rfl rfl rfl
      slices_S128x128_o0_120_S128x1 slices_S128x128_o0_121_S128x1 inb_S128x4096_S128x128_0_1536
      inb_S128x4096_S128x128_0_2816 slices_S128x128_o0_120_S128x1 slices_S128x128_o0_121_S128x1
      slices_S1x128_o0_120_S1x1 slices_S1x128_o0_121_S1x1 inb_S16x128x128_S1x128x128_12_0_0
      inb_S16x128x128_S1x128x128_12_0_0 x
  · exact pieceS DT CUM x0 (k0_pay2 (F := Ideal)) 11 118 119 1408 2688 (by decide) rfl rfl rfl rfl
      slices_S128x128_o0_118_S128x1 slices_S128x128_o0_119_S128x1 inb_S128x4096_S128x128_0_1408
      inb_S128x4096_S128x128_0_2688 slices_S128x128_o0_118_S128x1 slices_S128x128_o0_119_S128x1
      slices_S1x128_o0_118_S1x1 slices_S1x128_o0_119_S1x1 inb_S16x128x128_S1x128x128_11_0_0
      inb_S16x128x128_S1x128x128_11_0_0 x
  · exact pieceS DT CUM x0 (k0_pay2 (F := Ideal)) 10 116 117 1280 2688 (by decide) rfl rfl rfl rfl
      slices_S128x128_o0_116_S128x1 slices_S128x128_o0_117_S128x1 inb_S128x4096_S128x128_0_1280
      inb_S128x4096_S128x128_0_2688 slices_S128x128_o0_116_S128x1 slices_S128x128_o0_117_S128x1
      slices_S1x128_o0_116_S1x1 slices_S1x128_o0_117_S1x1 inb_S16x128x128_S1x128x128_10_0_0
      inb_S16x128x128_S1x128x128_10_0_0 x
  · exact pieceS DT CUM x0 (k0_pay2 (F := Ideal)) 9 114 115 1152 2560 (by decide) rfl rfl rfl rfl
      slices_S128x128_o0_114_S128x1 slices_S128x128_o0_115_S128x1 inb_S128x4096_S128x128_0_1152
      inb_S128x4096_S128x128_0_2560 slices_S128x128_o0_114_S128x1 slices_S128x128_o0_115_S128x1
      slices_S1x128_o0_114_S1x1 slices_S1x128_o0_115_S1x1 inb_S16x128x128_S1x128x128_9_0_0
      inb_S16x128x128_S1x128x128_9_0_0 x
  · exact pieceS DT CUM x0 (k0_pay2 (F := Ideal)) 8 112 113 1024 2560 (by decide) rfl rfl rfl rfl
      slices_S128x128_o0_112_S128x1 slices_S128x128_o0_113_S128x1 inb_S128x4096_S128x128_0_1024
      inb_S128x4096_S128x128_0_2560 slices_S128x128_o0_112_S128x1 slices_S128x128_o0_113_S128x1
      slices_S1x128_o0_112_S1x1 slices_S1x128_o0_113_S1x1 inb_S16x128x128_S1x128x128_8_0_0
      inb_S16x128x128_S1x128x128_8_0_0 x
  · exact pieceS DT CUM x0 (k0_pay2 (F := Ideal)) 7 110 111 896 2432 (by decide) rfl rfl rfl rfl
      slices_S128x128_o0_110_S128x1 slices_S128x128_o0_111_S128x1 inb_S128x4096_S128x128_0_896
      inb_S128x4096_S128x128_0_2432 slices_S128x128_o0_110_S128x1 slices_S128x128_o0_111_S128x1
      slices_S1x128_o0_110_S1x1 slices_S1x128_o0_111_S1x1 inb_S16x128x128_S1x128x128_7_0_0
      inb_S16x128x128_S1x128x128_7_0_0 x
  · exact pieceS DT CUM x0 (k0_pay2 (F := Ideal)) 6 108 109 768 2432 (by decide) rfl rfl rfl rfl
      slices_S128x128_o0_108_S128x1 slices_S128x128_o0_109_S128x1 inb_S128x4096_S128x128_0_768
      inb_S128x4096_S128x128_0_2432 slices_S128x128_o0_108_S128x1 slices_S128x128_o0_109_S128x1
      slices_S1x128_o0_108_S1x1 slices_S1x128_o0_109_S1x1 inb_S16x128x128_S1x128x128_6_0_0
      inb_S16x128x128_S1x128x128_6_0_0 x
  · exact pieceS DT CUM x0 (k0_pay2 (F := Ideal)) 5 106 107 640 2304 (by decide) rfl rfl rfl rfl
      slices_S128x128_o0_106_S128x1 slices_S128x128_o0_107_S128x1 inb_S128x4096_S128x128_0_640
      inb_S128x4096_S128x128_0_2304 slices_S128x128_o0_106_S128x1 slices_S128x128_o0_107_S128x1
      slices_S1x128_o0_106_S1x1 slices_S1x128_o0_107_S1x1 inb_S16x128x128_S1x128x128_5_0_0
      inb_S16x128x128_S1x128x128_5_0_0 x
  · exact pieceS DT CUM x0 (k0_pay2 (F := Ideal)) 4 104 105 512 2304 (by decide) rfl rfl rfl rfl
      slices_S128x128_o0_104_S128x1 slices_S128x128_o0_105_S128x1 inb_S128x4096_S128x128_0_512
      inb_S128x4096_S128x128_0_2304 slices_S128x128_o0_104_S128x1 slices_S128x128_o0_105_S128x1
      slices_S1x128_o0_104_S1x1 slices_S1x128_o0_105_S1x1 inb_S16x128x128_S1x128x128_4_0_0
      inb_S16x128x128_S1x128x128_4_0_0 x
  · exact pieceS DT CUM x0 (k0_pay2 (F := Ideal)) 3 102 103 384 2176 (by decide) rfl rfl rfl rfl
      slices_S128x128_o0_102_S128x1 slices_S128x128_o0_103_S128x1 inb_S128x4096_S128x128_0_384
      inb_S128x4096_S128x128_0_2176 slices_S128x128_o0_102_S128x1 slices_S128x128_o0_103_S128x1
      slices_S1x128_o0_102_S1x1 slices_S1x128_o0_103_S1x1 inb_S16x128x128_S1x128x128_3_0_0
      inb_S16x128x128_S1x128x128_3_0_0 x
  · exact pieceS DT CUM x0 (k0_pay2 (F := Ideal)) 2 100 101 256 2176 (by decide) rfl rfl rfl rfl
      slices_S128x128_o0_100_S128x1 slices_S128x128_o0_101_S128x1 inb_S128x4096_S128x128_0_256
      inb_S128x4096_S128x128_0_2176 slices_S128x128_o0_100_S128x1 slices_S128x128_o0_101_S128x1
      slices_S1x128_o0_100_S1x1 slices_S1x128_o0_101_S1x1 inb_S16x128x128_S1x128x128_2_0_0
      inb_S16x128x128_S1x128x128_2_0_0 x
  · exact pieceS DT CUM x0 (k0_pay2 (F := Ideal)) 1 98 99 128 2048 (by decide) rfl rfl rfl rfl
      slices_S128x128_o0_98_S128x1 slices_S128x128_o0_99_S128x1 inb_S128x4096_S128x128_0_128
      inb_S128x4096_S128x128_0_2048 slices_S128x128_o0_98_S128x1 slices_S128x128_o0_99_S128x1
      slices_S1x128_o0_98_S1x1 slices_S1x128_o0_99_S1x1 inb_S16x128x128_S1x128x128_1_0_0
      inb_S16x128x128_S1x128x128_1_0_0 x
  · exact pieceS DT CUM x0 (k0_pay2 (F := Ideal)) 0 96 97 0 2048 (by decide) rfl rfl rfl rfl
      slices_S128x128_o0_96_S128x1 slices_S128x128_o0_97_S128x1 inb_S128x4096_S128x128_0_0
      inb_S128x4096_S128x128_0_2048 slices_S128x128_o0_96_S128x1 slices_S128x128_o0_97_S128x1
      slices_S1x128_o0_96_S1x1 slices_S1x128_o0_97_S1x1 inb_S16x128x128_S1x128x128_0_0_0
      inb_S16x128x128_S1x128x128_0_0_0 x

theorem outA : View.canon (runA
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10).1
    = TO (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 (k0_pay2 (F := Ideal)))
      x8 x9 x10 x0 x7 := by
  have hY := ysA c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
  funext y
  refine View.canon_apply_of_pieces (Val := Elt Ideal) (e := .bf16) (TO (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 (k0_pay2 (F := Ideal)))
      x8 x9 x10 x0 x7)
    _ ?_ y (View.cover_of_tiledL _ ![128, 256] (by sl_kernel_rfl) y)
  revert hY
  generalize TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 (k0_pay2 (F := Ideal)) = Y
  unfold runA kernelRun0_A
  dsimp only
  sl_unfold_words
  intro hY
  simp only [View.readCov_eq_canon' arg14.view]
  rw [hY]
  clear hY
  simp only [View.readAt_eq_ld, harg2.read_unread, harg3.read_unread, harg4.read_unread, harg5.read_unread, harg6.read_unread, harg7.read_unread, harg8.read_unread, harg9.read_unread, harg10.read_unread, harg11.read_unread, harg12.read_unread]
  simp only [List.forall_mem_cons]
  refine ⟨fun x => ?_, fun x => ?_, fun x => ?_, fun x => ?_, fun x => ?_, fun x => ?_, fun x => ?_, fun x => ?_, fun p hp => absurd hp List.not_mem_nil⟩
  · exact pieceO Y x8 x9 x10 x0 x7 7 1792 (by decide) rfl inb_S128x2048_S128x256_0_1792 inb_S1x2048_S1x256_0_1792
      inb_S128x4096_S128x256_0_1792 inb_S128x2048_S128x256_0_1792 x
  · exact pieceO Y x8 x9 x10 x0 x7 6 1536 (by decide) rfl inb_S128x2048_S128x256_0_1536 inb_S1x2048_S1x256_0_1536
      inb_S128x4096_S128x256_0_1536 inb_S128x2048_S128x256_0_1536 x
  · exact pieceO Y x8 x9 x10 x0 x7 5 1280 (by decide) rfl inb_S128x2048_S128x256_0_1280 inb_S1x2048_S1x256_0_1280
      inb_S128x4096_S128x256_0_1280 inb_S128x2048_S128x256_0_1280 x
  · exact pieceO Y x8 x9 x10 x0 x7 4 1024 (by decide) rfl inb_S128x2048_S128x256_0_1024 inb_S1x2048_S1x256_0_1024
      inb_S128x4096_S128x256_0_1024 inb_S128x2048_S128x256_0_1024 x
  · exact pieceO Y x8 x9 x10 x0 x7 3 768 (by decide) rfl inb_S128x2048_S128x256_0_768 inb_S1x2048_S1x256_0_768
      inb_S128x4096_S128x256_0_768 inb_S128x2048_S128x256_0_768 x
  · exact pieceO Y x8 x9 x10 x0 x7 2 512 (by decide) rfl inb_S128x2048_S128x256_0_512 inb_S1x2048_S1x256_0_512
      inb_S128x4096_S128x256_0_512 inb_S128x2048_S128x256_0_512 x
  · exact pieceO Y x8 x9 x10 x0 x7 1 256 (by decide) rfl inb_S128x2048_S128x256_0_256 inb_S1x2048_S1x256_0_256
      inb_S128x4096_S128x256_0_256 inb_S128x2048_S128x256_0_256 x
  · exact pieceO Y x8 x9 x10 x0 x7 0 0 (by decide) rfl inb_S128x2048_S128x256_0_0 inb_S1x2048_S1x256_0_0
      inb_S128x4096_S128x256_0_0 inb_S128x2048_S128x256_0_0 x

end Cert.Kernel10Ideal.Scan
end
-- ==== Proof.BwdCaseB.lean ====
module

public import proofs.«01_k».proof.Proof.BwdGate
public import Idealize.ShloMosaic.Lib.Pointwise
public import Idealize.ShloMosaic.Lib.Pipeline.ReadBack
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! What the kernel leaves at a later chunk: the block of outputs, the carried states and the gated, normalised
results, each as one function of the blocks it read. -/

variable (c : Dev nD) (i : grid0.Coords) (arg2 : Memref sig .tc .vmem S128x4096 .bf16) (harg2 : arg2.IsWhole) (arg3 : Memref sig .tc .vmem
  S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128
  .f32) (harg6 : arg6.IsWhole) (arg7 : Memref sig .tc .vmem S128x1 .f32) (harg7 : arg7.IsWhole) (arg8 :
  Memref sig .tc .vmem S128x1 .f32) (harg8 : arg8.IsWhole) (arg9 : Memref sig .tc .vmem S128x2048 .bf16)
  (harg9 : arg9.IsWhole) (arg10 : Memref sig .tc .vmem S128x2048 .f32) (harg10 : arg10.IsWhole) (arg11 :
  Memref sig .tc .vmem S1x2048 .f32) (harg11 : arg11.IsWhole) (arg12 : Memref sig .tc .vmem S1x2048 .f32)
  (harg12 : arg12.IsWhole) (arg13 : Memref sig .tc .vmem S128x2048 .bf16) (harg13 : arg13.IsWhole) (arg14 :
  Memref sig .tc .vmem S128x2048 .f32) (harg14 : arg14.IsWhole) (arg15 : Memref sig .tc .vmem S16x128x128
  .f32) (harg15 : arg15.IsWhole)
  (hc0 : ¬cond0_0 i)
  (x0 : FVec Ideal S128x4096 .bf16) (x1 : FVec Ideal S128x128 .f32) (x2 : FVec Ideal S128x128 .f32) (x3 :
  FVec Ideal S1x128 .f32) (x4 : FVec Ideal S1x128 .f32) (x5 : FVec Ideal S128x1 .f32) (x6 : FVec Ideal
  S128x1 .f32) (x7 : FVec Ideal S128x2048 .bf16) (x8 : FVec Ideal S128x2048 .f32) (x9 : FVec Ideal S1x2048
  .f32) (x10 : FVec Ideal S1x2048 .f32) (xs1 : FVec Ideal S16x128x128 .f32)

private theorem hz2 : (![0, 0] : Fin 2 → Nat) = fun _ => 0 := funext fun a => by fin_cases a <;> rfl

/-- The run of the body at these blocks. -/
abbrev runB := kernelRun0_B (F := Ideal) c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
    xs1

theorem ysB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
    xs1).2.2.1
    = TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 xs1 := by
  funext y
  refine View.canon_apply_of_pieces (Val := Elt Ideal) (e := .f32) (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 xs1)
    _ ?_ y (View.cover_of_tiledL _ ![128, 128] (by sl_kernel_rfl) y)
  unfold runB kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread]
  simp only [View.ld_unit_zero (S := S128x128) hz2, View.ld_unit_zero (S := S1x128) hz2,
    View.ld_unit_zero (S := S128x1) hz2]
  generalize k0_pay5 (F := Ideal) x1 x3 = DT
  generalize k0_pay6 (F := Ideal) x1 x3 x4 = CUM
  generalize hCT : (k0_pay10 (F := Ideal) k0_pay4 (k0_pay8 (F := Ideal) x2 x5) (k0_pay9 (F := Ideal) x2 x5) (Scalar.ofBits (F := Ideal) .f32 0x00000000#32) x6) = CUMT
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceY DT CUM CUMT x0 xs1 15 126 127 1920 2944 3968 (by decide) rfl rfl rfl rfl rfl
      slices_S128x128_o0_126_S128x1 slices_S128x128_o0_127_S128x1 inb_S128x4096_S128x128_0_1920
      inb_S128x4096_S128x128_0_2944 inb_S128x4096_S128x128_0_3968 slices_S128x128_o0_126_S128x1
      slices_S128x128_o0_127_S128x1 slices_S128x128_o126_0_S1x128 slices_S128x128_o127_0_S1x128
      slices_S128x128_o0_126_S128x1 slices_S128x128_o0_127_S128x1 inb_S16x128x128_S1x128x128_15_0_0
      inb_S128x2048_S128x128_0_1920 x
  · exact pieceY DT CUM CUMT x0 xs1 14 124 125 1792 2944 3968 (by decide) rfl rfl rfl rfl rfl
      slices_S128x128_o0_124_S128x1 slices_S128x128_o0_125_S128x1 inb_S128x4096_S128x128_0_1792
      inb_S128x4096_S128x128_0_2944 inb_S128x4096_S128x128_0_3968 slices_S128x128_o0_124_S128x1
      slices_S128x128_o0_125_S128x1 slices_S128x128_o124_0_S1x128 slices_S128x128_o125_0_S1x128
      slices_S128x128_o0_124_S128x1 slices_S128x128_o0_125_S128x1 inb_S16x128x128_S1x128x128_14_0_0
      inb_S128x2048_S128x128_0_1792 x
  · exact pieceY DT CUM CUMT x0 xs1 13 122 123 1664 2816 3840 (by decide) rfl rfl rfl rfl rfl
      slices_S128x128_o0_122_S128x1 slices_S128x128_o0_123_S128x1 inb_S128x4096_S128x128_0_1664
      inb_S128x4096_S128x128_0_2816 inb_S128x4096_S128x128_0_3840 slices_S128x128_o0_122_S128x1
      slices_S128x128_o0_123_S128x1 slices_S128x128_o122_0_S1x128 slices_S128x128_o123_0_S1x128
      slices_S128x128_o0_122_S128x1 slices_S128x128_o0_123_S128x1 inb_S16x128x128_S1x128x128_13_0_0
      inb_S128x2048_S128x128_0_1664 x
  · exact pieceY DT CUM CUMT x0 xs1 12 120 121 1536 2816 3840 (by decide) rfl rfl rfl rfl rfl
      slices_S128x128_o0_120_S128x1 slices_S128x128_o0_121_S128x1 inb_S128x4096_S128x128_0_1536
      inb_S128x4096_S128x128_0_2816 inb_S128x4096_S128x128_0_3840 slices_S128x128_o0_120_S128x1
      slices_S128x128_o0_121_S128x1 slices_S128x128_o120_0_S1x128 slices_S128x128_o121_0_S1x128
      slices_S128x128_o0_120_S128x1 slices_S128x128_o0_121_S128x1 inb_S16x128x128_S1x128x128_12_0_0
      inb_S128x2048_S128x128_0_1536 x
  · exact pieceY DT CUM CUMT x0 xs1 11 118 119 1408 2688 3712 (by decide) rfl rfl rfl rfl rfl
      slices_S128x128_o0_118_S128x1 slices_S128x128_o0_119_S128x1 inb_S128x4096_S128x128_0_1408
      inb_S128x4096_S128x128_0_2688 inb_S128x4096_S128x128_0_3712 slices_S128x128_o0_118_S128x1
      slices_S128x128_o0_119_S128x1 slices_S128x128_o118_0_S1x128 slices_S128x128_o119_0_S1x128
      slices_S128x128_o0_118_S128x1 slices_S128x128_o0_119_S128x1 inb_S16x128x128_S1x128x128_11_0_0
      inb_S128x2048_S128x128_0_1408 x
  · exact pieceY DT CUM CUMT x0 xs1 10 116 117 1280 2688 3712 (by decide) rfl rfl rfl rfl rfl
      slices_S128x128_o0_116_S128x1 slices_S128x128_o0_117_S128x1 inb_S128x4096_S128x128_0_1280
      inb_S128x4096_S128x128_0_2688 inb_S128x4096_S128x128_0_3712 slices_S128x128_o0_116_S128x1
      slices_S128x128_o0_117_S128x1 slices_S128x128_o116_0_S1x128 slices_S128x128_o117_0_S1x128
      slices_S128x128_o0_116_S128x1 slices_S128x128_o0_117_S128x1 inb_S16x128x128_S1x128x128_10_0_0
      inb_S128x2048_S128x128_0_1280 x
  · exact pieceY DT CUM CUMT x0 xs1 9 114 115 1152 2560 3584 (by decide) rfl rfl rfl rfl rfl
      slices_S128x128_o0_114_S128x1 slices_S128x128_o0_115_S128x1 inb_S128x4096_S128x128_0_1152
      inb_S128x4096_S128x128_0_2560 inb_S128x4096_S128x128_0_3584 slices_S128x128_o0_114_S128x1
      slices_S128x128_o0_115_S128x1 slices_S128x128_o114_0_S1x128 slices_S128x128_o115_0_S1x128
      slices_S128x128_o0_114_S128x1 slices_S128x128_o0_115_S128x1 inb_S16x128x128_S1x128x128_9_0_0
      inb_S128x2048_S128x128_0_1152 x
  · exact pieceY DT CUM CUMT x0 xs1 8 112 113 1024 2560 3584 (by decide) rfl rfl rfl rfl rfl
      slices_S128x128_o0_112_S128x1 slices_S128x128_o0_113_S128x1 inb_S128x4096_S128x128_0_1024
      inb_S128x4096_S128x128_0_2560 inb_S128x4096_S128x128_0_3584 slices_S128x128_o0_112_S128x1
      slices_S128x128_o0_113_S128x1 slices_S128x128_o112_0_S1x128 slices_S128x128_o113_0_S1x128
      slices_S128x128_o0_112_S128x1 slices_S128x128_o0_113_S128x1 inb_S16x128x128_S1x128x128_8_0_0
      inb_S128x2048_S128x128_0_1024 x
  · exact pieceY DT CUM CUMT x0 xs1 7 110 111 896 2432 3456 (by decide) rfl rfl rfl rfl rfl
      slices_S128x128_o0_110_S128x1 slices_S128x128_o0_111_S128x1 inb_S128x4096_S128x128_0_896
      inb_S128x4096_S128x128_0_2432 inb_S128x4096_S128x128_0_3456 slices_S128x128_o0_110_S128x1
      slices_S128x128_o0_111_S128x1 slices_S128x128_o110_0_S1x128 slices_S128x128_o111_0_S1x128
      slices_S128x128_o0_110_S128x1 slices_S128x128_o0_111_S128x1 inb_S16x128x128_S1x128x128_7_0_0
      inb_S128x2048_S128x128_0_896 x
  · exact pieceY DT CUM CUMT x0 xs1 6 108 109 768 2432 3456 (by decide) rfl rfl rfl rfl rfl
      slices_S128x128_o0_108_S128x1 slices_S128x128_o0_109_S128x1 inb_S128x4096_S128x128_0_768
      inb_S128x4096_S128x128_0_2432 inb_S128x4096_S128x128_0_3456 slices_S128x128_o0_108_S128x1
      slices_S128x128_o0_109_S128x1 slices_S128x128_o108_0_S1x128 slices_S128x128_o109_0_S1x128
      slices_S128x128_o0_108_S128x1 slices_S128x128_o0_109_S128x1 inb_S16x128x128_S1x128x128_6_0_0
      inb_S128x2048_S128x128_0_768 x
  · exact pieceY DT CUM CUMT x0 xs1 5 106 107 640 2304 3328 (by decide) rfl rfl rfl rfl rfl
      slices_S128x128_o0_106_S128x1 slices_S128x128_o0_107_S128x1 inb_S128x4096_S128x128_0_640
      inb_S128x4096_S128x128_0_2304 inb_S128x4096_S128x128_0_3328 slices_S128x128_o0_106_S128x1
      slices_S128x128_o0_107_S128x1 slices_S128x128_o106_0_S1x128 slices_S128x128_o107_0_S1x128
      slices_S128x128_o0_106_S128x1 slices_S128x128_o0_107_S128x1 inb_S16x128x128_S1x128x128_5_0_0
      inb_S128x2048_S128x128_0_640 x
  · exact pieceY DT CUM CUMT x0 xs1 4 104 105 512 2304 3328 (by decide) rfl rfl rfl rfl rfl
      slices_S128x128_o0_104_S128x1 slices_S128x128_o0_105_S128x1 inb_S128x4096_S128x128_0_512
      inb_S128x4096_S128x128_0_2304 inb_S128x4096_S128x128_0_3328 slices_S128x128_o0_104_S128x1
      slices_S128x128_o0_105_S128x1 slices_S128x128_o104_0_S1x128 slices_S128x128_o105_0_S1x128
      slices_S128x128_o0_104_S128x1 slices_S128x128_o0_105_S128x1 inb_S16x128x128_S1x128x128_4_0_0
      inb_S128x2048_S128x128_0_512 x
  · exact pieceY DT CUM CUMT x0 xs1 3 102 103 384 2176 3200 (by decide) rfl rfl rfl rfl rfl
      slices_S128x128_o0_102_S128x1 slices_S128x128_o0_103_S128x1 inb_S128x4096_S128x128_0_384
      inb_S128x4096_S128x128_0_2176 inb_S128x4096_S128x128_0_3200 slices_S128x128_o0_102_S128x1
      slices_S128x128_o0_103_S128x1 slices_S128x128_o102_0_S1x128 slices_S128x128_o103_0_S1x128
      slices_S128x128_o0_102_S128x1 slices_S128x128_o0_103_S128x1 inb_S16x128x128_S1x128x128_3_0_0
      inb_S128x2048_S128x128_0_384 x
  · exact pieceY DT CUM CUMT x0 xs1 2 100 101 256 2176 3200 (by decide) rfl rfl rfl rfl rfl
      slices_S128x128_o0_100_S128x1 slices_S128x128_o0_101_S128x1 inb_S128x4096_S128x128_0_256
      inb_S128x4096_S128x128_0_2176 inb_S128x4096_S128x128_0_3200 slices_S128x128_o0_100_S128x1
      slices_S128x128_o0_101_S128x1 slices_S128x128_o100_0_S1x128 slices_S128x128_o101_0_S1x128
      slices_S128x128_o0_100_S128x1 slices_S128x128_o0_101_S128x1 inb_S16x128x128_S1x128x128_2_0_0
      inb_S128x2048_S128x128_0_256 x
  · exact pieceY DT CUM CUMT x0 xs1 1 98 99 128 2048 3072 (by decide) rfl rfl rfl rfl rfl
      slices_S128x128_o0_98_S128x1 slices_S128x128_o0_99_S128x1 inb_S128x4096_S128x128_0_128
      inb_S128x4096_S128x128_0_2048 inb_S128x4096_S128x128_0_3072 slices_S128x128_o0_98_S128x1
      slices_S128x128_o0_99_S128x1 slices_S128x128_o98_0_S1x128 slices_S128x128_o99_0_S1x128
      slices_S128x128_o0_98_S128x1 slices_S128x128_o0_99_S128x1 inb_S16x128x128_S1x128x128_1_0_0
      inb_S128x2048_S128x128_0_128 x
  · subst hCT
    exact pieceY DT CUM (k0_pay10 (F := Ideal) k0_pay4 (k0_pay8 (F := Ideal) x2 x5) (k0_pay9 (F := Ideal) x2 x5) (Scalar.ofBits (F := Ideal) .f32 0x00000000#32) x6) x0 xs1 0 96 97 0 2048 3072 (by decide) rfl rfl rfl rfl rfl
      slices_S128x128_o0_96_S128x1 slices_S128x128_o0_97_S128x1 inb_S128x4096_S128x128_0_0
      inb_S128x4096_S128x128_0_2048 inb_S128x4096_S128x128_0_3072 slices_S128x128_o0_96_S128x1
      slices_S128x128_o0_97_S128x1 slices_S128x128_o96_0_S1x128 slices_S128x128_o97_0_S1x128
      slices_S128x128_o0_96_S128x1 slices_S128x128_o0_97_S128x1 inb_S16x128x128_S1x128x128_0_0_0
      inb_S128x2048_S128x128_0_0 x

theorem stB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
    xs1).2.1
    = TS (k0_pay5 (F := Ideal) x1 x3) (k0_pay6 (F := Ideal) x1 x3 x4) x0 xs1 := by
  funext y
  refine View.canon_apply_of_pieces (Val := Elt Ideal) (e := .f32)
    (TS (k0_pay5 (F := Ideal) x1 x3) (k0_pay6 (F := Ideal) x1 x3 x4) x0 xs1) _ ?_ y
    (View.cover_of_tiledL _ ![1, 128, 128] (by sl_kernel_rfl) y)
  unfold runB kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread]
  simp only [View.ld_unit_zero (S := S128x128) hz2, View.ld_unit_zero (S := S1x128) hz2,
    View.ld_unit_zero (S := S128x1) hz2]
  generalize k0_pay5 (F := Ideal) x1 x3 = DT
  generalize k0_pay6 (F := Ideal) x1 x3 x4 = CUM
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pieceS DT CUM x0 xs1 15 126 127 1920 2944 (by decide) rfl rfl rfl rfl
      slices_S128x128_o0_126_S128x1 slices_S128x128_o0_127_S128x1 inb_S128x4096_S128x128_0_1920
      inb_S128x4096_S128x128_0_2944 slices_S128x128_o0_126_S128x1 slices_S128x128_o0_127_S128x1
      slices_S1x128_o0_126_S1x1 slices_S1x128_o0_127_S1x1 inb_S16x128x128_S1x128x128_15_0_0
      inb_S16x128x128_S1x128x128_15_0_0 x
  · exact pieceS DT CUM x0 xs1 14 124 125 1792 2944 (by decide) rfl rfl rfl rfl
      slices_S128x128_o0_124_S128x1 slices_S128x128_o0_125_S128x1 inb_S128x4096_S128x128_0_1792
      inb_S128x4096_S128x128_0_2944 slices_S128x128_o0_124_S128x1 slices_S128x128_o0_125_S128x1
      slices_S1x128_o0_124_S1x1 slices_S1x128_o0_125_S1x1 inb_S16x128x128_S1x128x128_14_0_0
      inb_S16x128x128_S1x128x128_14_0_0 x
  · exact pieceS DT CUM x0 xs1 13 122 123 1664 2816 (by decide) rfl rfl rfl rfl
      slices_S128x128_o0_122_S128x1 slices_S128x128_o0_123_S128x1 inb_S128x4096_S128x128_0_1664
      inb_S128x4096_S128x128_0_2816 slices_S128x128_o0_122_S128x1 slices_S128x128_o0_123_S128x1
      slices_S1x128_o0_122_S1x1 slices_S1x128_o0_123_S1x1 inb_S16x128x128_S1x128x128_13_0_0
      inb_S16x128x128_S1x128x128_13_0_0 x
  · exact pieceS DT CUM x0 xs1 12 120 121 1536 2816 (by decide) rfl rfl rfl rfl
      slices_S128x128_o0_120_S128x1 slices_S128x128_o0_121_S128x1 inb_S128x4096_S128x128_0_1536
      inb_S128x4096_S128x128_0_2816 slices_S128x128_o0_120_S128x1 slices_S128x128_o0_121_S128x1
      slices_S1x128_o0_120_S1x1 slices_S1x128_o0_121_S1x1 inb_S16x128x128_S1x128x128_12_0_0
      inb_S16x128x128_S1x128x128_12_0_0 x
  · exact pieceS DT CUM x0 xs1 11 118 119 1408 2688 (by decide) rfl rfl rfl rfl
      slices_S128x128_o0_118_S128x1 slices_S128x128_o0_119_S128x1 inb_S128x4096_S128x128_0_1408
      inb_S128x4096_S128x128_0_2688 slices_S128x128_o0_118_S128x1 slices_S128x128_o0_119_S128x1
      slices_S1x128_o0_118_S1x1 slices_S1x128_o0_119_S1x1 inb_S16x128x128_S1x128x128_11_0_0
      inb_S16x128x128_S1x128x128_11_0_0 x
  · exact pieceS DT CUM x0 xs1 10 116 117 1280 2688 (by decide) rfl rfl rfl rfl
      slices_S128x128_o0_116_S128x1 slices_S128x128_o0_117_S128x1 inb_S128x4096_S128x128_0_1280
      inb_S128x4096_S128x128_0_2688 slices_S128x128_o0_116_S128x1 slices_S128x128_o0_117_S128x1
      slices_S1x128_o0_116_S1x1 slices_S1x128_o0_117_S1x1 inb_S16x128x128_S1x128x128_10_0_0
      inb_S16x128x128_S1x128x128_10_0_0 x
  · exact pieceS DT CUM x0 xs1 9 114 115 1152 2560 (by decide) rfl rfl rfl rfl
      slices_S128x128_o0_114_S128x1 slices_S128x128_o0_115_S128x1 inb_S128x4096_S128x128_0_1152
      inb_S128x4096_S128x128_0_2560 slices_S128x128_o0_114_S128x1 slices_S128x128_o0_115_S128x1
      slices_S1x128_o0_114_S1x1 slices_S1x128_o0_115_S1x1 inb_S16x128x128_S1x128x128_9_0_0
      inb_S16x128x128_S1x128x128_9_0_0 x
  · exact pieceS DT CUM x0 xs1 8 112 113 1024 2560 (by decide) rfl rfl rfl rfl
      slices_S128x128_o0_112_S128x1 slices_S128x128_o0_113_S128x1 inb_S128x4096_S128x128_0_1024
      inb_S128x4096_S128x128_0_2560 slices_S128x128_o0_112_S128x1 slices_S128x128_o0_113_S128x1
      slices_S1x128_o0_112_S1x1 slices_S1x128_o0_113_S1x1 inb_S16x128x128_S1x128x128_8_0_0
      inb_S16x128x128_S1x128x128_8_0_0 x
  · exact pieceS DT CUM x0 xs1 7 110 111 896 2432 (by decide) rfl rfl rfl rfl
      slices_S128x128_o0_110_S128x1 slices_S128x128_o0_111_S128x1 inb_S128x4096_S128x128_0_896
      inb_S128x4096_S128x128_0_2432 slices_S128x128_o0_110_S128x1 slices_S128x128_o0_111_S128x1
      slices_S1x128_o0_110_S1x1 slices_S1x128_o0_111_S1x1 inb_S16x128x128_S1x128x128_7_0_0
      inb_S16x128x128_S1x128x128_7_0_0 x
  · exact pieceS DT CUM x0 xs1 6 108 109 768 2432 (by decide) rfl rfl rfl rfl
      slices_S128x128_o0_108_S128x1 slices_S128x128_o0_109_S128x1 inb_S128x4096_S128x128_0_768
      inb_S128x4096_S128x128_0_2432 slices_S128x128_o0_108_S128x1 slices_S128x128_o0_109_S128x1
      slices_S1x128_o0_108_S1x1 slices_S1x128_o0_109_S1x1 inb_S16x128x128_S1x128x128_6_0_0
      inb_S16x128x128_S1x128x128_6_0_0 x
  · exact pieceS DT CUM x0 xs1 5 106 107 640 2304 (by decide) rfl rfl rfl rfl
      slices_S128x128_o0_106_S128x1 slices_S128x128_o0_107_S128x1 inb_S128x4096_S128x128_0_640
      inb_S128x4096_S128x128_0_2304 slices_S128x128_o0_106_S128x1 slices_S128x128_o0_107_S128x1
      slices_S1x128_o0_106_S1x1 slices_S1x128_o0_107_S1x1 inb_S16x128x128_S1x128x128_5_0_0
      inb_S16x128x128_S1x128x128_5_0_0 x
  · exact pieceS DT CUM x0 xs1 4 104 105 512 2304 (by decide) rfl rfl rfl rfl
      slices_S128x128_o0_104_S128x1 slices_S128x128_o0_105_S128x1 inb_S128x4096_S128x128_0_512
      inb_S128x4096_S128x128_0_2304 slices_S128x128_o0_104_S128x1 slices_S128x128_o0_105_S128x1
      slices_S1x128_o0_104_S1x1 slices_S1x128_o0_105_S1x1 inb_S16x128x128_S1x128x128_4_0_0
      inb_S16x128x128_S1x128x128_4_0_0 x
  · exact pieceS DT CUM x0 xs1 3 102 103 384 2176 (by decide) rfl rfl rfl rfl
      slices_S128x128_o0_102_S128x1 slices_S128x128_o0_103_S128x1 inb_S128x4096_S128x128_0_384
      inb_S128x4096_S128x128_0_2176 slices_S128x128_o0_102_S128x1 slices_S128x128_o0_103_S128x1
      slices_S1x128_o0_102_S1x1 slices_S1x128_o0_103_S1x1 inb_S16x128x128_S1x128x128_3_0_0
      inb_S16x128x128_S1x128x128_3_0_0 x
  · exact pieceS DT CUM x0 xs1 2 100 101 256 2176 (by decide) rfl rfl rfl rfl
      slices_S128x128_o0_100_S128x1 slices_S128x128_o0_101_S128x1 inb_S128x4096_S128x128_0_256
      inb_S128x4096_S128x128_0_2176 slices_S128x128_o0_100_S128x1 slices_S128x128_o0_101_S128x1
      slices_S1x128_o0_100_S1x1 slices_S1x128_o0_101_S1x1 inb_S16x128x128_S1x128x128_2_0_0
      inb_S16x128x128_S1x128x128_2_0_0 x
  · exact pieceS DT CUM x0 xs1 1 98 99 128 2048 (by decide) rfl rfl rfl rfl
      slices_S128x128_o0_98_S128x1 slices_S128x128_o0_99_S128x1 inb_S128x4096_S128x128_0_128
      inb_S128x4096_S128x128_0_2048 slices_S128x128_o0_98_S128x1 slices_S128x128_o0_99_S128x1
      slices_S1x128_o0_98_S1x1 slices_S1x128_o0_99_S1x1 inb_S16x128x128_S1x128x128_1_0_0
      inb_S16x128x128_S1x128x128_1_0_0 x
  · exact pieceS DT CUM x0 xs1 0 96 97 0 2048 (by decide) rfl rfl rfl rfl
      slices_S128x128_o0_96_S128x1 slices_S128x128_o0_97_S128x1 inb_S128x4096_S128x128_0_0
      inb_S128x4096_S128x128_0_2048 slices_S128x128_o0_96_S128x1 slices_S128x128_o0_97_S128x1
      slices_S1x128_o0_96_S1x1 slices_S1x128_o0_97_S1x1 inb_S16x128x128_S1x128x128_0_0_0
      inb_S16x128x128_S1x128x128_0_0_0 x

theorem outB : View.canon (runB
    c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
    xs1).1
    = TO (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 xs1)
      x8 x9 x10 x0 x7 := by
  have hY := ysB c i arg2 harg2 arg3 harg3 arg4 harg4 arg5 harg5 arg6 harg6 arg7 harg7 arg8 harg8 arg9 harg9 arg10 harg10
    arg11 harg11 arg12 harg12 arg13 harg13 arg14 harg14 arg15 harg15 hc0 x0 x1 x2 x3 x4 x5 x6 x7 x8 x9 x10
    xs1
  funext y
  refine View.canon_apply_of_pieces (Val := Elt Ideal) (e := .bf16) (TO (TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 xs1)
      x8 x9 x10 x0 x7)
    _ ?_ y (View.cover_of_tiledL _ ![128, 256] (by sl_kernel_rfl) y)
  revert hY
  generalize TY (k0_pay5 (F := Ideal) x1 x3) (k0_pay6 (F := Ideal) x1 x3 x4)
      (k0_pay10 (F := Ideal) k0_pay4 (k0_pay8 (F := Ideal) x2 x5) (k0_pay9 (F := Ideal) x2 x5)
        (Scalar.ofBits (F := Ideal) .f32 0x00000000#32) x6)
      x0 xs1 = Y
  unfold runB kernelRun0_B
  dsimp only
  sl_unfold_words
  intro hY
  simp only [View.readCov_eq_canon' arg14.view]
  rw [hY]
  clear hY
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread]
  simp only [List.forall_mem_cons]
  refine ⟨fun x => ?_, fun x => ?_, fun x => ?_, fun x => ?_, fun x => ?_, fun x => ?_, fun x => ?_, fun x => ?_, fun p hp => absurd hp List.not_mem_nil⟩
  · exact pieceO Y x8 x9 x10 x0 x7 7 1792 (by decide) rfl inb_S128x2048_S128x256_0_1792 inb_S1x2048_S1x256_0_1792
      inb_S128x4096_S128x256_0_1792 inb_S128x2048_S128x256_0_1792 x
  · exact pieceO Y x8 x9 x10 x0 x7 6 1536 (by decide) rfl inb_S128x2048_S128x256_0_1536 inb_S1x2048_S1x256_0_1536
      inb_S128x4096_S128x256_0_1536 inb_S128x2048_S128x256_0_1536 x
  · exact pieceO Y x8 x9 x10 x0 x7 5 1280 (by decide) rfl inb_S128x2048_S128x256_0_1280 inb_S1x2048_S1x256_0_1280
      inb_S128x4096_S128x256_0_1280 inb_S128x2048_S128x256_0_1280 x
  · exact pieceO Y x8 x9 x10 x0 x7 4 1024 (by decide) rfl inb_S128x2048_S128x256_0_1024 inb_S1x2048_S1x256_0_1024
      inb_S128x4096_S128x256_0_1024 inb_S128x2048_S128x256_0_1024 x
  · exact pieceO Y x8 x9 x10 x0 x7 3 768 (by decide) rfl inb_S128x2048_S128x256_0_768 inb_S1x2048_S1x256_0_768
      inb_S128x4096_S128x256_0_768 inb_S128x2048_S128x256_0_768 x
  · exact pieceO Y x8 x9 x10 x0 x7 2 512 (by decide) rfl inb_S128x2048_S128x256_0_512 inb_S1x2048_S1x256_0_512
      inb_S128x4096_S128x256_0_512 inb_S128x2048_S128x256_0_512 x
  · exact pieceO Y x8 x9 x10 x0 x7 1 256 (by decide) rfl inb_S128x2048_S128x256_0_256 inb_S1x2048_S1x256_0_256
      inb_S128x4096_S128x256_0_256 inb_S128x2048_S128x256_0_256 x
  · exact pieceO Y x8 x9 x10 x0 x7 0 0 (by decide) rfl inb_S128x2048_S128x256_0_0 inb_S1x2048_S1x256_0_0
      inb_S128x4096_S128x256_0_0 inb_S128x2048_S128x256_0_0 x

end Cert.Kernel10Ideal.Scan
end
-- ==== Proof.BwdSpec.lean ====
module

public import proofs.«01_k».proof.Proof.BwdGate
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! The backward scan in closed form, over the layer's arrays: the time steps, their sums from the end of a chunk, the state
carried from a chunk to the chunk before it, the outputs, and the gated, normalised sum of both directions. -/

variable (x : S8192x4096.Idx → EReal) (p : S8192x7680.Idx → EReal) (sm : S8192x128.Idx → EReal)
  (yf : S8192x2048.Idx → EReal) (al df ds : S32.Idx → EReal) (gn : S2048.Idx → EReal)

/-- The row of a chunk's position. -/
def row (t : ℕ) (r : Fin 128) : Fin 8192 := ⟨(128 * t + r.val) % 8192, Nat.mod_lt _ (by norm_num)⟩

def softp (x : EReal) : EReal := max x 0 + Ideal.log1p (Ideal.exp (0 - FloatOps.absf (F := Ideal) (φ := .f32) x))

/-- A head's time step. -/
def dts (R : Fin 8192) (h : Fin 32) : EReal := softp (sm (ix2 R ⟨96 + h.val, by omega⟩) + df (ix1 h))

/-- A head's decay exponents. -/
def adt (R : Fin 8192) (h : Fin 32) : EReal := dts sm df R h * (0 - Ideal.exp (al (ix1 h)))

/-- Their sums from the end of a chunk. -/
def cum (t : ℕ) (r : Fin 128) (h : Fin 32) : EReal :=
  ∑ k : Fin 128, if r.val ≤ k.val then adt sm al df (row t k) h else 0

/-- A scaled input of a head. -/
def xdt (R : Fin 8192) (h : Fin 32) (e : Fin 64) : EReal :=
  x (ix2 R ⟨64 * h.val + e.val, by omega⟩) * dts sm df R h

/-- A head's input and output projections of the state. -/
def bg (R : Fin 8192) (h : Fin 32) (n : Fin 128) : EReal := x (ix2 R ⟨2048 + 128 * (h.val / 4) + n.val, by omega⟩)
def cg (R : Fin 8192) (h : Fin 32) (n : Fin 128) : EReal := x (ix2 R ⟨3072 + 128 * (h.val / 4) + n.val, by omega⟩)

/-- What a chunk adds to a head's state. -/
def inc (t : ℕ) (h : Fin 32) (n : Fin 128) (e : Fin 64) : EReal :=
  ∑ s : Fin 128, bg x (row t s) h n
    * (xdt x sm df (row t s) h e * Ideal.exp (cum sm al df t 0 h - cum sm al df t s h))

/-- A head's state after `s` chunks of batch element `b`, from the last one on. -/
def state (b : ℕ) (h : Fin 32) (n : Fin 128) (e : Fin 64) : ℕ → EReal
  | 0 => 0
  | s + 1 => state b h n e s * Ideal.exp (cum sm al df (16 * b + (15 - s)) 0 h) + inc x sm al df (16 * b + (15 - s)) h n e

/-- An output of a head. -/
def outh (t : ℕ) (r : Fin 128) (h : Fin 32) (e : Fin 64) : EReal :=
  (∑ k : Fin 128, (Ideal.exp (if r.val ≤ k.val then cum sm al df t r h - cum sm al df t k h else NINF)
      * ∑ n : Fin 128, cg x (row t r) h n * bg x (row t k) h n) * xdt x sm df (row t k) h e)
    + Ideal.exp (cum sm al df t r h) * ∑ n : Fin 128, cg x (row t r) h n * state x sm al df (t / 16) h n e (15 - t % 16)

/-- The backward scan's output at a row and a column. -/
def yb (R : Fin 8192) (k : Fin 2048) : EReal :=
  outh x sm al df (R.val / 128) ⟨R.val % 128, Nat.mod_lt _ (by norm_num)⟩ ⟨k.val / 64, by omega⟩
    ⟨k.val % 64, Nat.mod_lt _ (by norm_num)⟩

/-- Both directions and the skip, gated. -/
def gated (R : Fin 8192) (k : Fin 2048) : EReal :=
  ((yb x sm al df R k + yf (ix2 R k)) + ds (ix1 ⟨k.val / 64, by omega⟩) * x (ix2 R ⟨k.val, by omega⟩))
    * (p (ix2 R ⟨4096 + k.val, by omega⟩) * Ideal.logistic (p (ix2 R ⟨4096 + k.val, by omega⟩)))

/-- Normalised over its group of 256 columns. -/
def normed (R : Fin 8192) (k : Fin 2048) : EReal :=
  gated x p sm yf al df ds R k
    * Ideal.rsqrt (Ideal.div (∑ j : Fin 256, gated x p sm yf al df ds R (gcol (k.val / 256) j)
        * gated x p sm yf al df ds R (gcol (k.val / 256) j)) W256 + WEPS)
    * gn (ix1 k)

/-- The result. -/
def RO : S8192x2048.Idx → EReal := fun i => normed x p sm yf al df ds gn (i 0) (i 1)

end Cert.Kernel10Ideal.Scan
end
-- ==== Proof.BwdArgs.lean ====
module

public import proofs.«01_k».proof.Proof.BwdCaseA
public import proofs.«01_k».proof.Proof.BwdCaseB
public import proofs.«01_k».proof.Proof.BwdSpec
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! What the backward scan reads: the prepared arguments, the blocks of a step, and what a step leaves. -/

variable (m : (ℓ : Loc nD τ sig) → Buf (Elt Ideal) ℓ)

theorem V_x (c : Dev nD) (r : Fin 8192) (k : Fin 4096) :
    V m c main_v13 (ix2 r k) = m ⟨c, Proc.tc.devRef main_arg0⟩ (ix2 r k) := by
  unfold V; after_reads_at

theorem V_p (c : Dev nD) (r : Fin 8192) (k : Fin 7680) :
    V m c main_v11 (ix2 r k) = m ⟨c, Proc.tc.devRef main_arg1⟩ (ix2 r k) := by
  unfold V; after_reads_at

theorem V_sm (c : Dev nD) (r : Fin 8192) (k : Fin 128) :
    V m c main_arg2 (ix2 r k) = m ⟨c, Proc.tc.devRef main_arg2⟩ (ix2 r k) := by
  unfold V; after_reads_at

theorem V_smT (c : Dev nD) (r : Fin 8192) (k : Fin 128) :
    V m c main_v12 (ix2 k r) = m ⟨c, Proc.tc.devRef main_arg2⟩ (ix2 r k) := by
  unfold V; after_reads_at

theorem V_yf (c : Dev nD) (r : Fin 8192) (k : Fin 2048) :
    V m c main_arg3 (ix2 r k) = m ⟨c, Proc.tc.devRef main_arg3⟩ (ix2 r k) := by
  unfold V; after_reads_at

theorem V_bl (c : Dev nD) (h : Fin 32) :
    V m c main_v2 (ix2 0 ⟨96 + h.val, by omega⟩) = m ⟨c, Proc.tc.devRef main_arg7⟩ (ix1 h) := by
  unfold V; after_reads_at
  after_reads_at
  rw [dif_neg (by omega), dif_neg (by omega)]
  exact congrArg (m ⟨c, Proc.tc.devRef main_arg7⟩) (congrArg ix1 (Fin.ext (by dsimp only; omega)))

theorem V_bc (c : Dev nD) (h : Fin 32) :
    V m c main_v3 (ix2 ⟨96 + h.val, by omega⟩ 0) = m ⟨c, Proc.tc.devRef main_arg7⟩ (ix1 h) := by
  unfold V; after_reads_at
  after_reads_at
  rw [dif_neg (by omega), dif_neg (by omega)]
  exact congrArg (m ⟨c, Proc.tc.devRef main_arg7⟩) (congrArg ix1 (Fin.ext (by dsimp only; omega)))

theorem V_al (c : Dev nD) (h : Fin 32) :
    V m c main_v6 (ix2 0 ⟨96 + h.val, by omega⟩) = m ⟨c, Proc.tc.devRef main_arg5⟩ (ix1 h) := by
  unfold V; after_reads_at
  after_reads_at
  rw [dif_neg (by omega), dif_neg (by omega)]
  exact congrArg (m ⟨c, Proc.tc.devRef main_arg5⟩) (congrArg ix1 (Fin.ext (by dsimp only; omega)))

theorem V_ac (c : Dev nD) (h : Fin 32) :
    V m c main_v7 (ix2 ⟨96 + h.val, by omega⟩ 0) = m ⟨c, Proc.tc.devRef main_arg5⟩ (ix1 h) := by
  unfold V; after_reads_at
  after_reads_at
  rw [dif_neg (by omega), dif_neg (by omega)]
  exact congrArg (m ⟨c, Proc.tc.devRef main_arg5⟩) (congrArg ix1 (Fin.ext (by dsimp only; omega)))

theorem V_gn (c : Dev nD) (k : Fin 2048) :
    V m c main_v14 (ix2 0 k) = m ⟨c, Proc.tc.devRef main_arg9⟩ (ix1 k) := by
  unfold V; after_reads_at

theorem V_ds (c : Dev nD) (k : Fin 2048) :
    V m c main_v10 (ix2 0 k) = m ⟨c, Proc.tc.devRef main_arg8⟩ (ix1 ⟨k.val / 64, by omega⟩) := by
  unfold V; after_reads_at

/-- The chunk of a step: a batch element's chunks are taken from the last to the first. -/
def ch (t : ℕ) : ℕ := 16 * (t / 16) + (15 - t % 16)

theorem idx0 : ∀ t : Fin cfg0.N, win0_0.index t = ![ch t.val, 0] := (by decide +kernel : ∀ t : Fin grid0.N, _)
theorem idx1 : ∀ t : Fin cfg0.N, win0_1.index t = ![ch t.val, 0] := (by decide +kernel : ∀ t : Fin grid0.N, _)
theorem idx2 : ∀ t : Fin cfg0.N, win0_2.index t = ![0, ch t.val] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![ch t.val, 2] := (by decide +kernel : ∀ t : Fin grid0.N, _)
theorem idx8 : ∀ t : Fin cfg0.N, win0_8.index t = ![ch t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![ch t.val, 0] := (by decide +kernel : ∀ t : Fin grid0.N, _)

section
variable (c : Dev nD) (t : Fin cfg0.N)

theorem b0 (R : Fin 8192) (r : Fin 128) (hR : R.val = ch t.val * 128 + r.val) (k : Fin 4096) :
    iblk m c 0 t (ix2 r k) = m ⟨c, Proc.tc.devRef main_arg0⟩ (ix2 R k) := by
  refine Eq.trans ?_ (V_x m c R k)
  blk_ext [iblk, idx0 t]

theorem b1 (R : Fin 8192) (r : Fin 128) (hR : R.val = ch t.val * 128 + r.val) (k : Fin 128) :
    iblk m c 1 t (ix2 r k) = m ⟨c, Proc.tc.devRef main_arg2⟩ (ix2 R k) := by
  refine Eq.trans ?_ (V_sm m c R k)
  blk_ext [iblk, idx1 t]

theorem b2 (R : Fin 8192) (r : Fin 128) (hR : R.val = ch t.val * 128 + r.val) (k : Fin 128) :
    iblk m c 2 t (ix2 k r) = m ⟨c, Proc.tc.devRef main_arg2⟩ (ix2 R k) := by
  refine Eq.trans ?_ (V_smT m c R k)
  blk_ext [iblk, idx2 t]

theorem b3 (h : Fin 32) :
    iblk m c 3 t (ix2 0 ⟨96 + h.val, by omega⟩) = m ⟨c, Proc.tc.devRef main_arg7⟩ (ix1 h) := by
  refine Eq.trans ?_ (V_bl m c h)
  blk_ext [iblk, idx3 t]

theorem b4 (h : Fin 32) :
    iblk m c 4 t (ix2 0 ⟨96 + h.val, by omega⟩) = m ⟨c, Proc.tc.devRef main_arg5⟩ (ix1 h) := by
  refine Eq.trans ?_ (V_al m c h)
  blk_ext [iblk, idx4 t]

theorem b5 (h : Fin 32) :
    iblk m c 5 t (ix2 ⟨96 + h.val, by omega⟩ 0) = m ⟨c, Proc.tc.devRef main_arg7⟩ (ix1 h) := by
  refine Eq.trans ?_ (V_bc m c h)
  blk_ext [iblk, idx5 t]

theorem b6 (h : Fin 32) :
    iblk m c 6 t (ix2 ⟨96 + h.val, by omega⟩ 0) = m ⟨c, Proc.tc.devRef main_arg5⟩ (ix1 h) := by
  refine Eq.trans ?_ (V_ac m c h)
  blk_ext [iblk, idx6 t]

theorem b7 (R : Fin 8192) (r : Fin 128) (hR : R.val = ch t.val * 128 + r.val) (k : Fin 2048) :
    X0_7 m c t (ix2 r k) = m ⟨c, Proc.tc.devRef main_arg1⟩ (ix2 R ⟨4096 + k.val, by omega⟩) := by
  refine Eq.trans ?_ (V_p m c R ⟨4096 + k.val, by omega⟩)
  unfold X0_7 Pipeline.Window.fill
  rw [dif_pos (moved0_7 t (ix2 r k))]
  blk_ext [iblk, idx7 t]

theorem b8 (R : Fin 8192) (r : Fin 128) (hR : R.val = ch t.val * 128 + r.val) (k : Fin 2048) :
    iblk m c 8 t (ix2 r k) = m ⟨c, Proc.tc.devRef main_arg3⟩ (ix2 R k) := by
  refine Eq.trans ?_ (V_yf m c R k)
  blk_ext [iblk, idx8 t]

theorem b9 (k : Fin 2048) :
    iblk m c 9 t (ix2 0 k) = m ⟨c, Proc.tc.devRef main_arg8⟩ (ix1 ⟨k.val / 64, by omega⟩) := by
  refine Eq.trans ?_ (V_ds m c k)
  blk_ext [iblk, idx9 t]

theorem b10 (k : Fin 2048) :
    iblk m c 10 t (ix2 0 k) = m ⟨c, Proc.tc.devRef main_arg9⟩ (ix1 k) := by
  refine Eq.trans ?_ (V_gn m c k)
  blk_ext [iblk, idx10 t]

/-- What a step computes from its blocks. -/
def XB : FVec Ideal S128x4096 .bf16 := iblk m c 0 t
def DB : FVec Ideal S128x128 .f32 := k0_pay5 (F := Ideal) (iblk m c 1 t) (iblk m c 3 t)
def CB : FVec Ideal S128x128 .f32 := k0_pay6 (F := Ideal) (iblk m c 1 t) (iblk m c 3 t) (iblk m c 4 t)
def CBT : FVec Ideal S128x128 .f32 :=
  k0_pay10 (F := Ideal) k0_pay4 (k0_pay8 (F := Ideal) (iblk m c 2 t) (iblk m c 5 t))
    (k0_pay9 (F := Ideal) (iblk m c 2 t) (iblk m c 5 t)) (Scalar.ofBits (F := Ideal) .f32 0x00000000#32) (iblk m c 6 t)
def OB (Y : FVec Ideal S128x2048 .f32) : FVec Ideal S128x2048 .bf16 :=
  TO Y (iblk m c 8 t) (iblk m c 9 t) (iblk m c 10 t) (XB m c t) (X0_7 m c t)

/-- A batch element's first step starts from nothing. -/
theorem outs_A (h0 : t.val % 16 = 0) : outsAt0 m c t.val t.isLt
    = (OB m c t (TY (DB m c t) (CB m c t) (CBT m c t) (XB m c t) (k0_pay2 (F := Ideal))),
      TS (DB m c t) (CB m c t) (XB m c t) (k0_pay2 (F := Ideal))) := by
  rw [outsAt0_A m c t h0]
  refine Prod.ext ?_ ?_
  · unfold out0_A_11
    rw [View.read_writes_junk_eq_canon, outA]
    rfl
  · unfold sout0_A_1
    rw [View.read_writes_junk_eq_canon, stA]
    rfl

/-- A later step starts from what the step before it left. -/
theorem outs_B (h0 : ¬t.val % 16 = 0) (S : FVec Ideal S16x128x128 .f32)
    (hS : (outsAt0 m c (t.val - 1) (Nat.lt_of_le_of_lt (Nat.sub_le _ _) t.isLt)).2 = S) : outsAt0 m c t.val t.isLt
    = (OB m c t (TY (DB m c t) (CB m c t) (CBT m c t) (XB m c t) S), TS (DB m c t) (CB m c t) (XB m c t) S) := by
  rw [outsAt0_B m c t h0, hS]
  refine Prod.ext ?_ ?_
  · unfold out0_B_11
    rw [View.read_writes_junk_eq_canon, outB]
    rfl
  · unfold sout0_B_1
    rw [View.read_writes_junk_eq_canon, stB]
    rfl

end

end Cert.Kernel10Ideal.Scan
end
-- ==== Proof.BwdFinal.lean ====
module

public import proofs.«01_k».proof.Proof.BwdArgs
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel10Ideal.Scan

open Cert.Kernel10Ideal Cert.Kernel10Ideal.Gen

/-! What the backward scan leaves in its result array is the closed form. -/

/-- The triangle of ones. -/
theorem tri (x r : Fin 128) : FloatOps.sitofp (F := Ideal) .f32
      (BitVec.setWidth 32 (IntOp.cmpi .sge (BitVec.ofNat 32 x.val) (BitVec.ofNat 32 r.val)))
    = if r.val ≤ x.val then (1 : EReal) else 0 := by
  have h1 : ((BitVec.setWidth 32 (1#1)).toInt : ℝ) = 1 := by norm_num
  have h0 : ((BitVec.setWidth 32 (0#1)).toInt : ℝ) = 0 := by norm_num
  show FloatOps.sitofp (F := Ideal) .f32
      (BitVec.setWidth 32 (IntOp.cmpi .sle (BitVec.ofNat 32 r.val) (BitVec.ofNat 32 x.val))) = _
  rw [WordCmp.cmpi_sle_ofNat (by have := r.isLt; omega) (by have := x.isLt; omega)]
  by_cases h : r.val ≤ x.val
  · rw [if_pos h, decide_eq_true h]
    show (((BitVec.setWidth 32 (1#1)).toInt : ℝ) : EReal) = 1
    rw [h1]; rfl
  · rw [if_neg h, decide_eq_false h]
    show (((BitVec.setWidth 32 (0#1)).toInt : ℝ) : EReal) = 0
    rw [h0]; rfl

variable (m : (ℓ : Loc nD τ sig) → Buf (Elt Ideal) ℓ)

section
variable (c : Dev nD)

/-- The arguments. -/
abbrev aX : S8192x4096.Idx → EReal := m ⟨c, Proc.tc.devRef main_arg0⟩
abbrev aP : S8192x7680.Idx → EReal := m ⟨c, Proc.tc.devRef main_arg1⟩
abbrev aS : S8192x128.Idx → EReal := m ⟨c, Proc.tc.devRef main_arg2⟩
abbrev aY : S8192x2048.Idx → EReal := m ⟨c, Proc.tc.devRef main_arg3⟩
abbrev aA : S32.Idx → EReal := m ⟨c, Proc.tc.devRef main_arg5⟩
abbrev aD : S32.Idx → EReal := m ⟨c, Proc.tc.devRef main_arg7⟩
abbrev aK : S32.Idx → EReal := m ⟨c, Proc.tc.devRef main_arg8⟩
abbrev aG : S2048.Idx → EReal := m ⟨c, Proc.tc.devRef main_arg9⟩

theorem n64 : cfg0.N = 64 := by decide +kernel

variable (t : Fin cfg0.N)

theorem row_val (r : Fin 128) : (row (ch t.val) r).val = ch t.val * 128 + r.val := by
  have ht : t.val < 64 := lt_of_lt_of_eq t.isLt n64
  show (128 * (16 * (t.val / 16) + (15 - t.val % 16)) + r.val) % 8192 = (16 * (t.val / 16) + (15 - t.val % 16)) * 128 + r.val
  omega

theorem XB_apply (r : Fin 128) (d : Fin 4096) : XB m c t (ix2 r d) = aX m c (ix2 (row (ch t.val) r) d) :=
  b0 m c t _ r (row_val t r) d

theorem pay5 (a : FVec Ideal S128x128 .f32) (b : FVec Ideal S1x128 .f32) (r k : Fin 128) :
    k0_pay5 (F := Ideal) a b (ix2 r k) = softp (a (ix2 r k) + b (ix2 0 k)) := by
  unfold softp
  pointwise [k0_pay5]

theorem DB_apply (r : Fin 128) (h : Fin 32) :
    DB m c t (ix2 r ⟨96 + h.val, by omega⟩) = dts (aS m c) (aD m c) (row (ch t.val) r) h := by
  unfold DB dts
  rw [pay5, b1 m c t _ r (row_val t r), b3 m c t h]

theorem pay6 (a : FVec Ideal S128x128 .f32) (b d : FVec Ideal S1x128 .f32) (r k : Fin 128) :
    k0_pay6 (F := Ideal) a b d (ix2 r k) = ∑ x : Fin 128,
      FloatOps.sitofp (F := Ideal) .f32 (BitVec.setWidth 32 (IntOp.cmpi .sge (BitVec.ofNat 32 x.val) (BitVec.ofNat 32 r.val)))
        * (k0_pay5 (F := Ideal) a b (ix2 x k) * (0 - Ideal.exp (d (ix2 0 k)))) := by
  pointwise [k0_pay6, k0_pay3]

theorem pay10 (a : FVec Ideal S128x128 .f32) (b d : FVec Ideal S128x1 .f32) (r k : Fin 128) :
    k0_pay10 (F := Ideal) k0_pay4 (k0_pay8 (F := Ideal) a b) (k0_pay9 (F := Ideal) a b)
        (Scalar.ofBits (F := Ideal) .f32 0x00000000#32) d (ix2 r k) = ∑ x : Fin 128,
      softp (a (ix2 r x) + b (ix2 r 0)) * (0 - Ideal.exp (d (ix2 r 0)))
        * FloatOps.sitofp (F := Ideal) .f32 (BitVec.setWidth 32 (IntOp.cmpi .sge (BitVec.ofNat 32 x.val) (BitVec.ofNat 32 k.val))) := by
  unfold softp
  pointwise [k0_pay10, k0_pay4, k0_pay8, k0_pay9, k0_pay7]

theorem CB_apply (r : Fin 128) (h : Fin 32) :
    CB m c t (ix2 r ⟨96 + h.val, by omega⟩) = cum (aS m c) (aA m c) (aD m c) (ch t.val) r h := by
  unfold CB cum adt
  rw [pay6]
  refine Finset.sum_congr (M := EReal) rfl fun x _ => ?_
  rw [tri, ← DB_apply m c t x h, b4 m c t h]
  by_cases hx : r.val ≤ x.val
  · rw [if_pos hx, if_pos hx, one_mul]; rfl
  · rw [if_neg hx, if_neg hx, zero_mul]

theorem CBT_apply (r : Fin 128) (h : Fin 32) :
    CBT m c t (ix2 ⟨96 + h.val, by omega⟩ r) = cum (aS m c) (aA m c) (aD m c) (ch t.val) r h := by
  unfold CBT cum adt dts
  rw [pay10]
  refine Finset.sum_congr (M := EReal) rfl fun x _ => ?_
  rw [tri, b2 m c t _ x (row_val t x), b5 m c t h, b6 m c t h]
  by_cases hx : r.val ≤ x.val
  · rw [if_pos hx, if_pos hx, mul_one]
  · rw [if_neg hx, if_neg hx, mul_zero]

/-- The states of the closed form, two heads a tile. -/
def SB (b s : ℕ) : FVec Ideal S16x128x128 .f32 := fun y =>
  state (aX m c) (aS m c) (aA m c) (aD m c) b
    ⟨2 * (y 0).val + (y 2).val / 64, by have h0 : (y 0).val < 16 := (y 0).isLt; have h2 : (y 2).val < 128 := (y 2).isLt; omega⟩
    (y 1) ⟨(y 2).val % 64, Nat.mod_lt _ (by norm_num)⟩ s

section
variable (q : Fin 16) (l : Fin 128)

/-- The head and the lane of a column of a pair. -/
def hd : Fin 32 := ⟨2 * q.val + l.val / 64, by omega⟩
def ln : Fin 64 := ⟨l.val % 64, Nat.mod_lt _ (by norm_num)⟩

theorem CBl (r : Fin 128) : CB m c t (ix2 r (lane q l)) = cum (aS m c) (aA m c) (aD m c) (ch t.val) r (hd q l) :=
  CB_apply m c t r (hd q l)
theorem CBTl (r : Fin 128) : CBT m c t (ix2 (lane q l) r) = cum (aS m c) (aA m c) (aD m c) (ch t.val) r (hd q l) :=
  CBT_apply m c t r (hd q l)
theorem XBb (r n : Fin 128) : XB m c t (ix2 r (colB q n)) = bg (aX m c) (row (ch t.val) r) (hd q l) n :=
  (XB_apply m c t r _).trans (congrArg (fun z => aX m c (ix2 _ z)) (Fin.ext (by
    show 2048 + 128 * (q.val / 2) + n.val = 2048 + 128 * ((2 * q.val + l.val / 64) / 4) + n.val
    have := l.isLt
    omega)))
theorem XBc (r n : Fin 128) : XB m c t (ix2 r (colC q n)) = cg (aX m c) (row (ch t.val) r) (hd q l) n :=
  (XB_apply m c t r _).trans (congrArg (fun z => aX m c (ix2 _ z)) (Fin.ext (by
    show 3072 + 128 * (q.val / 2) + n.val = 3072 + 128 * ((2 * q.val + l.val / 64) / 4) + n.val
    have := l.isLt
    omega)))
theorem XDl (r : Fin 128) : XD (DB m c t) (XB m c t) q r l
    = xdt (aX m c) (aS m c) (aD m c) (row (ch t.val) r) (hd q l) (ln l) := by
  unfold XD xdt
  refine congrArg₂ (fun a b : EReal => a * b) ?_ (DB_apply m c t r (hd q l))
  exact (XB_apply m c t r _).trans (congrArg (fun z => aX m c (ix2 _ z)) (Fin.ext (by
    show 128 * q.val + l.val = 64 * (2 * q.val + l.val / 64) + l.val % 64
    omega)))

end

/-- A step's new states. -/
theorem TS_eq (b s : ℕ) (hb : ch t.val = 16 * b + (15 - s)) :
    TS (DB m c t) (CB m c t) (XB m c t) (SB m c b s) = SB m c b (s + 1) := by
  funext y
  idx_vars y
  show nextS (DB m c t) (CB m c t) (XB m c t) (SB m c b s) y0 y1 y2
    = state (aX m c) (aS m c) (aA m c) (aD m c) b (hd y0 y2) y1 (ln y2) (s + 1)
  unfold nextS state inc
  rw [← hb]
  refine congrArg₂ (fun a b : EReal => a + b) (congrArg₂ (fun a b : EReal => a * b) rfl ?_)
    (Finset.sum_congr (M := EReal) rfl fun x _ => ?_)
  · rw [CBl m c t y0 y2 0]
  · rw [CBl m c t y0 y2 0, CBl m c t y0 y2 x, XBb m c t y0 y2 x y1, XDl m c t y0 y2 x]

/-- A step's outputs. -/
theorem TY_eq (r : Fin 128) (y : Fin 2048) :
    TY (DB m c t) (CB m c t) (CBT m c t) (XB m c t) (SB m c (t.val / 16) (t.val % 16)) (ix2 r y)
      = yb (aX m c) (aS m c) (aA m c) (aD m c) (row (ch t.val) r) y := by
  obtain ⟨q, hq⟩ : ∃ q : Fin 16, q.val = y.val / 128 := ⟨⟨y.val / 128, by omega⟩, rfl⟩
  obtain ⟨l, hl⟩ : ∃ l : Fin 128, l.val = y.val % 128 := ⟨⟨y.val % 128, by omega⟩, rfl⟩
  have e1 : (⟨y.val / 64, by omega⟩ : Fin 32) = hd q l := Fin.ext (by
    show y.val / 64 = 2 * q.val + l.val / 64
    omega)
  have e2 : (⟨y.val % 64, Nat.mod_lt _ (by norm_num)⟩ : Fin 64) = ln l := Fin.ext (by
    show y.val % 64 = l.val % 64
    omega)
  have hv := row_val t r
  have hr := r.isLt
  have e3 : (row (ch t.val) r).val / 128 = ch t.val := by omega
  have e4 : (⟨(row (ch t.val) r).val % 128, Nat.mod_lt _ (by norm_num)⟩ : Fin 128) = r := Fin.ext (by
    show (row (ch t.val) r).val % 128 = r.val
    omega)
  have e5 : ch t.val / 16 = t.val / 16 := by unfold ch; omega
  have e6 : 15 - ch t.val % 16 = t.val % 16 := by unfold ch; omega
  unfold yb
  rw [e1, e2, e3, e4]
  have e : TY (DB m c t) (CB m c t) (CBT m c t) (XB m c t) (SB m c (t.val / 16) (t.val % 16)) (ix2 r y)
      = outY (DB m c t) (CB m c t) (CBT m c t) (XB m c t) (SB m c (t.val / 16) (t.val % 16)) q r l := by
    unfold TY
    congr 1
    · exact Fin.ext hq.symm
    · exact Fin.ext hl.symm
  rw [e]
  unfold outY outh
  rw [e5, e6]
  refine congrArg₂ (fun a b : EReal => a + b) (Finset.sum_congr (M := EReal) rfl fun k _ => ?_)
    (congrArg₂ (fun a b : EReal => a * b) ?_ (Finset.sum_congr (M := EReal) rfl fun n _ => ?_))
  · refine congrArg₂ (fun a b : EReal => a * b) (congrArg₂ (fun a b : EReal => a * b) ?_
      (Finset.sum_congr (M := EReal) rfl fun n _ => ?_)) (XDl m c t q l k)
    · rw [CBl m c t q l r, CBTl m c t q l k]
    · rw [XBc m c t q l r n, XBb m c t q l k n]
  · rw [CBl m c t q l r]
  · rw [XBc m c t q l r n]
    rfl

/-- A step's gated entries. -/
theorem gate_eq (r : Fin 128) (k : Fin 2048) :
    gateV (TY (DB m c t) (CB m c t) (CBT m c t) (XB m c t) (SB m c (t.val / 16) (t.val % 16)))
        (iblk m c 8 t) (iblk m c 9 t) (XB m c t) (X0_7 m c t) r k
      = gated (aX m c) (aP m c) (aS m c) (aY m c) (aA m c) (aD m c) (aK m c) (row (ch t.val) r) k := by
  unfold gateV gated
  rw [TY_eq, b8 m c t _ r (row_val t r), b9 m c t k, b7 m c t _ r (row_val t r), XB_apply]

/-- A step's results. -/
theorem OB_eq (r : Fin 128) (k : Fin 2048) :
    OB m c t (TY (DB m c t) (CB m c t) (CBT m c t) (XB m c t) (SB m c (t.val / 16) (t.val % 16))) (ix2 r k)
      = normed (aX m c) (aP m c) (aS m c) (aY m c) (aA m c) (aD m c) (aK m c) (aG m c) (row (ch t.val) r) k := by
  show outN _ (iblk m c 8 t) (iblk m c 9 t) (iblk m c 10 t) (XB m c t) (X0_7 m c t) r k = _
  unfold outN normed
  simp only [gate_eq, b10 m c t k]

end

/-- Nothing is carried into a batch element's first step. -/
theorem zero_state (c : Dev nD) (b : ℕ) : (k0_pay2 (F := Ideal)) = SB m c b 0 := by
  funext y
  show _ = (0 : EReal)
  idx_vars y
  pointwise [k0_pay2]

/-- The carried states. -/
theorem carried (c : Dev nD) : ∀ (n : ℕ) (hn : n < cfg0.N), (outsAt0 m c n hn).2 = SB m c (n / 16) (n % 16 + 1)
  | n, hn => by
    by_cases h0 : n % 16 = 0
    · rw [outs_A m c ⟨n, hn⟩ h0, zero_state m c (n / 16)]
      refine (TS_eq m c ⟨n, hn⟩ (n / 16) 0 (by show ch n = _; unfold ch; omega)).trans ?_
      rw [h0]
    · have ih := carried c (n - 1) (Nat.lt_of_le_of_lt (Nat.sub_le _ _) hn)
      have e : (n - 1) / 16 = n / 16 := by omega
      have e' : (n - 1) % 16 + 1 = n % 16 := by omega
      rw [e, e'] at ih
      rw [outs_B m c ⟨n, hn⟩ h0 _ ih]
      exact TS_eq m c ⟨n, hn⟩ (n / 16) (n % 16) rfl
termination_by n => n
decreasing_by omega

/-- What a step stores. -/
theorem stored (c : Dev nD) (t : Fin cfg0.N) : (outsAt0 m c t.val t.isLt).1
      = OB m c t (TY (DB m c t) (CB m c t) (CBT m c t) (XB m c t) (SB m c (t.val / 16) (t.val % 16))) := by
  by_cases h0 : t.val % 16 = 0
  · rw [outs_A m c t h0, zero_state m c (t.val / 16), h0]
  · have ih := carried m c (t.val - 1) (Nat.lt_of_le_of_lt (Nat.sub_le _ _) t.isLt)
    have e : (t.val - 1) / 16 = t.val / 16 := by omega
    have e' : (t.val - 1) % 16 + 1 = t.val % 16 := by omega
    rw [e, e'] at ih
    rw [outs_B m c t h0 _ ih]

/-- The result array. -/
theorem final (c : Dev nD) : (dats m 0 c).arrAt 11 cfg0.N
    = RO (aX m c) (aP m c) (aS m c) (aY m c) (aA m c) (aD m c) (aK m c) (aG m c) := by
  refine (dats m 0 c).arrAt_eq_of_covers 11 _ (by decide +kernel) fun t hf y => ?_
  blk_simp
  rw [after0_11, stored m c t]
  idx_vars y
  have h0 : ((win0_11.blk t).view.emb (ix2 y0 y1) 0).val = ch t.val * 128 + y0.val := by blk_simp [idx11 t]
  have h1 : (win0_11.blk t).view.emb (ix2 y0 y1) = ix2 ((win0_11.blk t).view.emb (ix2 y0 y1) 0) y1 := by
    funext a; fin_cases a
    · rfl
    · apply Fin.ext; blk_simp [idx11 t]; rfl
  rw [h1, OB_eq]
  exact congrArg (fun z => normed _ _ _ _ _ _ _ _ z y1) (Fin.ext ((row_val t y0).trans h0.symm))

end Cert.Kernel10Ideal.Scan
end
-- ==== Proof.BwdIdx.lean ====
module

public import proofs.«01_k».proof.Proof.BwdSpec
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The places that the reference's reshapes read. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

/-- A position of a batch element from its chunk and its place in the chunk, and a row from its batch element and position. -/
def sq (c : Fin 16) (l : Fin 128) : Fin 2048 := ⟨128 * c.val + l.val, by omega⟩
def rr (b : Fin 4) (s : Fin 2048) : Fin 8192 := ⟨2048 * b.val + s.val, by omega⟩

theorem sq_val (c : Fin 16) (l : Fin 128) : (sq c l).val = 128 * c.val + l.val := rfl
theorem rr_val (b : Fin 4) (s : Fin 2048) : (rr b s).val = 2048 * b.val + s.val := rfl

/-- A position counted from the end is a place counted from the end in a chunk counted from the end. -/
theorem rr_sq (b : Fin 4) (c : Fin 16) (l : Fin 128) : rr b (sq c l).rev = row (16 * b.val + (15 - c.val)) l.rev := Fin.ext (by
  have h1 : (sq c l).rev.val = 2048 - (128 * c.val + l.val + 1) := rfl
  have h2 : l.rev.val = 128 - (l.val + 1) := rfl
  show 2048 * b.val + (sq c l).rev.val = (128 * (16 * b.val + (15 - c.val)) + l.rev.val) % 8192
  omega)

/-- A sum over the places counted from the end. -/
theorem sum_rev (f : Fin 128 → EReal) : (∑ k : Fin 128, f k.rev) = ∑ k : Fin 128, f k :=
  Equiv.sum_comp Fin.revPerm f

theorem rev_le (k l : Fin 128) : k.val ≤ l.val ↔ l.rev.val ≤ k.rev.val := by
  show _ ↔ 128 - (l.val + 1) ≤ 128 - (k.val + 1)
  omega

theorem i24 (b : Fin 4) (c : Fin 16) (l : Fin 128) (h : Fin 32) : idx_main_v24 (ix5 b c l h 0) = ix3 b (sq c l) h := by
  funext a
  apply Fin.ext
  fin_cases a <;> (try rfl) <;> dsimp [sq, rr, gcol, idx_main_v24, ix1, ix2, ix3, ix4, ix5] <;> omega

theorem i26 (b : Fin 4) (c : Fin 16) (h : Fin 32) (l : Fin 128) : idx_main_v26 (ix4 b c h l) = ix5 b c h l 0 := by
  funext a
  apply Fin.ext
  fin_cases a <;> (try rfl) <;> dsimp [sq, rr, gcol, idx_main_v26, ix1, ix2, ix3, ix4, ix5] <;> omega

theorem i31 (b : Fin 4) (c : Fin 16) (l : Fin 128) (h : Fin 32) (e : Fin 64) : idx_main_v31 (ix5 b c l h e) = ix4 b (sq c l) h e := by
  funext a
  apply Fin.ext
  fin_cases a <;> (try rfl) <;> dsimp [sq, rr, gcol, idx_main_v31, ix1, ix2, ix3, ix4, ix5] <;> omega

theorem i35 (b : Fin 4) (c : Fin 16) (l : Fin 128) (h : Fin 32) (n : Fin 128) : idx_main_v35 (ix5 b c l h n) = ix4 b (sq c l) h n := by
  funext a
  apply Fin.ext
  fin_cases a <;> (try rfl) <;> dsimp [sq, rr, gcol, idx_main_v35, ix1, ix2, ix3, ix4, ix5] <;> omega

theorem i39 (b : Fin 4) (c : Fin 16) (l : Fin 128) (h : Fin 32) (n : Fin 128) : idx_main_v39 (ix5 b c l h n) = ix4 b (sq c l) h n := by
  funext a
  apply Fin.ext
  fin_cases a <;> (try rfl) <;> dsimp [sq, rr, gcol, idx_main_v39, ix1, ix2, ix3, ix4, ix5] <;> omega

theorem i34 (b : Fin 4) (s : Fin 2048) (h : Fin 32) (n : Fin 128) : idx_main_v34 (ix4 b s h n) = ix5 b s ⟨h.val / 4, by omega⟩ ⟨h.val % 4, by omega⟩ n := by
  funext a
  apply Fin.ext
  fin_cases a <;> (try rfl) <;> dsimp [sq, rr, gcol, idx_main_v34, ix1, ix2, ix3, ix4, ix5] <;> omega

theorem i38 (b : Fin 4) (s : Fin 2048) (h : Fin 32) (n : Fin 128) : idx_main_v38 (ix4 b s h n) = ix5 b s ⟨h.val / 4, by omega⟩ ⟨h.val % 4, by omega⟩ n := by
  funext a
  apply Fin.ext
  fin_cases a <;> (try rfl) <;> dsimp [sq, rr, gcol, idx_main_v38, ix1, ix2, ix3, ix4, ix5] <;> omega

theorem i6 (b : Fin 4) (s : Fin 2048) (h : Fin 32) (e : Fin 64) : idx_main_v6 (ix4 b s h e) = ix3 b s ⟨64 * h.val + e.val, by omega⟩ := by
  funext a
  apply Fin.ext
  fin_cases a <;> (try rfl) <;> dsimp [sq, rr, gcol, idx_main_v6, ix1, ix2, ix3, ix4, ix5] <;> omega

theorem i8 (b : Fin 4) (s : Fin 2048) (g : Fin 8) (n : Fin 128) : idx_main_v8 (ix4 b s g n) = ix3 b s ⟨128 * g.val + n.val, by omega⟩ := by
  funext a
  apply Fin.ext
  fin_cases a <;> (try rfl) <;> dsimp [sq, rr, gcol, idx_main_v8, ix1, ix2, ix3, ix4, ix5] <;> omega

theorem i10 (b : Fin 4) (s : Fin 2048) (g : Fin 8) (n : Fin 128) : idx_main_v10 (ix4 b s g n) = ix3 b s ⟨128 * g.val + n.val, by omega⟩ := by
  funext a
  apply Fin.ext
  fin_cases a <;> (try rfl) <;> dsimp [sq, rr, gcol, idx_main_v10, ix1, ix2, ix3, ix4, ix5] <;> omega

theorem i217 (b : Fin 4) (s : Fin 2048) (h : Fin 32) (e : Fin 64) : idx_main_v217 (ix4 b s h e) = ix5 b ⟨s.val / 128, by omega⟩ ⟨s.val % 128, by omega⟩ h e := by
  funext a
  apply Fin.ext
  fin_cases a <;> (try rfl) <;> dsimp [sq, rr, gcol, idx_main_v217, ix1, ix2, ix3, ix4, ix5] <;> omega

theorem i219 (b : Fin 4) (s : Fin 2048) (h : Fin 32) (e : Fin 64) : idx_main_v219 (ix4 b s h e) = ix2 (rr b s) ⟨64 * h.val + e.val, by omega⟩ := by
  funext a
  apply Fin.ext
  fin_cases a <;> (try rfl) <;> dsimp [sq, rr, gcol, idx_main_v219, ix1, ix2, ix3, ix4, ix5] <;> omega

theorem i226 (b : Fin 4) (s : Fin 2048) (k : Fin 2048) : idx_main_v226 (ix3 b s k) = ix4 b s ⟨k.val / 64, by omega⟩ ⟨k.val % 64, by omega⟩ := by
  funext a
  apply Fin.ext
  fin_cases a <;> (try rfl) <;> dsimp [sq, rr, gcol, idx_main_v226, ix1, ix2, ix3, ix4, ix5] <;> omega

theorem i229 (b : Fin 4) (s : Fin 2048) (g : Fin 8) (j : Fin 256) : idx_main_v229 (ix4 b s g j) = ix3 b s (gcol g.val j) := by
  funext a
  apply Fin.ext
  fin_cases a <;> (try rfl) <;> dsimp [sq, rr, gcol, idx_main_v229, ix1, ix2, ix3, ix4, ix5] <;> omega

theorem i230 (g : Fin 8) (j : Fin 256) : idx_main_v230 (ix2 g j) = ix1 ⟨256 * g.val + j.val, by omega⟩ := by
  funext a
  apply Fin.ext
  fin_cases a <;> (try rfl) <;> dsimp [sq, rr, gcol, idx_main_v230, ix1, ix2, ix3, ix4, ix5] <;> omega

theorem i244 (R : Fin 8192) (k : Fin 2048) : idx_main_v244 (ix2 R k) = ix4 ⟨R.val / 2048, by omega⟩ ⟨R.val % 2048, by omega⟩ ⟨k.val / 256, by omega⟩ ⟨k.val % 256, by omega⟩ := by
  funext a
  apply Fin.ext
  fin_cases a <;> (try rfl) <;> dsimp [sq, rr, gcol, idx_main_v244, ix1, ix2, ix3, ix4, ix5] <;> omega

theorem i4 (b : Fin 4) (s : Fin 2048) (h : Fin 32) : idx_main_v4 (ix3 b s h) = ix2 (rr b s) h := by
  funext a
  apply Fin.ext
  fin_cases a <;> (try rfl) <;> dsimp [sq, rr, gcol, idx_main_v4, ix1, ix2, ix3, ix4, ix5] <;> omega

theorem i2 (b : Fin 4) (s : Fin 2048) (k : Fin 2048) : idx_main_v2 (ix3 b s k) = ix2 (rr b s) k := by
  funext a
  apply Fin.ext
  fin_cases a <;> (try rfl) <;> dsimp [sq, rr, gcol, idx_main_v2, ix1, ix2, ix3, ix4, ix5] <;> omega

theorem i0 (b : Fin 4) (s : Fin 2048) (d : Fin 4096) : idx_main_v0 (ix3 b s d) = ix2 (rr b s) d := by
  funext a
  apply Fin.ext
  fin_cases a <;> (try rfl) <;> dsimp [sq, rr, gcol, idx_main_v0, ix1, ix2, ix3, ix4, ix5] <;> omega

end Cert.Reference10Ideal.Scan
end
-- ==== Proof.BwdRefA.lean ====
module

public import proofs.«01_k».proof.Proof.BwdIdx
public import proofs.«01_k».proof.Proof.ScanCum
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference's stages: the time steps and the sums of the decay exponents. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

theorem v11_flip (b : Fin 4) (s : Fin 2048) (h : Fin 32) (e : Fin 64) :
    val_main_v11 (F := Ideal) x0 (ix4 b s h e) = val_main_v6 (F := Ideal) x0 (ix4 b s.rev h e) := by
  unfold val_main_v11
  rw [Host.reverse_apply]
  exact congrArg _ (by idx_ext)

theorem v13_flip (b : Fin 4) (s : Fin 2048) (g : Fin 8) (n : Fin 128) :
    val_main_v13 (F := Ideal) x0 (ix4 b s g n) = val_main_v8 (F := Ideal) x0 (ix4 b s.rev g n) := by
  unfold val_main_v13
  rw [Host.reverse_apply]
  exact congrArg _ (by idx_ext)

theorem v14_flip (b : Fin 4) (s : Fin 2048) (g : Fin 8) (n : Fin 128) :
    val_main_v14 (F := Ideal) x0 (ix4 b s g n) = val_main_v10 (F := Ideal) x0 (ix4 b s.rev g n) := by
  unfold val_main_v14
  rw [Host.reverse_apply]
  exact congrArg _ (by idx_ext)

theorem v12_flip (b : Fin 4) (s : Fin 2048) (h : Fin 32) :
    val_main_v12 (F := Ideal) x2 (ix3 b s h) = val_main_v4 (F := Ideal) x2 (ix3 b s.rev h) := by
  unfold val_main_v12
  rw [Host.reverse_apply]
  exact congrArg _ (by idx_ext)

/-- The time steps. -/
theorem v18_eq (b : Fin 4) (s : Fin 2048) (h : Fin 32) :
    val_main_v18 (F := Ideal) x2 x7 (ix3 b s h) = dts x2 x7 (rr b s.rev) h := by
  have e1 : val_main_v12 (F := Ideal) x2 (ix3 b s h) = x2 (ix2 (rr b s.rev) ⟨96 + h.val, by omega⟩) := by
    rw [v12_flip, val_main_v4_apply, i4, val_main_v3_apply]
    exact congrArg x2 (by idx_ext)
  have e : val_main_v17 (F := Ideal) x2 x7 (ix3 b s h) = x2 (ix2 (rr b s.rev) ⟨96 + h.val, by omega⟩) + x7 (ix1 h) := by
    rw [← e1]
    pointwise [val_main_v17, val_main_v16, val_main_v15]
  unfold dts softp
  rw [← e]
  pointwise [val_main_v18, val_main_call4_v11, val_main_call4_v10, val_main_call4_v9, val_main_call4_v8, val_main_call4_v7, val_main_call4_v6,
    val_main_call4_v5, val_main_call4_v4, val_main_call4_v3, val_main_call4_v2, val_main_call4_v1, val_main_call4_v0, val_main_call4_cst]
  rw [if_neg (fun hn => hn rfl), zero_sub]

/-- The decay exponents. -/
theorem v26_eq (b : Fin 4) (c : Fin 16) (h : Fin 32) (l : Fin 128) :
    val_main_v26 (F := Ideal) x2 x5 x7 (ix4 b c h l) = adt x2 x5 x7 (row (16 * b.val + (15 - c.val)) l.rev) h := by
  have e : val_main_v22 (F := Ideal) x5 (ix3 b (sq c l) h) = 0 - Ideal.exp (x5 (ix1 h)) := by
    pointwise [val_main_v22, val_main_v21, val_main_v20, val_main_v19]
    exact (zero_sub _).symm
  unfold adt
  rw [← rr_sq, ← v18_eq, ← e, val_main_v26_apply, i26, val_main_v25_apply, val_main_v24_apply]
  exact congrArg (val_main_v23 (F := Ideal) x2 x5 x7) ((congrArg idx_main_v24 (by idx_ext)).trans (i24 b c l h))

/-- Their running sums. -/
theorem v27_eq (b : Fin 4) (c : Fin 16) (h : Fin 32) (l : Fin 128) :
    val_main_v27 (F := Ideal) x2 x5 x7 (ix4 b c h l) = cum x2 x5 x7 (16 * b.val + (15 - c.val)) l.rev h := by
  have h0 : ∀ i, val_main_call5_call0_v0 (F := Ideal) i = (0 : EReal) := fun i => by
    pointwise [val_main_call5_call0_v0, val_main_call5_call0_cst]
  unfold cum
  refine (Cert.Reference9Ideal.Scan.cumsum4 (val_main_v26 (F := Ideal) x2 x5 x7) (fun _ => val_main_call5_call0_v0 (F := Ideal) (Shape.Idx.first h_S_)) (fun _ => h0 _) reduceWindows_S4x16x32x128_S4x16x32x128_w1s1p0_0_w1s1p0_0_w1s1p0_0_w128s1p127_0 h_S_ b c h l).trans ?_
  refine Eq.trans (Finset.sum_congr (M := EReal) rfl fun k _ => ?_)
    (sum_rev fun k => if l.rev.val ≤ k.val then adt x2 x5 x7 (row (16 * b.val + (15 - c.val)) k) h else 0)
  rw [v26_eq]
  exact if_congr (rev_le k l) rfl rfl

end Cert.Reference10Ideal.Scan
end
-- ==== Proof.BwdRefB.lean ====
module

public import proofs.«01_k».proof.Proof.BwdRefA
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference's stages: the scaled inputs and the projections of the state. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

/-- The inputs. -/
theorem v6_eq (b : Fin 4) (s : Fin 2048) (h : Fin 32) (e : Fin 64) :
    val_main_v6 (F := Ideal) x0 (ix4 b s h e) = x0 (ix2 (rr b s) ⟨64 * h.val + e.val, by omega⟩) := by
  rw [val_main_v6_apply, i6, val_main_v5_apply, val_main_v0_apply]
  refine congrArg x0 (Eq.trans (congrArg idx_main_v0 (show _ = ix3 b s ⟨64 * h.val + e.val, by omega⟩ from ?_)) (i0 _ _ _))
  funext a
  apply Fin.ext
  fin_cases a <;> (try rfl) <;> dsimp [idx_main_v5, ix3] <;> omega

/-- The scaled inputs. -/
theorem v32_eq (b : Fin 4) (c : Fin 16) (h : Fin 32) (l : Fin 128) (e : Fin 64) :
    val_main_v32 (F := Ideal) x0 x2 x7 (ix5 b c h l e) = xdt x0 x2 x7 (row (16 * b.val + (15 - c.val)) l.rev) h e := by
  have e1 : val_main_v29 (F := Ideal) x2 x7 (ix4 b (sq c l) h e) = val_main_v18 (F := Ideal) x2 x7 (ix3 b (sq c l) h) := by
    pointwise [val_main_v29, val_main_v28]
  have e4 : val_main_v32 (F := Ideal) x0 x2 x7 (ix5 b c h l e) = val_main_v30 (F := Ideal) x0 x2 x7 (ix4 b (sq c l) h e) := by
    rw [val_main_v32_apply, val_main_v31_apply]
    exact congrArg _ ((congrArg idx_main_v31 (by idx_ext)).trans (i31 b c l h e))
  unfold xdt
  rw [← rr_sq, ← v18_eq, ← e1, ← v6_eq x0 b (sq c l).rev h e, ← v11_flip, e4, val_main_v30_apply]
  rfl

/-- A head's input projection. -/
theorem v36_eq (b : Fin 4) (c : Fin 16) (h : Fin 32) (l n : Fin 128) :
    val_main_v36 (F := Ideal) x0 (ix5 b c h l n) = bg x0 (row (16 * b.val + (15 - c.val)) l.rev) h n := by
  have e1 : val_main_v8 (F := Ideal) x0 (ix4 b (sq c l).rev ⟨h.val / 4, by omega⟩ n)
      = x0 (ix2 (rr b (sq c l).rev) ⟨2048 + 128 * (h.val / 4) + n.val, by omega⟩) := by
    rw [val_main_v8_apply, i8, val_main_v7_apply, val_main_v0_apply]
    refine congrArg x0 (Eq.trans (congrArg idx_main_v0 (show _ = ix3 b (sq c l).rev
      ⟨2048 + 128 * (h.val / 4) + n.val, by omega⟩ from ?_)) (i0 _ _ _))
    funext a
    apply Fin.ext
    fin_cases a <;> (try rfl) <;> dsimp [idx_main_v7, ix3] <;> omega
  have e3 : val_main_v33 (F := Ideal) x0 (ix5 b (sq c l) ⟨h.val / 4, by omega⟩ ⟨h.val % 4, by omega⟩ n)
      = val_main_v13 (F := Ideal) x0 (ix4 b (sq c l) ⟨h.val / 4, by omega⟩ n) := by
    pointwise [val_main_v33]
  unfold bg
  rw [← rr_sq, ← e1, ← v13_flip, ← e3, ← i34, ← val_main_v34_apply, ← i35, ← val_main_v35_apply, val_main_v36_apply]
  exact congrArg _ (by idx_ext)

/-- A head's output projection. -/
theorem v40_eq (b : Fin 4) (c : Fin 16) (h : Fin 32) (l n : Fin 128) :
    val_main_v40 (F := Ideal) x0 (ix5 b c h l n) = cg x0 (row (16 * b.val + (15 - c.val)) l.rev) h n := by
  have e1 : val_main_v10 (F := Ideal) x0 (ix4 b (sq c l).rev ⟨h.val / 4, by omega⟩ n)
      = x0 (ix2 (rr b (sq c l).rev) ⟨3072 + 128 * (h.val / 4) + n.val, by omega⟩) := by
    rw [val_main_v10_apply, i10, val_main_v9_apply, val_main_v0_apply]
    refine congrArg x0 (Eq.trans (congrArg idx_main_v0 (show _ = ix3 b (sq c l).rev
      ⟨3072 + 128 * (h.val / 4) + n.val, by omega⟩ from ?_)) (i0 _ _ _))
    funext a
    apply Fin.ext
    fin_cases a <;> (try rfl) <;> dsimp [idx_main_v9, ix3] <;> omega
  have e3 : val_main_v37 (F := Ideal) x0 (ix5 b (sq c l) ⟨h.val / 4, by omega⟩ ⟨h.val % 4, by omega⟩ n)
      = val_main_v14 (F := Ideal) x0 (ix4 b (sq c l) ⟨h.val / 4, by omega⟩ n) := by
    pointwise [val_main_v37]
  unfold cg
  rw [← rr_sq, ← e1, ← v14_flip, ← e3, ← i38, ← val_main_v38_apply, ← i39, ← val_main_v39_apply, val_main_v40_apply]
  exact congrArg _ (by idx_ext)

end Cert.Reference10Ideal.Scan
end
-- ==== Proof.BwdRefC.lean ====
module

public import proofs.«01_k».proof.Proof.BwdRefB
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference's stages: the parts of the scan within a chunk. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

/-- The decays between the positions of a chunk. -/
theorem v49_eq (b : Fin 4) (c : Fin 16) (h : Fin 32) (l k : Fin 128) :
    val_main_v49 (F := Ideal) x2 x5 x7 (ix5 b c h l k)
      = Ideal.exp (if k.val ≤ l.val then cum x2 x5 x7 (16 * b.val + (15 - c.val)) l.rev h - cum x2 x5 x7 (16 * b.val + (15 - c.val)) k.rev h else NINF) := by
  rw [← v27_eq, ← v27_eq]
  pointwise [val_main_v49, val_main_v48, val_main_call7_v2, val_main_call7_v1, val_main_call7_v0, val_main_cst, val_main_v47, val_main_call6_v5,
    val_main_call6_c_0, val_main_call6_v4, val_main_call6_v3, val_main_call6_v2, val_main_call6_v1, val_main_call6_c, val_main_call6_v0, val_main_v46,
    val_main_c, val_main_v45, val_main_v44, val_main_v43, val_main_v42, val_main_v41]
  refine congrArg Ideal.exp ?_
  rw [show IntOp.addi (BitVec.ofNat 32 l.val) 0#32 = BitVec.ofNat 32 l.val from BitVec.add_zero _]
  by_cases hk : k.val ≤ l.val
  · rw [if_pos hk, (WordCmp.cmpi_sge_ofNat_eq_one_iff (by have := l.isLt; omega) (by have := k.isLt; omega)).mpr hk]
    rfl
  · rw [if_neg hk, (WordCmp.cmpi_sge_ofNat_eq_zero_iff (by have := l.isLt; omega) (by have := k.isLt; omega)).mpr hk]
    rfl

theorem v50_eq (b : Fin 4) (c : Fin 16) (h : Fin 32) (l k : Fin 128) :
    val_main_v50 (F := Ideal) x0 (ix5 b c h l k)
      = ∑ n : Fin 128, cg x0 (row (16 * b.val + (15 - c.val)) l.rev) h n * bg x0 (row (16 * b.val + (15 - c.val)) k.rev) h n := by
  rw [val_main_v50_apply]
  exact Finset.sum_congr (M := EReal) rfl fun n _ => congrArg₂ (fun a b : EReal => a * b)
    ((congrArg (val_main_v40 (F := Ideal) x0) (by idx_ext)).trans (v40_eq x0 b c h l n))
    ((congrArg (val_main_v36 (F := Ideal) x0) (by idx_ext)).trans (v36_eq x0 b c h k n))

/-- The part of the output that comes from the same chunk. -/
theorem v52_eq (b : Fin 4) (c : Fin 16) (h : Fin 32) (l : Fin 128) (e : Fin 64) :
    val_main_v52 (F := Ideal) x0 x2 x5 x7 (ix5 b c h l e)
      = ∑ k : Fin 128, (Ideal.exp (if l.rev.val ≤ k.val then cum x2 x5 x7 (16 * b.val + (15 - c.val)) l.rev h - cum x2 x5 x7 (16 * b.val + (15 - c.val)) k h else NINF)
          * ∑ n : Fin 128, cg x0 (row (16 * b.val + (15 - c.val)) l.rev) h n * bg x0 (row (16 * b.val + (15 - c.val)) k) h n) * xdt x0 x2 x7 (row (16 * b.val + (15 - c.val)) k) h e := by
  have e1 : ∀ k : Fin 128, val_main_v51 (F := Ideal) x0 x2 x5 x7 (ix5 b c h l k)
      = Ideal.exp (if l.rev.val ≤ k.rev.val then cum x2 x5 x7 (16 * b.val + (15 - c.val)) l.rev h - cum x2 x5 x7 (16 * b.val + (15 - c.val)) k.rev h else NINF)
          * ∑ n : Fin 128, cg x0 (row (16 * b.val + (15 - c.val)) l.rev) h n * bg x0 (row (16 * b.val + (15 - c.val)) k.rev) h n := fun k => by
    rw [val_main_v51_apply, v50_eq, v49_eq, if_congr (rev_le k l) rfl rfl]
    exact mul_comm (G := EReal) _ _
  rw [val_main_v52_apply]
  refine Eq.trans ?_ (sum_rev fun k => (Ideal.exp (if l.rev.val ≤ k.val then cum x2 x5 x7 (16 * b.val + (15 - c.val)) l.rev h - cum x2 x5 x7 (16 * b.val + (15 - c.val)) k h else NINF)
          * ∑ n : Fin 128, cg x0 (row (16 * b.val + (15 - c.val)) l.rev) h n * bg x0 (row (16 * b.val + (15 - c.val)) k) h n) * xdt x0 x2 x7 (row (16 * b.val + (15 - c.val)) k) h e)
  exact Finset.sum_congr (M := EReal) rfl fun k _ => congrArg₂ (fun a b : EReal => a * b)
    ((congrArg (val_main_v51 (F := Ideal) x0 x2 x5 x7) (by idx_ext)).trans (e1 k))
    ((congrArg (val_main_v32 (F := Ideal) x0 x2 x7) (by idx_ext)).trans (v32_eq x0 x2 x7 b c h k e))

/-- What a chunk adds to the state. -/
theorem v60_eq (b : Fin 4) (c : Fin 16) (h : Fin 32) (n : Fin 128) (e : Fin 64) :
    val_main_v60 (F := Ideal) x0 x2 x5 x7 (ix5 b c h n e) = inc x0 x2 x5 x7 (16 * b.val + (15 - c.val)) h n e := by
  have e1 : ∀ s : Fin 128, val_main_v58 (F := Ideal) x2 x5 x7 (ix5 b c h s e)
      = Ideal.exp (cum x2 x5 x7 (16 * b.val + (15 - c.val)) 0 h - cum x2 x5 x7 (16 * b.val + (15 - c.val)) s.rev h) := fun s => by
    rw [val_main_v58_apply, val_main_v57_apply, val_main_v56_apply, val_main_v55_apply, val_main_v54_apply, val_main_v53_apply]
    exact congrArg Ideal.exp (congrArg₂ (fun a b : EReal => a - b)
      ((congrArg (val_main_v27 (F := Ideal) x2 x5 x7) (by idx_ext)).trans (v27_eq x2 x5 x7 b c h 127))
      ((congrArg (val_main_v27 (F := Ideal) x2 x5 x7) (by idx_ext)).trans (v27_eq x2 x5 x7 b c h s)))
  have e2 : ∀ s : Fin 128, val_main_v59 (F := Ideal) x0 x2 x5 x7 (ix5 b c h s e)
      = xdt x0 x2 x7 (row (16 * b.val + (15 - c.val)) s.rev) h e * Ideal.exp (cum x2 x5 x7 (16 * b.val + (15 - c.val)) 0 h - cum x2 x5 x7 (16 * b.val + (15 - c.val)) s.rev h) := fun s => by
    rw [val_main_v59_apply, e1, v32_eq]
    rfl
  unfold inc
  rw [val_main_v60_apply]
  refine Eq.trans ?_ (sum_rev fun s => bg x0 (row (16 * b.val + (15 - c.val)) s) h n
    * (xdt x0 x2 x7 (row (16 * b.val + (15 - c.val)) s) h e * Ideal.exp (cum x2 x5 x7 (16 * b.val + (15 - c.val)) 0 h - cum x2 x5 x7 (16 * b.val + (15 - c.val)) s h)))
  exact Finset.sum_congr (M := EReal) rfl fun s _ => congrArg₂ (fun a b : EReal => a * b)
    ((congrArg (val_main_v36 (F := Ideal) x0) (by idx_ext)).trans (v36_eq x0 b c h s n))
    ((congrArg (val_main_v59 (F := Ideal) x0 x2 x5 x7) (by idx_ext)).trans (e2 s))

/-- How much a chunk lets the state decay. -/
theorem v63_eq (b : Fin 4) (c : Fin 16) (h : Fin 32) :
    val_main_v63 (F := Ideal) x2 x5 x7 (ix3 b c h) = Ideal.exp (cum x2 x5 x7 (16 * b.val + (15 - c.val)) 0 h) := by
  have i62 : idx_main_v62 (ix3 b c h) = ix4 b c h 0 := by
    funext a
    apply Fin.ext
    fin_cases a <;> (try rfl) <;> dsimp [idx_main_v62, ix3, ix4] <;> omega
  rw [val_main_v63_apply, val_main_v62_apply, i62, val_main_v61_apply]
  exact congrArg Ideal.exp ((congrArg (val_main_v27 (F := Ideal) x2 x5 x7) (by idx_ext)).trans (v27_eq x2 x5 x7 b c h 127))

end Cert.Reference10Ideal.Scan
end
-- ==== Proof.BwdRefD.lean ====
module

public import proofs.«01_k».proof.Proof.BwdRefC
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference's stages: the states carried from chunk to chunk. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

theorem i66 (b : Fin 4) (h : Fin 32) : idx_main_v66 (ix2 b h) = ix3 b 0 h := by
  funext a
  apply Fin.ext
  fin_cases a <;> (try rfl) <;> dsimp [idx_main_v66, ix2, ix3] <;> omega

theorem i71 (b : Fin 4) (h : Fin 32) (n : Fin 128) (e : Fin 64) : idx_main_v71 (ix4 b h n e) = ix5 b 0 h n e := by
  funext a
  apply Fin.ext
  fin_cases a <;> (try rfl) <;> dsimp [idx_main_v71, ix4, ix5] <;> omega

/-- The state before the last chunk. -/
theorem st0 (b : Fin 4) (h : Fin 32) (n : Fin 128) (e : Fin 64) :
    val_main_v64 (F := Ideal) (ix4 b h n e) = state x0 x2 x5 x7 b.val h n e 0 := by
  refine Eq.trans (b := (0 : EReal)) ?_ rfl
  rw [val_main_v64_apply]
  pointwise [val_main_cst_0]

theorem st1 (b : Fin 4) (h : Fin 32) (n : Fin 128) (e : Fin 64) :
    val_main_v72 (F := Ideal) x0 x2 x5 x7 (ix4 b h n e) = state x0 x2 x5 x7 b.val h n e 1 := by
  have e1 : val_main_v68 (F := Ideal) x2 x5 x7 (ix4 b h n e) = Ideal.exp (cum x2 x5 x7 (16 * b.val + (15 - 0)) 0 h) := by
    rw [val_main_v68_apply, val_main_v67_apply, val_main_v66_apply, val_main_v65_apply]
    exact (congrArg (val_main_v63 (F := Ideal) x2 x5 x7) ((congrArg idx_main_v65
      ((congrArg idx_main_v66 (by idx_ext)).trans (i66 b h))).trans (by idx_ext))).trans (v63_eq x2 x5 x7 b 0 h)
  have e2 : val_main_v71 (F := Ideal) x0 x2 x5 x7 (ix4 b h n e) = inc x0 x2 x5 x7 (16 * b.val + (15 - 0)) h n e := by
    rw [val_main_v71_apply, val_main_v70_apply]
    exact (congrArg (val_main_v60 (F := Ideal) x0 x2 x5 x7) ((congrArg idx_main_v70 (i71 b h n e)).trans (by idx_ext))).trans
      (v60_eq x0 x2 x5 x7 b 0 h n e)
  rw [val_main_v72_apply, val_main_v69_apply, st0 x0 x2 x5 x7, e1, e2]
  rfl

theorem st2 (b : Fin 4) (h : Fin 32) (n : Fin 128) (e : Fin 64) :
    val_main_v80 (F := Ideal) x0 x2 x5 x7 (ix4 b h n e) = state x0 x2 x5 x7 b.val h n e 2 := by
  have e1 : val_main_v76 (F := Ideal) x2 x5 x7 (ix4 b h n e) = Ideal.exp (cum x2 x5 x7 (16 * b.val + (15 - 1)) 0 h) := by
    rw [val_main_v76_apply, val_main_v75_apply, val_main_v74_apply, val_main_v73_apply]
    exact (congrArg (val_main_v63 (F := Ideal) x2 x5 x7) ((congrArg idx_main_v73
      ((congrArg idx_main_v74 (by idx_ext)).trans (i66 b h))).trans (by idx_ext))).trans (v63_eq x2 x5 x7 b 1 h)
  have e2 : val_main_v79 (F := Ideal) x0 x2 x5 x7 (ix4 b h n e) = inc x0 x2 x5 x7 (16 * b.val + (15 - 1)) h n e := by
    rw [val_main_v79_apply, val_main_v78_apply]
    exact (congrArg (val_main_v60 (F := Ideal) x0 x2 x5 x7) ((congrArg idx_main_v78 (i71 b h n e)).trans (by idx_ext))).trans
      (v60_eq x0 x2 x5 x7 b 1 h n e)
  rw [val_main_v80_apply, val_main_v77_apply, st1, e1, e2]
  rfl

theorem st3 (b : Fin 4) (h : Fin 32) (n : Fin 128) (e : Fin 64) :
    val_main_v88 (F := Ideal) x0 x2 x5 x7 (ix4 b h n e) = state x0 x2 x5 x7 b.val h n e 3 := by
  have e1 : val_main_v84 (F := Ideal) x2 x5 x7 (ix4 b h n e) = Ideal.exp (cum x2 x5 x7 (16 * b.val + (15 - 2)) 0 h) := by
    rw [val_main_v84_apply, val_main_v83_apply, val_main_v82_apply, val_main_v81_apply]
    exact (congrArg (val_main_v63 (F := Ideal) x2 x5 x7) ((congrArg idx_main_v81
      ((congrArg idx_main_v82 (by idx_ext)).trans (i66 b h))).trans (by idx_ext))).trans (v63_eq x2 x5 x7 b 2 h)
  have e2 : val_main_v87 (F := Ideal) x0 x2 x5 x7 (ix4 b h n e) = inc x0 x2 x5 x7 (16 * b.val + (15 - 2)) h n e := by
    rw [val_main_v87_apply, val_main_v86_apply]
    exact (congrArg (val_main_v60 (F := Ideal) x0 x2 x5 x7) ((congrArg idx_main_v86 (i71 b h n e)).trans (by idx_ext))).trans
      (v60_eq x0 x2 x5 x7 b 2 h n e)
  rw [val_main_v88_apply, val_main_v85_apply, st2, e1, e2]
  rfl

theorem st4 (b : Fin 4) (h : Fin 32) (n : Fin 128) (e : Fin 64) :
    val_main_v96 (F := Ideal) x0 x2 x5 x7 (ix4 b h n e) = state x0 x2 x5 x7 b.val h n e 4 := by
  have e1 : val_main_v92 (F := Ideal) x2 x5 x7 (ix4 b h n e) = Ideal.exp (cum x2 x5 x7 (16 * b.val + (15 - 3)) 0 h) := by
    rw [val_main_v92_apply, val_main_v91_apply, val_main_v90_apply, val_main_v89_apply]
    exact (congrArg (val_main_v63 (F := Ideal) x2 x5 x7) ((congrArg idx_main_v89
      ((congrArg idx_main_v90 (by idx_ext)).trans (i66 b h))).trans (by idx_ext))).trans (v63_eq x2 x5 x7 b 3 h)
  have e2 : val_main_v95 (F := Ideal) x0 x2 x5 x7 (ix4 b h n e) = inc x0 x2 x5 x7 (16 * b.val + (15 - 3)) h n e := by
    rw [val_main_v95_apply, val_main_v94_apply]
    exact (congrArg (val_main_v60 (F := Ideal) x0 x2 x5 x7) ((congrArg idx_main_v94 (i71 b h n e)).trans (by idx_ext))).trans
      (v60_eq x0 x2 x5 x7 b 3 h n e)
  rw [val_main_v96_apply, val_main_v93_apply, st3, e1, e2]
  rfl

theorem st5 (b : Fin 4) (h : Fin 32) (n : Fin 128) (e : Fin 64) :
    val_main_v104 (F := Ideal) x0 x2 x5 x7 (ix4 b h n e) = state x0 x2 x5 x7 b.val h n e 5 := by
  have e1 : val_main_v100 (F := Ideal) x2 x5 x7 (ix4 b h n e) = Ideal.exp (cum x2 x5 x7 (16 * b.val + (15 - 4)) 0 h) := by
    rw [val_main_v100_apply, val_main_v99_apply, val_main_v98_apply, val_main_v97_apply]
    exact (congrArg (val_main_v63 (F := Ideal) x2 x5 x7) ((congrArg idx_main_v97
      ((congrArg idx_main_v98 (by idx_ext)).trans (i66 b h))).trans (by idx_ext))).trans (v63_eq x2 x5 x7 b 4 h)
  have e2 : val_main_v103 (F := Ideal) x0 x2 x5 x7 (ix4 b h n e) = inc x0 x2 x5 x7 (16 * b.val + (15 - 4)) h n e := by
    rw [val_main_v103_apply, val_main_v102_apply]
    exact (congrArg (val_main_v60 (F := Ideal) x0 x2 x5 x7) ((congrArg idx_main_v102 (i71 b h n e)).trans (by idx_ext))).trans
      (v60_eq x0 x2 x5 x7 b 4 h n e)
  rw [val_main_v104_apply, val_main_v101_apply, st4, e1, e2]
  rfl

theorem st6 (b : Fin 4) (h : Fin 32) (n : Fin 128) (e : Fin 64) :
    val_main_v112 (F := Ideal) x0 x2 x5 x7 (ix4 b h n e) = state x0 x2 x5 x7 b.val h n e 6 := by
  have e1 : val_main_v108 (F := Ideal) x2 x5 x7 (ix4 b h n e) = Ideal.exp (cum x2 x5 x7 (16 * b.val + (15 - 5)) 0 h) := by
    rw [val_main_v108_apply, val_main_v107_apply, val_main_v106_apply, val_main_v105_apply]
    exact (congrArg (val_main_v63 (F := Ideal) x2 x5 x7) ((congrArg idx_main_v105
      ((congrArg idx_main_v106 (by idx_ext)).trans (i66 b h))).trans (by idx_ext))).trans (v63_eq x2 x5 x7 b 5 h)
  have e2 : val_main_v111 (F := Ideal) x0 x2 x5 x7 (ix4 b h n e) = inc x0 x2 x5 x7 (16 * b.val + (15 - 5)) h n e := by
    rw [val_main_v111_apply, val_main_v110_apply]
    exact (congrArg (val_main_v60 (F := Ideal) x0 x2 x5 x7) ((congrArg idx_main_v110 (i71 b h n e)).trans (by idx_ext))).trans
      (v60_eq x0 x2 x5 x7 b 5 h n e)
  rw [val_main_v112_apply, val_main_v109_apply, st5, e1, e2]
  rfl

theorem st7 (b : Fin 4) (h : Fin 32) (n : Fin 128) (e : Fin 64) :
    val_main_v120 (F := Ideal) x0 x2 x5 x7 (ix4 b h n e) = state x0 x2 x5 x7 b.val h n e 7 := by
  have e1 : val_main_v116 (F := Ideal) x2 x5 x7 (ix4 b h n e) = Ideal.exp (cum x2 x5 x7 (16 * b.val + (15 - 6)) 0 h) := by
    rw [val_main_v116_apply, val_main_v115_apply, val_main_v114_apply, val_main_v113_apply]
    exact (congrArg (val_main_v63 (F := Ideal) x2 x5 x7) ((congrArg idx_main_v113
      ((congrArg idx_main_v114 (by idx_ext)).trans (i66 b h))).trans (by idx_ext))).trans (v63_eq x2 x5 x7 b 6 h)
  have e2 : val_main_v119 (F := Ideal) x0 x2 x5 x7 (ix4 b h n e) = inc x0 x2 x5 x7 (16 * b.val + (15 - 6)) h n e := by
    rw [val_main_v119_apply, val_main_v118_apply]
    exact (congrArg (val_main_v60 (F := Ideal) x0 x2 x5 x7) ((congrArg idx_main_v118 (i71 b h n e)).trans (by idx_ext))).trans
      (v60_eq x0 x2 x5 x7 b 6 h n e)
  rw [val_main_v120_apply, val_main_v117_apply, st6, e1, e2]
  rfl

theorem st8 (b : Fin 4) (h : Fin 32) (n : Fin 128) (e : Fin 64) :
    val_main_v128 (F := Ideal) x0 x2 x5 x7 (ix4 b h n e) = state x0 x2 x5 x7 b.val h n e 8 := by
  have e1 : val_main_v124 (F := Ideal) x2 x5 x7 (ix4 b h n e) = Ideal.exp (cum x2 x5 x7 (16 * b.val + (15 - 7)) 0 h) := by
    rw [val_main_v124_apply, val_main_v123_apply, val_main_v122_apply, val_main_v121_apply]
    exact (congrArg (val_main_v63 (F := Ideal) x2 x5 x7) ((congrArg idx_main_v121
      ((congrArg idx_main_v122 (by idx_ext)).trans (i66 b h))).trans (by idx_ext))).trans (v63_eq x2 x5 x7 b 7 h)
  have e2 : val_main_v127 (F := Ideal) x0 x2 x5 x7 (ix4 b h n e) = inc x0 x2 x5 x7 (16 * b.val + (15 - 7)) h n e := by
    rw [val_main_v127_apply, val_main_v126_apply]
    exact (congrArg (val_main_v60 (F := Ideal) x0 x2 x5 x7) ((congrArg idx_main_v126 (i71 b h n e)).trans (by idx_ext))).trans
      (v60_eq x0 x2 x5 x7 b 7 h n e)
  rw [val_main_v128_apply, val_main_v125_apply, st7, e1, e2]
  rfl

theorem st9 (b : Fin 4) (h : Fin 32) (n : Fin 128) (e : Fin 64) :
    val_main_v136 (F := Ideal) x0 x2 x5 x7 (ix4 b h n e) = state x0 x2 x5 x7 b.val h n e 9 := by
  have e1 : val_main_v132 (F := Ideal) x2 x5 x7 (ix4 b h n e) = Ideal.exp (cum x2 x5 x7 (16 * b.val + (15 - 8)) 0 h) := by
    rw [val_main_v132_apply, val_main_v131_apply, val_main_v130_apply, val_main_v129_apply]
    exact (congrArg (val_main_v63 (F := Ideal) x2 x5 x7) ((congrArg idx_main_v129
      ((congrArg idx_main_v130 (by idx_ext)).trans (i66 b h))).trans (by idx_ext))).trans (v63_eq x2 x5 x7 b 8 h)
  have e2 : val_main_v135 (F := Ideal) x0 x2 x5 x7 (ix4 b h n e) = inc x0 x2 x5 x7 (16 * b.val + (15 - 8)) h n e := by
    rw [val_main_v135_apply, val_main_v134_apply]
    exact (congrArg (val_main_v60 (F := Ideal) x0 x2 x5 x7) ((congrArg idx_main_v134 (i71 b h n e)).trans (by idx_ext))).trans
      (v60_eq x0 x2 x5 x7 b 8 h n e)
  rw [val_main_v136_apply, val_main_v133_apply, st8, e1, e2]
  rfl

theorem st10 (b : Fin 4) (h : Fin 32) (n : Fin 128) (e : Fin 64) :
    val_main_v144 (F := Ideal) x0 x2 x5 x7 (ix4 b h n e) = state x0 x2 x5 x7 b.val h n e 10 := by
  have e1 : val_main_v140 (F := Ideal) x2 x5 x7 (ix4 b h n e) = Ideal.exp (cum x2 x5 x7 (16 * b.val + (15 - 9)) 0 h) := by
    rw [val_main_v140_apply, val_main_v139_apply, val_main_v138_apply, val_main_v137_apply]
    exact (congrArg (val_main_v63 (F := Ideal) x2 x5 x7) ((congrArg idx_main_v137
      ((congrArg idx_main_v138 (by idx_ext)).trans (i66 b h))).trans (by idx_ext))).trans (v63_eq x2 x5 x7 b 9 h)
  have e2 : val_main_v143 (F := Ideal) x0 x2 x5 x7 (ix4 b h n e) = inc x0 x2 x5 x7 (16 * b.val + (15 - 9)) h n e := by
    rw [val_main_v143_apply, val_main_v142_apply]
    exact (congrArg (val_main_v60 (F := Ideal) x0 x2 x5 x7) ((congrArg idx_main_v142 (i71 b h n e)).trans (by idx_ext))).trans
      (v60_eq x0 x2 x5 x7 b 9 h n e)
  rw [val_main_v144_apply, val_main_v141_apply, st9, e1, e2]
  rfl

theorem st11 (b : Fin 4) (h : Fin 32) (n : Fin 128) (e : Fin 64) :
    val_main_v152 (F := Ideal) x0 x2 x5 x7 (ix4 b h n e) = state x0 x2 x5 x7 b.val h n e 11 := by
  have e1 : val_main_v148 (F := Ideal) x2 x5 x7 (ix4 b h n e) = Ideal.exp (cum x2 x5 x7 (16 * b.val + (15 - 10)) 0 h) := by
    rw [val_main_v148_apply, val_main_v147_apply, val_main_v146_apply, val_main_v145_apply]
    exact (congrArg (val_main_v63 (F := Ideal) x2 x5 x7) ((congrArg idx_main_v145
      ((congrArg idx_main_v146 (by idx_ext)).trans (i66 b h))).trans (by idx_ext))).trans (v63_eq x2 x5 x7 b 10 h)
  have e2 : val_main_v151 (F := Ideal) x0 x2 x5 x7 (ix4 b h n e) = inc x0 x2 x5 x7 (16 * b.val + (15 - 10)) h n e := by
    rw [val_main_v151_apply, val_main_v150_apply]
    exact (congrArg (val_main_v60 (F := Ideal) x0 x2 x5 x7) ((congrArg idx_main_v150 (i71 b h n e)).trans (by idx_ext))).trans
      (v60_eq x0 x2 x5 x7 b 10 h n e)
  rw [val_main_v152_apply, val_main_v149_apply, st10, e1, e2]
  rfl

theorem st12 (b : Fin 4) (h : Fin 32) (n : Fin 128) (e : Fin 64) :
    val_main_v160 (F := Ideal) x0 x2 x5 x7 (ix4 b h n e) = state x0 x2 x5 x7 b.val h n e 12 := by
  have e1 : val_main_v156 (F := Ideal) x2 x5 x7 (ix4 b h n e) = Ideal.exp (cum x2 x5 x7 (16 * b.val + (15 - 11)) 0 h) := by
    rw [val_main_v156_apply, val_main_v155_apply, val_main_v154_apply, val_main_v153_apply]
    exact (congrArg (val_main_v63 (F := Ideal) x2 x5 x7) ((congrArg idx_main_v153
      ((congrArg idx_main_v154 (by idx_ext)).trans (i66 b h))).trans (by idx_ext))).trans (v63_eq x2 x5 x7 b 11 h)
  have e2 : val_main_v159 (F := Ideal) x0 x2 x5 x7 (ix4 b h n e) = inc x0 x2 x5 x7 (16 * b.val + (15 - 11)) h n e := by
    rw [val_main_v159_apply, val_main_v158_apply]
    exact (congrArg (val_main_v60 (F := Ideal) x0 x2 x5 x7) ((congrArg idx_main_v158 (i71 b h n e)).trans (by idx_ext))).trans
      (v60_eq x0 x2 x5 x7 b 11 h n e)
  rw [val_main_v160_apply, val_main_v157_apply, st11, e1, e2]
  rfl

theorem st13 (b : Fin 4) (h : Fin 32) (n : Fin 128) (e : Fin 64) :
    val_main_v168 (F := Ideal) x0 x2 x5 x7 (ix4 b h n e) = state x0 x2 x5 x7 b.val h n e 13 := by
  have e1 : val_main_v164 (F := Ideal) x2 x5 x7 (ix4 b h n e) = Ideal.exp (cum x2 x5 x7 (16 * b.val + (15 - 12)) 0 h) := by
    rw [val_main_v164_apply, val_main_v163_apply, val_main_v162_apply, val_main_v161_apply]
    exact (congrArg (val_main_v63 (F := Ideal) x2 x5 x7) ((congrArg idx_main_v161
      ((congrArg idx_main_v162 (by idx_ext)).trans (i66 b h))).trans (by idx_ext))).trans (v63_eq x2 x5 x7 b 12 h)
  have e2 : val_main_v167 (F := Ideal) x0 x2 x5 x7 (ix4 b h n e) = inc x0 x2 x5 x7 (16 * b.val + (15 - 12)) h n e := by
    rw [val_main_v167_apply, val_main_v166_apply]
    exact (congrArg (val_main_v60 (F := Ideal) x0 x2 x5 x7) ((congrArg idx_main_v166 (i71 b h n e)).trans (by idx_ext))).trans
      (v60_eq x0 x2 x5 x7 b 12 h n e)
  rw [val_main_v168_apply, val_main_v165_apply, st12, e1, e2]
  rfl

theorem st14 (b : Fin 4) (h : Fin 32) (n : Fin 128) (e : Fin 64) :
    val_main_v176 (F := Ideal) x0 x2 x5 x7 (ix4 b h n e) = state x0 x2 x5 x7 b.val h n e 14 := by
  have e1 : val_main_v172 (F := Ideal) x2 x5 x7 (ix4 b h n e) = Ideal.exp (cum x2 x5 x7 (16 * b.val + (15 - 13)) 0 h) := by
    rw [val_main_v172_apply, val_main_v171_apply, val_main_v170_apply, val_main_v169_apply]
    exact (congrArg (val_main_v63 (F := Ideal) x2 x5 x7) ((congrArg idx_main_v169
      ((congrArg idx_main_v170 (by idx_ext)).trans (i66 b h))).trans (by idx_ext))).trans (v63_eq x2 x5 x7 b 13 h)
  have e2 : val_main_v175 (F := Ideal) x0 x2 x5 x7 (ix4 b h n e) = inc x0 x2 x5 x7 (16 * b.val + (15 - 13)) h n e := by
    rw [val_main_v175_apply, val_main_v174_apply]
    exact (congrArg (val_main_v60 (F := Ideal) x0 x2 x5 x7) ((congrArg idx_main_v174 (i71 b h n e)).trans (by idx_ext))).trans
      (v60_eq x0 x2 x5 x7 b 13 h n e)
  rw [val_main_v176_apply, val_main_v173_apply, st13, e1, e2]
  rfl

theorem st15 (b : Fin 4) (h : Fin 32) (n : Fin 128) (e : Fin 64) :
    val_main_v184 (F := Ideal) x0 x2 x5 x7 (ix4 b h n e) = state x0 x2 x5 x7 b.val h n e 15 := by
  have e1 : val_main_v180 (F := Ideal) x2 x5 x7 (ix4 b h n e) = Ideal.exp (cum x2 x5 x7 (16 * b.val + (15 - 14)) 0 h) := by
    rw [val_main_v180_apply, val_main_v179_apply, val_main_v178_apply, val_main_v177_apply]
    exact (congrArg (val_main_v63 (F := Ideal) x2 x5 x7) ((congrArg idx_main_v177
      ((congrArg idx_main_v178 (by idx_ext)).trans (i66 b h))).trans (by idx_ext))).trans (v63_eq x2 x5 x7 b 14 h)
  have e2 : val_main_v183 (F := Ideal) x0 x2 x5 x7 (ix4 b h n e) = inc x0 x2 x5 x7 (16 * b.val + (15 - 14)) h n e := by
    rw [val_main_v183_apply, val_main_v182_apply]
    exact (congrArg (val_main_v60 (F := Ideal) x0 x2 x5 x7) ((congrArg idx_main_v182 (i71 b h n e)).trans (by idx_ext))).trans
      (v60_eq x0 x2 x5 x7 b 14 h n e)
  rw [val_main_v184_apply, val_main_v181_apply, st14, e1, e2]
  rfl

end Cert.Reference10Ideal.Scan
end
-- ==== Proof.BwdRefE.lean ====
module

public import proofs.«01_k».proof.Proof.BwdRefD
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference's stages: the outputs of the scan. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

/-- Sixteen parts of one chunk each, put after one another, at a chunk. -/
theorem cat16 (f : Fin 16 → S4x1x32x128x64.Idx → EReal) (hc) (b : Fin 4) (c : Fin 16) (h : Fin 32) (n : Fin 128) (e : Fin 64) :
    concatenate S4x16x32x128x64 1 [⟨S4x1x32x128x64, f 0⟩, ⟨S4x1x32x128x64, f 1⟩, ⟨S4x1x32x128x64, f 2⟩, ⟨S4x1x32x128x64, f 3⟩, ⟨S4x1x32x128x64, f 4⟩, ⟨S4x1x32x128x64, f 5⟩, ⟨S4x1x32x128x64, f 6⟩, ⟨S4x1x32x128x64, f 7⟩, ⟨S4x1x32x128x64, f 8⟩, ⟨S4x1x32x128x64, f 9⟩, ⟨S4x1x32x128x64, f 10⟩, ⟨S4x1x32x128x64, f 11⟩, ⟨S4x1x32x128x64, f 12⟩, ⟨S4x1x32x128x64, f 13⟩, ⟨S4x1x32x128x64, f 14⟩, ⟨S4x1x32x128x64, f 15⟩] hc (ix5 b c h n e)
      = f c (ix5 b 0 h n e) := by
  fin_cases c <;> pointwise

/-- The state before each chunk. -/
theorem v209_eq (b : Fin 4) (c : Fin 16) (h : Fin 32) (n : Fin 128) (e : Fin 64) :
    val_main_v209 (F := Ideal) x0 x2 x5 x7 (ix5 b c h n e) = state x0 x2 x5 x7 b.val h n e c.val := by
  refine (cat16 ![val_main_v193 (F := Ideal), val_main_v194 (F := Ideal) x0 x2 x5 x7, val_main_v195 (F := Ideal) x0 x2 x5 x7, val_main_v196 (F := Ideal) x0 x2 x5 x7, val_main_v197 (F := Ideal) x0 x2 x5 x7, val_main_v198 (F := Ideal) x0 x2 x5 x7, val_main_v199 (F := Ideal) x0 x2 x5 x7, val_main_v200 (F := Ideal) x0 x2 x5 x7, val_main_v201 (F := Ideal) x0 x2 x5 x7, val_main_v202 (F := Ideal) x0 x2 x5 x7, val_main_v203 (F := Ideal) x0 x2 x5 x7, val_main_v204 (F := Ideal) x0 x2 x5 x7, val_main_v205 (F := Ideal) x0 x2 x5 x7, val_main_v206 (F := Ideal) x0 x2 x5 x7, val_main_v207 (F := Ideal) x0 x2 x5 x7, val_main_v208 (F := Ideal) x0 x2 x5 x7]
    _ b c h n e).trans ?_
  fin_cases c
  · exact (val_main_v193_apply (ix5 b 0 h n e)).trans ((congrArg (val_main_v64 (F := Ideal)) (by idx_ext)).trans (st0 x0 x2 x5 x7 b h n e))
  · exact (val_main_v194_apply ..).trans ((congrArg (val_main_v72 (F := Ideal) x0 x2 x5 x7) (by idx_ext)).trans (st1 x0 x2 x5 x7 b h n e))
  · exact (val_main_v195_apply ..).trans ((congrArg (val_main_v80 (F := Ideal) x0 x2 x5 x7) (by idx_ext)).trans (st2 x0 x2 x5 x7 b h n e))
  · exact (val_main_v196_apply ..).trans ((congrArg (val_main_v88 (F := Ideal) x0 x2 x5 x7) (by idx_ext)).trans (st3 x0 x2 x5 x7 b h n e))
  · exact (val_main_v197_apply ..).trans ((congrArg (val_main_v96 (F := Ideal) x0 x2 x5 x7) (by idx_ext)).trans (st4 x0 x2 x5 x7 b h n e))
  · exact (val_main_v198_apply ..).trans ((congrArg (val_main_v104 (F := Ideal) x0 x2 x5 x7) (by idx_ext)).trans (st5 x0 x2 x5 x7 b h n e))
  · exact (val_main_v199_apply ..).trans ((congrArg (val_main_v112 (F := Ideal) x0 x2 x5 x7) (by idx_ext)).trans (st6 x0 x2 x5 x7 b h n e))
  · exact (val_main_v200_apply ..).trans ((congrArg (val_main_v120 (F := Ideal) x0 x2 x5 x7) (by idx_ext)).trans (st7 x0 x2 x5 x7 b h n e))
  · exact (val_main_v201_apply ..).trans ((congrArg (val_main_v128 (F := Ideal) x0 x2 x5 x7) (by idx_ext)).trans (st8 x0 x2 x5 x7 b h n e))
  · exact (val_main_v202_apply ..).trans ((congrArg (val_main_v136 (F := Ideal) x0 x2 x5 x7) (by idx_ext)).trans (st9 x0 x2 x5 x7 b h n e))
  · exact (val_main_v203_apply ..).trans ((congrArg (val_main_v144 (F := Ideal) x0 x2 x5 x7) (by idx_ext)).trans (st10 x0 x2 x5 x7 b h n e))
  · exact (val_main_v204_apply ..).trans ((congrArg (val_main_v152 (F := Ideal) x0 x2 x5 x7) (by idx_ext)).trans (st11 x0 x2 x5 x7 b h n e))
  · exact (val_main_v205_apply ..).trans ((congrArg (val_main_v160 (F := Ideal) x0 x2 x5 x7) (by idx_ext)).trans (st12 x0 x2 x5 x7 b h n e))
  · exact (val_main_v206_apply ..).trans ((congrArg (val_main_v168 (F := Ideal) x0 x2 x5 x7) (by idx_ext)).trans (st13 x0 x2 x5 x7 b h n e))
  · exact (val_main_v207_apply ..).trans ((congrArg (val_main_v176 (F := Ideal) x0 x2 x5 x7) (by idx_ext)).trans (st14 x0 x2 x5 x7 b h n e))
  · exact (val_main_v208_apply ..).trans ((congrArg (val_main_v184 (F := Ideal) x0 x2 x5 x7) (by idx_ext)).trans (st15 x0 x2 x5 x7 b h n e))

/-- The outputs. -/
theorem v215_eq (b : Fin 4) (c : Fin 16) (h : Fin 32) (l : Fin 128) (e : Fin 64) :
    val_main_v215 (F := Ideal) x0 x2 x5 x7 (ix5 b c h l e) = outh x0 x2 x5 x7 (16 * b.val + (15 - c.val)) l.rev h e := by
  have hm : 15 - (16 * b.val + (15 - c.val)) % 16 = c.val := by omega
  have hd : (16 * b.val + (15 - c.val)) / 16 = b.val := by omega
  have e1 : val_main_v213 (F := Ideal) x2 x5 x7 (ix5 b c h l e) = Ideal.exp (cum x2 x5 x7 (16 * b.val + (15 - c.val)) l.rev h) := by
    rw [val_main_v213_apply, val_main_v212_apply, val_main_v211_apply]
    exact congrArg Ideal.exp ((congrArg (val_main_v27 (F := Ideal) x2 x5 x7) (by idx_ext)).trans (v27_eq x2 x5 x7 b c h l))
  have e2 : val_main_v210 (F := Ideal) x0 x2 x5 x7 (ix5 b c h l e)
      = ∑ n : Fin 128, cg x0 (row (16 * b.val + (15 - c.val)) l.rev) h n * state x0 x2 x5 x7 b.val h n e c.val := by
    rw [val_main_v210_apply]
    exact Finset.sum_congr (M := EReal) rfl fun n _ => congrArg₂ (fun a b : EReal => a * b)
      ((congrArg (val_main_v40 (F := Ideal) x0) (by idx_ext)).trans (v40_eq x0 b c h l n))
      ((congrArg (val_main_v209 (F := Ideal) x0 x2 x5 x7) (by idx_ext)).trans (v209_eq x0 x2 x5 x7 b c h n e))
  unfold outh
  rw [hm, hd, val_main_v215_apply, v52_eq, val_main_v214_apply, e1, e2]
  exact congrArg (fun z : EReal => _ + z) (mul_comm (G := EReal) _ _)

/-- The backward scan's outputs, put back in order. -/
theorem v218_eq (b : Fin 4) (s : Fin 2048) (k : Fin 2048) :
    val_main_v218 (F := Ideal) x0 x2 x5 x7 (ix4 b s ⟨k.val / 64, by omega⟩ ⟨k.val % 64, by omega⟩) = yb x0 x2 x5 x7 (rr b s) k := by
  have hs := s.isLt
  have hr : s.rev.val = 2048 - (s.val + 1) := rfl
  have hv := rr_val b s
  have e0 : val_main_v218 (F := Ideal) x0 x2 x5 x7 (ix4 b s ⟨k.val / 64, by omega⟩ ⟨k.val % 64, by omega⟩)
      = val_main_v217 (F := Ideal) x0 x2 x5 x7 (ix4 b s.rev ⟨k.val / 64, by omega⟩ ⟨k.val % 64, by omega⟩) := by
    unfold val_main_v218
    rw [Host.reverse_apply]
    exact congrArg _ (by idx_ext)
  have ht : 16 * b.val + (15 - s.rev.val / 128) = (rr b s).val / 128 := by omega
  have hl : (⟨s.rev.val % 128, by omega⟩ : Fin 128).rev = ⟨(rr b s).val % 128, Nat.mod_lt _ (by norm_num)⟩ := Fin.ext (by
    show 128 - (s.rev.val % 128 + 1) = (rr b s).val % 128
    omega)
  unfold yb
  rw [e0, val_main_v217_apply, i217, val_main_v216_apply, ← ht, ← hl]
  exact (congrArg (val_main_v215 (F := Ideal) x0 x2 x5 x7) (by idx_ext)).trans
    (v215_eq x0 x2 x5 x7 b ⟨s.rev.val / 128, _⟩ ⟨k.val / 64, _⟩ ⟨s.rev.val % 128, _⟩ ⟨k.val % 64, _⟩)

end Cert.Reference10Ideal.Scan
end
-- ==== Proof.BwdRef.lean ====
module

public import proofs.«01_k».proof.Proof.BwdRefE
public import proofs.«01_k».proof.Proof.Gen.Reference10Ideal.Run
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

/-! The reference computes the closed form. -/

namespace Cert.Reference10Ideal.Scan

open Cert.Reference10Ideal Cert.Reference10Ideal.Gen Cert.Reference10Ideal.Read
open Cert.Kernel10Ideal.Scan (row softp dts adt cum xdt bg cg inc state outh yb gated normed gcol RO NINF W256 WEPS)

variable (x0 : S8192x4096.Idx → EReal) (x1 : S8192x7680.Idx → EReal) (x2 : S8192x128.Idx → EReal) (x3 : S8192x2048.Idx → EReal)
  (x5 x7 x8 : S32.Idx → EReal) (x9 : S2048.Idx → EReal)

/-- Both directions and the skip. -/
theorem v226_eq (b : Fin 4) (s : Fin 2048) (k : Fin 2048) :
    val_main_v226 (F := Ideal) x0 x2 x3 x5 x7 x8 (ix3 b s k)
      = (yb x0 x2 x5 x7 (rr b s) k + x3 (ix2 (rr b s) k)) + x8 (ix1 ⟨k.val / 64, by omega⟩) * x0 (ix2 (rr b s) ⟨k.val, by omega⟩) := by
  have e1 : val_main_v219 (F := Ideal) x3 (ix4 b s ⟨k.val / 64, by omega⟩ ⟨k.val % 64, by omega⟩) = x3 (ix2 (rr b s) k) := by
    rw [val_main_v219_apply, i219]
    exact congrArg (fun z => x3 (ix2 (rr b s) z)) (Fin.ext (by dsimp only; omega))
  have e2 : val_main_v223 (F := Ideal) x8 (ix4 b s ⟨k.val / 64, by omega⟩ ⟨k.val % 64, by omega⟩) = x8 (ix1 ⟨k.val / 64, by omega⟩) := by
    pointwise [val_main_v223, val_main_v222, val_main_v221]
  have e3 : val_main_v6 (F := Ideal) x0 (ix4 b s ⟨k.val / 64, by omega⟩ ⟨k.val % 64, by omega⟩) = x0 (ix2 (rr b s) ⟨k.val, by omega⟩) := by
    rw [v6_eq]
    exact congrArg (fun z => x0 (ix2 (rr b s) z)) (Fin.ext (by dsimp only; omega))
  rw [val_main_v226_apply, i226, val_main_v225_apply, val_main_v220_apply, val_main_v224_apply, e1, e2, e3, v218_eq]
  exact congrArg (fun z : EReal => z + _) (add_comm (G := EReal) _ _)

/-- The gate. -/
theorem v227_eq (b : Fin 4) (s : Fin 2048) (k : Fin 2048) :
    val_main_v227 (F := Ideal) x1 (ix3 b s k)
      = x1 (ix2 (rr b s) ⟨4096 + k.val, by omega⟩) * Ideal.logistic (x1 (ix2 (rr b s) ⟨4096 + k.val, by omega⟩)) := by
  have e : val_main_v2 (F := Ideal) x1 (ix3 b s k) = x1 (ix2 (rr b s) ⟨4096 + k.val, by omega⟩) := by
    rw [val_main_v2_apply, i2, val_main_v1_apply]
    exact congrArg x1 (by idx_ext)
  rw [← e]
  unfold Ideal.logistic
  pointwise [val_main_v227, val_main_call9_v5, val_main_call9_v4, val_main_call9_v3, val_main_call9_v2, val_main_call9_v1, val_main_call9_v0,
    val_main_call9_cst, val_main_call9_cst_0]

/-- The gated sum, by groups. -/
theorem v229_eq (b : Fin 4) (s : Fin 2048) (g : Fin 8) (j : Fin 256) :
    val_main_v229 (F := Ideal) x0 x1 x2 x3 x5 x7 x8 (ix4 b s g j) = gated x0 x1 x2 x3 x5 x7 x8 (rr b s) (gcol g.val j) := by
  rw [val_main_v229_apply, i229, val_main_v228_apply, v226_eq, v227_eq]
  rfl

/-- The sum of a group's squares. -/
theorem v232_eq (b : Fin 4) (s : Fin 2048) (g : Fin 8) :
    val_main_v232 (F := Ideal) x0 x1 x2 x3 x5 x7 x8 (ix3 b s g)
      = ∑ j : Fin 256, gated x0 x1 x2 x3 x5 x7 x8 (rr b s) (gcol g.val j) * gated x0 x1 x2 x3 x5 x7 x8 (rr b s) (gcol g.val j) := by
  have h0 : val_main_cst_1 (F := Ideal) (Shape.Idx.first h_S_) = (0 : EReal) := by
    pointwise [val_main_cst_1]
  rw [val_main_v232_apply, h0, zero_add]
  refine Finset.sum_congr (M := EReal) rfl fun j _ => ?_
  refine (congrArg (val_main_v231 (F := Ideal) x0 x1 x2 x3 x5 x7 x8) (show _ = ix4 b s g j from by idx_ext)).trans ?_
  rw [val_main_v231_apply, v229_eq]
  rfl

/-- The normalised entries. -/
theorem v243_eq (b : Fin 4) (s : Fin 2048) (g : Fin 8) (j : Fin 256) :
    val_main_v243 (F := Ideal) x0 x1 x2 x3 x5 x7 x8 x9 (ix4 b s g j) = normed x0 x1 x2 x3 x5 x7 x8 x9 (rr b s) (gcol g.val j) := by
  have hj := j.isLt
  have hg := g.isLt
  have e0 : (gcol g.val j).val = 256 * g.val + j.val := by
    unfold gcol
    dsimp only
    omega
  have e1 : val_main_v239 (F := Ideal) x0 x1 x2 x3 x5 x7 x8 (ix4 b s g j) = Ideal.rsqrt (Ideal.div (val_main_v232 (F := Ideal) x0 x1 x2 x3 x5 x7 x8 (ix3 b s g)) W256 + WEPS) := by
    pointwise [val_main_v239, val_main_v238, val_main_v237, val_main_v236, val_main_v235, val_main_v234, val_main_v233, val_main_cst_2,
      val_main_cst_3]
  have e2 : val_main_v242 (F := Ideal) x9 (ix4 b s g j) = x9 (ix1 (gcol g.val j)) := by
    have e3 : val_main_v242 (F := Ideal) x9 (ix4 b s g j) = val_main_v230 (F := Ideal) x9 (ix2 g j) := by
      pointwise [val_main_v242, val_main_v241]
    rw [e3, val_main_v230_apply, i230]
    exact congrArg (fun z => x9 (ix1 z)) (Fin.ext e0.symm)
  have e4 : (gcol g.val j).val / 256 = g.val := by omega
  unfold normed
  rw [e4, val_main_v243_apply, val_main_v240_apply, v229_eq, e1, e2, v232_eq]
  rfl

/-- The reference's result. -/
theorem v245_eq : val_main_v245 (F := Ideal) x0 x1 x2 x3 x5 x7 x8 x9 = RO x0 x1 x2 x3 x5 x7 x8 x9 := by
  funext i
  idx_vars i
  have h0 := i0.isLt
  have h1 := i1.isLt
  refine Eq.trans (b := val_main_v244 (F := Ideal) x0 x1 x2 x3 x5 x7 x8 x9 (ix2 i0 i1)) rfl ?_
  rw [val_main_v244_apply, i244, v243_eq]
  show normed x0 x1 x2 x3 x5 x7 x8 x9 _ _ = normed x0 x1 x2 x3 x5 x7 x8 x9 i0 i1
  have hr : rr ⟨i0.val / 2048, by omega⟩ ⟨i0.val % 2048, by omega⟩ = i0 := Fin.ext (by
    rw [rr_val]
    show 2048 * (i0.val / 2048) + i0.val % 2048 = i0.val
    omega)
  have hc : gcol (i1.val / 256) ⟨i1.val % 256, by omega⟩ = i1 := Fin.ext (by
    unfold gcol
    dsimp only
    omega)
  exact congrArg₂ (fun a b => normed x0 x1 x2 x3 x5 x7 x8 x9 a b) hr hc

end Cert.Reference10Ideal.Scan
end
-- ==== Proof.ScanBwdClaims.lean ====
module

public import proofs.«01_k».proof.Defs
public import proofs.«01_k».proof.Proof.BwdFinal
public import proofs.«01_k».proof.Proof.BwdRef
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Quiescent

@[expose] public section

set_option maxRecDepth 16384

noncomputable section

open Idealize.ShloMosaic Idealize.ShloMosaic.TcCoe Idealize.SL.Sem

/-! The claims about the backward scan with the gate and the normalisation after it. -/

namespace Cert.Kernel10Ideal.Scan

open Cert.Kernel10Ideal Cert.Kernel10Ideal.Gen

variable (m : (ℓ : Loc nD τ sig) → Buf (Elt Ideal) ℓ) (ρ : Dev nD → PrngReg)

abbrev val (c : Dev nD) : Buf (Elt Ideal) ((c : Thread nD τ).loc main_v15) :=
  RO (m ((c : Thread nD τ).loc main_arg0)) (m ((c : Thread nD τ).loc main_arg1)) (m ((c : Thread nD τ).loc main_arg2)) (m ((c : Thread nD τ).loc main_arg3))
    (m ((c : Thread nD τ).loc main_arg5)) (m ((c : Thread nD τ).loc main_arg7)) (m ((c : Thread nD τ).loc main_arg8)) (m ((c : Thread nD τ).loc main_arg9))

theorem run : θ_run defs (onTc (τ := τ) (main (F := Ideal))) ⟨m, fun _ => 0, ρ⟩ fun r => ∀ c : Dev nD,
      r.2.mem ((c : Thread nD τ).loc main_v15) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h.1 c).1 11).trans (final m c), h.2 c⟩)
    (θ_run_and (run_main m ρ) (unchanged m ρ))

end Cert.Kernel10Ideal.Scan

namespace Cert.Proof.ScanBwdClaims

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal := by
  intro m ρ m' ρ' _ hagree
  refine ⟨fun c => Cert.Kernel10Ideal.Scan.val m c, Cert.Kernel10Ideal.Scan.run m ρ, ?_⟩
  refine (θ_run Cert.Reference10Ideal.defs _ _).mono (fun _ h c => ⟨(h c).1.trans ?_, (h c).2⟩)
    (Cert.Reference10Ideal.Value.run (F := Ideal) m' ρ')
  obtain ⟨a0, a1, a2, a3, a4, a5, a6, a7, a8, a9⟩ := hagree c
  refine (Cert.Reference10Ideal.Read.val_main_v245_eq _).trans ?_
  refine (Cert.Reference10Ideal.Scan.v245_eq _ _ _ _ _ _ _ _).trans ?_
  show Cert.Kernel10Ideal.Scan.RO (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))
      (m' ((c.tc : Thread Cert.Reference10Ideal.nD Cert.Reference10Ideal.τ).loc Cert.Reference10Ideal.main_arg2))
      (m' ((c.tc : Thread Cert.Reference10Ideal.nD Cert.Reference10Ideal.τ).loc Cert.Reference10Ideal.main_arg3))
      (m' ((c.tc : Thread Cert.Reference10Ideal.nD Cert.Reference10Ideal.τ).loc Cert.Reference10Ideal.main_arg5))
      (m' ((c.tc : Thread Cert.Reference10Ideal.nD Cert.Reference10Ideal.τ).loc Cert.Reference10Ideal.main_arg7))
      (m' ((c.tc : Thread Cert.Reference10Ideal.nD Cert.Reference10Ideal.τ).loc Cert.Reference10Ideal.main_arg8))
      (m' ((c.tc : Thread Cert.Reference10Ideal.nD Cert.Reference10Ideal.τ).loc Cert.Reference10Ideal.main_arg9)) = _
  rw [a0, a1, a2, a3, a5, a7, a8, a9]

end Cert.Proof.ScanBwdClaims

end
-- ==== Proof.lean ====
module

public import proofs.«01_k».proof.Defs
public import proofs.«01_k».proof.Proof.AttnClaims
public import proofs.«01_k».proof.Proof.InProj
public import proofs.«01_k».proof.Proof.OutProj
public import proofs.«01_k».proof.Proof.Query
public import proofs.«01_k».proof.Proof.InSmall
public import proofs.«01_k».proof.Proof.Weights
public import proofs.«01_k».proof.Proof.Norm
public import proofs.«01_k».proof.Proof.PrepClaims
public import proofs.«01_k».proof.Proof.ScanClaims
public import proofs.«01_k».proof.Proof.ScanBwdClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  AttnClaims.frame_p, AttnClaims.frame_pi, AttnClaims.frame_ri,
  InClaims.frame_p, InClaims.frame_pi, InClaims.frame_ri,
  OutClaims.frame_p, OutClaims.frame_pi, OutClaims.frame_ri,
  QueryClaims.frame_p, QueryClaims.frame_pi, QueryClaims.frame_ri,
  SmallClaims.frame_p, SmallClaims.frame_pi, SmallClaims.frame_ri,
  WeightsClaims.frame_p, WeightsClaims.frame_pi, WeightsClaims.frame_ri,
  NormClaims.frame_p, NormClaims.frame_pi, NormClaims.frame_ri,
  PrepClaims.frame_p, PrepClaims.frame_pi, PrepClaims.frame_ri,
  ScanClaims.frame_p, ScanClaims.frame_pi, ScanClaims.frame_ri,
  ScanBwdClaims.frame_p, ScanBwdClaims.frame_pi, ScanBwdClaims.frame_ri,
  AttnClaims.preserves, AttnClaims.algebraic,
  InClaims.preserves, InClaims.algebraic,
  OutClaims.preserves, OutClaims.algebraic,
  QueryClaims.preserves, QueryClaims.algebraic,
  SmallClaims.preserves, SmallClaims.algebraic,
  WeightsClaims.preserves, WeightsClaims.algebraic,
  NormClaims.preserves, NormClaims.algebraic,
  PrepClaims.preserves, PrepClaims.algebraic,
  ScanClaims.preserves, ScanClaims.algebraic,
  ScanBwdClaims.preserves, ScanBwdClaims.algebraic⟩

end Cert.Proof

end
